-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_reached_pre_finite2 [hKernel2Ideal : Cert.Kernel2Ideal.Facts] [hReference2Ideal : Cert.Reference2Ideal.Facts] [hPre_finite2 : Cert.Pre_finite2.Facts] [hOn_reached : Cert.On_reached.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v344_0)) (v1 : (c : Dev Cert.Kernel2Ideal.nD) → Buf (Elt Ideal) ((c.tc : Thread Cert.Kernel2Ideal.nD Cert.Kernel2Ideal.τ).loc Cert.Kernel2Ideal.main_v344_1)) (v2 : (c : Dev Cert.Kernel2Ideal.nD) → Buf (Elt Ideal) ((c.tc : Thread Cert.Kernel2Ideal.nD Cert.Kernel2Ideal.τ).loc Cert.Kernel2Ideal.main_v344_2)) (v3 : (c : Dev Cert.Kernel2Ideal.nD) → Buf (Elt Ideal) ((c.tc : Thread Cert.Kernel2Ideal.nD Cert.Kernel2Ideal.τ).loc Cert.Kernel2Ideal.main_v344_3)) (v4 : (c : Dev Cert.Kernel2Ideal.nD) → Buf (Elt Ideal) ((c.tc : Thread Cert.Kernel2Ideal.nD Cert.Kernel2Ideal.τ).loc Cert.Kernel2Ideal.main_v344_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 5120]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).1 i = 1#1 → r.2.mem ((c.tc : Thread Cert.Kernel2Ideal.nD Cert.Kernel2Ideal.τ).loc Cert.Kernel2Ideal.main_v344_0) i = v0 c i)
          ∧ (∀ i : (⟨2, ![16, 1024]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.1 i = 1#1 → r.2.mem ((c.tc : Thread Cert.Kernel2Ideal.nD Cert.Kernel2Ideal.τ).loc Cert.Kernel2Ideal.main_v344_1) i = v1 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.1 i = 1#1 → r.2.mem ((c.tc : Thread Cert.Kernel2Ideal.nD Cert.Kernel2Ideal.τ).loc Cert.Kernel2Ideal.main_v344_2) i = v2 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.1 i = 1#1 → r.2.mem ((c.tc : Thread Cert.Kernel2Ideal.nD Cert.Kernel2Ideal.τ).loc Cert.Kernel2Ideal.main_v344_3) i = v3 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2 i = 1#1 → r.2.mem ((c.tc : Thread Cert.Kernel2Ideal.nD Cert.Kernel2Ideal.τ).loc Cert.Kernel2Ideal.main_v344_4) i = v4 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 5120]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).1 i = 1#1 → r.2.mem ((c.tc : Thread Cert.Reference2Ideal.nD Cert.Reference2Ideal.τ).loc Cert.Reference2Ideal.main_v270) i = v0 c i)
          ∧ (∀ i : (⟨2, ![16, 1024]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.1 i = 1#1 → r.2.mem ((c.tc : Thread Cert.Reference2Ideal.nD Cert.Reference2Ideal.τ).loc Cert.Reference2Ideal.main_v288) i = v1 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.1 i = 1#1 → r.2.mem ((c.tc : Thread Cert.Reference2Ideal.nD Cert.Reference2Ideal.τ).loc Cert.Reference2Ideal.main_v289) i = v2 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.1 i = 1#1 → r.2.mem ((c.tc : Thread Cert.Reference2Ideal.nD Cert.Reference2Ideal.τ).loc Cert.Reference2Ideal.main_v267) i = v3 c i)
          ∧ (∀ i : (⟨3, ![4, 256, 256]⟩ : Shape).Idx, (Cert.On_reached.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2 i = 1#1 → r.2.mem ((c.tc : Thread Cert.Reference2Ideal.nD Cert.Reference2Ideal.τ).loc Cert.Reference2Ideal.main_v85) i = v4 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_v84) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v69) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v35) = v3 c
          ∧ r.2.mem ((c.tc : Thread Cert.Reference7Ideal.nD Cert.Reference7Ideal.τ).loc Cert.Reference7Ideal.main_v36) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite2 : Cert.Pre_finite2.Facts) (hPre_finite4 : Cert.Pre_finite4.Facts) (hPre_finite5 : Cert.Pre_finite5.Facts) (hPre_finite6 : Cert.Pre_finite6.Facts) (hOn_reached : Cert.On_reached.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_reached_pre_finite2 (hKernel2Ideal := hKernel2Ideal) (hReference2Ideal := hReference2Ideal) (hPre_finite2 := hPre_finite2) (hOn_reached := hOn_reached)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_reached.lean ====
abbrev S4096x5120 : Shape := ⟨2, ![4096, 5120]⟩
abbrev S4x1024 : Shape := ⟨2, ![4, 1024]⟩
abbrev S1024 : Shape := ⟨1, ![1024]⟩
abbrev S4x256x256 : Shape := ⟨3, ![4, 256, 256]⟩
abbrev S4096x1024 : Shape := ⟨2, ![4096, 1024]⟩
abbrev S4096x2048 : Shape := ⟨2, ![4096, 2048]⟩
abbrev S16x1024 : Shape := ⟨2, ![16, 1024]⟩
abbrev S_ : Shape := ⟨0, ![]⟩

class Facts : Prop where
  bcast_S_S4x256x256 : S_.BroadcastsInDim S4x256x256 (![] : Fin 0 → Fin S4x256x256.rank)
  bcast_S_S4096x5120 : S_.BroadcastsInDim S4096x5120 (![] : Fin 0 → Fin S4096x5120.rank)
  bcast_S_S16x1024 : S_.BroadcastsInDim S16x1024 (![] : Fin 0 → Fin S16x1024.rank)

variable [Facts]

def fn {F : FTy → Type} [FloatOps F] (main_arg0 : FVec F S4096x5120 .f32) (main_arg1 : FVec F S4x1024 .f32) (main_arg2 : FVec F S1024 .f32) (main_arg3 : FVec F S4x256x256 .f32) (main_arg4 : FVec F S1024 .f32) (main_arg5 : FVec F S4x256x256 .f32) (main_arg6 : FVec F S1024 .f32) (main_arg7 : FVec F S1024 .f32) (main_arg8 : FVec F S4x256x256 .f32) (main_arg9 : FVec F S1024 .f32) (main_arg10 : FVec F S1024 .f32) (main_arg11 : FVec F S4096x1024 .f32) (main_arg12 : FVec F S4096x1024 .f32) (main_arg13 : FVec F S4096x2048 .f32) : IVec S4096x5120 1 × IVec S16x1024 1 × IVec S4x256x256 1 × IVec S4x256x256 1 × IVec S4x256x256 1 :=
  let main_v0 : IVec S4096x5120 32 := iotaInDim S4096x5120 32 1
  let main_v1 : IVec S16x1024 32 := iotaInDim S16x1024 32 0
  let main_c : IVec S_ 1 := constantI S_ 1 1#1
  let main_v2 : IVec S4x256x256 1 := broadcastInDim S4x256x256 ![] bcast_S_S4x256x256 main_c
  let main_c_0 : IVec S_ 32 := constantI S_ 32 2048#32
  let main_v3 : IVec S4096x5120 32 := broadcastInDim S4096x5120 ![] bcast_S_S4096x5120 main_c_0
  let main_v4 : IVec S4096x5120 1 := cmpi .sge main_v0 main_v3
  let main_c_1 : IVec S_ 32 := constantI S_ 32 6#32
  let main_v5 : IVec S16x1024 32 := broadcastInDim S16x1024 ![] bcast_S_S16x1024 main_c_1
  let main_v6 : IVec S16x1024 1 := cmpi .eq main_v1 main_v5
  let main_c_2 : IVec S_ 32 := constantI S_ 32 8#32
  let main_v7 : IVec S16x1024 32 := broadcastInDim S16x1024 ![] bcast_S_S16x1024 main_c_2
  let main_v8 : IVec S16x1024 1 := cmpi .eq main_v1 main_v7
  let main_v9 : IVec S16x1024 1 := ori main_v6 main_v8
  let main_c_3 : IVec S_ 32 := constantI S_ 32 9#32
  let main_v10 : IVec S16x1024 32 := broadcastInDim S16x1024 ![] bcast_S_S16x1024 main_c_3
  let main_v11 : IVec S16x1024 1 := cmpi .eq main_v1 main_v10
  let main_v12 : IVec S16x1024 1 := ori main_v9 main_v11
  let main_c_4 : IVec S_ 1 := constantI S_ 1 0#1
  let main_v13 : IVec S4x256x256 1 := broadcastInDim S4x256x256 ![] bcast_S_S4x256x256 main_c_4
  (main_v4, main_v12, main_v13, main_v2, main_v2)
-- ==== Pre_finite2.lean ====
abbrev S4096x5120 : Shape := ⟨2, ![4096, 5120]⟩
abbrev S4x1024 : Shape := ⟨2, ![4, 1024]⟩
abbrev S1024 : Shape := ⟨1, ![1024]⟩
abbrev S4x256x256 : Shape := ⟨3, ![4, 256, 256]⟩
abbrev S4096x1024 : Shape := ⟨2, ![4096, 1024]⟩
abbrev S4096x2048 : Shape := ⟨2, ![4096, 2048]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_arg12 : FVec F S4096x1024 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S4096x1024 .f32 := Host.absf main_arg12
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  main_v58

def fn_part2 {F : FTy → Type} [FloatOps F] (main_arg7 : FVec F S1024 .f32) (main_arg8 : FVec F S4x256x256 .f32) (main_arg10 : FVec F S1024 .f32) (main_arg11 : FVec F S4096x1024 .f32) (main_arg12 : FVec F S4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4x256x256 .f32 := Host.absf main_arg8
  let main_cst_14 : FVec F S_ .f32 := constant S_ .f32 0x7F800000#32
  let main_v40 : FVec F S4x256x256 .f32 := broadcastInDim S4x256x256 ![] bcast_S_S4x256x256 main_cst_14
  let main_v41 : IVec S4x256x256 1 := cmpf .olt main_v39 main_v40
  let main_c_15 : IVec S_ 1 := constantI S_ 1 1#1
  let main_v42 : IVec S_ 1 := (fun x v => Host.reduce IntOp.andi x v reducesTo_S4x256x256_S_d0_1_2 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S4096x1024 .f32 := Host.absf main_arg11
  let main_cst_18 : FVec F S_ .f32 := constant S_ .f32 0x7F800000#32
  let main_v50 : FVec F S4096x1024 .f32 := broadcastInDim S4096x1024 ![] bcast_S_S4096x1024 main_cst_18
  fn_part3 (F := F) main_arg12 main_v48 main_v49 main_v50

def fn_part1 {F : FTy → Type} [FloatOps F] (main_arg4 : FVec F S1024 .f32) (main_arg5 : FVec F S4x256x256 .f32) (main_arg6 : FVec F S1024 .f32) (main_arg7 : FVec F S1024 .f32) (main_arg8 : FVec F S4x256x256 .f32) (main_arg10 : FVec F S1024 .f32) (main_arg11 : FVec F S4096x1024 .f32) (main_arg12 : FVec F S4096x1024 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg10 main_arg11 main_arg12 main_v33

def fn {F : FTy → Type} [FloatOps F] (main_arg0 : FVec F S4096x5120 .f32) (main_arg1 : FVec F S4x1024 .f32) (main_arg2 : FVec F S1024 .f32) (main_arg3 : FVec F S4x256x256 .f32) (main_arg4 : FVec F S1024 .f32) (main_arg5 : FVec F S4x256x256 .f32) (main_arg6 : FVec F S1024 .f32) (main_arg7 : FVec F S1024 .f32) (main_arg8 : FVec F S4x256x256 .f32) (main_arg9 : FVec F S1024 .f32) (main_arg10 : FVec F S1024 .f32) (main_arg11 : FVec F S4096x1024 .f32) (main_arg12 : FVec F S4096x1024 .f32) (main_arg13 : FVec F S4096x2048 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_arg7 main_arg8 main_arg10 main_arg11 main_arg12 main_v13 main_v16
-- ==== Pre_finite4.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  slices_S6x1024_S1x1024_5_0 : S6x1024.Slices ![5, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  let main_v26 : FVec F S4096x1024 .f32 := Host.absf main_arg5
  let main_cst_8 : FVec F S_ .f32 := constant S_ .f32 0x7F800000#32
  let main_v27 : FVec F S4096x1024 .f32 := broadcastInDim S4096x1024 ![] bcast_S_S4096x1024 main_cst_8
  let main_v28 : IVec S4096x1024 1 := cmpf .olt main_v26 main_v27
  let main_c_9 : IVec S_ 1 := constantI S_ 1 1#1
  let main_v29 : IVec S_ 1 := (fun x v => Host.reduce IntOp.andi x v reducesTo_S4096x1024_S_d0_1 h_S_) main_v28 main_c_9
  let main_v30 : IVec S_ 1 := andi main_v25 main_v29
  main_v30

def fn {F : FTy → Type} [FloatOps F] (main_arg0 : FVec F S4096x1024 .f32) (main_arg1 : FVec F S4096x4096 .f32) (main_arg2 : FVec F S6x1024 .f32) (main_arg3 : FVec F S4096x1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x1024 .f32 := (extractStridedSlice S1x1024 ![5, 0] · slices_S6x1024_S1x1024_5_0) main_arg2
  let main_v10 : FVec F S1024 .f32 := shapeCast S1024 main_v9 shapeCasts_S1x1024_S1024
  let main_v11 : FVec F S1024 .f32 := Host.absf main_v10
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v8 main_v14
  let main_v16 : FVec F S4096x1024 .f32 := Host.absf main_arg3
  let main_cst_4 : FVec F S_ .f32 := constant S_ .f32 0x7F800000#32
  fn_part1 (F := F) main_arg4 main_arg5 main_v15 main_v16 main_cst_4
-- ==== Pre_finite5.lean ====
abbrev S4096x1024 : Shape := ⟨2, ![4096, 1024]⟩
abbrev S6x1024 : Shape := ⟨2, ![6, 1024]⟩
abbrev S1024x1024 : Shape := ⟨2, ![1024, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S6x1024_S1x1024_2_0 : S6x1024.Slices ![2, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S6x1024_S1x1024_4_0 : S6x1024.Slices ![4, 0] S1x1024
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_v32 : IVec S_ 1) (main_v33 : FVec F S1024x4096 .f32) (main_v34 : FVec F S1024x4096 .f32) : IVec S_ 1 :=
  let main_v35 : IVec S1024x4096 1 := cmpf .olt main_v33 main_v34
  let main_c_11 : IVec S_ 1 := constantI S_ 1 1#1
  let main_v36 : IVec S_ 1 := (fun x v => Host.reduce IntOp.andi x v reducesTo_S1024x4096_S_d0_1 h_S_) main_v35 main_c_11
  let main_v37 : IVec S_ 1 := andi main_v32 main_v36
  let main_v38 : FVec F S4096x4096 .f32 := Host.absf main_arg7
  let main_cst_12 : FVec F S_ .f32 := constant S_ .f32 0x7F800000#32
  let main_v39 : FVec F S4096x4096 .f32 := broadcastInDim S4096x4096 ![] bcast_S_S4096x4096 main_cst_12
  let main_v40 : IVec S4096x4096 1 := cmpf .olt main_v38 main_v39
  let main_c_13 : IVec S_ 1 := constantI S_ 1 1#1
  let main_v41 : IVec S_ 1 := (fun x v => Host.reduce IntOp.andi x v reducesTo_S4096x4096_S_d0_1 h_S_) main_v40 main_c_13
  let main_v42 : IVec S_ 1 := andi main_v37 main_v41
  main_v42

def fn_part1 {F : FTy → Type} [FloatOps F] (main_arg3 : FVec F S1024x1024 .f32) (main_arg4 : FVec F S1024 .f32) (main_arg5 : FVec F S1024x4096 .f32) (main_arg7 : FVec F S4096x4096 .f32) (main_v15 : IVec S_ 1) (main_v17 : FVec F S1024 .f32) : IVec S_ 1 :=
  let main_v18 : FVec F S1024 .f32 := Host.absf main_v17
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v15 main_v21
  let main_v23 : FVec F S1024x1024 .f32 := Host.absf main_arg3
  let main_cst_6 : FVec F S_ .f32 := constant S_ .f32 0x7F800000#32
  let main_v24 : FVec F S1024x1024 .f32 := broadcastInDim S1024x1024 ![] bcast_S_S1024x1024 main_cst_6
  let main_v25 : IVec S1024x1024 1 := cmpf .olt main_v23 main_v24
  let main_c_7 : IVec S_ 1 := constantI S_ 1 1#1
  let main_v26 : IVec S_ 1 := (fun x v => Host.reduce IntOp.andi x v reducesTo_S1024x1024_S_d0_1 h_S_) main_v25 main_c_7
  let main_v27 : IVec S_ 1 := andi main_v22 main_v26
  let main_v28 : FVec F S1024 .f32 := Host.absf main_arg4
  let main_cst_8 : FVec F S_ .f32 := constant S_ .f32 0x7F800000#32
  let main_v29 : FVec F S1024 .f32 := broadcastInDim S1024 ![] bcast_S_S1024 main_cst_8
  let main_v30 : IVec S1024 1 := cmpf .olt main_v28 main_v29
  let main_c_9 : IVec S_ 1 := constantI S_ 1 1#1
  let main_v31 : IVec S_ 1 := (fun x v => Host.reduce IntOp.andi x v reducesTo_S1024_S_d0 h_S_) main_v30 main_c_9
  let main_v32 : IVec S_ 1 := andi main_v27 main_v31
  let main_v33 : FVec F S1024x4096 .f32 := Host.absf main_arg5
  let main_cst_10 : FVec F S_ .f32 := constant S_ .f32 0x7F800000#32
  let main_v34 : FVec F S1024x4096 .f32 := broadcastInDim S1024x4096 ![] bcast_S_S1024x4096 main_cst_10
  fn_part2 (F := F) main_arg7 main_v32 main_v33 main_v34

def fn {F : FTy → Type} [FloatOps F] (main_arg0 : FVec F S4096x1024 .f32) (main_arg1 : FVec F S4096x1024 .f32) (main_arg2 : FVec F S6x1024 .f32) (main_arg3 : FVec F S1024x1024 .f32) (main_arg4 : FVec F S1024 .f32) (main_arg5 : FVec F S1024x4096 .f32) (main_arg6 : FVec F S4096x1024 .f32) (main_arg7 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := (extractStridedSlice S1x1024 ![2, 0] · slices_S6x1024_S1x1024_2_0) main_arg2
  let main_v10 : FVec F S1024 .f32 := shapeCast S1024 main_v9 shapeCasts_S1x1024_S1024
  let main_v11 : FVec F S1024 .f32 := Host.absf main_v10
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v8 main_v14
  let main_v16 : FVec F S1x1024 .f32 := (extractStridedSlice S1x1024 ![4, 0] · slices_S6x1024_S1x1024_4_0) main_arg2
  let main_v17 : FVec F S1024 .f32 := shapeCast S1024 main_v16 shapeCasts_S1x1024_S1024
  fn_part1 (F := F) main_arg3 main_arg4 main_arg5 main_arg7 main_v15 main_v17
-- ==== Pre_finite6.lean ====
abbrev S4096x1024 : Shape := ⟨2, ![4096, 1024]⟩
abbrev S6x1024 : Shape := ⟨2, ![6, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S6x1024_S1x1024_1_0 : S6x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  bcast_S_S1024x5120 : S_.BroadcastsInDim S1024x5120 (![] : Fin 0 → Fin S1024x5120.rank)
  reducesTo_S1024x5120_S_d0_1 : S1024x5120.ReducesTo [0, 1] S_
  bcast_S_S4096x5120 : S_.BroadcastsInDim S4096x5120 (![] : Fin 0 → Fin S4096x5120.rank)
  reducesTo_S4096x5120_S_d0_1 : S4096x5120.ReducesTo [0, 1] S_

variable [Facts]

def fn_part1 {F : FTy → Type} [FloatOps F] (main_arg5 : FVec F S4096x5120 .f32) (main_v15 : IVec S_ 1) (main_v16 : FVec F S1024x5120 .f32) (main_cst_4 : FVec F S_ .f32) : IVec S_ 1 :=
  let main_v17 : FVec F S1024x5120 .f32 := broadcastInDim S1024x5120 ![] bcast_S_S1024x5120 main_cst_4
  let main_v18 : IVec S1024x5120 1 := cmpf .olt main_v16 main_v17
  let main_c_5 : IVec S_ 1 := constantI S_ 1 1#1
  let main_v19 : IVec S_ 1 := (fun x v => Host.reduce IntOp.andi x v reducesTo_S1024x5120_S_d0_1 h_S_) main_v18 main_c_5
  let main_v20 : IVec S_ 1 := andi main_v15 main_v19
  let main_v21 : FVec F S4096x5120 .f32 := Host.absf main_arg5
  let main_cst_6 : FVec F S_ .f32 := constant S_ .f32 0x7F800000#32
  let main_v22 : FVec F S4096x5120 .f32 := broadcastInDim S4096x5120 ![] bcast_S_S4096x5120 main_cst_6
  let main_v23 : IVec S4096x5120 1 := cmpf .olt main_v21 main_v22
  let main_c_7 : IVec S_ 1 := constantI S_ 1 1#1
  let main_v24 : IVec S_ 1 := (fun x v => Host.reduce IntOp.andi x v reducesTo_S4096x5120_S_d0_1 h_S_) main_v23 main_c_7
  let main_v25 : IVec S_ 1 := andi main_v20 main_v24
  main_v25

def fn {F : FTy → Type} [FloatOps F] (main_arg0 : FVec F S4096x1024 .f32) (main_arg1 : FVec F S6x1024 .f32) (main_arg2 : FVec F S1024 .f32) (main_arg3 : FVec F S1024x5120 .f32) (main_arg4 : FVec F S4096x1024 .f32) (main_arg5 : FVec F S4096x5120 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := (extractStridedSlice S1x1024 ![1, 0] · slices_S6x1024_S1x1024_1_0) main_arg1
  let main_v5 : FVec F S1024 .f32 := shapeCast S1024 main_v4 shapeCasts_S1x1024_S1024
  let main_v6 : FVec F S1024 .f32 := Host.absf main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v3 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024x5120 .f32 := Host.absf main_arg3
  let main_cst_4 : FVec F S_ .f32 := constant S_ .f32 0x7F800000#32
  fn_part1 (F := F) main_arg5 main_v15 main_v16 main_cst_4
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4x1024x1024 : Shape := ⟨3, ![4, 1024, 1024]⟩
abbrev S512x1024 : Shape := ⟨2, ![512, 1024]⟩
abbrev S512x4096 : Shape := ⟨2, ![512, 4096]⟩
abbrev S256x1024 : Shape := ⟨2, ![256, 1024]⟩
abbrev S1x1024x1024 : Shape := ⟨3, ![1, 1024, 1024]⟩
abbrev S1024x1024 : Shape := ⟨2, ![1024, 1024]⟩
abbrev S256x4096 : Shape := ⟨2, ![256, 4096]⟩

abbrev nBuf : Space → Nat
  | .hbm => 14
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4x1024x1024, .bf16⟩
  | .hbm, ⟨12, _⟩ => ⟨S4096x1024, .bf16⟩
  | .hbm, ⟨13, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel2.lean ====
abbrev S4096x5120 : Shape := ⟨2, ![4096, 5120]⟩
abbrev S4x1024 : Shape := ⟨2, ![4, 1024]⟩
abbrev S1024 : Shape := ⟨1, ![1024]⟩
abbrev S4x256x256 : Shape := ⟨3, ![4, 256, 256]⟩
abbrev S4096x1024 : Shape := ⟨2, ![4096, 1024]⟩
abbrev S4096x2048 : Shape := ⟨2, ![4096, 2048]⟩
abbrev S_ : Shape := ⟨0, ![]⟩
abbrev S1x1024 : Shape := ⟨2, ![1, 1024]⟩
abbrev S8x1024 : Shape := ⟨2, ![8, 1024]⟩
abbrev S3x1024 : Shape := ⟨2, ![3, 1024]⟩
abbrev S4099x1024 : Shape := ⟨2, ![4099, 1024]⟩
abbrev S4096x4x256 : Shape := ⟨3, ![4096, 4, 256]⟩
abbrev S4x256x4096 : Shape := ⟨3, ![4, 256, 4096]⟩
abbrev S4096 : Shape := ⟨1, ![4096]⟩
abbrev S4096x1 : Shape := ⟨2, ![4096, 1]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S2x1024 : Shape := ⟨2, ![2, 1024]⟩
abbrev S0x1024 : Shape := ⟨2, ![0, 1024]⟩
abbrev S1x1x1024 : Shape := ⟨3, ![1, 1, 1024]⟩
abbrev S1x2x1024 : Shape := ⟨3, ![1, 2, 1024]⟩
abbrev S2x1x1024 : Shape := ⟨3, ![2, 1, 1024]⟩
abbrev S2x2x1024 : Shape := ⟨3, ![2, 2, 1024]⟩
abbrev S4x1x1024 : Shape := ⟨3, ![4, 1, 1024]⟩
abbrev S4x2x1024 : Shape := ⟨3, ![4, 2, 1024]⟩
abbrev S7x1024 : Shape := ⟨2, ![7, 1024]⟩
abbrev S8x1x1024 : Shape := ⟨3, ![8, 1, 1024]⟩
abbrev S8x2x1024 : Shape := ⟨3, ![8, 2, 1024]⟩
abbrev S15x1024 : Shape := ⟨2, ![15, 1024]⟩
abbrev S16x1x1024 : Shape := ⟨3, ![16, 1, 1024]⟩
abbrev S16x2x1024 : Shape := ⟨3, ![16, 2, 1024]⟩
abbrev S31x1024 : Shape := ⟨2, ![31, 1024]⟩
abbrev S32x1x1024 : Shape := ⟨3, ![32, 1, 1024]⟩
abbrev S32x2x1024 : Shape := ⟨3, ![32, 2, 1024]⟩
abbrev S63x1024 : Shape := ⟨2, ![63, 1024]⟩
abbrev S64x1x1024 : Shape := ⟨3, ![64, 1, 1024]⟩
abbrev S64x2x1024 : Shape := ⟨3, ![64, 2, 1024]⟩
abbrev S127x1024 : Shape := ⟨2, ![127, 1024]⟩
abbrev S128x1x1024 : Shape := ⟨3, ![128, 1, 1024]⟩
abbrev S128x2x1024 : Shape := ⟨3, ![128, 2, 1024]⟩
abbrev S255x1024 : Shape := ⟨2, ![255, 1024]⟩
abbrev S256x1x1024 : Shape := ⟨3, ![256, 1, 1024]⟩
abbrev S256x2x1024 : Shape := ⟨3, ![256, 2, 1024]⟩
abbrev S511x1024 : Shape := ⟨2, ![511, 1024]⟩
abbrev S512x1x1024 : Shape := ⟨3, ![512, 1, 1024]⟩
abbrev S512x2x1024 : Shape := ⟨3, ![512, 2, 1024]⟩
abbrev S1023x1024 : Shape := ⟨2, ![1023, 1024]⟩
abbrev S1024x1x1024 : Shape := ⟨3, ![1024, 1, 1024]⟩
abbrev S1024x2x1024 : Shape := ⟨3, ![1024, 2, 1024]⟩
abbrev S2047x1024 : Shape := ⟨2, ![2047, 1024]⟩
abbrev S2048x1x1024 : Shape := ⟨3, ![2048, 1, 1024]⟩
abbrev S2048x2x1024 : Shape := ⟨3, ![2048, 2, 1024]⟩
abbrev S4096x256 : Shape := ⟨2, ![4096, 256]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S256x2048 : Shape := ⟨2, ![256, 2048]⟩
abbrev S256x5120 : Shape := ⟨2, ![256, 5120]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S264x256 : Shape := ⟨2, ![264, 256]⟩
abbrev S272x256 : Shape := ⟨2, ![272, 256]⟩

abbrev nBuf : Space → Nat
  | .hbm => 421
  | .vmem => 39
  | .smem => 0
  | _ => 0

abbrev hbmTy0_0 (i : Nat) : BufTy := match i % 128 with
  | 0 => ⟨S4096x5120, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S4x256x256, .f32⟩
  | 9 => ⟨S1024, .f32⟩
  | 10 => ⟨S1024, .f32⟩
  | 11 => ⟨S4096x1024, .f32⟩
  | 12 => ⟨S4096x1024, .f32⟩
  | 13 => ⟨S4096x2048, .f32⟩
  | 14 => ⟨S_, .f32⟩
  | 15 => ⟨S1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S8x1024, .f32⟩
  | 25 => ⟨S4096x1024, .f32⟩
  | 26 => ⟨S_, .f32⟩
  | 27 => ⟨S3x1024, .f32⟩
  | 28 => ⟨S4099x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S1x1024, .f32⟩
  | 56 => ⟨S4096x1024, .f32⟩
  | 57 => ⟨S4096x1024, .f32⟩
  | 58 => ⟨S4096x1024, .f32⟩
  | 59 => ⟨S4096x4x256, .f32⟩
  | 60 => ⟨S4x256x4096, .f32⟩
  | 61 => ⟨S4096x4x256, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x4x256, .f32⟩
  | 75 => ⟨S4x256x4096, .f32⟩
  | 76 => ⟨S4096x4x256, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S1024, .f32⟩
  | 94 => ⟨S1024, .f32⟩
  | 95 => ⟨S1024, .f32⟩
  | 96 => ⟨S1024, .f32⟩
  | 97 => ⟨S1024, .i1⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1x1024, .f32⟩
  | 107 => ⟨S4096x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096, .i32⟩
  | 117 => ⟨S_, .i32⟩
  | 118 => ⟨S4096, .i32⟩
  | 119 => ⟨S4096, .i1⟩
  | 120 => ⟨S4096x1, .i1⟩
  | 121 => ⟨S_, .f32⟩
  | 122 => ⟨S_, .f32⟩
  | 123 => ⟨S4096x1024, .i1⟩
  | 124 => ⟨S4096x1024, .f32⟩
  | 125 => ⟨S4096x1024, .f32⟩
  | 126 => ⟨S4096x1024, .f32⟩
  | 127 => ⟨S4096x1024, .f32⟩
  | _ => ⟨S4096x5120, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S512x1024, .f32⟩
  | 15 => ⟨S512x1024, .f32⟩
  | 16 => ⟨S512x1024, .f32⟩
  | 17 => ⟨S512x1024, .f32⟩
  | 18 => ⟨S512x1024, .f32⟩
  | 19 => ⟨S512x1024, .f32⟩
  | 20 => ⟨S512x1024, .f32⟩
  | 21 => ⟨S256x1024, .f32⟩
  | 22 => ⟨S256x1024, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S128x1024, .f32⟩
  | 29 => ⟨S128x1024, .f32⟩
  | 30 => ⟨S128x1024, .f32⟩
  | 31 => ⟨S128x1024, .f32⟩
  | 32 => ⟨S128x1024, .f32⟩
  | 33 => ⟨S128x1024, .f32⟩
  | 34 => ⟨S128x1024, .f32⟩
  | 35 => ⟨S64x1024, .f32⟩
  | 36 => ⟨S64x1024, .f32⟩
  | 37 => ⟨S64x1024, .f32⟩
  | 38 => ⟨S64x1024, .f32⟩
  | 39 => ⟨S64x1024, .f32⟩
  | 40 => ⟨S64x1024, .f32⟩
  | 41 => ⟨S64x1024, .f32⟩
  | 42 => ⟨S32x1024, .f32⟩
  | 43 => ⟨S32x1024, .f32⟩
  | 44 => ⟨S32x1024, .f32⟩
  | 45 => ⟨S32x1024, .f32⟩
  | 46 => ⟨S32x1024, .f32⟩
  | 47 => ⟨S32x1024, .f32⟩
  | 48 => ⟨S32x1024, .f32⟩
  | 49 => ⟨S16x1024, .f32⟩
  | 50 => ⟨S16x1024, .f32⟩
  | 51 => ⟨S16x1024, .f32⟩
  | 52 => ⟨S16x1024, .f32⟩
  | 53 => ⟨S16x1024, .f32⟩
  | 54 => ⟨S16x1024, .f32⟩
  | 55 => ⟨S16x1024, .f32⟩
  | 56 => ⟨S8x1024, .f32⟩
  | 57 => ⟨S8x1024, .f32⟩
  | 58 => ⟨S8x1024, .f32⟩
  | 59 => ⟨S8x1024, .f32⟩
  | 60 => ⟨S8x1024, .f32⟩
  | 61 => ⟨S8x1024, .f32⟩
  | 62 => ⟨S8x1024, .f32⟩
  | 63 => ⟨S4x1024, .f32⟩
  | 64 => ⟨S4x1024, .f32⟩
  | 65 => ⟨S4x1024, .f32⟩
  | 66 => ⟨S4x1024, .f32⟩
  | 67 => ⟨S4x1024, .f32⟩
  | 68 => ⟨S4x1024, .f32⟩
  | 69 => ⟨S4x1024, .f32⟩
  | 70 => ⟨S2x1024, .f32⟩
  | 71 => ⟨S2x1024, .f32⟩
  | 72 => ⟨S2x1024, .f32⟩
  | 73 => ⟨S2x1024, .f32⟩
  | 74 => ⟨S2x1024, .f32⟩
  | 75 => ⟨S2x1024, .f32⟩
  | 76 => ⟨S2x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S0x1024, .f32⟩
  | 87 => ⟨S1x1024, .f32⟩
  | 88 => ⟨S1x1024, .f32⟩
  | 89 => ⟨S1x1024, .f32⟩
  | 90 => ⟨S1x1x1024, .f32⟩
  | 91 => ⟨S1x1x1024, .f32⟩
  | 92 => ⟨S1x2x1024, .f32⟩
  | 93 => ⟨S2x1024, .f32⟩
  | 94 => ⟨S_, .f32⟩
  | 95 => ⟨S1x1024, .f32⟩
  | 96 => ⟨S1x1024, .f32⟩
  | 97 => ⟨S2x1024, .f32⟩
  | 98 => ⟨S2x1024, .f32⟩
  | 99 => ⟨S2x1024, .f32⟩
  | 100 => ⟨S2x1x1024, .f32⟩
  | 101 => ⟨S2x1x1024, .f32⟩
  | 102 => ⟨S2x2x1024, .f32⟩
  | 103 => ⟨S4x1024, .f32⟩
  | 104 => ⟨S_, .f32⟩
  | 105 => ⟨S1x1024, .f32⟩
  | 106 => ⟨S3x1024, .f32⟩
  | 107 => ⟨S4x1024, .f32⟩
  | 108 => ⟨S4x1024, .f32⟩
  | 109 => ⟨S4x1024, .f32⟩
  | 110 => ⟨S4x1x1024, .f32⟩
  | 111 => ⟨S4x1x1024, .f32⟩
  | 112 => ⟨S4x2x1024, .f32⟩
  | 113 => ⟨S8x1024, .f32⟩
  | 114 => ⟨S_, .f32⟩
  | 115 => ⟨S1x1024, .f32⟩
  | 116 => ⟨S7x1024, .f32⟩
  | 117 => ⟨S8x1024, .f32⟩
  | 118 => ⟨S8x1024, .f32⟩
  | 119 => ⟨S8x1024, .f32⟩
  | 120 => ⟨S8x1x1024, .f32⟩
  | 121 => ⟨S8x1x1024, .f32⟩
  | 122 => ⟨S8x2x1024, .f32⟩
  | 123 => ⟨S16x1024, .f32⟩
  | 124 => ⟨S_, .f32⟩
  | 125 => ⟨S1x1024, .f32⟩
  | 126 => ⟨S15x1024, .f32⟩
  | 127 => ⟨S16x1024, .f32⟩
  | _ => ⟨S4096x5120, .f32⟩

abbrev hbmTy0_2 (i : Nat) : BufTy := match i % 128 with
  | 0 => ⟨S16x1024, .f32⟩
  | 1 => ⟨S16x1024, .f32⟩
  | 2 => ⟨S16x1x1024, .f32⟩
  | 3 => ⟨S16x1x1024, .f32⟩
  | 4 => ⟨S16x2x1024, .f32⟩
  | 5 => ⟨S32x1024, .f32⟩
  | 6 => ⟨S_, .f32⟩
  | 7 => ⟨S1x1024, .f32⟩
  | 8 => ⟨S31x1024, .f32⟩
  | 9 => ⟨S32x1024, .f32⟩
  | 10 => ⟨S32x1024, .f32⟩
  | 11 => ⟨S32x1024, .f32⟩
  | 12 => ⟨S32x1x1024, .f32⟩
  | 13 => ⟨S32x1x1024, .f32⟩
  | 14 => ⟨S32x2x1024, .f32⟩
  | 15 => ⟨S64x1024, .f32⟩
  | 16 => ⟨S_, .f32⟩
  | 17 => ⟨S1x1024, .f32⟩
  | 18 => ⟨S63x1024, .f32⟩
  | 19 => ⟨S64x1024, .f32⟩
  | 20 => ⟨S64x1024, .f32⟩
  | 21 => ⟨S64x1024, .f32⟩
  | 22 => ⟨S64x1x1024, .f32⟩
  | 23 => ⟨S64x1x1024, .f32⟩
  | 24 => ⟨S64x2x1024, .f32⟩
  | 25 => ⟨S128x1024, .f32⟩
  | 26 => ⟨S_, .f32⟩
  | 27 => ⟨S1x1024, .f32⟩
  | 28 => ⟨S127x1024, .f32⟩
  | 29 => ⟨S128x1024, .f32⟩
  | 30 => ⟨S128x1024, .f32⟩
  | 31 => ⟨S128x1024, .f32⟩
  | 32 => ⟨S128x1x1024, .f32⟩
  | 33 => ⟨S128x1x1024, .f32⟩
  | 34 => ⟨S128x2x1024, .f32⟩
  | 35 => ⟨S256x1024, .f32⟩
  | 36 => ⟨S_, .f32⟩
  | 37 => ⟨S1x1024, .f32⟩
  | 38 => ⟨S255x1024, .f32⟩
  | 39 => ⟨S256x1024, .f32⟩
  | 40 => ⟨S256x1024, .f32⟩
  | 41 => ⟨S256x1024, .f32⟩
  | 42 => ⟨S256x1x1024, .f32⟩
  | 43 => ⟨S256x1x1024, .f32⟩
  | 44 => ⟨S256x2x1024, .f32⟩
  | 45 => ⟨S512x1024, .f32⟩
  | 46 => ⟨S_, .f32⟩
  | 47 => ⟨S1x1024, .f32⟩
  | 48 => ⟨S511x1024, .f32⟩
  | 49 => ⟨S512x1024, .f32⟩
  | 50 => ⟨S512x1024, .f32⟩
  | 51 => ⟨S512x1024, .f32⟩
  | 52 => ⟨S512x1x1024, .f32⟩
  | 53 => ⟨S512x1x1024, .f32⟩
  | 54 => ⟨S512x2x1024, .f32⟩
  | 55 => ⟨S1024x1024, .f32⟩
  | 56 => ⟨S_, .f32⟩
  | 57 => ⟨S1x1024, .f32⟩
  | 58 => ⟨S1023x1024, .f32⟩
  | 59 => ⟨S1024x1024, .f32⟩
  | 60 => ⟨S1024x1024, .f32⟩
  | 61 => ⟨S1024x1024, .f32⟩
  | 62 => ⟨S1024x1x1024, .f32⟩
  | 63 => ⟨S1024x1x1024, .f32⟩
  | 64 => ⟨S1024x2x1024, .f32⟩
  | 65 => ⟨S2048x1024, .f32⟩
  | 66 => ⟨S_, .f32⟩
  | 67 => ⟨S1x1024, .f32⟩
  | 68 => ⟨S2047x1024, .f32⟩
  | 69 => ⟨S2048x1024, .f32⟩
  | 70 => ⟨S2048x1024, .f32⟩
  | 71 => ⟨S2048x1024, .f32⟩
  | 72 => ⟨S2048x1x1024, .f32⟩
  | 73 => ⟨S2048x1x1024, .f32⟩
  | 74 => ⟨S2048x2x1024, .f32⟩
  | 75 => ⟨S4096x1024, .f32⟩
  | 76 => ⟨S4096x1024, .f32⟩
  | 77 => ⟨S4096, .i32⟩
  | 78 => ⟨S4096, .f32⟩
  | 79 => ⟨S4096x1, .f32⟩
  | 80 => ⟨S4096x256, .f32⟩
  | 81 => ⟨S_, .f32⟩
  | 82 => ⟨S_, .f32⟩
  | 83 => ⟨S4096x256, .f32⟩
  | 84 => ⟨S_, .f32⟩
  | 85 => ⟨S2x256, .f32⟩
  | 86 => ⟨S4098x256, .f32⟩
  | 87 => ⟨S4096x256, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x256, .f32⟩
  | 95 => ⟨S4096x256, .f32⟩
  | 96 => ⟨S4096x256, .f32⟩
  | 97 => ⟨S4096x256, .f32⟩
  | 98 => ⟨S4096x256, .f32⟩
  | 99 => ⟨S_, .f32⟩
  | 100 => ⟨S_, .f32⟩
  | 101 => ⟨S4096x256, .f32⟩
  | 102 => ⟨S_, .f32⟩
  | 103 => ⟨S4x256, .f32⟩
  | 104 => ⟨S4100x256, .f32⟩
  | 105 => ⟨S4096x256, .f32⟩
  | 106 => ⟨S_, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S_, .f32⟩
  | 118 => ⟨S_, .f32⟩
  | 119 => ⟨S4096x256, .f32⟩
  | 120 => ⟨S_, .f32⟩
  | 121 => ⟨S8x256, .f32⟩
  | 122 => ⟨S4104x256, .f32⟩
  | 123 => ⟨S4096x256, .f32⟩
  | 124 => ⟨S_, .f32⟩
  | 125 => ⟨S4096x1, .f32⟩
  | 126 => ⟨S4096x1, .f32⟩
  | 127 => ⟨S_, .f32⟩
  | _ => ⟨S4096x5120, .f32⟩

abbrev hbmTy0_3 (i : Nat) : BufTy := match i % 128 with
  | 0 => ⟨S4096x1, .f32⟩
  | 1 => ⟨S4096x1, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S_, .f32⟩
  | 8 => ⟨S_, .f32⟩
  | 9 => ⟨S4096x256, .f32⟩
  | 10 => ⟨S_, .f32⟩
  | 11 => ⟨S16x256, .f32⟩
  | 12 => ⟨S4112x256, .f32⟩
  | 13 => ⟨S4096x256, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x256, .f32⟩
  | 21 => ⟨S4096x256, .f32⟩
  | 22 => ⟨S4096x256, .f32⟩
  | 23 => ⟨S4096x256, .f32⟩
  | 24 => ⟨S4096x1024, .f32⟩
  | 25 => ⟨S4096x1024, .bf16⟩
  | 26 => ⟨S4096x1024, .bf16⟩
  | 27 => ⟨S4096x1024, .bf16⟩
  | 28 => ⟨S4096x2048, .bf16⟩
  | 29 => ⟨S4x256x256, .bf16⟩
  | 30 => ⟨S4x256x256, .bf16⟩
  | 31 => ⟨S4x256x256, .bf16⟩
  | 32 => ⟨S4096x5120, .bf16⟩
  | 33 => ⟨S16x1024, .f32⟩
  | 34 => ⟨S4x256x256, .f32⟩
  | 35 => ⟨S4x256x256, .f32⟩
  | 36 => ⟨S4x256x256, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | _ => ⟨S4096x5120, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S4x1024, .f32⟩
  | .local _ .vmem, ⟨19, _⟩ => ⟨S8x1024, .f32⟩
  | .local _ .vmem, ⟨20, _⟩ => ⟨S4x256x256, .bf16⟩
  | .local _ .vmem, ⟨21, _⟩ => ⟨S4x256x256, .bf16⟩
  | .local _ .vmem, ⟨22, _⟩ => ⟨S4x256x256, .bf16⟩
  | .local _ .vmem, ⟨23, _⟩ => ⟨S256x5120, .bf16⟩
  | .local _ .vmem, ⟨24, _⟩ => ⟨S256x5120, .bf16⟩
  | .local _ .vmem, ⟨25, _⟩ => ⟨S16x1024, .f32⟩
  | .local _ .vmem, ⟨26, _⟩ => ⟨S4x256x256, .f32⟩
  | .local _ .vmem, ⟨27, _⟩ => ⟨S4x256x256, .f32⟩
  | .local _ .vmem, ⟨28, _⟩ => ⟨S4x256x256, .f32⟩
  | .local _ .vmem, ⟨29, _⟩ => ⟨S1x1024, .f32⟩
  | .local _ .vmem, ⟨30, _⟩ => ⟨S8x1024, .f32⟩
  | .local _ .vmem, ⟨31, _⟩ => ⟨S16x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_1 : Ref sig .tc := ⟨.hbm, 68, rfl⟩
abbrev main_v52 : Ref sig .tc := ⟨.hbm, 69, rfl⟩
abbrev main_v53 : Ref sig .tc := ⟨.hbm, 70, rfl⟩
abbrev main_cst_2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_3 : Ref sig .tc := ⟨.hbm, 83, rfl⟩
abbrev main_v65 : Ref sig .tc := ⟨.hbm, 84, rfl⟩
abbrev main_v66 : Ref sig .tc := ⟨.hbm, 85, rfl⟩
abbrev main_cst_4 : Ref sig .tc := ⟨.hbm, 86, rfl⟩
abbrev main_v67 : Ref sig .tc := ⟨.hbm, 87, rfl⟩
abbrev main_v68 : Ref sig .tc := ⟨.hbm, 88, rfl⟩
abbrev main_cst_5 : Ref sig .tc := ⟨.hbm, 89, rfl⟩
abbrev main_v69 : Ref sig .tc := ⟨.hbm, 90, rfl⟩
abbrev main_v70 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_6 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_7 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_8 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_9 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_10 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_cst_11 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_cst_12 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_cst_13 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_cst_14 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_cst_15 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_cst_16 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_cst_17 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_cst_18 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_cst_19 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_call2_call0_cst : Ref sig .tc := ⟨.hbm, 337, rfl⟩
abbrev main_call2_call0_v0 : Ref sig .tc := ⟨.hbm, 338, rfl⟩
abbrev main_v285 : Ref sig .tc := ⟨.hbm, 339, rfl⟩
abbrev main_cst_20 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_cst_21 : Ref sig .tc := ⟨.hbm, 344, rfl⟩
abbrev main_v289 : Ref sig .tc := ⟨.hbm, 345, rfl⟩
abbrev main_v290 : Ref sig .tc := ⟨.hbm, 346, rfl⟩
abbrev main_cst_22 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_call3_call0_cst : Ref sig .tc := ⟨.hbm, 355, rfl⟩
abbrev main_call3_call0_v0 : Ref sig .tc := ⟨.hbm, 356, rfl⟩
abbrev main_v298 : Ref sig .tc := ⟨.hbm, 357, rfl⟩
abbrev main_cst_23 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_cst_24 : Ref sig .tc := ⟨.hbm, 362, rfl⟩
abbrev main_v302 : Ref sig .tc := ⟨.hbm, 363, rfl⟩
abbrev main_v303 : Ref sig .tc := ⟨.hbm, 364, rfl⟩
abbrev main_cst_25 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_call4_call0_cst : Ref sig .tc := ⟨.hbm, 373, rfl⟩
abbrev main_call4_call0_v0 : Ref sig .tc := ⟨.hbm, 374, rfl⟩
abbrev main_v311 : Ref sig .tc := ⟨.hbm, 375, rfl⟩
abbrev main_cst_26 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_cst_27 : Ref sig .tc := ⟨.hbm, 380, rfl⟩
abbrev main_v315 : Ref sig .tc := ⟨.hbm, 381, rfl⟩
abbrev main_v316 : Ref sig .tc := ⟨.hbm, 382, rfl⟩
abbrev main_cst_28 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_call5_call0_cst : Ref sig .tc := ⟨.hbm, 391, rfl⟩
abbrev main_call5_call0_v0 : Ref sig .tc := ⟨.hbm, 392, rfl⟩
abbrev main_v324 : Ref sig .tc := ⟨.hbm, 393, rfl⟩
abbrev main_cst_29 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_cst_30 : Ref sig .tc := ⟨.hbm, 398, rfl⟩
abbrev main_v328 : Ref sig .tc := ⟨.hbm, 399, rfl⟩
abbrev main_v329 : Ref sig .tc := ⟨.hbm, 400, rfl⟩
abbrev main_cst_31 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_v340 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_v344_0 : Ref sig .tc := ⟨.hbm, 416, rfl⟩
abbrev main_v344_1 : Ref sig .tc := ⟨.hbm, 417, rfl⟩
abbrev main_v344_2 : Ref sig .tc := ⟨.hbm, 418, rfl⟩
abbrev main_v344_3 : Ref sig .tc := ⟨.hbm, 419, rfl⟩
abbrev main_v344_4 : Ref sig .tc := ⟨.hbm, 420, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_236 : BitVec 32 := 0#32
  let c32_i32 : BitVec 32 := 32#32
  let v512 : BitVec 32 := Scalar.addi c0_i32_236 c32_i32
  let c1_i32 : BitVec 32 := 1#32
  ⟨c0_i32_236, v512, c1_i32⟩
def k0_mult1 (k0_t1 : Fin k0_t1_loop.trips) : BitVec 32 :=
  let c31_i32 : BitVec 32 := 31#32
  let c0_i32_236 : BitVec 32 := 0#32
  let c1_i32 : BitVec 32 := 1#32
  let arg30 : BitVec 32 := Scf.iv c0_i32_236 c1_i32 k0_t1
  let v1484 : BitVec 32 := Scalar.subi c31_i32 arg30
  let c8_i32 : BitVec 32 := 8#32
  let v1485 : BitVec 32 := Scalar.muli v1484 c8_i32
  v1485
def k0_off1 (k0_t1 : Fin k0_t1_loop.trips) : Fin 2 → Nat :=
  let c31_i32 : BitVec 32 := 31#32
  let c0_i32_236 : BitVec 32 := 0#32
  let c1_i32 : BitVec 32 := 1#32
  let arg30 : BitVec 32 := Scf.iv c0_i32_236 c1_i32 k0_t1
  let v1484 : BitVec 32 := Scalar.subi c31_i32 arg30
  let c8_i32 : BitVec 32 := 8#32
  let v1485 : BitVec 32 := Scalar.muli v1484 c8_i32
  let v1486 : BitVec 32 := v1485
  let v1487 : Index := Scalar.indexCast v1486
  let c0_855 : Index := 0#32
  ![v1487.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x5120 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S4096x5120 : Shape := ⟨2, ![4096, 5120]⟩
abbrev S4x1024 : Shape := ⟨2, ![4, 1024]⟩
abbrev S1024 : Shape := ⟨1, ![1024]⟩
abbrev S4x256x256 : Shape := ⟨3, ![4, 256, 256]⟩
abbrev S4096x1024 : Shape := ⟨2, ![4096, 1024]⟩
abbrev S4096x2048 : Shape := ⟨2, ![4096, 2048]⟩
abbrev S4096 : Shape := ⟨1, ![4096]⟩
abbrev S4096x1 : Shape := ⟨2, ![4096, 1]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4096x4x256 : Shape := ⟨3, ![4096, 4, 256]⟩
abbrev S4x256x4096 : Shape := ⟨3, ![4, 256, 4096]⟩
abbrev S1x1024 : Shape := ⟨2, ![1, 1024]⟩
abbrev S4x4096x256 : Shape := ⟨3, ![4, 4096, 256]⟩
abbrev S3x1024 : Shape := ⟨2, ![3, 1024]⟩
abbrev S4099x1024 : Shape := ⟨2, ![4099, 1024]⟩
abbrev S4096x1x1024 : Shape := ⟨3, ![4096, 1, 1024]⟩
abbrev S1x4096x1024 : Shape := ⟨3, ![1, 4096, 1024]⟩
abbrev S4096x4096x1024 : Shape := ⟨3, ![4096, 4096, 1024]⟩
abbrev S1x4096 : Shape := ⟨2, ![1, 4096]⟩
abbrev S4096x4096 : Shape := ⟨2, ![4096, 4096]⟩
abbrev S4096x4096x1 : Shape := ⟨3, ![4096, 4096, 1]⟩
abbrev S16x1024 : Shape := ⟨2, ![16, 1024]⟩

abbrev nBuf : Space → Nat
  | .hbm => 392
  | .vmem => 0
  | .smem => 0
  | _ => 0

abbrev hbmTy0_0 (i : Nat) : BufTy := match i % 128 with
  | 0 => ⟨S4096x5120, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S4x256x256, .f32⟩
  | 9 => ⟨S1024, .f32⟩
  | 10 => ⟨S1024, .f32⟩
  | 11 => ⟨S4096x1024, .f32⟩
  | 12 => ⟨S4096x1024, .f32⟩
  | 13 => ⟨S4096x2048, .f32⟩
  | 14 => ⟨S4096x1024, .f32⟩
  | 15 => ⟨S4096, .i32⟩
  | 16 => ⟨S4096, .f32⟩
  | 17 => ⟨S4096x1, .f32⟩
  | 18 => ⟨S4096x256, .f32⟩
  | 19 => ⟨S_, .f32⟩
  | 20 => ⟨S_, .f32⟩
  | 21 => ⟨S4096x256, .f32⟩
  | 22 => ⟨S_, .f32⟩
  | 23 => ⟨S2x256, .f32⟩
  | 24 => ⟨S4098x256, .f32⟩
  | 25 => ⟨S_, .f32⟩
  | 26 => ⟨S2x256, .f32⟩
  | 27 => ⟨S4096x256, .f32⟩
  | 28 => ⟨S_, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x256, .f32⟩
  | 35 => ⟨S4096x256, .f32⟩
  | 36 => ⟨S4096x256, .f32⟩
  | 37 => ⟨S4096x256, .f32⟩
  | 38 => ⟨S4096x256, .f32⟩
  | 39 => ⟨S_, .f32⟩
  | 40 => ⟨S_, .f32⟩
  | 41 => ⟨S4096x256, .f32⟩
  | 42 => ⟨S_, .f32⟩
  | 43 => ⟨S4x256, .f32⟩
  | 44 => ⟨S4100x256, .f32⟩
  | 45 => ⟨S_, .f32⟩
  | 46 => ⟨S4x256, .f32⟩
  | 47 => ⟨S4096x256, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S_, .f32⟩
  | 60 => ⟨S_, .f32⟩
  | 61 => ⟨S4096x256, .f32⟩
  | 62 => ⟨S_, .f32⟩
  | 63 => ⟨S8x256, .f32⟩
  | 64 => ⟨S4104x256, .f32⟩
  | 65 => ⟨S_, .f32⟩
  | 66 => ⟨S8x256, .f32⟩
  | 67 => ⟨S4096x256, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S_, .f32⟩
  | 81 => ⟨S4096x256, .f32⟩
  | 82 => ⟨S_, .f32⟩
  | 83 => ⟨S16x256, .f32⟩
  | 84 => ⟨S4112x256, .f32⟩
  | 85 => ⟨S_, .f32⟩
  | 86 => ⟨S16x256, .f32⟩
  | 87 => ⟨S4096x256, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x256, .f32⟩
  | 95 => ⟨S4096x256, .f32⟩
  | 96 => ⟨S4096x256, .f32⟩
  | 97 => ⟨S4096x256, .f32⟩
  | 98 => ⟨S4096x1024, .f32⟩
  | 99 => ⟨S4096x4x256, .f32⟩
  | 100 => ⟨S4x256x4096, .f32⟩
  | 101 => ⟨S4096x4x256, .f32⟩
  | 102 => ⟨S4096x1024, .f32⟩
  | 103 => ⟨S1x1024, .f32⟩
  | 104 => ⟨S4096x1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S4096x1024, .f32⟩
  | 114 => ⟨S4096x1024, .f32⟩
  | 115 => ⟨S_, .f32⟩
  | 116 => ⟨S1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S4096x4x256, .f32⟩
  | 123 => ⟨S4x256x4096, .f32⟩
  | 124 => ⟨S4x4096x256, .f32⟩
  | 125 => ⟨S4096x4x256, .f32⟩
  | 126 => ⟨S4x256x256, .f32⟩
  | 127 => ⟨S4x256x256, .f32⟩
  | _ => ⟨S4096x5120, .f32⟩

abbrev hbmTy0_1 (i : Nat) : BufTy := match i % 128 with
  | 0 => ⟨S4096x1024, .f32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x256, .f32⟩
  | 9 => ⟨S_, .f32⟩
  | 10 => ⟨S4112x256, .f32⟩
  | 11 => ⟨S16x256, .f32⟩
  | 12 => ⟨S4096x256, .f32⟩
  | 13 => ⟨S4096x256, .f32⟩
  | 14 => ⟨S_, .f32⟩
  | 15 => ⟨S_, .f32⟩
  | 16 => ⟨S4096x256, .f32⟩
  | 17 => ⟨S4096x256, .f32⟩
  | 18 => ⟨S_, .f32⟩
  | 19 => ⟨S4096x1024, .f32⟩
  | 20 => ⟨S4096x256, .f32⟩
  | 21 => ⟨S4096x256, .f32⟩
  | 22 => ⟨S4096x256, .f32⟩
  | 23 => ⟨S4096x256, .f32⟩
  | 24 => ⟨S_, .f32⟩
  | 25 => ⟨S4104x256, .f32⟩
  | 26 => ⟨S8x256, .f32⟩
  | 27 => ⟨S4096x256, .f32⟩
  | 28 => ⟨S4096x256, .f32⟩
  | 29 => ⟨S_, .f32⟩
  | 30 => ⟨S_, .f32⟩
  | 31 => ⟨S4096x256, .f32⟩
  | 32 => ⟨S4096x256, .f32⟩
  | 33 => ⟨S_, .f32⟩
  | 34 => ⟨S4096x1024, .f32⟩
  | 35 => ⟨S4096x1024, .f32⟩
  | 36 => ⟨S4096x256, .f32⟩
  | 37 => ⟨S4096x256, .f32⟩
  | 38 => ⟨S4096x256, .f32⟩
  | 39 => ⟨S4096x256, .f32⟩
  | 40 => ⟨S_, .f32⟩
  | 41 => ⟨S4100x256, .f32⟩
  | 42 => ⟨S4x256, .f32⟩
  | 43 => ⟨S4096x256, .f32⟩
  | 44 => ⟨S4096x256, .f32⟩
  | 45 => ⟨S_, .f32⟩
  | 46 => ⟨S_, .f32⟩
  | 47 => ⟨S4096x256, .f32⟩
  | 48 => ⟨S4096x256, .f32⟩
  | 49 => ⟨S_, .f32⟩
  | 50 => ⟨S4096x1024, .f32⟩
  | 51 => ⟨S4096x1024, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4098x256, .f32⟩
  | 58 => ⟨S2x256, .f32⟩
  | 59 => ⟨S4096x256, .f32⟩
  | 60 => ⟨S4096x256, .f32⟩
  | 61 => ⟨S_, .f32⟩
  | 62 => ⟨S_, .f32⟩
  | 63 => ⟨S4096x256, .f32⟩
  | 64 => ⟨S4096x256, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S3x1024, .f32⟩
  | 71 => ⟨S4099x1024, .f32⟩
  | 72 => ⟨S4096x1024, .f32⟩
  | 73 => ⟨S1x1024, .f32⟩
  | 74 => ⟨S1024, .f32⟩
  | 75 => ⟨S1x1024, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S1x1024, .f32⟩
  | 85 => ⟨S4096x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S1x1024, .f32⟩
  | 92 => ⟨S4096x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S1x1024, .f32⟩
  | 99 => ⟨S4096x1024, .f32⟩
  | 100 => ⟨S4096x1024, .f32⟩
  | 101 => ⟨S4096x1024, .f32⟩
  | 102 => ⟨S4096x4x256, .f32⟩
  | 103 => ⟨S4x256x4096, .f32⟩
  | 104 => ⟨S4096x4x256, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S4096x4x256, .f32⟩
  | 118 => ⟨S4x256x4096, .f32⟩
  | 119 => ⟨S4096x4x256, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096x5120, .f32⟩

abbrev hbmTy0_2 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S1024, .f32⟩
  | 13 => ⟨S1024, .f32⟩
  | 14 => ⟨S1024, .f32⟩
  | 15 => ⟨S1024, .f32⟩
  | 16 => ⟨S1024, .i1⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096, .i32⟩
  | 35 => ⟨S_, .i32⟩
  | 36 => ⟨S4096, .i32⟩
  | 37 => ⟨S4096, .i1⟩
  | 38 => ⟨S4096x1, .i1⟩
  | 39 => ⟨S_, .f32⟩
  | 40 => ⟨S_, .f32⟩
  | 41 => ⟨S4096x1024, .i1⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096, .i32⟩
  | 65 => ⟨S_, .f32⟩
  | 66 => ⟨S_, .f32⟩
  | 67 => ⟨S4096x1024, .f32⟩
  | 68 => ⟨S4096x1x1024, .f32⟩
  | 69 => ⟨S1x4096x1024, .f32⟩
  | 70 => ⟨S4096x4096x1024, .f32⟩
  | 71 => ⟨S4096x4096x1024, .f32⟩
  | 72 => ⟨S4096x4096x1024, .f32⟩
  | 73 => ⟨S4096x4096x1024, .f32⟩
  | 74 => ⟨S4096x1, .i32⟩
  | 75 => ⟨S1x4096, .i32⟩
  | 76 => ⟨S4096x4096, .i32⟩
  | 77 => ⟨S4096x4096, .i32⟩
  | 78 => ⟨S4096x4096, .i1⟩
  | 79 => ⟨S4096x4096x1, .i1⟩
  | 80 => ⟨S_, .f32⟩
  | 81 => ⟨S_, .f32⟩
  | 82 => ⟨S4096x4096x1024, .i1⟩
  | 83 => ⟨S4096x4096x1024, .f32⟩
  | 84 => ⟨S4096x4096x1024, .f32⟩
  | 85 => ⟨S1x4096x1024, .f32⟩
  | 86 => ⟨S4096x4096x1024, .f32⟩
  | 87 => ⟨S4096x4096x1024, .f32⟩
  | 88 => ⟨S_, .f32⟩
  | 89 => ⟨S4096x1024, .f32⟩
  | 90 => ⟨S4096x1024, .f32⟩
  | 91 => ⟨S4096x1024, .f32⟩
  | 92 => ⟨S4096x4096x1024, .f32⟩
  | 93 => ⟨S4096x4096x1024, .f32⟩
  | 94 => ⟨S_, .f32⟩
  | 95 => ⟨S4096x1024, .f32⟩
  | 96 => ⟨S1x4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S4096x4x256, .f32⟩
  | 108 => ⟨S4x256x4096, .f32⟩
  | 109 => ⟨S4x256x256, .f32⟩
  | 110 => ⟨S4x256x256, .f32⟩
  | 111 => ⟨S_, .f32⟩
  | 112 => ⟨S4096x2048, .f32⟩
  | 113 => ⟨S4096x5120, .f32⟩
  | 114 => ⟨S4096x5120, .bf16⟩
  | 115 => ⟨S_, .f32⟩
  | 116 => ⟨S1024, .f32⟩
  | 117 => ⟨S1x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S4096x5120, .f32⟩

abbrev hbmTy0_3 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S16x1024, .f32⟩
  | 6 => ⟨S_, .f32⟩
  | 7 => ⟨S4x256x256, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_call0_cst : Ref sig .tc := ⟨.hbm, 19, rfl⟩
abbrev main_call0_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_call0_cst : Ref sig .tc := ⟨.hbm, 39, rfl⟩
abbrev main_call1_call0_v0 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_call0_cst : Ref sig .tc := ⟨.hbm, 59, rfl⟩
abbrev main_call2_call0_v0 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call3_call0_cst : Ref sig .tc := ⟨.hbm, 79, rfl⟩
abbrev main_call3_call0_v0 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_v49 : Ref sig .tc := ⟨.hbm, 84, rfl⟩
abbrev main_cst_12 : Ref sig .tc := ⟨.hbm, 85, rfl⟩
abbrev main_v50 : Ref sig .tc := ⟨.hbm, 86, rfl⟩
abbrev main_v51 : Ref sig .tc := ⟨.hbm, 87, rfl⟩
abbrev main_cst_13 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_cst_18 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_call4_call0_cst : Ref sig .tc := ⟨.hbm, 142, rfl⟩
abbrev main_call4_call0_v0 : Ref sig .tc := ⟨.hbm, 143, rfl⟩
abbrev main_v99 : Ref sig .tc := ⟨.hbm, 144, rfl⟩
abbrev main_v100 : Ref sig .tc := ⟨.hbm, 145, rfl⟩
abbrev main_cst_20 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_call5_call0_cst : Ref sig .tc := ⟨.hbm, 157, rfl⟩
abbrev main_call5_call0_v0 : Ref sig .tc := ⟨.hbm, 158, rfl⟩
abbrev main_v110 : Ref sig .tc := ⟨.hbm, 159, rfl⟩
abbrev main_v111 : Ref sig .tc := ⟨.hbm, 160, rfl⟩
abbrev main_cst_22 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_23 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_call6_call0_cst : Ref sig .tc := ⟨.hbm, 173, rfl⟩
abbrev main_call6_call0_v0 : Ref sig .tc := ⟨.hbm, 174, rfl⟩
abbrev main_v122 : Ref sig .tc := ⟨.hbm, 175, rfl⟩
abbrev main_v123 : Ref sig .tc := ⟨.hbm, 176, rfl⟩
abbrev main_cst_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_25 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_call7_call0_cst : Ref sig .tc := ⟨.hbm, 189, rfl⟩
abbrev main_call7_call0_v0 : Ref sig .tc := ⟨.hbm, 190, rfl⟩
abbrev main_v134 : Ref sig .tc := ⟨.hbm, 191, rfl⟩
abbrev main_v135 : Ref sig .tc := ⟨.hbm, 192, rfl⟩
abbrev main_cst_26 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_27 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_28 : Ref sig .tc := ⟨.hbm, 239, rfl⟩
abbrev main_v180 : Ref sig .tc := ⟨.hbm, 240, rfl⟩
abbrev main_v181 : Ref sig .tc := ⟨.hbm, 241, rfl⟩
abbrev main_cst_29 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_cst_30 : Ref sig .tc := ⟨.hbm, 254, rfl⟩
abbrev main_v193 : Ref sig .tc := ⟨.hbm, 255, rfl⟩
abbrev main_v194 : Ref sig .tc := ⟨.hbm, 256, rfl⟩
abbrev main_cst_31 : Ref sig .tc := ⟨.hbm, 257, rfl⟩
abbrev main_v195 : Ref sig .tc := ⟨.hbm, 258, rfl⟩
abbrev main_v196 : Ref sig .tc := ⟨.hbm, 259, rfl⟩
abbrev main_cst_32 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_33 : Ref sig .tc := ⟨.hbm, 264, rfl⟩
abbrev main_v200 : Ref sig .tc := ⟨.hbm, 265, rfl⟩
abbrev main_v201 : Ref sig .tc := ⟨.hbm, 266, rfl⟩
abbrev main_call8_cst : Ref sig .tc := ⟨.hbm, 267, rfl⟩
abbrev main_call8_v0 : Ref sig .tc := ⟨.hbm, 268, rfl⟩
abbrev main_call8_v1 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_v6 : Ref sig .tc := ⟨.hbm, 274, rfl⟩
abbrev main_call8_v7 : Ref sig .tc := ⟨.hbm, 275, rfl⟩
abbrev main_call8_v8 : Ref sig .tc := ⟨.hbm, 276, rfl⟩
abbrev main_call8_v9 : Ref sig .tc := ⟨.hbm, 277, rfl⟩
abbrev main_call8_v10 : Ref sig .tc := ⟨.hbm, 278, rfl⟩
abbrev main_call8_v11 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_cst_34 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_c : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_cst_35 : Ref sig .tc := ⟨.hbm, 295, rfl⟩
abbrev main_call9_v0 : Ref sig .tc := ⟨.hbm, 296, rfl⟩
abbrev main_call9_v1 : Ref sig .tc := ⟨.hbm, 297, rfl⟩
abbrev main_call9_v2 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_cst_36 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_cst_37 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_cst_38 : Ref sig .tc := ⟨.hbm, 311, rfl⟩
abbrev main_v225 : Ref sig .tc := ⟨.hbm, 312, rfl⟩
abbrev main_v226 : Ref sig .tc := ⟨.hbm, 313, rfl⟩
abbrev main_cst_39 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_call10_call0_cst : Ref sig .tc := ⟨.hbm, 321, rfl⟩
abbrev main_call10_call0_v0 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_cst_40 : Ref sig .tc := ⟨.hbm, 336, rfl⟩
abbrev main_call11_v0 : Ref sig .tc := ⟨.hbm, 337, rfl⟩
abbrev main_call11_v1 : Ref sig .tc := ⟨.hbm, 338, rfl⟩
abbrev main_call11_v2 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_cst_41 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_cst_42 : Ref sig .tc := ⟨.hbm, 350, rfl⟩
abbrev main_v255 : Ref sig .tc := ⟨.hbm, 351, rfl⟩
abbrev main_v256 : Ref sig .tc := ⟨.hbm, 352, rfl⟩
abbrev main_cst_43 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_cst_44 : Ref sig .tc := ⟨.hbm, 358, rfl⟩
abbrev main_v261 : Ref sig .tc := ⟨.hbm, 359, rfl⟩
abbrev main_v262 : Ref sig .tc := ⟨.hbm, 360, rfl⟩
abbrev main_cst_45 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_cst_46 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_cst_47 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_cst_48 : Ref sig .tc := ⟨.hbm, 390, rfl⟩
abbrev main_v289 : Ref sig .tc := ⟨.hbm, 391, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S_ : Shape := ⟨0, ![]⟩
abbrev S1x1024x1024 : Shape := ⟨3, ![1, 1024, 1024]⟩
abbrev S4096x2048 : Shape := ⟨2, ![4096, 2048]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩

abbrev nBuf : Space → Nat
  | .hbm => 42
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S1024x1024, .bf16⟩
  | .hbm, ⟨37, _⟩ => ⟨S1x1024x1024, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4096x1024 : Shape := ⟨2, ![4096, 1024]⟩
abbrev S1024x1024 : Shape := ⟨2, ![1024, 1024]⟩
abbrev S_ : Shape := ⟨0, ![]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x2048, .f32⟩
  | .hbm, ⟨44, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S_ : Shape := ⟨0, ![]⟩
abbrev S2x1024 : Shape := ⟨2, ![2, 1024]⟩
abbrev S8x1024 : Shape := ⟨2, ![8, 1024]⟩
abbrev S1x1024 : Shape := ⟨2, ![1, 1024]⟩
abbrev S4x1024x1024 : Shape := ⟨3, ![4, 1024, 1024]⟩
abbrev S512x4096 : Shape := ⟨2, ![512, 4096]⟩
abbrev S512x1024 : Shape := ⟨2, ![512, 1024]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S6x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S8x1024, .f32⟩
  | .hbm, ⟨9, _⟩ => ⟨S1x1024, .f32⟩
  | .hbm, ⟨10, _⟩ => ⟨S4096x1024, .bf16⟩
  | .hbm, ⟨11, _⟩ => ⟨S4x1024x1024, .bf16⟩
  | .hbm, ⟨12, _⟩ => ⟨S4096x4096, .bf16⟩
  | .hbm, ⟨13, _⟩ => ⟨S4096x1024, .f32⟩
  | .hbm, ⟨14, _⟩ => ⟨S4096x1024, .bf16⟩
  | .hbm, ⟨15, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x1024 : Shape := ⟨2, ![4096, 1024]⟩
abbrev S4096x4096 : Shape := ⟨2, ![4096, 4096]⟩
abbrev S6x1024 : Shape := ⟨2, ![6, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S6x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1024, .f32⟩
  | .hbm, ⟨101, _⟩ => ⟨S_, .f32⟩
  | .hbm, ⟨102, _⟩ => ⟨S1024, .f32⟩
  | .hbm, ⟨103, _⟩ => ⟨S4096x1024, .bf16⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_cst_21 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Kernel5.lean ====
abbrev S4096x1024 : Shape := ⟨2, ![4096, 1024]⟩
abbrev S6x1024 : Shape := ⟨2, ![6, 1024]⟩
abbrev S1024x1024 : Shape := ⟨2, ![1024, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S_ : Shape := ⟨0, ![]⟩
abbrev S2x1024 : Shape := ⟨2, ![2, 1024]⟩
abbrev S8x1024 : Shape := ⟨2, ![8, 1024]⟩
abbrev S1024x4x1024 : Shape := ⟨3, ![1024, 4, 1024]⟩
abbrev S4x1024x1024 : Shape := ⟨3, ![4, 1024, 1024]⟩
abbrev S512x4096 : Shape := ⟨2, ![512, 4096]⟩
abbrev S512x1024 : Shape := ⟨2, ![512, 1024]⟩
abbrev S256x1024 : Shape := ⟨2, ![256, 1024]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 27
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S2x1024, .f32⟩
  | .hbm, ⟨17, _⟩ => ⟨S8x1024, .f32⟩
  | .hbm, ⟨18, _⟩ => ⟨S1x1024, .f32⟩
  | .hbm, ⟨19, _⟩ => ⟨S1024x4096, .bf16⟩
  | .hbm, ⟨20, _⟩ => ⟨S1024x4x1024, .bf16⟩
  | .hbm, ⟨21, _⟩ => ⟨S4x1024x1024, .bf16⟩
  | .hbm, ⟨22, _⟩ => ⟨S4096x4096, .bf16⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x1024 : Shape := ⟨2, ![4096, 1024]⟩
abbrev S6x1024 : Shape := ⟨2, ![6, 1024]⟩
abbrev S1024x1024 : Shape := ⟨2, ![1024, 1024]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x4096, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S1024, .f32⟩
  | .hbm, ⟨98, _⟩ => ⟨S_, .f32⟩
  | .hbm, ⟨99, _⟩ => ⟨S1024, .f32⟩
  | .hbm, ⟨100, _⟩ => ⟨S4096x1024, .bf16⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel6.lean ====
abbrev S4096x1024 : Shape := ⟨2, ![4096, 1024]⟩
abbrev S6x1024 : Shape := ⟨2, ![6, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S2x1024 : Shape := ⟨2, ![2, 1024]⟩
abbrev S8x1024 : Shape := ⟨2, ![8, 1024]⟩
abbrev S1x1024 : Shape := ⟨2, ![1, 1024]⟩
abbrev S1024x4x1280 : Shape := ⟨3, ![1024, 4, 1280]⟩
abbrev S4x1024x1280 : Shape := ⟨3, ![4, 1024, 1280]⟩
abbrev S512x5120 : Shape := ⟨2, ![512, 5120]⟩
abbrev S512x1024 : Shape := ⟨2, ![512, 1024]⟩
abbrev S256x1280 : Shape := ⟨2, ![256, 1280]⟩
abbrev S1x1024x1280 : Shape := ⟨3, ![1, 1024, 1280]⟩
abbrev S1024x1280 : Shape := ⟨2, ![1024, 1280]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S_, .f32⟩
  | .hbm, ⟨7, _⟩ => ⟨S2x1024, .f32⟩
  | .hbm, ⟨8, _⟩ => ⟨S8x1024, .f32⟩
  | .hbm, ⟨9, _⟩ => ⟨S1x1024, .f32⟩
  | .hbm, ⟨10, _⟩ => ⟨S1024x5120, .bf16⟩
  | .hbm, ⟨11, _⟩ => ⟨S1024x4x1280, .bf16⟩
  | .hbm, ⟨12, _⟩ => ⟨S4x1024x1280, .bf16⟩
  | .hbm, ⟨13, _⟩ => ⟨S4096x5120, .bf16⟩
  | .hbm, ⟨14, _⟩ => ⟨S4096x1024, .f32⟩
  | .hbm, ⟨15, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S4x1024x1280, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x1024 : Shape := ⟨2, ![4096, 1024]⟩
abbrev S6x1024 : Shape := ⟨2, ![6, 1024]⟩
abbrev S1024 : Shape := ⟨1, ![1024]⟩
abbrev S1024x5120 : Shape := ⟨2, ![1024, 5120]⟩
abbrev S4096x5120 : Shape := ⟨2, ![4096, 5120]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024x5120, .f32⟩
  | .hbm, ⟨4, _⟩ => ⟨S4096x1024, .f32⟩
  | .hbm, ⟨5, _⟩ => ⟨S4096x5120, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x5120, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel7.lean ====
abbrev S4096x1024 : Shape := ⟨2, ![4096, 1024]⟩
abbrev S4096x5120 : Shape := ⟨2, ![4096, 5120]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 16
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1x1024x1024, .bf16⟩
  | .hbm, ⟨7, _⟩ => ⟨S1024x1024, .bf16⟩
  | .hbm, ⟨8, _⟩ => ⟨S1x1024x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S4096x1024 : Shape := ⟨2, ![4096, 1024]⟩
abbrev S4096x5120 : Shape := ⟨2, ![4096, 5120]⟩
abbrev S1024x1024 : Shape := ⟨2, ![1024, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5120, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S4096x1024 : Shape := ⟨2, ![4096, 1024]⟩
abbrev S6x1024 : Shape := ⟨2, ![6, 1024]⟩
abbrev S1024x1024 : Shape := ⟨2, ![1024, 1024]⟩
abbrev S1024 : Shape := ⟨1, ![1024]⟩
abbrev S_ : Shape := ⟨0, ![]⟩
abbrev S2x1024 : Shape := ⟨2, ![2, 1024]⟩
abbrev S8x1024 : Shape := ⟨2, ![8, 1024]⟩
abbrev S1x1024 : Shape := ⟨2, ![1, 1024]⟩
abbrev S1x1024x1024 : Shape := ⟨3, ![1, 1024, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S2x1024, .f32⟩
  | .hbm, ⟨7, _⟩ => ⟨S8x1024, .f32⟩
  | .hbm, ⟨8, _⟩ => ⟨S1x1024, .f32⟩
  | .hbm, ⟨9, _⟩ => ⟨S1024x1024, .bf16⟩
  | .hbm, ⟨10, _⟩ => ⟨S1x1024x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S6x1024 : Shape := ⟨2, ![6, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S256x1024 : Shape := ⟨2, ![256, 1024]⟩
abbrev S1x1024x1024 : Shape := ⟨3, ![1, 1024, 1024]⟩
abbrev S1024x1024 : Shape := ⟨2, ![1024, 1024]⟩
abbrev S256x4096 : Shape := ⟨2, ![256, 4096]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S4096x1024, .bf16⟩
  | .hbm, ⟨6, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S6x1024 : Shape := ⟨2, ![6, 1024]⟩
abbrev S1024 : Shape := ⟨1, ![1024]⟩
abbrev S1024x5120 : Shape := ⟨2, ![1024, 5120]⟩
abbrev S_ : Shape := ⟨0, ![]⟩
abbrev S2x1024 : Shape := ⟨2, ![2, 1024]⟩
abbrev S8x1024 : Shape := ⟨2, ![8, 1024]⟩
abbrev S1x1024 : Shape := ⟨2, ![1, 1024]⟩
abbrev S1024x4x1280 : Shape := ⟨3, ![1024, 4, 1280]⟩
abbrev S4x1024x1280 : Shape := ⟨3, ![4, 1024, 1280]⟩
abbrev S4096x5120 : Shape := ⟨2, ![4096, 5120]⟩
abbrev S512x1024 : Shape := ⟨2, ![512, 1024]⟩
abbrev S512x5120 : Shape := ⟨2, ![512, 5120]⟩
abbrev S256x1024 : Shape := ⟨2, ![256, 1024]⟩
abbrev S256 : Shape := ⟨1, ![256]⟩
abbrev S256x1 : Shape := ⟨2, ![256, 1]⟩
abbrev S1x1024x1280 : Shape := ⟨3, ![1, 1024, 1280]⟩
abbrev S1024x1280 : Shape := ⟨2, ![1024, 1280]⟩
abbrev S256x1280 : Shape := ⟨2, ![256, 1280]⟩
abbrev S256x5120 : Shape := ⟨2, ![256, 5120]⟩

abbrev nBuf : Space → Nat
  | .hbm => 13
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024x5120, .f32⟩
  | .hbm, ⟨4, _⟩ => ⟨S_, .f32⟩
  | .hbm, ⟨5, _⟩ => ⟨S2x1024, .f32⟩
  | .hbm, ⟨6, _⟩ => ⟨S8x1024, .f32⟩
  | .hbm, ⟨7, _⟩ => ⟨S1x1024, .f32⟩
  | .hbm, ⟨8, _⟩ => ⟨S1024x5120, .bf16⟩
  | .hbm, ⟨9, _⟩ => ⟨S1024x4x1280, .bf16⟩
  | .hbm, ⟨10, _⟩ => ⟨S4x1024x1280, .bf16⟩
  | .hbm, ⟨11, _⟩ => ⟨S4096x5120, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x1280, .bf16⟩
  | .local _ .vmem, ⟨3, _⟩ => ⟨S8x1024, .f32⟩
  | .local _ .vmem, ⟨4, _⟩ => ⟨S1x1024, .f32⟩
  | .local _ .vmem, ⟨5, _⟩ => ⟨S512x5120, .f32⟩
  | .local _ .vmem, ⟨6, _⟩ => ⟨S512x5120, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S6x1024 : Shape := ⟨2, ![6, 1024]⟩
abbrev S1024 : Shape := ⟨1, ![1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5120 : Shape := ⟨2, ![4096, 5120]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024x5120, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5120, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.DMlpDown.Block.lean ====
/-
  The backward call `d_mlp_down` of the MLP: the product `dffo · w_downᵀ`, taken in four column blocks of the weight,
  each element multiplied by `2 √ff` of the saved activation `ff = relu(up)²`. This module reads what one grid point
  leaves in its block, and what the result array holds after the run, as functions of the arrays the call is given.
-/
module

public import proofs.«01_k».proof.Proof.Gen.KernelIdeal.Value
public import Idealize.ShloMosaic.Lib.Pipeline.ValueKit.Point
public import Idealize.ShloMosaic.Lib.Tactic

@[expose] public section

set_option maxRecDepth 16384

noncomputable section

namespace Cert.KernelIdeal.Value
open Cert.KernelIdeal Cert.KernelIdeal.Gen Idealize.ShloMosaic Idealize.ShloMosaic.TcCoe Idealize.SL.Sem
open Idealize.ShloMosaic.Pipeline (Dat)

/-- What one grid point leaves in its block of 512 rows, at row `y 0` and column `y 1`: the product of the block's row
    with the weight's row `y 1` (row `y 1 % 1024` of weight block `y 1 / 1024`), times `2 √ff`. -/
def gateBlk (x0 : Vec Ideal S512x1024 .bf16) (x1 : Vec Ideal S4x1024x1024 .bf16) (x2 : Vec Ideal S512x4096 .bf16) : Vec Ideal S512x4096 .bf16 := fun y =>
  (∑ k : Fin 1024, x0 (ix2 (y 0) k) * x1 (ix3 ⟨(y 1).val / 1024, by have : (y 1).val < 4096 := (y 1).isLt; omega⟩ ⟨(y 1).val % 1024, Nat.mod_lt _ (by decide)⟩ k))
    * (Ideal.ofBits .f32 0x40000000#32 * Ideal.sqrt (x2 y))

/-- One store's value at an index: one half of the rows against one block of the weight. -/
theorem pay_apply (v0 : Vec Ideal S256x1024 .bf16) (v2 : Vec Ideal S1x1024x1024 .bf16) (v29 : Vec Ideal S256x1024 .bf16) (x : S256x1024.Idx) :
    k0_pay11 (k0_pay2 v0 v2) v29 x
      = (∑ k : Fin 1024, v0 (ix2 (x 0) k) * v2 (ix3 0 (x 1) k)) * (Ideal.ofBits .f32 0x40000000#32 * Ideal.sqrt (v29 x)) := by
  idx_vars x
  pointwise [k0_pay11, k0_pay2, k0_pay1]

/-- The eight stores of one grid point leave `gateBlk` of the point's blocks. -/
theorem out_eq (c : Dev nD) (i : grid0.Coords) (arg1 : Memref sig .tc .vmem S512x1024 .bf16) (harg1 : arg1.IsWhole) (arg2 : Memref sig .tc .vmem S4x1024x1024 .bf16) (harg2 : arg2.IsWhole) (arg3 : Memref sig .tc .vmem S512x4096 .bf16) (harg3 : arg3.IsWhole) (arg4 : Memref sig .tc .vmem S512x4096 .bf16) (harg4 : arg4.IsWhole)
    (x0 : Vec Ideal S512x1024 .bf16) (x1 : Vec Ideal S4x1024x1024 .bf16) (x2 : Vec Ideal S512x4096 .bf16)  :
    out0_A_3 c i arg1 harg1 arg2 harg2 arg3 harg3 arg4 harg4 x0 x1 x2 = gateBlk x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  simp only [View.readAt_eq_ld, harg1.read_unread, harg2.read_unread, harg3.read_unread]
  funext y
  canon_tiles x h using View.cover_of_tiled_head _ _ _ (by rfl) y
  all_goals refine (pay_apply _ _ _ x).trans ?_
  all_goals
    refine congrArg₂ _ (Finset.sum_congr rfl fun k _ => congrArg₂ _ (View.ld_unit_apply_of _ _ _ _ _ _ fun a => ?_) (View.ld_unit_apply_of _ _ _ _ _ _ fun a => ?_))
      (congrArg _ (congrArg Ideal.sqrt ((congrFun (harg3.read_unread x2) _).trans (congrArg x2 ((Rect.idx_withinL _ _ _ _).trans (funext fun a => Fin.ext ?_))))))
  all_goals fin_cases a
  all_goals simp [ix2_0, ix2_1, ix3_0, ix3_1, ix3_2]
  all_goals first
    | omega
    | (show (y 1).val % 1024 = (x 1).val; omega)

/-- The same over the whole array of 4096 rows. -/
def gateArr (x0 : Vec Ideal S4096x1024 .bf16) (x1 : Vec Ideal S4x1024x1024 .bf16) (x2 : Vec Ideal S4096x4096 .bf16) : Vec Ideal S4096x4096 .bf16 := fun y =>
  (∑ k : Fin 1024, x0 (ix2 (y 0) k) * x1 (ix3 ⟨(y 1).val / 1024, by have : (y 1).val < 4096 := (y 1).isLt; omega⟩ ⟨(y 1).val % 1024, Nat.mod_lt _ (by decide)⟩ k))
    * (Ideal.ofBits .f32 0x40000000#32 * Ideal.sqrt (x2 y))

variable (m : (ℓ : Loc nD τ sig) → Buf (Elt Ideal) ℓ) (ρ : Dev nD → PrngReg)

/-- The block each window reads or writes at point `t`. -/
theorem index0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- After the run the result array is `gateArr` of the three arrays the call was given. -/
theorem final (c : Dev nD) : (dats m 0 c).arrAt 3 cfg0.N = gateArr (V m c main_v6) (V m c main_v5) (V m c main_v3) := by
  refine (dats m 0 c).arrAt_eq_of_covers 3 _ (by decide +kernel) fun t hf y => ?_
  blk_simp
  rw [after0_3]
  unfold outsAt0
  rw [out_eq]
  obtain ⟨e0, e1, e2, e3, e4, e5, e6, e7, e8⟩ := index0 t
  unfold gateBlk gateArr
  reads_congr
  all_goals blk_ext! [iblk, e0, e1, e2, e3, e4, e5, e6, e7, e8]

end Cert.KernelIdeal.Value

end
-- ==== Proof.DMlpDown.Equation.lean ====
/-
  The backward call `d_mlp_down` against the gradient of `relu(up)²` taken by `jax.vjp`: the kernel's factor `2 √(relu(up)²)`
  is the gradient's `2 relu(up)` where `up > 0` and `0` elsewhere, and both multiply the same product `dffo · w_downᵀ`.
-/
module

public import proofs.«01_k».proof.Defs
public import proofs.«01_k».proof.Proof.DMlpDown.Block
public import proofs.«01_k».proof.Proof.Gen.ReferenceIdeal.Run
public import proofs.«01_k».proof.Proof.Gen.ReferenceIdeal.Read
public import Idealize.ShloMosaic.Lib.Claim
public import Idealize.ShloMosaic.Lib.Quiescent

@[expose] public section

set_option maxRecDepth 16384

noncomputable section

namespace Cert.Proof.DMlpDown

open Idealize.ShloMosaic Idealize.ShloMosaic.TcCoe Idealize.SL.Sem

/-- The square root of a rectified square is the rectified number, also at infinity. -/
theorem sqrt_sq_relu (u : EReal) : Ideal.sqrt (max u 0 * max u 0) = max u 0 := by
  rcases le_total u 0 with h | h
  · rw [max_eq_right h, mul_zero]
    show (if (0 : ℝ) < 0 then ⊥ else ((Real.sqrt 0 : ℝ) : EReal)) = 0
    simp
  · rw [max_eq_left h]
    induction u with
    | bot => simp at h
    | top => rw [EReal.top_mul_top]; rfl
    | coe r =>
      have hr : 0 ≤ r := by exact_mod_cast h
      rw [← EReal.coe_mul]
      show (if r * r < 0 then ⊥ else ((Real.sqrt (r * r) : ℝ) : EReal)) = r
      rw [if_neg (not_lt.mpr (mul_nonneg hr hr)), Real.sqrt_mul_self hr]

/-- The kernel's product with `2 √(relu(u)²)` is the gradient's product with `2 relu(u)`, kept where `u > 0`. -/
theorem gate_eq (u a b : EReal) : a * (b * Ideal.sqrt (max u 0 * max u 0)) = Scalar.select (Ideal.cmp .ogt u 0) (a * (b * max u 0)) 0 := by
  rw [sqrt_sq_relu]
  unfold Ideal.cmp
  by_cases h : 0 < u
  · simp [h, Scalar.select]
  · simp [h, Scalar.select, max_eq_right (not_lt.mp h)]

section Entry

open Cert.KernelIdeal Cert.KernelIdeal.Gen Cert.KernelIdeal.Value

variable (m : (ℓ : Loc nD τ sig) → Buf (Elt Ideal) ℓ)

/-- The cotangent as the call is given it. -/
theorem entry_dffo (c : Dev nD) : @Eq (Vec Ideal S4096x1024 .bf16) (V m c main_v6) (truncf (F := Ideal) .bf16 (φ := .f32) (m ((c : Thread nD τ).loc main_arg3)) bitsLt_bf16_f32) := by
  simp only [V, List.flatten_cons, List.flatten_nil, List.append_nil, List.cons_append, List.nil_append]
  after_results

/-- The weight as the call is given it: its rows in four blocks. -/
theorem entry_w (c : Dev nD) :
    @Eq (Vec Ideal S4x1024x1024 .bf16) (V m c main_v5) (shapeCast S4x1024x1024 (truncf (F := Ideal) (s := S4096x1024) (φ := .f32) .bf16 (m ((c : Thread nD τ).loc main_arg2)) bitsLt_bf16_f32) shapeCasts_S4096x1024_S4x1024x1024) := by
  simp only [V, List.flatten_cons, List.flatten_nil, List.append_nil, List.cons_append, List.nil_append]
  after_results
  rfl

/-- The saved activation as the call is given it. -/
theorem entry_ff (c : Dev nD) :
    @Eq (Vec Ideal S4096x4096 .bf16) (V m c main_v3) (truncf (F := Ideal) .bf16 (mulf (Cert.ReferenceIdeal.Read.val_main_v1 (F := Ideal) (m ((c : Thread nD τ).loc main_arg0)) (m ((c : Thread nD τ).loc main_arg1)))
      (Cert.ReferenceIdeal.Read.val_main_v1 (F := Ideal) (m ((c : Thread nD τ).loc main_arg0)) (m ((c : Thread nD τ).loc main_arg1)))) bitsLt_bf16_f32) := by
  simp only [V, List.flatten_cons, List.flatten_nil, List.append_nil, List.cons_append, List.nil_append]
  after_results
  rfl

end Entry

section Equation

open Cert.KernelIdeal Cert.KernelIdeal.Gen Cert.KernelIdeal.Value

/-- Element by element, the kernel's result of the four arguments is the reference's. -/
theorem point_eq (x0 : Vec Ideal S4096x1024 .f32) (x1 : Vec Ideal S1024x4096 .f32) (x2 x3 : Vec Ideal S4096x1024 .f32) :
    gateArr (truncf (F := Ideal) .bf16 (φ := .f32) x3 bitsLt_bf16_f32)
        (shapeCast S4x1024x1024 (truncf (F := Ideal) (φ := .f32) .bf16 x2 bitsLt_bf16_f32) shapeCasts_S4096x1024_S4x1024x1024)
        (truncf (F := Ideal) .bf16 (mulf (Cert.ReferenceIdeal.Read.val_main_v1 (F := Ideal) x0 x1) (Cert.ReferenceIdeal.Read.val_main_v1 (F := Ideal) x0 x1)) bitsLt_bf16_f32)
      = Cert.ReferenceIdeal.Read.val_main_v13 (F := Ideal) x0 x1 x2 x3 := by
  funext i
  rw [Cert.ReferenceIdeal.Read.val_main_v13_apply, Cert.ReferenceIdeal.Read.val_main_v12_apply, Cert.ReferenceIdeal.Read.val_main_v10_apply,
    Cert.ReferenceIdeal.Read.val_main_v9_apply, Cert.ReferenceIdeal.Read.val_main_v7_apply, Cert.ReferenceIdeal.Read.val_main_v3_apply,
    Cert.ReferenceIdeal.Read.val_main_v2_apply, Cert.ReferenceIdeal.Read.val_main_v6_apply, Cert.ReferenceIdeal.Read.val_main_v11_apply]
  have i1 : (i 1).val < 4096 := (i 1).isLt
  have hs : (∑ k : Fin 1024, x3 (ix2 (i 0) k) * (shapeCast S4x1024x1024 x2 shapeCasts_S4096x1024_S4x1024x1024)
        (ix3 ⟨(i 1).val / 1024, by omega⟩ ⟨(i 1).val % 1024, Nat.mod_lt _ (by decide)⟩ k))
      = ∑ k : Fin 1024, x3 (Cert.ReferenceIdeal.Read.lidx_main_v9 i k) * x2 (Cert.ReferenceIdeal.Read.ridx_main_v9 i k) := by
    refine Finset.sum_congr rfl fun k _ => congrArg₂ _ (congrArg x3 ?_) ?_
    · funext a; fin_cases a <;> rfl
    · refine shapeCast_apply _ _ _ _ ?_
      rw [Shape.rowMajor_val_two, Shape.rowMajor_val_three]
      show (i 1).val * 1024 + k.val = ((i 1).val / 1024 * 1024 + (i 1).val % 1024) * 1024 + k.val
      omega
  rw [← hs]
  have hv : Cert.ReferenceIdeal.Read.val_main_v1 (F := Ideal) x0 x1 i = max (Cert.ReferenceIdeal.Read.val_main_v0 (F := Ideal) x0 x1 i) 0 := by
    rw [Cert.ReferenceIdeal.Read.val_main_v1_apply, Cert.ReferenceIdeal.Read.val_main_call0_v0_apply]
    exact congrArg (max _) Ideal.ofBits_zero_f32
  have h0 : ∀ j, Cert.ReferenceIdeal.Read.val_main_cst (F := Ideal) j = 0 := fun _ => Ideal.ofBits_zero_f32
  have h2 : ∀ j, Cert.ReferenceIdeal.Read.val_main_cst_2 (F := Ideal) j = 0 := fun _ => Ideal.ofBits_zero_f32
  rw [hv, h0, h2]
  refine Eq.trans ?_ (gate_eq (Cert.ReferenceIdeal.Read.val_main_v0 (F := Ideal) x0 x1 i) _ _)
  rw [← hv]
  rfl

end Equation

section Claims

open Cert.KernelIdeal Cert.KernelIdeal.Gen Cert.KernelIdeal.Value

variable (m : (ℓ : Loc nD τ sig) → Buf (Elt Ideal) ℓ)

/-- The array the kernel leaves is the reference's last value of the same four arguments. -/
theorem value_eq (c : Dev nD) :
    gateArr (V m c main_v6) (V m c main_v5) (V m c main_v3)
      = Cert.ReferenceIdeal.Read.val_main_v13 (F := Ideal) (m ((c : Thread nD τ).loc main_arg0)) (m ((c : Thread nD τ).loc main_arg1))
          (m ((c : Thread nD τ).loc main_arg2)) (m ((c : Thread nD τ).loc main_arg3)) := by
  rw [entry_dffo, entry_w, entry_ff]
  exact point_eq _ _ _ _

end Claims

/-- The reference's frame: it is straight-line host code. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs leave the same gradient, on any arguments. -/
theorem algebraic : Cert.algebraic_KernelIdeal_ReferenceIdeal := by
  intro m ρ m' ρ' _ hagree
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3⟩ := hagree c
  rw [Cert.ReferenceIdeal.Read.val_main_v13_eq, h0, h1, h2, h3]
  exact ((Cert.KernelIdeal.Value.final m c).trans (value_eq m c)).symm

end Cert.Proof.DMlpDown

end
-- ==== Proof.DMixOut.Block.lean ====
/-
  The backward call `d_mix_out` of the merge of the two branches: the product `dmo · w_outᵀ`, each element multiplied by
  the four saved factors: the two gates (gradients of the branches) and the branches times the gates' slopes (gradients of
  the gates' arguments, side by side in one array). This module reads what one grid point leaves in its blocks, and what
  the result arrays hold after the run, as functions of the arrays the call is given.
-/
module

public import proofs.«01_k».proof.Proof.Gen.Kernel3Ideal.Value
public import Idealize.ShloMosaic.Lib.Pipeline.ValueKit.Point
public import Idealize.ShloMosaic.Lib.Tactic

@[expose] public section

set_option maxRecDepth 16384
set_option maxHeartbeats 2000000

noncomputable section

namespace Cert.Kernel3Ideal.Value
open Cert.Kernel3Ideal Cert.Kernel3Ideal.Gen Idealize.ShloMosaic Idealize.ShloMosaic.TcCoe Idealize.SL.Sem
open Idealize.ShloMosaic.Pipeline (Dat)

/-- One block of the product with the transposed weight, times a saved factor. -/
def scaledBlk (x0 : Vec Ideal S512x1024 .bf16) (x1 : Vec Ideal S1x1024x1024 .bf16) (s : Vec Ideal S512x1024 .bf16) : Vec Ideal S512x1024 .bf16 := fun y =>
  (∑ k : Fin 1024, x0 (ix2 (y 0) k) * x1 (ix3 0 (y 1) k)) * s y

/-- The two gates' gradients side by side: the first 1024 columns take one factor, the others the other. -/
def pairBlk (x0 : Vec Ideal S512x1024 .bf16) (x1 : Vec Ideal S1x1024x1024 .bf16) (s t : Vec Ideal S512x1024 .bf16) : Vec Ideal S512x2048 .bf16 := fun y =>
  if h : (y 1).val < 1024 then scaledBlk x0 x1 s (ix2 (y 0) ⟨(y 1).val, h⟩)
  else scaledBlk x0 x1 t (ix2 (y 0) ⟨(y 1).val - 1024, by have : (y 1).val < 2048 := (y 1).isLt; omega⟩)

/-- The stores' values at an index: each is the product of one half of the rows, times the factor's rows. -/
theorem pay4_apply (v0 : Vec Ideal S256x1024 .bf16) (v2 : Vec Ideal S1x1024x1024 .bf16) (v : Vec Ideal S256x1024 .bf16) (x : S256x1024.Idx) :
    k0_pay4 v0 v2 v x = (∑ k : Fin 1024, v0 (ix2 (x 0) k) * v2 (ix3 0 (x 1) k)) * v x := by
  idx_vars x
  pointwise [k0_pay4, k0_pay2]

section Point

variable (c : Dev nD) (i : grid0.Coords) (arg1 : Memref sig .tc .vmem S512x1024 .bf16) (harg1 : arg1.IsWhole) (arg2 : Memref sig .tc .vmem S1x1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x2048 .bf16) (harg9 : arg9.IsWhole)
  (x0 : Vec Ideal S512x1024 .bf16) (x1 : Vec Ideal S1x1024x1024 .bf16) (x2 x3 x4 x5 : Vec Ideal S512x1024 .bf16)

include harg1 harg2 harg3 harg4 harg5 harg6

/-- The stores into the first branch's block leave the product times that branch's gate. -/
theorem out6_eq : out0_A_6 c i arg1 harg1 arg2 harg2 arg3 harg3 arg4 harg4 arg5 harg5 arg6 harg6 arg7 harg7 arg8 harg8 arg9 harg9 x0 x1 x2 x3 x4 x5 = scaledBlk x0 x1 x2 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg3.read_unread]
  funext y
  canon_tiles x h using View.cover_of_tiled_head _ _ _ (by rfl) y
  all_goals refine (pay4_apply _ _ _ x).trans ?_
  all_goals
    refine congrArg₂ _ (Finset.sum_congr rfl fun k _ => congrArg₂ _ (View.ld_unit_apply_of _ _ _ _ _ _ fun a => ?_) (View.ld_unit_apply_of _ _ _ _ _ _ fun a => ?_))
      (View.ld_unit_apply_of _ _ _ _ _ _ fun a => ?_)
  all_goals fin_cases a
  all_goals simp [ix2_0, ix2_1, ix3_0, ix3_1, ix3_2]
  all_goals omega

/-- The stores into the second branch's block leave the product times that branch's gate. -/
theorem out7_eq : out0_A_7 c i arg1 harg1 arg2 harg2 arg3 harg3 arg4 harg4 arg5 harg5 arg6 harg6 arg7 harg7 arg8 harg8 arg9 harg9 x0 x1 x2 x3 x4 x5 = scaledBlk x0 x1 x3 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg4.read_unread]
  funext y
  canon_tiles x h using View.cover_of_tiled_head _ _ _ (by rfl) y
  all_goals refine (pay4_apply _ _ _ x).trans ?_
  all_goals
    refine congrArg₂ _ (Finset.sum_congr rfl fun k _ => congrArg₂ _ (View.ld_unit_apply_of _ _ _ _ _ _ fun a => ?_) (View.ld_unit_apply_of _ _ _ _ _ _ fun a => ?_))
      (View.ld_unit_apply_of _ _ _ _ _ _ fun a => ?_)
  all_goals fin_cases a
  all_goals simp [ix2_0, ix2_1, ix3_0, ix3_1, ix3_2]
  all_goals omega

/-- The four stores into the gates' block leave the product times each half's factor. -/
theorem out8_eq : out0_A_8 c i arg1 harg1 arg2 harg2 arg3 harg3 arg4 harg4 arg5 harg5 arg6 harg6 arg7 harg7 arg8 harg8 arg9 harg9 x0 x1 x2 x3 x4 x5 = pairBlk x0 x1 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg5.read_unread, harg6.read_unread]
  funext y
  canon_tiles x h using View.cover_of_tiled_head _ _ _ (by rfl) y
  all_goals refine (pay4_apply _ _ _ x).trans ?_
  all_goals unfold pairBlk scaledBlk
  all_goals first
    | rw [dif_pos (by omega)]
    | rw [dif_neg (by omega)]
  all_goals
    refine congrArg₂ _ (Finset.sum_congr rfl fun k _ => congrArg₂ _ (View.ld_unit_apply_of _ _ _ _ _ _ fun a => ?_) (View.ld_unit_apply_of _ _ _ _ _ _ fun a => ?_))
      (View.ld_unit_apply_of _ _ _ _ _ _ fun a => ?_)
  all_goals fin_cases a
  all_goals simp [ix2_0, ix2_1, ix3_0, ix3_1, ix3_2]
  all_goals omega

end Point

/-- The product with the transposed weight, times a saved factor, over the whole array of 4096 rows. -/
def scaledArr (x0 : Vec Ideal S4096x1024 .bf16) (x1 : Vec Ideal S1x1024x1024 .bf16) (s : Vec Ideal S4096x1024 .bf16) : Vec Ideal S4096x1024 .bf16 := fun y =>
  (∑ k : Fin 1024, x0 (ix2 (y 0) k) * x1 (ix3 0 (y 1) k)) * s y

/-- The two gates' gradients side by side over the whole array. -/
def pairArr (x0 : Vec Ideal S4096x1024 .bf16) (x1 : Vec Ideal S1x1024x1024 .bf16) (s t : Vec Ideal S4096x1024 .bf16) : Vec Ideal S4096x2048 .bf16 := fun y =>
  if h : (y 1).val < 1024 then scaledArr x0 x1 s (ix2 (y 0) ⟨(y 1).val, h⟩)
  else scaledArr x0 x1 t (ix2 (y 0) ⟨(y 1).val - 1024, by have : (y 1).val < 2048 := (y 1).isLt; omega⟩)

variable (m : (ℓ : Loc nD τ sig) → Buf (Elt Ideal) ℓ) (ρ : Dev nD → PrngReg)

/-- The block each window reads or writes at point `t`: the weight is whole, the others' rows go with the point. -/
theorem index0 : ∀ t : Fin cfg0.N, (win0_1.index t (0 : Fin 3) = 0 ∧ win0_1.index t (1 : Fin 3) = 0 ∧ win0_1.index t (2 : Fin 3) = 0)
    ∧ (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- After the run the first result array is the first branch's gradient. -/
theorem final6 (c : Dev nD) : (dats m 0 c).arrAt 6 cfg0.N = scaledArr (V m c main_v26) (V m c main_v25) (V m c main_v12) := by
  refine (dats m 0 c).arrAt_eq_of_covers 6 _ (by decide +kernel) fun t hf y => ?_
  blk_simp
  rw [after0_6]
  unfold outsAt0
  dsimp only
  rw [out6_eq]
  obtain ⟨⟨w0, w1, w2⟩, ⟨a0, a1⟩, ⟨b0, b1⟩, ⟨c0, c1⟩, ⟨d0, d1⟩, ⟨e0, e1⟩, ⟨f0, f1⟩, ⟨g0, g1⟩, ⟨h0, h1⟩⟩ := index0 t
  unfold scaledBlk scaledArr
  reads_congr
  all_goals blk_ext! [iblk, w0, w1, w2, a0, a1, b0, b1, f0, f1]

/-- After the run the second result array is the second branch's gradient. -/
theorem final7 (c : Dev nD) : (dats m 0 c).arrAt 7 cfg0.N = scaledArr (V m c main_v26) (V m c main_v25) (V m c main_v13) := by
  refine (dats m 0 c).arrAt_eq_of_covers 7 _ (by decide +kernel) fun t hf y => ?_
  blk_simp
  rw [after0_7]
  unfold outsAt0
  dsimp only
  rw [out7_eq]
  obtain ⟨⟨w0, w1, w2⟩, ⟨a0, a1⟩, ⟨b0, b1⟩, ⟨c0, c1⟩, ⟨d0, d1⟩, ⟨e0, e1⟩, ⟨f0, f1⟩, ⟨g0, g1⟩, ⟨h0, h1⟩⟩ := index0 t
  unfold scaledBlk scaledArr
  reads_congr
  all_goals blk_ext! [iblk, w0, w1, w2, a0, a1, c0, c1, g0, g1]

/-- After the run the third result array is the gradients of the gates' arguments, side by side. -/
theorem final8 (c : Dev nD) : (dats m 0 c).arrAt 8 cfg0.N = pairArr (V m c main_v26) (V m c main_v25) (V m c main_v18) (V m c main_v23) := by
  refine (dats m 0 c).arrAt_eq_of_covers 8 _ (by decide +kernel) fun t hf y => ?_
  blk_simp
  rw [after0_8]
  unfold outsAt0
  dsimp only
  rw [out8_eq]
  obtain ⟨⟨w0, w1, w2⟩, ⟨a0, a1⟩, ⟨b0, b1⟩, ⟨c0, c1⟩, ⟨d0, d1⟩, ⟨e0, e1⟩, ⟨f0, f1⟩, ⟨g0, g1⟩, ⟨h0, h1⟩⟩ := index0 t
  have hc : (((cfg0.win 8).blk t).view.emb y 1).val = (y 1).val := by simp [h1]
  unfold pairBlk pairArr
  by_cases hy : (y 1).val < 1024
  · rw [dif_pos hy, dif_pos (lt_of_eq_of_lt hc hy)]
    unfold scaledBlk scaledArr
    reads_congr
    all_goals blk_ext! [iblk, w0, w1, w2, a0, a1, d0, d1, h0, h1]
  · rw [dif_neg hy, dif_neg fun h => hy (lt_of_eq_of_lt hc.symm h)]
    unfold scaledBlk scaledArr
    reads_congr
    all_goals blk_ext! [iblk, w0, w1, w2, a0, a1, e0, e1, h0, h1]

end Cert.Kernel3Ideal.Value

end
-- ==== Proof.DMixOut.Equation.lean ====
/-
  The backward call `d_mix_out` against `jax.vjp` of the merge `(sigmoid g_a * branch_a + sigmoid g_b * branch_b) @ w_out`:
  the saved factors are the gates and the branches times the gates' slopes, so the two sides are the same product of the
  same factors in another order, on any arguments.
-/
module

public import proofs.«01_k».proof.Defs
public import proofs.«01_k».proof.Proof.DMixOut.Block
public import proofs.«01_k».proof.Proof.Gen.Reference3Ideal.Run
public import proofs.«01_k».proof.Proof.Gen.Reference3Ideal.Read
public import Idealize.ShloMosaic.Lib.Claim
public import Idealize.ShloMosaic.Lib.Quiescent

@[expose] public section

set_option maxRecDepth 16384
set_option maxHeartbeats 2000000

noncomputable section

namespace Cert.Proof.DMixOut

open Idealize.ShloMosaic Idealize.ShloMosaic.TcCoe Idealize.SL.Sem
open Cert.Kernel3Ideal Cert.Kernel3Ideal.Gen Cert.Kernel3Ideal.Value

section Entry

variable (m : (ℓ : Loc nD τ sig) → Buf (Elt Ideal) ℓ)

/-- The cotangent as the call is given it. -/
theorem entry_dmo (c : Dev nD) : @Eq (Vec Ideal S4096x1024 .bf16) (V m c main_v26) (truncf (F := Ideal) (s := S4096x1024) .bf16 (φ := .f32) (m ((c : Thread nD τ).loc main_arg5)) bitsLt_bf16_f32) := by
  simp only [V, List.flatten_cons, List.flatten_nil, List.append_nil, List.cons_append, List.nil_append]
  after_results
  try rfl

/-- The weight as the call is given it. -/
theorem entry_w (c : Dev nD) : @Eq (Vec Ideal S1x1024x1024 .bf16) (V m c main_v25) (shapeCast S1x1024x1024 (truncf (F := Ideal) (s := S1024x1024) (φ := .f32) .bf16 (m ((c : Thread nD τ).loc main_arg4)) bitsLt_bf16_f32) shapeCasts_S1024x1024_S1x1024x1024) := by
  simp only [V, List.flatten_cons, List.flatten_nil, List.append_nil, List.cons_append, List.nil_append]
  after_results
  try rfl

/-- The first branch's gate, as the forward saved it. -/
theorem entry_sa (c : Dev nD) : @Eq (Vec Ideal S4096x1024 .bf16) (V m c main_v12) (truncf (F := Ideal) (s := S4096x1024) .bf16 (φ := .f32) (Cert.Reference3Ideal.Read.val_main_v5 (F := Ideal) (m ((c : Thread nD τ).loc main_arg2))) bitsLt_bf16_f32) := by
  simp only [V, List.flatten_cons, List.flatten_nil, List.append_nil, List.cons_append, List.nil_append]
  after_results
  try rfl

/-- The second branch's gate. -/
theorem entry_sb (c : Dev nD) : @Eq (Vec Ideal S4096x1024 .bf16) (V m c main_v13) (truncf (F := Ideal) (s := S4096x1024) .bf16 (φ := .f32) (Cert.Reference3Ideal.Read.val_main_v15 (F := Ideal) (m ((c : Thread nD τ).loc main_arg3))) bitsLt_bf16_f32) := by
  simp only [V, List.flatten_cons, List.flatten_nil, List.append_nil, List.cons_append, List.nil_append]
  after_results
  try rfl

/-- The first branch times its gate's slope. -/
theorem entry_ta (c : Dev nD) : @Eq (Vec Ideal S4096x1024 .bf16) (V m c main_v18) (truncf (F := Ideal) (s := S4096x1024) .bf16 (φ := .f32) (mulf (F := Ideal) (s := S4096x1024) (φ := .f32) (m ((c : Thread nD τ).loc main_arg0)) (Cert.Reference3Ideal.Read.val_main_v8 (F := Ideal) (m ((c : Thread nD τ).loc main_arg2)))) bitsLt_bf16_f32) := by
  simp only [V, List.flatten_cons, List.flatten_nil, List.append_nil, List.cons_append, List.nil_append]
  after_results
  try rfl

/-- The second branch times its gate's slope. -/
theorem entry_tb (c : Dev nD) : @Eq (Vec Ideal S4096x1024 .bf16) (V m c main_v23) (truncf (F := Ideal) (s := S4096x1024) .bf16 (φ := .f32) (mulf (F := Ideal) (s := S4096x1024) (φ := .f32) (m ((c : Thread nD τ).loc main_arg1)) (Cert.Reference3Ideal.Read.val_main_v18 (F := Ideal) (m ((c : Thread nD τ).loc main_arg3)))) bitsLt_bf16_f32) := by
  simp only [V, List.flatten_cons, List.flatten_nil, List.append_nil, List.cons_append, List.nil_append]
  after_results
  try rfl

end Entry

section Equation

/-- The product with the transposed weight is the reference's, element by element. -/
theorem product_eq (x4 : Vec Ideal S1024x1024 .f32) (x5 : Vec Ideal S4096x1024 .f32) (i : S4096x1024.Idx) :
    (∑ k : Fin 1024, (truncf (F := Ideal) .bf16 (φ := .f32) x5 bitsLt_bf16_f32) (ix2 (i 0) k)
        * (shapeCast S1x1024x1024 (truncf (F := Ideal) (φ := .f32) .bf16 x4 bitsLt_bf16_f32) shapeCasts_S1024x1024_S1x1024x1024) (ix3 0 (i 1) k))
      = Cert.Reference3Ideal.Read.val_main_v22 (F := Ideal) x4 x5 i := by
  rw [Cert.Reference3Ideal.Read.val_main_v22_apply]
  refine Finset.sum_congr rfl fun k _ => congrArg₂ _ (congrArg x5 ?_) ?_
  · funext a; fin_cases a <;> rfl
  · refine shapeCast_apply _ _ _ _ ?_
    rw [Shape.rowMajor_val_two, Shape.rowMajor_val_three]
    show (i 1).val * 1024 + k.val = (0 * 1024 + (i 1).val) * 1024 + k.val
    omega

/-- The product times a saved factor, element by element. -/
theorem scaled_eq (x4 : Vec Ideal S1024x1024 .f32) (x5 s : Vec Ideal S4096x1024 .f32) (i : S4096x1024.Idx) :
    scaledArr (truncf (F := Ideal) .bf16 (φ := .f32) x5 bitsLt_bf16_f32)
        (shapeCast S1x1024x1024 (truncf (F := Ideal) (φ := .f32) .bf16 x4 bitsLt_bf16_f32) shapeCasts_S1024x1024_S1x1024x1024)
        (truncf (F := Ideal) .bf16 (φ := .f32) s bitsLt_bf16_f32) i
      = Cert.Reference3Ideal.Read.val_main_v22 (F := Ideal) x4 x5 i * s i :=
  congrArg (· * s i) (product_eq x4 x5 i)

variable (m : (ℓ : Loc nD τ sig) → Buf (Elt Ideal) ℓ)

/-- The first branch's gradient is the reference's. -/
theorem value6 (c : Dev nD) : (dats m 0 c).arrAt 6 cfg0.N = Cert.Reference3Ideal.Read.val_main_v29 (F := Ideal) (m ((c : Thread nD τ).loc main_arg2)) (m ((c : Thread nD τ).loc main_arg4)) (m ((c : Thread nD τ).loc main_arg5)) := by
  rw [final6, entry_dmo, entry_w, entry_sa]
  funext i
  exact (scaled_eq _ _ _ i).trans (mul_comm _ _)

/-- The second branch's gradient is the reference's. -/
theorem value7 (c : Dev nD) : (dats m 0 c).arrAt 7 cfg0.N = Cert.Reference3Ideal.Read.val_main_v30 (F := Ideal) (m ((c : Thread nD τ).loc main_arg3)) (m ((c : Thread nD τ).loc main_arg4)) (m ((c : Thread nD τ).loc main_arg5)) := by
  rw [final7, entry_dmo, entry_w, entry_sb]
  funext i
  exact (scaled_eq _ _ _ i).trans (mul_comm _ _)

/-- The gradients of the gates' arguments are the reference's, side by side. -/
theorem value8 (c : Dev nD) : (dats m 0 c).arrAt 8 cfg0.N = Cert.Reference3Ideal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final8, entry_dmo, entry_w, entry_ta, entry_tb]
  funext i
  unfold pairArr Cert.Reference3Ideal.Read.val_main_v32 Cert.Reference3Ideal.Read.val_main_v31
  have hi : (i 1).val < 2048 := (i 1).isLt
  by_cases h : (i 1).val < 1024
  · rw [dif_pos h]
    refine (scaled_eq _ _ _ _).trans ?_
    refine Eq.trans ?_ (concatenate_pair_apply_left (s₁ := S4096x1024) (s₂ := S4096x1024) (1 : Fin 2) _ _ Cert.Reference3Ideal.Gen.concatenates_S4096x1024_S4096x1024_S4096x2048_d1 i rfl (ix2 (i 0) ⟨(i 1).val, h⟩) fun b => by fin_cases b <;> rfl).symm
    exact (mul_assoc _ _ _).symm
  · rw [dif_neg h]
    refine (scaled_eq _ _ _ _).trans ?_
    refine Eq.trans ?_ (concatenate_pair_apply_right (s₁ := S4096x1024) (s₂ := S4096x1024) (1 : Fin 2) _ _ Cert.Reference3Ideal.Gen.concatenates_S4096x1024_S4096x1024_S4096x2048_d1 i rfl rfl (ix2 (i 0) ⟨(i 1).val - 1024, by omega⟩) (fun b hb => by fin_cases b <;> first | rfl | exact absurd rfl hb)
      (by show (i 1).val - 1024 + 1024 = (i 1).val; omega)).symm
    exact (mul_assoc _ _ _).symm

end Equation

/-- The reference's frame: it is straight-line host code. -/
theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Both programs leave the same three gradients, on any arguments. -/
theorem algebraic : Cert.algebraic_Kernel3Ideal_Reference3Ideal := by
  intro m ρ m' ρ' _ hagree
  refine ⟨fun c => (dats m 0 c).arrAt 6 cfg0.N, fun c => (dats m 0 c).arrAt 7 cfg0.N, fun c => (dats m 0 c).arrAt 8 cfg0.N, run_blocks m ρ, ?_⟩
  refine (θ_run Cert.Reference3Ideal.defs _ _).mono (fun r h c => ⟨(h c).1.trans ?_, (h c).2.1.trans ?_, (h c).2.2.1.trans ?_, (h c).2.2.2⟩)
    (Cert.Reference3Ideal.Value.run (F := Ideal) m' ρ')
  all_goals obtain ⟨h0, h1, h2, h3, h4, h5⟩ := hagree c
  · rw [Cert.Reference3Ideal.Read.val_main_v29_eq, h2, h4, h5]; exact (value6 m c).symm
  · rw [Cert.Reference3Ideal.Read.val_main_v30_eq, h3, h4, h5]; exact (value7 m c).symm
  · rw [Cert.Reference3Ideal.Read.val_main_v32_eq, h0, h1, h2, h3, h4, h5]; exact (value8 m c).symm

end Cert.Proof.DMixOut

end
-- ==== Proof.Norm.Rows.lean ====
/-
  One row of an rms norm over 1024 features, over the extended reals. The kernels differentiate the norm by the closed
  form `r * (p - n * mean (p * n))` with `n` the normalised row; the derivative of the forward text, taken step by step,
  is a sum of three terms, one through each use of the row. On finite rows the two agree.
-/
module

public import Idealize.ShloMosaic.PureOps.Ideal
public import Mathlib.Data.EReal.Inv
public import Mathlib.Tactic.FieldSimp
public import Mathlib.Tactic.Ring
public import Mathlib.Tactic.Positivity
public import Mathlib.Tactic.NormNum
public import Mathlib.Algebra.BigOperators.Ring.Finset
public import Mathlib.Algebra.BigOperators.Fin

@[expose] public section

noncomputable section

namespace Cert.Proof.Norm
open Idealize.ShloMosaic

/-- A row of 1024 features. -/
abbrev Row := Fin 1024 → EReal

/-- Neither infinity. -/
def Fin' (x : EReal) : Prop := x ≠ ⊤ ∧ x ≠ ⊥

theorem Fin'.coe (x : ℝ) : Fin' (x : EReal) := ⟨EReal.coe_ne_top x, EReal.coe_ne_bot x⟩

theorem Fin'.exists_real {x : EReal} (h : Fin' x) : ∃ r : ℝ, x = (r : EReal) := ⟨x.toReal, (EReal.coe_toReal h.1 h.2).symm⟩

theorem Fin'.add {x y : EReal} (hx : Fin' x) (hy : Fin' y) : Fin' (x + y) := by
  obtain ⟨a, rfl⟩ := hx.exists_real
  obtain ⟨b, rfl⟩ := hy.exists_real
  rw [← EReal.coe_add]
  exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]
  exact Fin'.coe _

/-- A sum of reals, as an extended real. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

theorem Fin'.sum {n : ℕ} {f : Fin n → EReal} (h : ∀ i, Fin' (f i)) : Fin' (∑ i, f i) := by
  choose g hg using fun i => (h i).exists_real
  rw [Finset.sum_congr rfl fun i _ => hg i, ← coe_sum]
  exact Fin'.coe _

/-- A difference of finite values is finite. -/
theorem Fin'.sub {a b : EReal} (ha : Fin' a) (hb : Fin' b) : Fin' (a - b) := by
  obtain ⟨x, rfl⟩ := ha.exists_real
  obtain ⟨y, rfl⟩ := hb.exists_real
  rw [← EReal.coe_sub]
  exact Fin'.coe _

theorem Fin'.one : Fin' 1 := Fin'.coe 1

/-- An absolute value below infinity is a finite number's. -/
theorem Fin'.of_abs_lt {x : EReal} (h : max x (-x) < ⊤) : Fin' x := by
  constructor
  · rintro rfl
    simp at h
  · rintro rfl
    simp at h

/-- The number of features, 1024, as the programs write it. -/
abbrev width : EReal := Ideal.ofBits .f32 1149239296#32

/-- The small number under the root, as the programs write it. -/
abbrev small : EReal := Ideal.ofBits .f32 897988541#32

theorem width_eq : width = ((1024 : ℝ) : EReal) := by
  simp [width, Ideal.ofBits, Ideal.ieee, -EReal.coe_mul]
  norm_num

theorem small_eq : ∃ e : ℝ, 0 < e ∧ small = (e : EReal) := by
  refine ⟨_, ?_, by simp [small, Ideal.ofBits, Ideal.ieee, -EReal.coe_mul]; rfl⟩
  positivity

theorem minus_half_eq : Ideal.ofBits .f32 3204448256#32 = ((-(1 / 2) : ℝ) : EReal) := by
  simp [Ideal.ofBits, Ideal.ieee, -EReal.coe_mul]
  norm_num

/-- One half, as the programs write it. -/
theorem half_eq : Ideal.ofBits .f32 1056964608#32 = ((1 / 2 : ℝ) : EReal) := by
  simp [Ideal.ofBits, Ideal.ieee, -EReal.coe_mul]
  norm_num

/-- Two, as the programs write it. -/
theorem two_eq : Ideal.ofBits .f32 1073741824#32 = ((2 : ℝ) : EReal) := by
  simp [Ideal.ofBits, Ideal.ieee, -EReal.coe_mul]
  norm_num

/-- Half over the width, as the program writes it. -/
theorem half_width_eq : Ideal.ofBits .f32 973078528#32 = ((1 / 2048 : ℝ) : EReal) := by
  simp [Ideal.ofBits, Ideal.ieee, -EReal.coe_mul]
  norm_num

/-- The mean square of a row, with the small number added. -/
def square (x : Row) : EReal := Ideal.div (∑ k, x k * x k) width + small

/-- The reciprocal root of the mean square. -/
def inv (x : Row) : EReal := Ideal.rsqrt (square x)

/-- The normalised row. -/
def unit (x : Row) : Row := fun j => x j * inv x

/-- The gradient through the norm in closed form, `p` the gradient of the normalised row, added to `res`. -/
def through (res : EReal) (x p : Row) (j : Fin 1024) : EReal :=
  res + inv x * (p j - unit x j * Ideal.div (∑ k, p k * unit x k) width)

theorem through_congr {a b : EReal} {x y p q : Row} {i j : Fin 1024} (h : a = b) (hx : x = y) (hp : p = q) (hj : i = j) : through a x p i = through b y q j := by
  subst h hx hp hj
  rfl

/-- The factor of the row in the gradient through the mean square. -/
def slope (x p : Row) : EReal :=
  Ideal.div ((∑ k, x k * p k) * (Ideal.ofBits .f32 3204448256#32 * Ideal.div (inv x) (square x))) width

/-- A row of real numbers has a positive mean square, and its reciprocal root is a real number. -/
theorem square_real (y : Fin 1024 → ℝ) : ∃ v : ℝ, 0 < v ∧ square (fun k => (y k : EReal)) = v ∧ inv (fun k => (y k : EReal)) = ((Real.sqrt v)⁻¹ : ℝ) := by
  obtain ⟨e, he, hs⟩ := small_eq
  have hsq : square (fun k => (y k : EReal)) = (((∑ k, y k * y k) * (1 / 1024) + e : ℝ) : EReal) := by
    unfold square
    rw [width_eq, Ideal.div_coe (by norm_num), hs]
    simp only [← EReal.coe_mul, ← coe_sum, ← EReal.coe_add]
  have hpos : 0 < (∑ k, y k * y k) * (1 / 1024) + e :=
    add_pos_of_nonneg_of_pos (mul_nonneg (Finset.sum_nonneg fun k _ => mul_self_nonneg _) (by norm_num)) he
  generalize hv : (∑ k, y k * y k) * (1 / 1024) + e = v at hsq hpos
  have hinv : inv (fun k => (y k : EReal)) = (((Real.sqrt v)⁻¹ : ℝ) : EReal) := by
    unfold inv
    rw [hsq, Ideal.rsqrt_coe, if_neg (not_lt.2 hpos.le), if_neg hpos.ne']
  exact ⟨v, hpos, hsq, hinv⟩

/-- The normalised row of a finite row is finite. -/
theorem Fin'.unit {x : Row} (hx : ∀ k, Fin' (x k)) (j : Fin 1024) : Fin' (unit x j) := by
  choose y hy using fun k => (hx k).exists_real
  obtain rfl : x = fun k => (y k : EReal) := funext hy
  obtain ⟨v, _, _, hinv⟩ := square_real y
  unfold Norm.unit
  rw [hinv]
  exact (Fin'.coe _).mul (Fin'.coe _)

/-- On a finite row the two forms of the gradient agree, whatever it is added to. -/
theorem through_eq (res : EReal) (x p : Row) (hx : ∀ k, Fin' (x k)) (hp : ∀ k, Fin' (p k)) (j : Fin 1024) :
    through res x p j = res + p j * inv x + x j * slope x p + slope x p * x j := by
  choose y hy using fun k => (hx k).exists_real
  choose q hq using fun k => (hp k).exists_real
  obtain rfl : x = fun k => (y k : EReal) := funext hy
  obtain rfl : p = fun k => (q k : EReal) := funext hq
  obtain ⟨v, hpos, hsq, hinv⟩ := square_real y
  have hw : (Real.sqrt v)⁻¹ * (Real.sqrt v)⁻¹ = 1 / v := by
    rw [← mul_inv, Real.mul_self_sqrt hpos.le, one_div]
  unfold through slope unit
  rw [hinv, hsq, minus_half_eq, width_eq, Ideal.div_coe (by norm_num), Ideal.div_coe (by norm_num), Ideal.div_coe hpos.ne']
  simp only [← EReal.coe_mul, ← coe_sum, ← EReal.coe_sub, ← EReal.coe_add, add_assoc]
  congr 2
  have h1 : ∑ k, q k * (y k * (Real.sqrt v)⁻¹) = (∑ k, y k * q k) * (Real.sqrt v)⁻¹ := by
    rw [Finset.sum_mul]
    exact Finset.sum_congr rfl fun k _ => by ring
  rw [h1]
  generalize ∑ k, y k * q k = s
  generalize (Real.sqrt v)⁻¹ = r at *
  have : 1 / v = r * r := hw.symm
  rw [this]
  ring

/-- A sum over `m * n` terms, block by block. -/
theorem sum_blocks (m n N : ℕ) (h : m * n = N) (f : Fin N → EReal) :
    ∑ i, f i = ∑ a : Fin m, ∑ b : Fin n, f ⟨n * a.val + b.val, by
      subst h
      calc n * a.val + b.val < n * a.val + n := Nat.add_lt_add_left b.isLt _
        _ = n * (a.val + 1) := (Nat.mul_succ _ _).symm
        _ ≤ n * m := Nat.mul_le_mul_left n a.isLt
        _ = m * n := Nat.mul_comm n m⟩ := by
  subst h
  rw [← finProdFinEquiv.sum_comp, Fintype.sum_prod_type]
  exact Finset.sum_congr rfl fun a _ => Finset.sum_congr rfl fun b _ => congrArg f (Fin.ext (Nat.add_comm _ _))

end Cert.Proof.Norm

end
-- ==== Proof.Norm.Finite.lean ====
/-
  What a precondition `all(abs(x) < inf)` says of an array, and the reading of eight rows stacked into one array.
-/
module

public import proofs.«01_k».proof.Proof.Norm.Rows
public import Idealize.ShloMosaic.Lib.ReduceAll
public import Idealize.ShloMosaic.Lib.Pipeline.Value
public import Idealize.ShloMosaic.Lib.Pipeline.ValueKit.Point

@[expose] public section

set_option maxRecDepth 16384
set_option maxHeartbeats 2000000

noncomputable section

namespace Cert.Proof.Norm
open Idealize.ShloMosaic

/-- The word of the infinity a finite number lies below. -/
theorem infinity_eq : Ideal.ofBits .f32 0x7F800000#32 = ⊤ := by
  simp [Ideal.ofBits, Ideal.ieee]

/-- A conjunction of two truth values that is true has both true. -/
theorem both_of_andi {s : Shape} {a b : IVec s 1} {j : s.Idx} (h : andi a b j = 1#1) : a j = 1#1 ∧ b j = 1#1 := by
  have e : a j &&& b j = 1#1 := h
  revert e
  generalize a j = p
  generalize b j = q
  revert p q
  decide

/-- The test `all(abs(x) < inf)` is true of arrays of finite numbers alone. -/
theorem finite_of_all {s t u z : Shape} [Subsingleton t.Idx] {axes : List (Fin s.rank)} (x : Vec Ideal s .f32) {d : Fin z.rank → Fin s.rank}
    (hb : z.BroadcastsInDim s d) (init : IVec u 1) (hr : s.ReducesTo axes t) (hu : 0 < u.numel) (j : t.Idx)
    (e : Host.reduce IntOp.andi (cmpf .olt (Host.absf (F := Ideal) x) (broadcastInDim s d hb (constant (F := Ideal) z .f32 0x7F800000#32))) init hr hu j = 1#1)
    (i : s.Idx) : Fin' (x i) := by
  have h := Host.reduce_andi_all _ init hr hu j e i
  have h' : BitVec.ofBool (decide (max (x i) (-(x i)) < Ideal.ofBits .f32 0x7F800000#32)) = 1#1 := h
  rw [infinity_eq] at h'
  refine Fin'.of_abs_lt ?_
  by_contra hn
  rw [decide_eq_false hn] at h'
  exact absurd h' (by decide)

abbrev OneRow : Shape := ⟨2, ![1, 1024]⟩
abbrev EightRows : Shape := ⟨2, ![8, 1024]⟩

/-- Eight rows stacked, read at an index: the row whose number the index's first coordinate is. -/
theorem stack_apply (r0 r1 r2 r3 r4 r5 r6 r7 : OneRow.Idx → EReal)
    (h : Shape.Concatenates [OneRow, OneRow, OneRow, OneRow, OneRow, OneRow, OneRow, OneRow] EightRows 0) (y : EightRows.Idx) (v : EReal)
    (h0 : (y 0).val = 0 → r0 (ix2 0 (y 1)) = v) (h1 : (y 0).val = 1 → r1 (ix2 0 (y 1)) = v)
    (h2 : (y 0).val = 2 → r2 (ix2 0 (y 1)) = v) (h3 : (y 0).val = 3 → r3 (ix2 0 (y 1)) = v)
    (h4 : (y 0).val = 4 → r4 (ix2 0 (y 1)) = v) (h5 : (y 0).val = 5 → r5 (ix2 0 (y 1)) = v)
    (h6 : (y 0).val = 6 → r6 (ix2 0 (y 1)) = v) (h7 : (y 0).val = 7 → r7 (ix2 0 (y 1)) = v) :
    concatenate EightRows 0 [⟨OneRow, r0⟩, ⟨OneRow, r1⟩, ⟨OneRow, r2⟩, ⟨OneRow, r3⟩, ⟨OneRow, r4⟩, ⟨OneRow, r5⟩, ⟨OneRow, r6⟩, ⟨OneRow, r7⟩] h y = v := by
  let rows : List ((s : Shape) × (s.Idx → EReal)) := [⟨OneRow, r0⟩, ⟨OneRow, r1⟩, ⟨OneRow, r2⟩, ⟨OneRow, r3⟩, ⟨OneRow, r4⟩, ⟨OneRow, r5⟩, ⟨OneRow, r6⟩, ⟨OneRow, r7⟩]
  have key : ∀ (k : ℕ) (hk : k < 8) (x : OneRow.Idx → EReal), rows[k]'hk = ⟨OneRow, x⟩ →
      (((rows.take k).map (·.1)).map fun s => if h : s.rank = EightRows.rank then s.size ((0 : Fin EightRows.rank).cast h.symm) else 0).sum = k →
      (y 0).val = k → x (ix2 0 (y 1)) = v → concatenate EightRows 0 rows h y = v := by
    intro k hk x hx hs hy hv
    refine (concatenate_apply_piece 0 rows h y k hk OneRow x hx rfl k hs (ix2 0 (y 1)) (fun b hb => ?_) ?_).trans hv
    · fin_cases b
      · exact absurd rfl hb
      · rfl
    · show k + 0 = (y 0).val
      omega
  have hlt : (y 0).val < 8 := (y 0).isLt
  obtain hk | hk | hk | hk | hk | hk | hk | hk : (y 0).val = 0 ∨ (y 0).val = 1 ∨ (y 0).val = 2 ∨ (y 0).val = 3 ∨ (y 0).val = 4
      ∨ (y 0).val = 5 ∨ (y 0).val = 6 ∨ (y 0).val = 7 := by omega
  · exact key 0 (by decide) r0 rfl (by rfl) hk (h0 hk)
  · exact key 1 (by decide) r1 rfl (by rfl) hk (h1 hk)
  · exact key 2 (by decide) r2 rfl (by rfl) hk (h2 hk)
  · exact key 3 (by decide) r3 rfl (by rfl) hk (h3 hk)
  · exact key 4 (by decide) r4 rfl (by rfl) hk (h4 hk)
  · exact key 5 (by decide) r5 rfl (by rfl) hk (h5 hk)
  · exact key 6 (by decide) r6 rfl (by rfl) hk (h6 hk)
  · exact key 7 (by decide) r7 rfl (by rfl) hk (h7 hk)

end Cert.Proof.Norm

end
-- ==== Proof.Norm.Sums.lean ====
/-
  The block of eight rows in which a kernel keeps running sums over all rows of its arrays: each store writes one row of
  1024 sums. The newest store of a row is what a read of that row gives.
-/
module

public import Idealize.ShloMosaic.Lib.WritesUnit
public import Idealize.ShloMosaic.Lib.Pipeline.ValueKit.Point

@[expose] public section

noncomputable section

namespace Cert.Proof.Norm
open Idealize.ShloMosaic

variable {sig : RefSig} {κ : Kind} {sp : Space} {e : EltTy} {Val : EltTy → Type}
variable (v : View sig κ sp (⟨2, ![8, 1024]⟩ : Shape) e) (f : v.ty.Contents Val)

/-- A read at an index, through a store of row `o`: the store's value on that row, what was below elsewhere. -/
theorem read_row (o : ℕ) (inb : ∀ a : Fin 2, (![o, 0] : Fin 2 → ℕ) a + (![1, 1024] : Fin 2 → ℕ) a ≤ (![8, 1024] : Fin 2 → ℕ) a)
    (w : (Rect.unit (s := ⟨2, ![8, 1024]⟩) ![o, 0] ![1, 1024] inb).shape.Idx → Val e) (L : List (View.Piece Val (⟨2, ![8, 1024]⟩ : Shape) e))
    (y : (⟨2, ![8, 1024]⟩ : Shape).Idx) {t : Val e}
    (hw : (y (0 : Fin 2)).val = o → w (ix2 (n0 := 1) (n1 := 1024) 0 (y (1 : Fin 2))) = t)
    (hL : (y (0 : Fin 2)).val ≠ o → v.read Val (v.writes Val f L) y = t) :
    v.read Val (v.writes Val f ((⟨Rect.unit (s := ⟨2, ![8, 1024]⟩) ![o, 0] ![1, 1024] inb, w⟩ : View.Piece Val (⟨2, ![8, 1024]⟩ : Shape) e) :: L)) y = t := by
  by_cases h : (y (0 : Fin 2)).val = o
  · exact (View.read_writes_cons_rows_of_mem (o := o) v f inb w L y (ix2 (n0 := 1) (n1 := 1024) 0 (y (1 : Fin 2))) rfl (h.trans (Nat.add_zero o).symm) rfl).trans (hw h)
  · exact (View.read_writes_cons_rows_of_not_mem (o := o) (W := 1) v f inb w L y rfl rfl (by omega)).trans (hL h)

/-- A read through a store of the whole block is the store's value. -/
theorem read_whole (inb : ∀ a : Fin 2, (![0, 0] : Fin 2 → ℕ) a + (![8, 1024] : Fin 2 → ℕ) a ≤ (![8, 1024] : Fin 2 → ℕ) a)
    (w : (Rect.unit (s := ⟨2, ![8, 1024]⟩) ![0, 0] ![8, 1024] inb).shape.Idx → Val e) (L : List (View.Piece Val (⟨2, ![8, 1024]⟩ : Shape) e))
    (y : (⟨2, ![8, 1024]⟩ : Shape).Idx) :
    v.read Val (v.writes Val f ((⟨Rect.unit (s := ⟨2, ![8, 1024]⟩) ![0, 0] ![8, 1024] inb, w⟩ : View.Piece Val (⟨2, ![8, 1024]⟩ : Shape) e) :: L)) y = w y :=
  View.read_writes_cons_rows_of_mem (o := 0) v f inb w L y y rfl (Nat.zero_add _).symm rfl

/-- A row of the block, loaded. -/
theorem ld_row (o : ℕ) (ho : o < 8) (p : Vec Ideal (⟨2, ![8, 1024]⟩ : Shape) .f32) (h) (j : Fin 1024) :
    View.ld (S := (⟨2, ![8, 1024]⟩ : Shape)) p (Rect.unit ![o, 0] ![1, 1024] h) (ix2 (n0 := 1) (n1 := 1024) 0 j) = p (ix2 ⟨o, ho⟩ j) := by
  refine View.ld_unit_apply_of _ _ _ _ _ _ fun a => ?_
  fin_cases a
  all_goals simp [ix2_0, ix2_1]

end Cert.Proof.Norm

end
-- ==== Proof.Norm.Backward.lean ====
/-
  What the backward calls through an rms norm share. Each takes 4096 rows of 1024 features in eight points of 512, and a
  point's rows in two halves of 256; it makes the gradient of every row, and keeps running sums over all rows in a block of
  eight rows, of which the first point starts with zeros and every point adds its own rows' terms.
-/
module

public import proofs.«01_k».proof.Proof.Norm.Rows
public import proofs.«01_k».proof.Proof.Norm.Sums
public import Idealize.ShloMosaic.Lib.Pipeline.ValueKit.Point
public import Idealize.ShloMosaic.Lib.Pipeline.ReadBack

@[expose] public section

set_option maxRecDepth 16384

noncomputable section

namespace Cert.Proof.Norm
open Idealize.ShloMosaic

/-- An array of `n` rows of 1024 features. -/
abbrev Rows (n : ℕ) (e : EltTy := .f32) := Vec Ideal (⟨2, ![n, 1024]⟩ : Shape) e

/-- A row of a two-dimensional array. -/
abbrev rowOf {n : ℕ} (x : Rows n) (s : Fin n) : Row := fun k => x (ix2 s k)

/-- A row of the product with the transposed weight, the weight in four blocks of `m` columns. -/
def prodRow {n N : ℕ} (m : ℕ) (h : 4 * m = N) (x : Vec Ideal (⟨2, ![n, N]⟩ : Shape) .bf16) (w : Vec Ideal (⟨3, ![4, 1024, m]⟩ : Shape) .bf16) (s : Fin n) : Row := fun j =>
  ∑ b : Fin 4, ∑ k : Fin m, x (ix2 s ⟨m * b.val + k.val, by
    subst h
    calc m * b.val + k.val < m * b.val + m := Nat.add_lt_add_left k.isLt _
      _ = m * (b.val + 1) := (Nat.mul_succ _ _).symm
      _ ≤ m * 4 := Nat.mul_le_mul_left _ b.isLt
      _ = 4 * m := Nat.mul_comm _ _⟩) * w (ix3 b j k)

/-- The gradient of the normalised row: the product's row, times one plus the scale, times the norm's weight. The scale is
    row `q` of the modulation. -/
def normGrad (q : Fin 8) (d : Row) (mod : Rows 8) (g : Rows 1) : Row := fun j =>
  d j * (Ideal.ofBits .f32 1065353216#32 + mod (ix2 q j)) * g (ix2 0 j)

/-- What a row adds to the sums: to the gradients of the scale, of the shift and of the norm's weight. -/
def sumTerm (q : Fin 8) (r : ℕ) (d : Row) (x : Row) (mod : Rows 8) (g : Rows 1) : Row := fun j =>
  if r = 0 then d j * (unit x j * g (ix2 0 j))
  else if r = 1 then d j
  else if r = 2 then d j * (Ideal.ofBits .f32 1065353216#32 + mod (ix2 q j)) * unit x j
  else 0

/-- Row `s` of the half that starts at row `o`. -/
abbrev rowAt (o : ℕ) (ho : o + 256 ≤ 512) (s : Fin 256) : Fin 512 := ⟨o + s.val, by omega⟩

/-- Row `s` of point `t`'s block, as a row of the array. -/
abbrev rowIn (t : Fin 8) (s : Fin 512) : Fin 4096 := ⟨512 * t.val + s.val, by omega⟩

/-- A row of one half of an array of 512 rows. -/
theorem half_row (o : ℕ) (ho : o + 256 ≤ 512) {e : EltTy} (v : Rows 512 e) (h) (s : Fin 256) (j : Fin 1024) :
    View.ld (S := (⟨2, ![512, 1024]⟩ : Shape)) v (Rect.unit ![o, 0] ![256, 1024] h) (ix2 (n0 := 256) (n1 := 1024) s j) = v (ix2 (rowAt o ho s) j) := by
  refine View.ld_unit_apply_of _ _ _ _ _ _ fun a => ?_
  fin_cases a
  all_goals simp [ix2_0, ix2_1]

/-- An array of one row, loaded. -/
theorem ld_one (v : Rows 1) (h) (j : Fin 1024) :
    View.ld (S := (⟨2, ![1, 1024]⟩ : Shape)) v (Rect.unit ![0, 0] ![1, 1024] h) (ix2 (n0 := 1) (n1 := 1024) 0 j) = v (ix2 0 j) := by
  refine View.ld_unit_apply_of _ _ _ _ _ _ fun a => ?_
  fin_cases a
  all_goals simp [ix2_0, ix2_1]

/-- An index of a two-dimensional array, by its coordinates. -/
theorem idx_of {n k : ℕ} (y : (⟨2, ![n, k]⟩ : Shape).Idx) (a : Fin n) (b : Fin k) (h0 : (y 0).val = a.val) (h1 : (y 1).val = b.val) : y = ix2 a b := by
  funext i
  fin_cases i
  · exact Fin.ext h0
  · exact Fin.ext h1

/-- The sums' block after some rows: what was there, and every row's term. -/
def addRows {n : ℕ} (T : ℕ → Fin n → Row) (p : Rows 8) : Rows 8 := fun y => p y + ∑ s : Fin n, T (y 0).val s (y 1)

/-- Row `r` of the sums after both halves of a point. -/
theorem addRows_two (T : ℕ → Fin 512 → Row) (r : ℕ) (hr : r < 8) {f f' : Rows 1 → Rows 1}
    (hf : ∀ (p : Rows 1) (x : (⟨2, ![1, 1024]⟩ : Shape).Idx), f p x = p x + ∑ s : Fin 256, T r (rowAt 0 (by omega) s) (x 1))
    (hf' : ∀ (p : Rows 1) (x : (⟨2, ![1, 1024]⟩ : Shape).Idx), f' p x = p x + ∑ s : Fin 256, T r (rowAt 256 (by omega) s) (x 1))
    (p : Rows 8) (y : (⟨2, ![8, 1024]⟩ : Shape).Idx) (h : (y 0).val = r) (g) :
    f' (f (View.ld (S := (⟨2, ![8, 1024]⟩ : Shape)) p (Rect.unit ![r, 0] ![1, 1024] g))) (ix2 (n0 := 1) (n1 := 1024) 0 (y 1)) = addRows T p y := by
  refine ((hf' _ _).trans (congrArg (· + _) (hf _ _))).trans ?_
  unfold addRows
  rw [h, add_assoc]
  refine congrArg₂ _ ?_ ?_
  · exact (ld_row r hr p g (y 1)).trans (congrArg p (idx_of y ⟨r, hr⟩ (y 1) h rfl).symm)
  · refine Eq.symm ((Fin.sum_univ_add (a := 256) (b := 256) fun s => T r s (y 1)).trans ?_)
    refine congrArg₂ _ (Finset.sum_congr rfl fun s _ => ?_) (Finset.sum_congr rfl fun s _ => ?_)
    · exact congrArg (fun z => T r z (y 1)) (Fin.ext (by simp))
    · exact congrArg (fun z => T r z (y 1)) (Fin.ext (by simp [Nat.add_comm]))

/-- A row to which nothing is added keeps what it held. -/
theorem addRows_kept {n : ℕ} (T : ℕ → Fin n → Row) (p : Rows 8) (y : (⟨2, ![8, 1024]⟩ : Shape).Idx) (h : ∀ s j, T (y 0).val s j = 0) : p y = addRows T p y := by
  exact ((congrArg (p y + ·) (Finset.sum_eq_zero fun s _ => h s _)).trans (add_zero _)).symm

/-- The sums' block after the eight points, each of which added its rows to what the point before it left. -/
theorem addRows_run (T : ℕ → Fin 4096 → Row) (o : ∀ t : ℕ, t < 8 → Rows 8) (z : Rows 8) (hz : ∀ y, z y = 0)
    (h0 : ∀ h, o 0 h = addRows (fun r s => T r (rowIn ⟨0, h⟩ s)) z)
    (hs : ∀ (t : ℕ) (h : t + 1 < 8), o (t + 1) h = addRows (fun r s => T r (rowIn ⟨t + 1, h⟩ s)) (o t (Nat.lt_of_succ_lt h))) :
    o 7 (by omega) = fun y => ∑ s : Fin 4096, T (y 0).val s (y 1) := by
  have key : ∀ (t : ℕ) (h : t < 8), o t h = fun y => ∑ u : Fin (t + 1), ∑ s : Fin 512, T (y 0).val (rowIn ⟨u.val, by omega⟩ s) (y 1) := by
    intro t
    induction t with
    | zero =>
      intro h
      rw [h0 h]
      funext y
      unfold addRows
      rw [hz, zero_add, Fin.sum_univ_one]
      rfl
    | succ t ih =>
      intro h
      rw [hs t h, ih (Nat.lt_of_succ_lt h)]
      funext y
      exact (Fin.sum_univ_castSucc (n := t + 1) fun u => ∑ s : Fin 512, T (y 0).val (rowIn ⟨u.val, by omega⟩ s) (y 1)).symm
  rw [key 7 (by omega)]
  funext y
  exact (sum_blocks 8 512 4096 rfl fun s => T (y 0).val s (y 1)).symm

end Cert.Proof.Norm

end
-- ==== Proof.Norm.Arguments.lean ====
/-
  What the host prepares for the backward calls of a modulated norm, read at an index: the weight in four blocks of columns,
  the six rows of the modulation with two rows of zeros below, and a vector as one row.
-/
module

public import proofs.«01_k».proof.Proof.Norm.Backward

@[expose] public section

set_option maxRecDepth 16384
set_option maxHeartbeats 2000000

noncomputable section

namespace Cert.Proof.Norm

open Idealize.ShloMosaic Idealize.ShloMosaic.TcCoe

/-- A block of the weight, element by element. -/
theorem blocked_apply {m N : ℕ} (h : 4 * m = N) (w : Vec Ideal (⟨2, ![1024, N]⟩ : Shape) .f32) (h1) (h2) (h3) (b : Fin 4) (j : Fin 1024) (k : Fin m)
    (q : Fin N) (hq : q.val = m * b.val + k.val) :
    transpose (⟨3, ![4, 1024, m]⟩ : Shape) [1, 0, 2] (shapeCast (⟨3, ![1024, 4, m]⟩ : Shape) (truncf (F := Ideal) .bf16 (φ := .f32) w h1) h2) h3 (ix3 b j k)
      = w (ix2 j q) := by
  refine (transpose_apply [1, 0, 2] _ _ _ (ix3 (n0 := 1024) (n1 := 4) (n2 := m) j b k) fun a => by fin_cases a <;> rfl).trans ?_
  refine (shapeCast_apply _ _ _ (ix2 (n0 := 1024) (n1 := N) j q) ?_).trans rfl
  rw [Shape.rowMajor_val_two, Shape.rowMajor_val_three]
  show j.val * N + q.val = (j.val * 4 + b.val) * m + k.val
  rw [hq, ← h]
  ring

/-- The product with the four blocks of the transposed weight is the product with the whole of it. -/
theorem prodRow_blocked {n m N : ℕ} (h : 4 * m = N) (x : Vec Ideal (⟨2, ![n, N]⟩ : Shape) .f32) (w : Vec Ideal (⟨2, ![1024, N]⟩ : Shape) .f32)
    (h0) (h1) (h2) (h3) (s : Fin n) :
    prodRow m h (truncf (F := Ideal) .bf16 (φ := .f32) x h0)
      (transpose (⟨3, ![4, 1024, m]⟩ : Shape) [1, 0, 2] (shapeCast (⟨3, ![1024, 4, m]⟩ : Shape) (truncf (F := Ideal) .bf16 (φ := .f32) w h1) h2) h3) s
      = fun j => ∑ k : Fin N, (x (ix2 s k) * w (ix2 j k) : EReal) := by
  funext j
  unfold prodRow
  rw [sum_blocks 4 m N h]
  exact Finset.sum_congr rfl fun b _ => Finset.sum_congr rfl fun k _ => congrArg₂ _ rfl (blocked_apply h w h1 h2 h3 b j k _ rfl)

/-- A row of the modulation in the array with the zeros below. -/
theorem padded_apply (x : Vec Ideal (⟨2, ![6, 1024]⟩ : Shape) .f32) (z : Vec Ideal (⟨2, ![2, 1024]⟩ : Shape) .f32) (h) (r : Fin 6) (j : Fin 1024) :
    concatenate (⟨2, ![8, 1024]⟩ : Shape) 0 [⟨(⟨2, ![6, 1024]⟩ : Shape), x⟩, ⟨(⟨2, ![2, 1024]⟩ : Shape), z⟩] h (ix2 (n0 := 8) ⟨r.val, by omega⟩ j) = x (ix2 r j) :=
  concatenate_pair_apply_left (t := (⟨2, ![8, 1024]⟩ : Shape)) (s₁ := (⟨2, ![6, 1024]⟩ : Shape)) (s₂ := (⟨2, ![2, 1024]⟩ : Shape)) (0 : Fin 2) _ _ h _ rfl
    (ix2 r j) fun b => by fin_cases b <;> rfl

/-- A vector in the array of one row. -/
theorem asRow_apply (x : Vec Ideal (⟨1, ![1024]⟩ : Shape) .f32) (h) (j : Fin 1024) : shapeCast (⟨2, ![1, 1024]⟩ : Shape) x h (ix2 0 j) = x (ix1 j) := by
  refine shapeCast_apply _ _ _ _ ?_
  rw [Shape.rowMajor_val_one, Shape.rowMajor_val_two]
  show j.val = 0 * 1024 + j.val
  omega

/-- A row of the modulation, taken out as a vector. -/
theorem modRow_apply (r : Fin 6) (x : Vec Ideal (⟨2, ![6, 1024]⟩ : Shape) .f32) (h) (h') (j : Fin 1024) :
    shapeCast (⟨1, ![1024]⟩ : Shape) (extractStridedSlice (⟨2, ![1, 1024]⟩ : Shape) ![r.val, 0] x h) h' (ix1 j) = x (ix2 r j) := by
  refine (shapeCast_apply _ _ _ (ix2 (n0 := 1) (n1 := 1024) 0 j) ?_).trans (congrArg x ?_)
  · rw [Shape.rowMajor_val_one, Shape.rowMajor_val_two]
    show 0 * 1024 + j.val = j.val
    omega
  · funext a
    fin_cases a
    · rfl
    · exact Fin.ext (Nat.zero_add j.val)

end Cert.Proof.Norm

end
-- ==== Proof.DMlpUp.Block.lean ====
/-
  The backward call `d_mlp_up` of the modulated norm before the MLP: the product `dup · w_upᵀ` gives the gradient of the
  modulated row, and from it the call makes the gradient of the row, that gradient times the gate of the mixer's output, and
  four sums over all rows. This module reads what one grid point of 512 rows leaves in its blocks; the body treats its rows
  in two halves of 256.
-/
module

public import proofs.«01_k».proof.Proof.Gen.Kernel5Ideal.Value
public import proofs.«01_k».proof.Proof.Norm.Backward
public import Idealize.ShloMosaic.Lib.Pipeline.ValueKit.Point
public import Idealize.ShloMosaic.Lib.Pipeline.ReadBack
public import Idealize.ShloMosaic.Lib.WritesUnit
public import Idealize.ShloMosaic.Lib.Tactic

@[expose] public section

set_option maxRecDepth 16384
set_option maxHeartbeats 2000000

noncomputable section

namespace Cert.Kernel5Ideal.Value
open Cert.Kernel5Ideal Cert.Kernel5Ideal.Gen Idealize.ShloMosaic Idealize.ShloMosaic.TcCoe Idealize.SL.Sem
open Idealize.ShloMosaic.Pipeline (Dat)
open Cert.Proof.Norm

/-- The product of one half. -/
theorem pay5_apply (v3 v8 v14 v20 : Vec Ideal S256x1024 .bf16) (v5 v10 v16 v22 : Vec Ideal S1x1024x1024 .bf16) (x : S256x1024.Idx) :
    k0_pay5 v3 v5 v8 v10 v14 v16 v20 v22 x = ∑ k : Fin 1024, v3 (ix2 (x 0) k) * v5 (ix3 0 (x 1) k) + ∑ k : Fin 1024, v8 (ix2 (x 0) k) * v10 (ix3 0 (x 1) k)
      + ∑ k : Fin 1024, v14 (ix2 (x 0) k) * v16 (ix3 0 (x 1) k) + ∑ k : Fin 1024, v20 (ix2 (x 0) k) * v22 (ix3 0 (x 1) k) := by
  idx_vars x
  pointwise [k0_pay5]

/-- The reciprocal root of a row's mean square. -/
theorem pay9_apply (v : Vec Ideal S256x1024 .f32) (x : S256x1.Idx) : k0_pay9 v x = Cert.Proof.Norm.inv fun k => v (ix2 (x 0) k) := by
  idx_vars x
  pointwise [k0_pay9, k0_pay8]
  rfl

/-- The normalised row. -/
theorem pay11_apply (v : Vec Ideal S256x1024 .f32) (x : S256x1024.Idx) : k0_pay11 (k0_pay8 v) (k0_pay10 v) x = unit (fun k => v (ix2 (x 0) k)) (x 1) := by
  idx_vars x
  pointwise [k0_pay11, k0_pay8, k0_pay10]
  rw [pay9_apply]
  rfl

/-- A half's term of the first sum, added to what was there. -/
theorem pay12_apply (v25 v50 v60 : Vec Ideal S256x1024 .f32) (v62 v67 : Vec Ideal S1x1024 .f32) (x : S1x1024.Idx) :
    k0_pay12 v25 v50 v60 v62 v67 x = v67 x + ∑ s : Fin 256, v25 (ix2 s (x 1)) * (k0_pay11 (F := Ideal) v50 v60 (ix2 s (x 1)) * v62 (ix2 0 (x 1))) := by
  idx_vars x
  pointwise [k0_pay12]

/-- A half's term of the second sum. -/
theorem pay13_apply (v25 : Vec Ideal S256x1024 .f32) (v73 : Vec Ideal S1x1024 .f32) (x : S1x1024.Idx) :
    k0_pay13 v25 v73 x = v73 x + ∑ s : Fin 256, v25 (ix2 s (x 1)) := by
  idx_vars x
  pointwise [k0_pay13]

/-- The product times one plus the scale. -/
theorem pay14_apply (v25 : Vec Ideal S256x1024 .f32) (v79 : Vec Ideal S1x1024 .f32) (x : S256x1024.Idx) :
    k0_pay14 v25 v79 x = v25 x * (Ideal.ofBits .f32 1065353216#32 + v79 (ix2 0 (x 1))) := by
  idx_vars x
  pointwise [k0_pay14]

/-- A half's term of the third sum. -/
theorem pay15_apply (v25 v50 v60 : Vec Ideal S256x1024 .f32) (v79 v86 : Vec Ideal S1x1024 .f32) (x : S1x1024.Idx) :
    k0_pay15 v25 v50 v60 v79 v86 x = v86 x + ∑ s : Fin 256, k0_pay14 (F := Ideal) v25 v79 (ix2 s (x 1)) * k0_pay11 (F := Ideal) v50 v60 (ix2 s (x 1)) := by
  idx_vars x
  pointwise [k0_pay15]

/-- The gradient of the normalised row. -/
theorem pay16_apply (v25 : Vec Ideal S256x1024 .f32) (v79 v92 : Vec Ideal S1x1024 .f32) (x : S256x1024.Idx) :
    k0_pay16 v25 v79 v92 x = k0_pay14 v25 v79 x * v92 (ix2 0 (x 1)) := by
  idx_vars x
  pointwise [k0_pay16]

/-- The gradient of the row. -/
theorem pay17_apply (v51 v61 v95 : Vec Ideal S256x1024 .f32) (v59 : Vec Ideal S256x1 .f32) (x : S256x1024.Idx) :
    k0_pay17 v51 v59 v61 v95 x = v51 x + v59 (ix2 (x 0) 0) * (v95 x - v61 x * Ideal.div (∑ k : Fin 1024, v95 (ix2 (x 0) k) * v61 (ix2 (x 0) k)) width) := by
  idx_vars x
  pointwise [k0_pay17]

/-- The gradient of the row times the gate. -/
theorem pay18_apply (v51 v61 v95 : Vec Ideal S256x1024 .f32) (v59 : Vec Ideal S256x1 .f32) (v108 : Vec Ideal S1x1024 .f32) (x : S256x1024.Idx) :
    k0_pay18 v51 v59 v61 v95 v108 x = k0_pay17 v51 v59 v61 v95 x * v108 (ix2 0 (x 1)) := by
  idx_vars x
  pointwise [k0_pay18]

/-- A half's term of the fourth sum. -/
theorem pay19_apply (v51 v61 v95 : Vec Ideal S256x1024 .f32) (v59 : Vec Ideal S256x1 .f32) (v114 : Vec Ideal S256x1024 .bf16) (v118 : Vec Ideal S1x1024 .f32) (x : S1x1024.Idx) :
    k0_pay19 v51 v59 v61 v95 v114 v118 x = v118 x + ∑ s : Fin 256, k0_pay17 v51 v59 v61 v95 (ix2 s (x 1)) * v114 (ix2 s (x 1)) := by
  idx_vars x
  pointwise [k0_pay19]

section Second

variable (d v w : Vec Ideal S256x1024 .f32) (r g q p : Vec Ideal S1x1024 .f32) (o : Vec Ideal S256x1024 .bf16)

/-! The second half computes the same functions, cut at other places. -/

/-- The second half's product. -/
theorem second_prod (v3 v8 v14 v20 : Vec Ideal S256x1024 .bf16) (v5 v10 v16 v22 : Vec Ideal S1x1024x1024 .bf16) :
    k0_pay7 (k0_pay6 v3) v5 v8 v10 v14 v16 v20 v22 = k0_pay5 v3 v5 v8 v10 v14 v16 v20 v22 := rfl

/-- The second half's gradient of the row. -/
theorem second_grad : k0_pay1 w (k0_pay22 (k0_pay21 v)) (k0_pay23 (k0_pay20 v) (k0_pay21 v)) (k0_pay26 d r) g
    = k0_pay17 w (k0_pay9 v) (k0_pay11 (k0_pay8 v) (k0_pay10 v)) (k0_pay16 d r g) := rfl

/-- The second half's gradient of the row times the gate. -/
theorem second_gated : k0_pay2 w (k0_pay22 (k0_pay21 v)) (k0_pay23 (k0_pay20 v) (k0_pay21 v)) (k0_pay26 d r) g q
    = k0_pay18 w (k0_pay9 v) (k0_pay11 (k0_pay8 v) (k0_pay10 v)) (k0_pay16 d r g) q := rfl

/-- The second half's first sum. -/
theorem second_sum0 : k0_pay24 d (k0_pay20 v) (k0_pay21 v) g p = k0_pay12 d (k0_pay8 v) (k0_pay10 v) g p := rfl

/-- The second half's second sum. -/
theorem second_sum1 : k0_pay25 d p = k0_pay13 d p := rfl

/-- The second half's third sum. -/
theorem second_sum2 : k0_pay27 d (k0_pay20 v) (k0_pay21 v) r p = k0_pay15 d (k0_pay8 v) (k0_pay10 v) r p := rfl

/-- The second half's fourth sum. -/
theorem second_sum3 : k0_pay3 w (k0_pay22 (k0_pay21 v)) (k0_pay23 (k0_pay20 v) (k0_pay21 v)) (k0_pay26 d r) g o p
    = k0_pay19 w (k0_pay9 v) (k0_pay11 (k0_pay8 v) (k0_pay10 v)) (k0_pay16 d r g) o p := rfl

end Second

/-- Row `s` of the product, of any number of rows. -/
abbrev prod {n : ℕ} (x : Vec Ideal (⟨2, ![n, 4096]⟩ : Shape) .bf16) (w : Vec Ideal S4x1024x1024 .bf16) (s : Fin n) : Row := prodRow 1024 rfl x w s

section Any

variable {n : ℕ} (x0 : Vec Ideal (⟨2, ![n, 4096]⟩ : Shape) .bf16) (x1 : Vec Ideal S4x1024x1024 .bf16) (x2 x3 : Rows n) (x4 : Rows 8) (x5 : Rows 1) (x6 : Rows n .bf16)

/-- The gradient of row `s`: through the norm, added to the gradient that passes by. -/
def gradRow (s : Fin n) : Row := fun j => through (x3 (ix2 s j)) (rowOf x2 s) (normGrad 4 (prod x0 x1 s) x4 x5) j

/-- The gradient's block. -/
def gradBlk : Rows n := fun y => gradRow x0 x1 x2 x3 x4 x5 (y 0) (y 1)

/-- The gradient's block times the gate. -/
def gatedBlk : Rows n .bf16 := fun y => gradRow x0 x1 x2 x3 x4 x5 (y 0) (y 1) * x4 (ix2 2 (y 1))

/-- What row `s` adds to row `r` of the sums. -/
def term (r : ℕ) (s : Fin n) : Row := fun j =>
  if r = 3 then gradRow x0 x1 x2 x3 x4 x5 s j * x6 (ix2 s j) else sumTerm 4 r (prod x0 x1 s) (rowOf x2 s) x4 x5 j

/-- The rows of the sums that are the norm's. -/
theorem term_norm (r : ℕ) (hr : r ≠ 3) (s : Fin n) : term x0 x1 x2 x3 x4 x5 x6 r s = sumTerm 4 r (prod x0 x1 s) (rowOf x2 s) x4 x5 :=
  funext fun j => if_neg hr

/-- The row of the sums that is the gate's. -/
theorem term_gate (s : Fin n) : term x0 x1 x2 x3 x4 x5 x6 3 s = fun j => gradRow x0 x1 x2 x3 x4 x5 s j * x6 (ix2 s j) := rfl

end Any

section Half

variable (o : ℕ) (ho : o + 256 ≤ 512) (x0 : Vec Ideal S512x4096 .bf16) (x1 : Vec Ideal S4x1024x1024 .bf16) (x2 x3 : Vec Ideal S512x1024 .f32) (x4 : Vec Ideal S8x1024 .f32) (x5 : Vec Ideal S1x1024 .f32) (x6 : Vec Ideal S512x1024 .bf16)

/-- The product of one half of the rows, read at an index. -/
theorem half_prod (h0 h1 h2 h3 g0 g1 g2 g3) (x : S256x1024.Idx) :
    k0_pay5 (View.ld x0 (Rect.unit ![o, 0] ![256, 1024] h0)) (View.ld x1 (Rect.unit ![0, 0, 0] ![1, 1024, 1024] g0))
      (View.ld x0 (Rect.unit ![o, 1024] ![256, 1024] h1)) (View.ld x1 (Rect.unit ![1, 0, 0] ![1, 1024, 1024] g1))
      (View.ld x0 (Rect.unit ![o, 2048] ![256, 1024] h2)) (View.ld x1 (Rect.unit ![2, 0, 0] ![1, 1024, 1024] g2))
      (View.ld x0 (Rect.unit ![o, 3072] ![256, 1024] h3)) (View.ld x1 (Rect.unit ![3, 0, 0] ![1, 1024, 1024] g3)) x
      = prod x0 x1 (rowAt o ho (x 0)) (x 1) := by
  refine (pay5_apply _ _ _ _ _ _ _ _ x).trans ?_
  unfold prod prodRow
  rw [Fin.sum_univ_four]
  refine congrArg₂ _ (congrArg₂ _ (congrArg₂ _ ?_ ?_) ?_) ?_
  all_goals
    refine Finset.sum_congr rfl fun k _ => congrArg₂ _ (View.ld_unit_apply_of _ _ _ _ _ _ fun a => ?_) (View.ld_unit_apply_of _ _ _ _ _ _ fun a => ?_)
  all_goals fin_cases a
  all_goals simp [ix2_0, ix2_1, ix3_0, ix3_1, ix3_2]
  all_goals omega

/-- The normalised row of one half. -/
theorem half_unit (h2) (x : S256x1024.Idx) : k0_pay11 (k0_pay8 (View.ld x2 (Rect.unit ![o, 0] ![256, 1024] h2))) (k0_pay10 (View.ld x2 (Rect.unit ![o, 0] ![256, 1024] h2))) x = unit (rowOf x2 (rowAt o ho (x 0))) (x 1) := by
  rw [pay11_apply]
  exact congrArg (unit · (x 1)) (funext fun k => half_row o ho x2 h2 (x 0) k)

variable (d : Vec Ideal S256x1024 .f32) (hd : ∀ x : S256x1024.Idx, d x = prod x0 x1 (rowAt o ho (x 0)) (x 1))

include hd

/-- The gradient of the rows of one half. -/
theorem half_grad (h2 h3 h4 h5) (x : S256x1024.Idx) :
    k0_pay17 (View.ld x3 (Rect.unit ![o, 0] ![256, 1024] h3)) (k0_pay9 (View.ld x2 (Rect.unit ![o, 0] ![256, 1024] h2))) (k0_pay11 (k0_pay8 (View.ld x2 (Rect.unit ![o, 0] ![256, 1024] h2))) (k0_pay10 (View.ld x2 (Rect.unit ![o, 0] ![256, 1024] h2)))) (k0_pay16 d (View.ld x4 (Rect.unit ![4, 0] ![1, 1024] h4)) (View.ld x5 (Rect.unit ![0, 0] ![1, 1024] h5))) x = gradRow x0 x1 x2 x3 x4 x5 (rowAt o ho (x 0)) (x 1) := by
  have hp : ∀ j : Fin 1024, k0_pay16 d (View.ld x4 (Rect.unit ![4, 0] ![1, 1024] h4)) (View.ld x5 (Rect.unit ![0, 0] ![1, 1024] h5)) (ix2 (x 0) j) = normGrad 4 (prod x0 x1 (rowAt o ho (x 0))) x4 x5 j := fun j => by
    rw [pay16_apply, pay14_apply]
    exact congrArg₂ _ (congrArg₂ _ (hd _) (congrArg _ (ld_row 4 (by omega) x4 h4 j))) (ld_one x5 h5 j)
  rw [pay17_apply, pay9_apply]
  unfold gradRow through
  refine congrArg₂ _ ?_ (congrArg₂ _ ?_ (congrArg₂ _ ?_ (congrArg₂ _ ?_ (congrArg (Ideal.div · width) (Finset.sum_congr rfl fun k _ => ?_)))))
  · exact (congrArg _ (eq_ix2 x)).trans (half_row o ho x3 h3 (x 0) (x 1))
  · exact congrArg Cert.Proof.Norm.inv (funext fun k => half_row o ho x2 h2 (x 0) k)
  · exact (congrArg _ (eq_ix2 x)).trans (hp (x 1))
  · exact half_unit o ho x2 h2 x
  · exact congrArg₂ _ (hp k) (half_unit o ho x2 h2 (ix2 (n0 := 256) (x 0) k))

/-- The gradient of the rows of one half, times the gate. -/
theorem half_gated (h2 h3 h4 h5 h2') (x : S256x1024.Idx) :
    k0_pay18 (View.ld x3 (Rect.unit ![o, 0] ![256, 1024] h3)) (k0_pay9 (View.ld x2 (Rect.unit ![o, 0] ![256, 1024] h2))) (k0_pay11 (k0_pay8 (View.ld x2 (Rect.unit ![o, 0] ![256, 1024] h2))) (k0_pay10 (View.ld x2 (Rect.unit ![o, 0] ![256, 1024] h2)))) (k0_pay16 d (View.ld x4 (Rect.unit ![4, 0] ![1, 1024] h4)) (View.ld x5 (Rect.unit ![0, 0] ![1, 1024] h5))) (View.ld x4 (Rect.unit ![2, 0] ![1, 1024] h2')) x = gradRow x0 x1 x2 x3 x4 x5 (rowAt o ho (x 0)) (x 1) * x4 (ix2 2 (x 1)) := by
  rw [pay18_apply]
  exact congrArg₂ _ (half_grad o ho x0 x1 x2 x3 x4 x5 d hd h2 h3 h4 h5 x) (ld_row 2 (by omega) x4 h2' (x 1))

/-- What one half adds to the first sum. -/
theorem half_sum0 (h2 h5) (prev : Vec Ideal S1x1024 .f32) (x : S1x1024.Idx) :
    k0_pay12 d (k0_pay8 (View.ld x2 (Rect.unit ![o, 0] ![256, 1024] h2))) (k0_pay10 (View.ld x2 (Rect.unit ![o, 0] ![256, 1024] h2))) (View.ld x5 (Rect.unit ![0, 0] ![1, 1024] h5)) prev x = prev x + ∑ s : Fin 256, term x0 x1 x2 x3 x4 x5 x6 0 (rowAt o ho s) (x 1) := by
  rw [pay12_apply]
  refine congrArg _ (Finset.sum_congr rfl fun s _ => ?_)
  exact congrArg₂ _ (hd _) (congrArg₂ _ (half_unit o ho x2 h2 (ix2 s (x 1))) (ld_one x5 h5 (x 1)))

/-- What one half adds to the second sum. -/
theorem half_sum1 (prev : Vec Ideal S1x1024 .f32) (x : S1x1024.Idx) :
    k0_pay13 d prev x = prev x + ∑ s : Fin 256, term x0 x1 x2 x3 x4 x5 x6 1 (rowAt o ho s) (x 1) := by
  rw [pay13_apply]
  exact congrArg _ (Finset.sum_congr rfl fun s _ => hd _)

/-- What one half adds to the third sum. -/
theorem half_sum2 (h2 h4) (prev : Vec Ideal S1x1024 .f32) (x : S1x1024.Idx) :
    k0_pay15 d (k0_pay8 (View.ld x2 (Rect.unit ![o, 0] ![256, 1024] h2))) (k0_pay10 (View.ld x2 (Rect.unit ![o, 0] ![256, 1024] h2))) (View.ld x4 (Rect.unit ![4, 0] ![1, 1024] h4)) prev x = prev x + ∑ s : Fin 256, term x0 x1 x2 x3 x4 x5 x6 2 (rowAt o ho s) (x 1) := by
  rw [pay15_apply]
  refine congrArg _ (Finset.sum_congr rfl fun s _ => ?_)
  rw [pay14_apply]
  exact congrArg₂ _ (congrArg₂ _ (hd _) (congrArg _ (ld_row 4 (by omega) x4 h4 (x 1)))) (half_unit o ho x2 h2 (ix2 s (x 1)))

/-- What one half adds to the fourth sum. -/
theorem half_sum3 (h2 h3 h4 h5 h6) (prev : Vec Ideal S1x1024 .f32) (x : S1x1024.Idx) :
    k0_pay19 (View.ld x3 (Rect.unit ![o, 0] ![256, 1024] h3)) (k0_pay9 (View.ld x2 (Rect.unit ![o, 0] ![256, 1024] h2))) (k0_pay11 (k0_pay8 (View.ld x2 (Rect.unit ![o, 0] ![256, 1024] h2))) (k0_pay10 (View.ld x2 (Rect.unit ![o, 0] ![256, 1024] h2)))) (k0_pay16 d (View.ld x4 (Rect.unit ![4, 0] ![1, 1024] h4)) (View.ld x5 (Rect.unit ![0, 0] ![1, 1024] h5))) (View.ld x6 (Rect.unit ![o, 0] ![256, 1024] h6)) prev x = prev x + ∑ s : Fin 256, term x0 x1 x2 x3 x4 x5 x6 3 (rowAt o ho s) (x 1) := by
  rw [pay19_apply]
  refine congrArg _ (Finset.sum_congr rfl fun s _ => ?_)
  exact congrArg₂ _ (half_grad o ho x0 x1 x2 x3 x4 x5 d hd h2 h3 h4 h5 (ix2 s (x 1))) (half_row o ho x6 h6 s (x 1))

end Half

section Point

variable (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole)
  (x0 : Vec Ideal S512x4096 .bf16) (x1 : Vec Ideal S4x1024x1024 .bf16) (x2 x3 : Vec Ideal S512x1024 .f32) (x4 : Vec Ideal S8x1024 .f32) (x5 : Vec Ideal S1x1024 .f32) (x6 : Vec Ideal S512x1024 .bf16)

include harg1 harg2 harg3 harg4 harg5 harg6 harg7 harg8 harg9 harg10

/-- The first point's stores leave the gradient's block. -/
theorem out7A_eq (hc0 : cond0_0 i) : out0_A_7 c i arg1 harg1 arg2 harg2 arg3 harg3 arg4 harg4 arg5 harg5 arg6 harg6 arg7 harg7 arg8 harg8 arg9 harg9 arg10 harg10 hc0 x0 x1 x2 x3 x4 x5 x6 = gradBlk x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, second_prod, second_grad, second_gated, second_sum0, second_sum1, second_sum2, second_sum3]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- The later points' stores leave the gradient's block. -/
theorem out7B_eq (hc0 : ¬cond0_0 i) (x9 : Vec Ideal S8x1024 .f32) : out0_B_7 c i arg1 harg1 arg2 harg2 arg3 harg3 arg4 harg4 arg5 harg5 arg6 harg6 arg7 harg7 arg8 harg8 arg9 harg9 arg10 harg10 hc0 x0 x1 x2 x3 x4 x5 x6 x9 = gradBlk x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 x9)]
  unfold kernelRun0_B
  dsimp only
  sl_unfold_words
  simp only [View.readAt_eq_ld, harg1.read_unread, harg2.read_unread, harg3.read_unread, harg4.read_unread, harg5.read_unread, harg6.read_unread, harg7.read_unread, second_prod, second_grad, second_gated, second_sum0, second_sum1, second_sum2, second_sum3]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- The first point's stores leave the gated gradient's block. -/
theorem out8A_eq (hc0 : cond0_0 i) : out0_A_8 c i arg1 harg1 arg2 harg2 arg3 harg3 arg4 harg4 arg5 harg5 arg6 harg6 arg7 harg7 arg8 harg8 arg9 harg9 arg10 harg10 hc0 x0 x1 x2 x3 x4 x5 x6 = gatedBlk x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, second_prod, second_grad, second_gated, second_sum0, second_sum1, second_sum2, second_sum3]
  funext y
  canon_tiles x h using View.cover_of_tiled_head _ _ _ (by rfl) y
  · rw [idx_of y (rowAt 256 (by omega) (x 0)) (x 1) (by simp [h0]) h1]
    exact half_gated 256 (by omega) x0 x1 x2 x3 x4 x5 _ (half_prod 256 (by omega) x0 x1 _ _ _ _ _ _ _ _) _ _ _ _ _ x
  · rw [idx_of y (rowAt 0 (by omega) (x 0)) (x 1) (by simp [h0]) h1]
    exact half_gated 0 (by omega) x0 x1 x2 x3 x4 x5 _ (half_prod 0 (by omega) x0 x1 _ _ _ _ _ _ _ _) _ _ _ _ _ x

/-- The later points' stores leave the gated gradient's block. -/
theorem out8B_eq (hc0 : ¬cond0_0 i) (x9 : Vec Ideal S8x1024 .f32) : out0_B_8 c i arg1 harg1 arg2 harg2 arg3 harg3 arg4 harg4 arg5 harg5 arg6 harg6 arg7 harg7 arg8 harg8 arg9 harg9 arg10 harg10 hc0 x0 x1 x2 x3 x4 x5 x6 x9 = gatedBlk x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x9)]
  unfold kernelRun0_B
  dsimp only
  sl_unfold_words
  simp only [View.readAt_eq_ld, harg1.read_unread, harg2.read_unread, harg3.read_unread, harg4.read_unread, harg5.read_unread, harg6.read_unread, harg7.read_unread, second_prod, second_grad, second_gated, second_sum0, second_sum1, second_sum2, second_sum3]
  funext y
  canon_tiles x h using View.cover_of_tiled_head _ _ _ (by rfl) y
  · rw [idx_of y (rowAt 256 (by omega) (x 0)) (x 1) (by simp [h0]) h1]
    exact half_gated 256 (by omega) x0 x1 x2 x3 x4 x5 _ (half_prod 256 (by omega) x0 x1 _ _ _ _ _ _ _ _) _ _ _ _ _ x
  · rw [idx_of y (rowAt 0 (by omega) (x 0)) (x 1) (by simp [h0]) h1]
    exact half_gated 0 (by omega) x0 x1 x2 x3 x4 x5 _ (half_prod 0 (by omega) x0 x1 _ _ _ _ _ _ _ _) _ _ _ _ _ x

/-- A later point's stores into the sums leave what was there, and what the point's rows add. -/
theorem out9B_eq (hc0 : ¬cond0_0 i) (x9 : Vec Ideal S8x1024 .f32) : out0_B_9 c i arg1 harg1 arg2 harg2 arg3 harg3 arg4 harg4 arg5 harg5 arg6 harg6 arg7 harg7 arg8 harg8 arg9 harg9 arg10 harg10 hc0 x0 x1 x2 x3 x4 x5 x6 x9 = addRows (term x0 x1 x2 x3 x4 x5 x6) x9 := by
  unfold out0_B_9
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg10.read_unread, second_prod, second_grad, second_gated, second_sum0, second_sum1, second_sum2, second_sum3]
  funext y
  refine read_row _ _ 3 _ _ _ y (fun h => addRows_two (term x0 x1 x2 x3 x4 x5 x6) 3 (by omega) (half_sum3 0 (by omega) x0 x1 x2 x3 x4 x5 x6 _ (half_prod 0 (by omega) x0 x1 _ _ _ _ _ _ _ _) _ _ _ _ _) (half_sum3 256 (by omega) x0 x1 x2 x3 x4 x5 x6 _ (half_prod 256 (by omega) x0 x1 _ _ _ _ _ _ _ _) _ _ _ _ _) x9 y h _) fun n3 => ?_
  refine read_row _ _ 2 _ _ _ y (fun h => addRows_two (term x0 x1 x2 x3 x4 x5 x6) 2 (by omega) (half_sum2 0 (by omega) x0 x1 x2 x3 x4 x5 x6 _ (half_prod 0 (by omega) x0 x1 _ _ _ _ _ _ _ _) _ _) (half_sum2 256 (by omega) x0 x1 x2 x3 x4 x5 x6 _ (half_prod 256 (by omega) x0 x1 _ _ _ _ _ _ _ _) _ _) x9 y h _) fun n2 => ?_
  refine read_row _ _ 1 _ _ _ y (fun h => addRows_two (term x0 x1 x2 x3 x4 x5 x6) 1 (by omega) (half_sum1 0 (by omega) x0 x1 x2 x3 x4 x5 x6 _ (half_prod 0 (by omega) x0 x1 _ _ _ _ _ _ _ _)) (half_sum1 256 (by omega) x0 x1 x2 x3 x4 x5 x6 _ (half_prod 256 (by omega) x0 x1 _ _ _ _ _ _ _ _)) x9 y h _) fun n1 => ?_
  refine read_row _ _ 0 _ _ _ y (fun h => addRows_two (term x0 x1 x2 x3 x4 x5 x6) 0 (by omega) (half_sum0 0 (by omega) x0 x1 x2 x3 x4 x5 x6 _ (half_prod 0 (by omega) x0 x1 _ _ _ _ _ _ _ _) _ _) (half_sum0 256 (by omega) x0 x1 x2 x3 x4 x5 x6 _ (half_prod 256 (by omega) x0 x1 _ _ _ _ _ _ _ _) _ _) x9 y h _) fun n0 => ?_
  refine read_row _ _ 3 _ _ _ y (fun h => absurd h n3) fun _ => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  exact (congrFun (harg10.read_unread x9) y).trans (addRows_kept (term x0 x1 x2 x3 x4 x5 x6) x9 y fun s j => by simp [term, sumTerm, n0, n1, n2, n3])

/-- The first point's stores into the sums leave what the point's rows add to zeros. -/
theorem out9A_eq (hc0 : cond0_0 i) : out0_A_9 c i arg1 harg1 arg2 harg2 arg3 harg3 arg4 harg4 arg5 harg5 arg6 harg6 arg7 harg7 arg8 harg8 arg9 harg9 arg10 harg10 hc0 x0 x1 x2 x3 x4 x5 x6 = addRows (term x0 x1 x2 x3 x4 x5 x6) (k0_pay4 (F := Ideal)) := by
  unfold out0_A_9
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg7.read_unread, harg10.read_unread, second_prod, second_grad, second_gated, second_sum0, second_sum1, second_sum2, second_sum3]
  funext y
  refine read_row _ _ 3 _ _ _ y (fun h => addRows_two (term x0 x1 x2 x3 x4 x5 x6) 3 (by omega) (half_sum3 0 (by omega) x0 x1 x2 x3 x4 x5 x6 _ (half_prod 0 (by omega) x0 x1 _ _ _ _ _ _ _ _) _ _ _ _ _) (half_sum3 256 (by omega) x0 x1 x2 x3 x4 x5 x6 _ (half_prod 256 (by omega) x0 x1 _ _ _ _ _ _ _ _) _ _ _ _ _) (k0_pay4 (F := Ideal)) y h _) fun n3 => ?_
  refine read_row _ _ 2 _ _ _ y (fun h => addRows_two (term x0 x1 x2 x3 x4 x5 x6) 2 (by omega) (half_sum2 0 (by omega) x0 x1 x2 x3 x4 x5 x6 _ (half_prod 0 (by omega) x0 x1 _ _ _ _ _ _ _ _) _ _) (half_sum2 256 (by omega) x0 x1 x2 x3 x4 x5 x6 _ (half_prod 256 (by omega) x0 x1 _ _ _ _ _ _ _ _) _ _) (k0_pay4 (F := Ideal)) y h _) fun n2 => ?_
  refine read_row _ _ 1 _ _ _ y (fun h => addRows_two (term x0 x1 x2 x3 x4 x5 x6) 1 (by omega) (half_sum1 0 (by omega) x0 x1 x2 x3 x4 x5 x6 _ (half_prod 0 (by omega) x0 x1 _ _ _ _ _ _ _ _)) (half_sum1 256 (by omega) x0 x1 x2 x3 x4 x5 x6 _ (half_prod 256 (by omega) x0 x1 _ _ _ _ _ _ _ _)) (k0_pay4 (F := Ideal)) y h _) fun n1 => ?_
  refine read_row _ _ 0 _ _ _ y (fun h => addRows_two (term x0 x1 x2 x3 x4 x5 x6) 0 (by omega) (half_sum0 0 (by omega) x0 x1 x2 x3 x4 x5 x6 _ (half_prod 0 (by omega) x0 x1 _ _ _ _ _ _ _ _) _ _) (half_sum0 256 (by omega) x0 x1 x2 x3 x4 x5 x6 _ (half_prod 256 (by omega) x0 x1 _ _ _ _ _ _ _ _) _ _) (k0_pay4 (F := Ideal)) y h _) fun n0 => ?_
  refine read_row _ _ 3 _ _ _ y (fun h => absurd h n3) fun _ => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  refine (read_whole _ _ _ _ _ y).trans ?_
  exact (addRows_kept (term x0 x1 x2 x3 x4 x5 x6) (k0_pay4 (F := Ideal)) y fun s j => by simp [term, sumTerm, n0, n1, n2, n3])

end Point

end Cert.Kernel5Ideal.Value

end
-- ==== Proof.DMlpUp.Arrays.lean ====
/-
  The result arrays of the call `d_mlp_up` after its run: each point of 512 rows writes its rows of the gradient, and adds
  its rows' terms to the block of sums, which the first point sets to zero and the last writes back.
-/
module

public import proofs.«01_k».proof.Proof.DMlpUp.Block

@[expose] public section

set_option maxRecDepth 16384
set_option maxHeartbeats 2000000

noncomputable section

namespace Cert.Kernel5Ideal.Value
open Cert.Kernel5Ideal Cert.Kernel5Ideal.Gen Idealize.ShloMosaic Idealize.ShloMosaic.TcCoe Idealize.SL.Sem
open Idealize.ShloMosaic.Pipeline (Dat)
open Cert.Proof.Norm

variable (m : (ℓ : Loc nD τ sig) → Buf (Elt Ideal) ℓ) (ρ : Dev nD → PrngReg)

/-- The block each window reads or writes at point `t`: the row arrays' blocks go with the point, the others are whole. -/
theorem index0 : ∀ t : Fin cfg0.N, (win0_1.index t (0 : Fin 3) = 0 ∧ win0_1.index t (1 : Fin 3) = 0 ∧ win0_1.index t (2 : Fin 3) = 0)
    ∧ (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

/-- A point's rows of the product are the array's. -/
theorem blk_prod (c : Dev nD) (t : Fin cfg0.N) (s : Fin 512) :
    prod (n := 512) (iblk m c 0 t) (iblk m c 1 t) s = prod (n := 4096) (V m c main_v13) (V m c main_v12) (rowIn t s) := by
  obtain ⟨⟨w0, w1, w2⟩, ⟨a0, a1⟩, _⟩ := index0 t
  funext j
  unfold prod prodRow
  reads_congr
  all_goals blk_ext! [iblk, w0, w1, w2, a0, a1]

/-- A point's rows of the norm's argument are the array's. -/
theorem blk_row (c : Dev nD) (t : Fin cfg0.N) (s : Fin 512) : rowOf (n := 512) (iblk m c 2 t) s = rowOf (n := 4096) (V m c main_v6) (rowIn t s) := by
  obtain ⟨_, _, ⟨b0, b1⟩, _⟩ := index0 t
  funext j
  unfold rowOf
  reads_congr
  all_goals blk_ext! [iblk, b0, b1]

/-- Every point reads the whole modulation. -/
theorem blk_mod (c : Dev nD) (t : Fin cfg0.N) : @Eq (Vec Ideal S8x1024 .f32) (iblk m c 4 t) (V m c main_v8) := by
  obtain ⟨_, _, _, _, ⟨d0, d1⟩, _⟩ := index0 t
  funext y
  reads_congr
  all_goals blk_ext! [iblk, d0, d1]

/-- Every point reads the norm's whole weight. -/
theorem blk_g (c : Dev nD) (t : Fin cfg0.N) : @Eq (Vec Ideal S1x1024 .f32) (iblk m c 5 t) (V m c main_v9) := by
  obtain ⟨_, _, _, _, _, ⟨e0, e1⟩, _⟩ := index0 t
  funext y
  reads_congr
  all_goals blk_ext! [iblk, e0, e1]

/-- A point's rows of the gradient are the array's. -/
theorem blk_grad (c : Dev nD) (t : Fin cfg0.N) (s : Fin 512) : gradRow (n := 512) (iblk m c 0 t) (iblk m c 1 t) (iblk m c 2 t) (iblk m c 3 t) (iblk m c 4 t) (iblk m c 5 t)
    s = gradRow (n := 4096) (V m c main_v13) (V m c main_v12) (V m c main_v6) (V m c main_arg6) (V m c main_v8) (V m c main_v9) (rowIn t s) := by
  obtain ⟨_, _, _, ⟨c0, c1⟩, _⟩ := index0 t
  funext j
  unfold gradRow
  rw [blk_prod, blk_row, blk_mod, blk_g]
  refine through_congr ?_ rfl rfl rfl
  reads_congr
  all_goals blk_ext! [iblk, c0, c1]

/-- What every point leaves in the gradient's block. -/
theorem after7 (c : Dev nD) (t : Fin cfg0.N) : (outsAt0 m c t.val t.isLt).1 = gradBlk (n := 512) (iblk m c 0 t) (iblk m c 1 t) (iblk m c 2 t) (iblk m c 3 t) (iblk m c 4 t) (iblk m c 5 t) := by
  by_cases h : t.val % 8 = 0
  · rw [outsAt0_A m c t h]
    dsimp only
    rw [out7A_eq]
  · rw [outsAt0_B m c t h]
    dsimp only
    rw [out7B_eq]

/-- What every point leaves in the gated gradient's block. -/
theorem after8 (c : Dev nD) (t : Fin cfg0.N) : (outsAt0 m c t.val t.isLt).2.1 = gatedBlk (n := 512) (iblk m c 0 t) (iblk m c 1 t) (iblk m c 2 t) (iblk m c 3 t) (iblk m c 4 t) (iblk m c 5 t) := by
  by_cases h : t.val % 8 = 0
  · rw [outsAt0_A m c t h]
    dsimp only
    rw [out8A_eq]
  · rw [outsAt0_B m c t h]
    dsimp only
    rw [out8B_eq]

/-- After the run the first result array is the gradient of every row. -/
theorem final7 (c : Dev nD) : (dats m 0 c).arrAt 7 cfg0.N = gradBlk (n := 4096) (V m c main_v13) (V m c main_v12) (V m c main_v6) (V m c main_arg6) (V m c main_v8) (V m c main_v9) := by
  refine (dats m 0 c).arrAt_eq_of_covers 7 _ (by decide +kernel) fun t hf y => ?_
  blk_simp
  rw [after0_7, after7]
  obtain ⟨_, _, _, _, _, _, _, ⟨f0, f1⟩, _⟩ := index0 t
  unfold gradBlk
  refine (congrFun (blk_grad m c t (y 0)) (y 1)).trans ?_
  have e0 : ((win0_7.blk t).view.emb y 0 : Fin 4096) = rowIn t (y 0) := Fin.ext (by simp [f0, Nat.mul_comm])
  have e1 : ((win0_7.blk t).view.emb y 1 : Fin 1024) = y 1 := Fin.ext (by simp [f1])
  exact congrArg₂ (fun (s : Fin 4096) (j : Fin 1024) => (gradRow (n := 4096) (V m c main_v13) (V m c main_v12) (V m c main_v6) (V m c main_arg6) (V m c main_v8) (V m c main_v9) s j : EReal)) e0.symm e1.symm

/-- After the run the second result array is the gradient of every row times the gate. -/
theorem final8 (c : Dev nD) : (dats m 0 c).arrAt 8 cfg0.N = gatedBlk (n := 4096) (V m c main_v13) (V m c main_v12) (V m c main_v6) (V m c main_arg6) (V m c main_v8) (V m c main_v9) := by
  refine (dats m 0 c).arrAt_eq_of_covers 8 _ (by decide +kernel) fun t hf y => ?_
  blk_simp
  rw [after0_8, after8]
  obtain ⟨_, _, _, _, _, _, _, _, ⟨f0, f1⟩, _⟩ := index0 t
  unfold gatedBlk
  refine (congrArg₂ (fun a b : EReal => a * b) (congrFun (blk_grad m c t (y 0)) (y 1)) (congrFun (blk_mod m c t) (ix2 2 (y 1)))).trans ?_
  have e0 : ((win0_8.blk t).view.emb y 0 : Fin 4096) = rowIn t (y 0) := Fin.ext (by simp [f0, Nat.mul_comm])
  have e1 : ((win0_8.blk t).view.emb y 1 : Fin 1024) = y 1 := Fin.ext (by simp [f1])
  exact congrArg₂ (fun (s : Fin 4096) (j : Fin 1024) => (gradRow (n := 4096) (V m c main_v13) (V m c main_v12) (V m c main_v6) (V m c main_arg6) (V m c main_v8) (V m c main_v9) s j : EReal) * (V m c main_v8 : Vec Ideal S8x1024 .f32) (ix2 2 j)) e0.symm e1.symm

/-- A point's terms of the sums are the array's rows' terms. -/
theorem blk_term (c : Dev nD) (t : Fin cfg0.N) (r : ℕ) (s : Fin 512) :
    term (n := 512) (iblk m c 0 t) (iblk m c 1 t) (iblk m c 2 t) (iblk m c 3 t) (iblk m c 4 t) (iblk m c 5 t) (iblk m c 6 t) r s = term (n := 4096) (V m c main_v13) (V m c main_v12) (V m c main_v6) (V m c main_arg6) (V m c main_v8) (V m c main_v9) (V m c main_v14) r (rowIn t s) := by
  obtain ⟨_, _, _, _, _, _, ⟨g0, g1⟩, _⟩ := index0 t
  have h : ∀ j, @Eq EReal ((iblk m c 6 t : Vec Ideal S512x1024 .bf16) (ix2 s j)) ((V m c main_v14 : Vec Ideal S4096x1024 .bf16) (ix2 (rowIn t s) j)) := fun j => by
    reads_congr
    all_goals blk_ext! [iblk, g0, g1]
  funext j
  unfold term
  rw [blk_grad, blk_prod, blk_row, blk_mod, blk_g, h]

/-- The zeros with which the first point starts the sums. -/
theorem start_apply (y : S8x1024.Idx) : (k0_pay4 (F := Ideal)) y = 0 := by
  idx_vars y
  pointwise [k0_pay4]

/-- After the last point the sums' block holds the terms of all rows. -/
theorem after9 (c : Dev nD) : (outsAt0 m c 7 (by decide)).2.2
    = fun y : S8x1024.Idx => ∑ s : Fin 4096, term (n := 4096) (V m c main_v13) (V m c main_v12) (V m c main_v6) (V m c main_arg6) (V m c main_v8) (V m c main_v9) (V m c main_v14) (y 0).val s (y 1) := by
  refine addRows_run (term (n := 4096) (V m c main_v13) (V m c main_v12) (V m c main_v6) (V m c main_arg6) (V m c main_v8) (V m c main_v9) (V m c main_v14)) (fun t h => (outsAt0 m c t h).2.2) (k0_pay4 (F := Ideal)) start_apply (fun h => ?_) fun t h => ?_
  · refine (congrArg (fun z => z.2.2) (outsAt0_A m c ⟨0, h⟩ (Nat.zero_mod 8))).trans ?_
    dsimp only
    rw [out9A_eq]
    exact congrArg (fun z => addRows z _) (funext fun r => funext fun s => blk_term m c ⟨0, h⟩ r s)
  · refine (congrArg (fun z => z.2.2) (outsAt0_B m c ⟨t + 1, h⟩ (show ¬(t + 1) % 8 = 0 by omega))).trans ?_
    dsimp only
    rw [out9B_eq]
    exact congrArg (fun z => addRows z _) (funext fun r => funext fun s => blk_term m c ⟨t + 1, h⟩ r s)

/-- After the run the third result array is the sums over all rows. -/
theorem final9 (c : Dev nD) : (dats m 0 c).arrAt 9 cfg0.N = fun y : S8x1024.Idx =>
    ∑ s : Fin 4096, term (n := 4096) (V m c main_v13) (V m c main_v12) (V m c main_v6) (V m c main_arg6) (V m c main_v8) (V m c main_v9) (V m c main_v14) (y 0).val s (y 1) := by
  refine (dats m 0 c).arrAt_eq_of_covers 9 _ (by decide +kernel) fun t hf y => ?_
  blk_simp
  have h7 : t = (⟨7, by decide⟩ : Fin cfg0.N) := Fin.ext ((by decide +kernel : ∀ t : Fin cfg0.N, (cfg0.win 9).flush t = true → t.val = 7) t hf)
  subst h7
  rw [after0_9, after9]
  obtain ⟨_, _, _, _, _, _, _, _, _, ⟨g0, g1⟩⟩ := index0 ⟨7, by decide⟩
  refine congrArg₂ (fun (r : ℕ) (j : Fin 1024) => ∑ s : Fin 4096, term (n := 4096) (V m c main_v13) (V m c main_v12) (V m c main_v6) (V m c main_arg6) (V m c main_v8) (V m c main_v9) (V m c main_v14) r s j) ?_ ?_
  · show (y 0).val = win0_9.index _ (0 : Fin 2) * 8 + (y 0).val
    rw [g0]
    omega
  · exact Fin.ext (by simpa using g1)

end Cert.Kernel5Ideal.Value

end
-- ==== Proof.DMlpUp.Reference.lean ====
/-
  The reference of the call `d_mlp_up`, read at an index: `jax.vjp` of the modulated rms norm times the weight, as rows of
  1024 features.
-/
module

public import proofs.«01_k».proof.Proof.Norm.Rows
public import proofs.«01_k».proof.Proof.Gen.Reference5Ideal.Run
public import proofs.«01_k».proof.Proof.Gen.Reference5Ideal.Read
public import Idealize.ShloMosaic.Lib.Pipeline.ValueKit.Point
public import Idealize.ShloMosaic.Lib.Tactic

@[expose] public section

set_option maxRecDepth 16384
set_option maxHeartbeats 2000000

noncomputable section

namespace Cert.Reference5Ideal.Read
open Cert.Reference5Ideal Cert.Reference5Ideal.Gen Idealize.ShloMosaic Idealize.ShloMosaic.TcCoe Idealize.SL.Sem
open Cert.Proof.Norm

variable (x0 x1 : Vec Ideal S4096x1024 .f32) (x2 : Vec Ideal S6x1024 .f32) (x3 : Vec Ideal S1024x1024 .f32) (x4 : Vec Ideal S1024 .f32)
  (x5 : Vec Ideal S1024x4096 .f32) (x6 : Vec Ideal S4096x1024 .f32) (x7 : Vec Ideal S4096x4096 .f32)

/-- Row `s` of the product with the transposed weight. -/
def refProd (s : Fin 4096) : Row := fun j => ∑ k : Fin 4096, x7 (ix2 s k) * x5 (ix2 j k)

/-- Row `s` of the residual before the norm. -/
abbrev refRow (s : Fin 4096) : Row := fun k => val_main_v10 (F := Ideal) x0 x1 x2 x3 (ix2 s k)

/-- The mean square of a row. -/
theorem ref_square (s : Fin 4096) (z : S4096x1.Idx) (h : (z 0).val = s.val) : val_main_v17 (F := Ideal) x0 x1 x2 x3 z = square (refRow x0 x1 x2 x3 s) := by
  simp only [val_main_v17_apply, val_main_v15_apply, val_main_v13_apply, val_main_v12_apply, val_main_v14_apply, val_main_v16_apply, val_main_v11_apply, val_main_cst_apply, val_main_cst_0_apply, val_main_cst_1_apply]
  have e : ∀ k, idx_main_v12 (idx_main_v13 z) k = ix2 s k := fun k => by
    funext a
    fin_cases a
    · exact Fin.ext h
    · rfl
  simp only [e]
  refine congrArg (Ideal.div · width + small) ?_
  exact (congrArg (· + _) Ideal.ofBits_zero_f32).trans (zero_add _)

/-- The normalised row. -/
theorem ref_unit (s : Fin 4096) (j : Fin 1024) : val_main_v23 (F := Ideal) x0 x1 x2 x3 (ix2 s j) = unit (refRow x0 x1 x2 x3 s) j := by
  rw [val_main_v23_apply, val_main_v22_apply, val_main_v18_apply, ref_square x0 x1 x2 x3 s _ rfl]
  rfl

/-- The product with the transposed weight. -/
theorem ref_prod (s : Fin 4096) (j : Fin 1024) : val_main_v36 (F := Ideal) x5 x7 (ix2 s j) = refProd x5 x7 s j := by
  rw [val_main_v36_apply]
  refine Finset.sum_congr rfl fun k _ => congrArg₂ _ (congrArg x7 ?_) (congrArg x5 ?_)
  all_goals funext a; fin_cases a <;> rfl

/-- The product's row times one plus the scale. -/
theorem ref_scaled (s : Fin 4096) (j : Fin 1024) :
    val_main_v44 (F := Ideal) x2 x5 x7 (ix2 s j) = refProd x5 x7 s j * (Ideal.ofBits .f32 1065353216#32 + x2 (ix2 4 j)) := by
  rw [val_main_v44_apply, ref_prod, val_main_v43_apply]
  simp only [val_main_v29_apply, val_main_v28_apply, val_main_v27_apply, val_main_v4_apply, val_main_v3_apply, val_main_v4_apply, val_main_v3_apply, val_main_cst_3_apply]
  refine congrArg (fun z => refProd x5 x7 s j * (Ideal.ofBits .f32 1065353216#32 + x2 z)) ?_
  funext a
  fin_cases a
  · rfl
  · exact Fin.ext (Nat.mod_eq_of_lt j.isLt)

/-- The gradient of the normalised row. -/
theorem ref_normGrad (s : Fin 4096) (j : Fin 1024) :
    val_main_v50 (F := Ideal) x2 x4 x5 x7 (ix2 s j) = refProd x5 x7 s j * (Ideal.ofBits .f32 1065353216#32 + x2 (ix2 4 j)) * x4 (ix1 j) := by
  rw [val_main_v50_apply, ref_scaled, val_main_v49_apply, val_main_v24_apply]
  refine congrArg (fun z => refProd x5 x7 s j * (Ideal.ofBits .f32 1065353216#32 + x2 (ix2 4 j)) * x4 z) ?_
  funext a
  fin_cases a; rfl

/-- The factor of the row in the gradient through the mean square. -/
theorem ref_slope (s : Fin 4096) (j : Fin 1024) :
    val_main_v62 (F := Ideal) x0 x1 x2 x3 x4 x5 x7 (ix2 s j) = slope (refRow x0 x1 x2 x3 s) (fun k => val_main_v50 (F := Ideal) x2 x4 x5 x7 (ix2 s k)) := by
  rw [val_main_v62_apply, val_main_v61_apply, Fin.sum_univ_one, val_main_v60_apply, val_main_v58_apply, val_main_v54_apply, val_main_v53_apply,
    val_main_v21_apply, val_main_v20_apply, val_main_v19_apply, val_main_v18_apply, val_main_v59_apply, ref_square x0 x1 x2 x3 s _ rfl]
  have e : ∀ k, idx_main_v53 (idx_main_v54 (idx_main_v61 (idx_main_v62 (ix2 s j)) 0)) k = ix2 s k := fun k => by
    funext a
    fin_cases a
    · refine Fin.ext ?_
      show s.val * 1 + 0 = s.val
      omega
    · rfl
  simp only [e, val_main_v52_apply]
  refine (congrArg (· + _) Ideal.ofBits_zero_f32).trans ((zero_add _).trans ?_)
  refine congrArg (fun z => Ideal.div (z * (Ideal.ofBits .f32 3204448256#32 * Ideal.div (inv (refRow x0 x1 x2 x3 s)) (square (refRow x0 x1 x2 x3 s)))) width) ?_
  exact (congrArg (· + _) Ideal.ofBits_zero_f32).trans (zero_add _)

/-- The gradient of the row, in its three terms. -/
theorem ref_grad (s : Fin 4096) (j : Fin 1024) :
    val_main_v66 (F := Ideal) x0 x1 x2 x3 x4 x5 x6 x7 (ix2 s j)
      = x6 (ix2 s j) + val_main_v50 (F := Ideal) x2 x4 x5 x7 (ix2 s j) * inv (refRow x0 x1 x2 x3 s)
        + val_main_v10 (F := Ideal) x0 x1 x2 x3 (ix2 s j) * slope (refRow x0 x1 x2 x3 s) (fun k => val_main_v50 (F := Ideal) x2 x4 x5 x7 (ix2 s k))
        + slope (refRow x0 x1 x2 x3 s) (fun k => val_main_v50 (F := Ideal) x2 x4 x5 x7 (ix2 s k)) * val_main_v10 (F := Ideal) x0 x1 x2 x3 (ix2 s j) := by
  rw [val_main_v66_apply, val_main_v65_apply, val_main_v64_apply, val_main_v63_apply, val_main_v57_apply, val_main_v56_apply, val_main_v55_apply,
    val_main_v18_apply, ref_slope, ref_square x0 x1 x2 x3 s _ rfl]
  rfl

/-- The gradient of the scale: the sum over all rows. -/
theorem ref_sum0 (j : Fin 1024) (z : S1024.Idx) (hz : z = ix1 j) : val_main_v45 (F := Ideal) x0 x1 x2 x3 x4 x5 x7 z
    = ∑ s : Fin 4096, unit (refRow x0 x1 x2 x3 s) j * x4 (ix1 j) * refProd x5 x7 s j := by
  subst hz
  rw [val_main_v45_apply, Fin.sum_univ_one, val_main_v42_apply, val_main_v41_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v41 (idx_main_v42 (idx_main_v45 (ix1 j) 0)) s = ix2 s j := by
    funext a
    fin_cases a
    · rfl
    · refine Fin.ext ?_
      show 0 * 1024 + j.val = j.val
      omega
  rw [e, val_main_v40_apply, val_main_v26_apply, ref_unit, ref_prod, val_main_v25_apply, val_main_v24_apply]
  refine congrArg (fun z => unit (refRow x0 x1 x2 x3 s) j * x4 z * refProd x5 x7 s j) ?_
  funext a
  fin_cases a; rfl

/-- The gradient of the shift: the sum over all rows. -/
theorem ref_sum1 (j : Fin 1024) (z : S1024.Idx) (hz : z = ix1 j) : val_main_v39 (F := Ideal) x5 x7 z
    = ∑ s : Fin 4096, refProd x5 x7 s j := by
  subst hz
  rw [val_main_v39_apply, Fin.sum_univ_one, val_main_v38_apply, val_main_v37_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v37 (idx_main_v38 (idx_main_v39 (ix1 j) 0)) s = ix2 s j := by
    funext a
    fin_cases a
    · rfl
    · refine Fin.ext ?_
      show 0 * 1024 + j.val = j.val
      omega
  rw [e, ref_prod]

/-- The gradient of the norm's weight: the sum over all rows. -/
theorem ref_sum2 (j : Fin 1024) (z : S1024.Idx) (hz : z = ix1 j) : val_main_v51 (F := Ideal) x0 x1 x2 x3 x5 x7 z
    = ∑ s : Fin 4096, unit (refRow x0 x1 x2 x3 s) j * (refProd x5 x7 s j * (Ideal.ofBits .f32 1065353216#32 + x2 (ix2 4 j))) := by
  subst hz
  rw [val_main_v51_apply, Fin.sum_univ_one, val_main_v48_apply, val_main_v47_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v47 (idx_main_v48 (idx_main_v51 (ix1 j) 0)) s = ix2 s j := by
    funext a
    fin_cases a
    · rfl
    · refine Fin.ext ?_
      show 0 * 1024 + j.val = j.val
      omega
  rw [e, val_main_v46_apply, ref_unit, ref_scaled]
  rfl

/-- A reshape that changes nothing. -/
theorem val_main_v67_eq : val_main_v67 (F := Ideal) x0 x1 x2 x3 x4 x5 x6 x7 = val_main_v66 (F := Ideal) x0 x1 x2 x3 x4 x5 x6 x7 :=
  funext fun i => shapeCast_apply _ _ _ _ rfl

/-- The gradient of the gate: the sum over all rows. -/
theorem ref_sum3 (j : Fin 1024) (z : S1024.Idx) (hz : z = ix1 j) : val_main_v73 (F := Ideal) x0 x1 x2 x3 x4 x5 x6 x7 z
    = ∑ s : Fin 4096, val_main_v66 (F := Ideal) x0 x1 x2 x3 x4 x5 x6 x7 (ix2 s j) * val_main_v2 (F := Ideal) x1 x3 (ix2 s j) := by
  subst hz
  rw [val_main_v73_apply, Fin.sum_univ_one, val_main_v72_apply, val_main_v71_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v71 (idx_main_v72 (idx_main_v73 (ix1 j) 0)) s = ix2 s j := by
    funext a
    fin_cases a
    · rfl
    · refine Fin.ext ?_
      show 0 * 1024 + j.val = j.val
      omega
  rw [e, val_main_v70_apply, val_main_v67_eq]
  rfl

/-- The gradient of the mixer's output: the gradient of the row times the gate. -/
theorem ref_gated (s : Fin 4096) (j : Fin 1024) :
    val_main_v75 (F := Ideal) x0 x1 x2 x3 x4 x5 x6 x7 (ix2 s j) = x2 (ix2 2 j) * val_main_v66 (F := Ideal) x0 x1 x2 x3 x4 x5 x6 x7 (ix2 s j) := by
  rw [val_main_v75_apply, val_main_v69_apply, val_main_v67_eq, val_main_v68_apply, val_main_v7_apply, val_main_v1_apply, val_main_v0_apply]
  refine congrArg (fun z => x2 z * val_main_v66 (F := Ideal) x0 x1 x2 x3 x4 x5 x6 x7 (ix2 s j)) ?_
  funext a
  fin_cases a
  · rfl
  · exact Fin.ext (Nat.mod_eq_of_lt j.isLt)

end Cert.Reference5Ideal.Read

end
-- ==== Proof.DMlpUp.Equation.lean ====
/-
  The backward call `d_mlp_up` against `jax.vjp` of `modulated_norm(x + gt1 * mo) @ w_up`: the gradient of the residual row
  and of the mixer's output by the closed form of the norm's derivative, and the sums over the rows that are the gradients
  of the norm's weight, of the modulation and of the gate. The closed form needs finite factors.
-/
module

public import proofs.«01_k».proof.Defs
public import proofs.«01_k».proof.Proof.Norm.Finite
public import proofs.«01_k».proof.Proof.Norm.Arguments
public import proofs.«01_k».proof.Proof.DMlpUp.Arrays
public import proofs.«01_k».proof.Proof.DMlpUp.Reference
public import proofs.«01_k».proof.Proof.Gen.Pre_finite5
public import Idealize.ShloMosaic.Lib.Claim
public import Idealize.ShloMosaic.Lib.Quiescent

@[expose] public section

set_option maxRecDepth 16384
set_option maxHeartbeats 2000000

noncomputable section

namespace Cert.Proof.DMlpUp

open Idealize.ShloMosaic Idealize.ShloMosaic.TcCoe Idealize.SL.Sem
open Cert.Kernel5Ideal Cert.Kernel5Ideal.Gen Cert.Kernel5Ideal.Value
open Cert.Proof.Norm Cert.Reference5Ideal.Read

/-- The weight as the call reads it: four blocks of columns. -/
abbrev blocked (x5 : Vec Ideal S1024x4096 .f32) : Vec Ideal S4x1024x1024 .bf16 :=
  transpose S4x1024x1024 [1, 0, 2] (shapeCast S1024x4x1024 (truncf (F := Ideal) (s := S1024x4096) .bf16 (φ := .f32) x5 bitsLt_bf16_f32)
    shapeCasts_S1024x4096_S1024x4x1024) transposes_S1024x4x1024_S4x1024x1024_1_0_2

/-- The modulation as the call reads it: two rows of zeros below its six. -/
abbrev padded (x2 : Vec Ideal S6x1024 .f32) : Vec Ideal S8x1024 .f32 :=
  concatenate S8x1024 0 [⟨S6x1024, x2⟩, ⟨S2x1024, broadcastInDim S2x1024 ![] bcast_S_S2x1024 (constant (F := Ideal) S_ .f32 0x00000000#32)⟩]
    concatenates_S6x1024_S2x1024_S8x1024_d0

/-- The norm's weight as the call reads it: one row. -/
abbrev asRow (x4 : Vec Ideal S1024 .f32) : Vec Ideal S1x1024 .f32 := shapeCast S1x1024 x4 shapeCasts_S1024_S1x1024

/-- A cotangent or activation as the call reads it. -/
abbrev narrow {s : Shape} (x : Vec Ideal s .f32) : Vec Ideal s .bf16 := truncf (F := Ideal) .bf16 (φ := .f32) x bitsLt_bf16_f32

section Entry

variable (m : (ℓ : Loc nD τ sig) → Buf (Elt Ideal) ℓ)

/-- The cotangent as the call is given it. -/
theorem entry_dup (c : Dev nD) : @Eq (Vec Ideal S4096x4096 .bf16) (V m c main_v13) (narrow (m ((c : Thread nD τ).loc main_arg7))) := by
  simp only [V, List.flatten_cons, List.flatten_nil, List.append_nil, List.cons_append, List.nil_append]
  after_results
  try rfl

/-- The weight as the call is given it. -/
theorem entry_w (c : Dev nD) : @Eq (Vec Ideal S4x1024x1024 .bf16) (V m c main_v12) (blocked (m ((c : Thread nD τ).loc main_arg5))) := by
  simp only [V, List.flatten_cons, List.flatten_nil, List.append_nil, List.cons_append, List.nil_append]
  after_results
  try rfl

/-- The residual row as the call is given it. -/
theorem entry_x (c : Dev nD) : @Eq (Vec Ideal S4096x1024 .f32) (V m c main_v6) (val_main_v10 (F := Ideal) (m ((c : Thread nD τ).loc main_arg0)) (m ((c : Thread nD τ).loc main_arg1)) (m ((c : Thread nD τ).loc main_arg2)) (m ((c : Thread nD τ).loc main_arg3))) := by
  simp only [V, List.flatten_cons, List.flatten_nil, List.append_nil, List.cons_append, List.nil_append]
  after_results
  try rfl

/-- The residual's own cotangent as the call is given it. -/
theorem entry_dx (c : Dev nD) : @Eq (Vec Ideal S4096x1024 .f32) (V m c main_arg6) (m ((c : Thread nD τ).loc main_arg6)) := by
  simp only [V, List.flatten_cons, List.flatten_nil, List.append_nil, List.cons_append, List.nil_append]
  after_results
  try rfl

/-- The modulation as the call is given it. -/
theorem entry_mod (c : Dev nD) : @Eq (Vec Ideal S8x1024 .f32) (V m c main_v8) (padded (m ((c : Thread nD τ).loc main_arg2))) := by
  simp only [V, List.flatten_cons, List.flatten_nil, List.append_nil, List.cons_append, List.nil_append]
  after_results
  try rfl

/-- The norm's weight as the call is given it. -/
theorem entry_g (c : Dev nD) : @Eq (Vec Ideal S1x1024 .f32) (V m c main_v9) (asRow (m ((c : Thread nD τ).loc main_arg4))) := by
  simp only [V, List.flatten_cons, List.flatten_nil, List.append_nil, List.cons_append, List.nil_append]
  after_results
  try rfl

/-- The mixer's output as the call is given it. -/
theorem entry_mo (c : Dev nD) : @Eq (Vec Ideal S4096x1024 .bf16) (V m c main_v14) (narrow (val_main_v2 (F := Ideal) (m ((c : Thread nD τ).loc main_arg1)) (m ((c : Thread nD τ).loc main_arg3)))) := by
  simp only [V, List.flatten_cons, List.flatten_nil, List.append_nil, List.cons_append, List.nil_append]
  after_results
  try rfl

end Entry

section Equation

variable (x0 x1 : Vec Ideal S4096x1024 .f32) (x2 : Vec Ideal S6x1024 .f32) (x3 : Vec Ideal S1024x1024 .f32) (x4 : Vec Ideal S1024 .f32)
  (x5 : Vec Ideal S1024x4096 .f32) (x6 : Vec Ideal S4096x1024 .f32) (x7 : Vec Ideal S4096x4096 .f32)

/-- The product with the four blocks of the transposed weight is the product with the whole of it. -/
theorem prod_eq (s : Fin 4096) : prod (n := 4096) (narrow x7) (blocked x5) s = refProd x5 x7 s :=
  prodRow_blocked (n := 4096) (m := 1024) (N := 4096) rfl x7 x5 _ _ _ _ s

/-- The gradient of the normalised row is the reference's. -/
theorem normGrad_eq (s : Fin 4096) (j : Fin 1024) :
    normGrad 4 (refProd x5 x7 s) (padded x2) (asRow x4) j = val_main_v50 (F := Ideal) x2 x4 x5 x7 (ix2 s j) := by
  rw [ref_normGrad]
  exact congrArg₂ _ (congrArg (fun z => refProd x5 x7 s j * (_ + z)) (padded_apply x2 _ _ 4 j)) (asRow_apply x4 _ j)

/-- The residual before the norm, the row plus the gated output of the mixer, is finite. -/
theorem residual_finite (h0 : ∀ i, Fin' (x0 i)) (h1 : ∀ i, Fin' (x1 i)) (h2 : ∀ j, Fin' (x2 (ix2 2 j))) (h3 : ∀ i, Fin' (x3 i)) (s : Fin 4096) (k : Fin 1024) :
    Fin' (refRow x0 x1 x2 x3 s k) := by
  rw [refRow, val_main_v10_apply, val_main_v9_apply, val_main_v2_apply, val_main_v8_apply, val_main_v7_apply, val_main_v1_apply, val_main_v0_apply]
  refine (h0 _).add (Fin'.mul ?_ (Fin'.sum fun q => (h1 _).mul (h3 _)))
  convert h2 k using 2
  funext a
  fin_cases a
  · rfl
  · exact Fin.ext (Nat.mod_eq_of_lt k.isLt)

/-- The gradient of a residual row is the reference's, on finite factors. -/
theorem gradRow_eq (h0 : ∀ i, Fin' (x0 i)) (h1 : ∀ i, Fin' (x1 i)) (h2 : ∀ j, Fin' (x2 (ix2 2 j))) (h2' : ∀ j, Fin' (x2 (ix2 4 j))) (h3 : ∀ i, Fin' (x3 i)) (h4 : ∀ i, Fin' (x4 i)) (h5 : ∀ i, Fin' (x5 i)) (h7 : ∀ i, Fin' (x7 i)) (s : Fin 4096) (j : Fin 1024) :
    gradRow (n := 4096) (narrow x7) (blocked x5) (val_main_v10 (F := Ideal) x0 x1 x2 x3) x6 (padded x2) (asRow x4) s j = val_main_v66 (F := Ideal) x0 x1 x2 x3 x4 x5 x6 x7 (ix2 s j) := by
  have hp : normGrad 4 (prod (n := 4096) (narrow x7) (blocked x5) s) (padded x2) (asRow x4) = fun k => val_main_v50 (F := Ideal) x2 x4 x5 x7 (ix2 s k) := by
    rw [prod_eq]
    exact funext fun j => normGrad_eq x2 x4 x5 x7 s j
  have hf : ∀ k, Fin' (val_main_v50 (F := Ideal) x2 x4 x5 x7 (ix2 s k)) := fun k => by
    rw [ref_normGrad]
    refine ((Fin'.sum fun q => (h7 _).mul (h5 _)).mul (Fin'.add ?_ (h2' k))).mul (h4 _)
    rw [Ideal.ofBits_one_f32]
    exact Fin'.one
  refine (through_congr rfl rfl hp rfl).trans ((through_eq _ _ _ (residual_finite x0 x1 x2 x3 h0 h1 h2 h3 s) hf j).trans ?_)
  exact (ref_grad x0 x1 x2 x3 x4 x5 x6 x7 s j).symm

/-- The gradient of the residual is the reference's. -/
theorem grad_eq (h0 : ∀ i, Fin' (x0 i)) (h1 : ∀ i, Fin' (x1 i)) (h2 : ∀ j, Fin' (x2 (ix2 2 j))) (h2' : ∀ j, Fin' (x2 (ix2 4 j))) (h3 : ∀ i, Fin' (x3 i)) (h4 : ∀ i, Fin' (x4 i)) (h5 : ∀ i, Fin' (x5 i)) (h7 : ∀ i, Fin' (x7 i)) : gradBlk (n := 4096) (narrow x7) (blocked x5) (val_main_v10 (F := Ideal) x0 x1 x2 x3) x6 (padded x2) (asRow x4) = val_main_v66 (F := Ideal) x0 x1 x2 x3 x4 x5 x6 x7 := by
  funext i
  obtain ⟨s, j, rfl⟩ : ∃ (s : Fin 4096) (j : Fin 1024), i = ix2 s j := ⟨i 0, i 1, by funext a; fin_cases a <;> rfl⟩
  exact gradRow_eq x0 x1 x2 x3 x4 x5 x6 x7 h0 h1 h2 h2' h3 h4 h5 h7 s j

/-- The gradient of the mixer's output is the reference's. -/
theorem gated_eq (h0 : ∀ i, Fin' (x0 i)) (h1 : ∀ i, Fin' (x1 i)) (h2 : ∀ j, Fin' (x2 (ix2 2 j))) (h2' : ∀ j, Fin' (x2 (ix2 4 j))) (h3 : ∀ i, Fin' (x3 i)) (h4 : ∀ i, Fin' (x4 i)) (h5 : ∀ i, Fin' (x5 i)) (h7 : ∀ i, Fin' (x7 i)) : gatedBlk (n := 4096) (narrow x7) (blocked x5) (val_main_v10 (F := Ideal) x0 x1 x2 x3) x6 (padded x2) (asRow x4) = val_main_v75 (F := Ideal) x0 x1 x2 x3 x4 x5 x6 x7 := by
  funext i
  obtain ⟨s, j, rfl⟩ : ∃ (s : Fin 4096) (j : Fin 1024), i = ix2 s j := ⟨i 0, i 1, by funext a; fin_cases a <;> rfl⟩
  refine Eq.trans ?_ (ref_gated x0 x1 x2 x3 x4 x5 x6 x7 s j).symm
  refine (congrArg₂ (fun a b : EReal => a * b) (gradRow_eq x0 x1 x2 x3 x4 x5 x6 x7 h0 h1 h2 h2' h3 h4 h5 h7 s j) (padded_apply x2 _ _ 2 j)).trans (mul_comm _ _)

/-- The sums over the rows are the reference's. -/
theorem sums_eq (h0 : ∀ i, Fin' (x0 i)) (h1 : ∀ i, Fin' (x1 i)) (h2 : ∀ j, Fin' (x2 (ix2 2 j))) (h2' : ∀ j, Fin' (x2 (ix2 4 j))) (h3 : ∀ i, Fin' (x3 i)) (h4 : ∀ i, Fin' (x4 i)) (h5 : ∀ i, Fin' (x5 i)) (h7 : ∀ i, Fin' (x7 i)) : (fun y : S8x1024.Idx => ∑ s : Fin 4096,
      term (n := 4096) (narrow x7) (blocked x5) (val_main_v10 (F := Ideal) x0 x1 x2 x3) x6 (padded x2) (asRow x4) (narrow (val_main_v2 (F := Ideal) x1 x3)) (y 0).val s (y 1)) = val_main_v84 (F := Ideal) x0 x1 x2 x3 x4 x5 x6 x7 := by
  funext y
  refine Eq.symm ?_
  refine stack_apply _ _ _ _ _ _ _ _ _ y _ (fun h => ?_) (fun h => ?_) (fun h => ?_) (fun h => ?_) (fun h => ?_) (fun h => ?_) (fun h => ?_) (fun h => ?_)
  · rw [val_main_v76_apply, ref_sum0 x0 x1 x2 x3 x4 x5 x7 (y 1) _ (by funext a; fin_cases a; rfl)]
    refine Finset.sum_congr rfl fun s _ => ?_
    rw [h, term_norm _ _ _ _ _ _ _ _ (by decide), prod_eq]
    exact (mul_comm _ _).trans (congrArg (fun z => refProd x5 x7 s (y 1) * (unit _ (y 1) * z)) (asRow_apply x4 _ (y 1)).symm)
  · rw [val_main_v77_apply, ref_sum1 x5 x7 (y 1) _ (by funext a; fin_cases a; rfl)]
    refine Finset.sum_congr rfl fun s _ => ?_
    rw [h, term_norm _ _ _ _ _ _ _ _ (by decide), prod_eq]
    rfl
  · rw [val_main_v78_apply, ref_sum2 x0 x1 x2 x3 x5 x7 (y 1) _ (by funext a; fin_cases a; rfl)]
    refine Finset.sum_congr rfl fun s _ => ?_
    rw [h, term_norm _ _ _ _ _ _ _ _ (by decide), prod_eq]
    refine (mul_comm _ _).trans (congrArg (fun z => refProd x5 x7 s (y 1) * (_ + z) * _) (padded_apply x2 _ _ 4 (y 1)).symm)
  · rw [val_main_v79_apply, ref_sum3 x0 x1 x2 x3 x4 x5 x6 x7 (y 1) _ (by funext a; fin_cases a; rfl)]
    refine Finset.sum_congr rfl fun s _ => ?_
    rw [h, term_gate]
    exact congrArg (fun z : EReal => z * val_main_v2 (F := Ideal) x1 x3 (ix2 s (y 1))) (gradRow_eq x0 x1 x2 x3 x4 x5 x6 x7 h0 h1 h2 h2' h3 h4 h5 h7 s (y 1)).symm
  all_goals
    refine Ideal.ofBits_zero_f32.trans (Finset.sum_eq_zero fun s _ => ?_).symm
    rw [h, term_norm _ _ _ _ _ _ _ _ (by decide)]
    rfl

/-- What the precondition says of the arguments. -/
theorem finite_of_pre (h : ∀ j, Cert.Pre_finite5.fn (F := Ideal) x0 x1 x2 x3 x4 x5 x6 x7 j = 1#1) :
    (∀ i, Fin' (x0 i)) ∧ (∀ i, Fin' (x1 i)) ∧ (∀ j, Fin' (x2 (ix2 2 j))) ∧ (∀ j, Fin' (x2 (ix2 4 j))) ∧ (∀ i, Fin' (x3 i)) ∧ (∀ i, Fin' (x4 i))
      ∧ (∀ i, Fin' (x5 i)) ∧ (∀ i, Fin' (x7 i)) := by
  haveI : Subsingleton (⟨0, ![]⟩ : Shape).Idx := ⟨fun a b => funext fun i => i.elim0⟩
  have h := h fun i => i.elim0
  obtain ⟨h, h7⟩ := both_of_andi h
  obtain ⟨h, h5⟩ := both_of_andi h
  obtain ⟨h, h4⟩ := both_of_andi h
  obtain ⟨h, h3⟩ := both_of_andi h
  obtain ⟨h, h2'⟩ := both_of_andi h
  obtain ⟨h, h2⟩ := both_of_andi h
  obtain ⟨h0, h1⟩ := both_of_andi h
  refine ⟨finite_of_all x0 _ _ _ _ _ h0, finite_of_all x1 _ _ _ _ _ h1, fun j => ?_, fun j => ?_, finite_of_all x3 _ _ _ _ _ h3,
    finite_of_all x4 _ _ _ _ _ h4, finite_of_all x5 _ _ _ _ _ h5, finite_of_all x7 _ _ _ _ _ h7⟩
  · rw [← modRow_apply 2 x2 Cert.Pre_finite5.Facts.slices_S6x1024_S1x1024_2_0 Cert.Pre_finite5.Facts.shapeCasts_S1x1024_S1024 j]
    exact finite_of_all _ _ _ _ _ _ h2 (ix1 j)
  · rw [← modRow_apply 4 x2 Cert.Pre_finite5.Facts.slices_S6x1024_S1x1024_4_0 Cert.Pre_finite5.Facts.shapeCasts_S1x1024_S1024 j]
    exact finite_of_all _ _ _ _ _ _ h2' (ix1 j)

end Equation

variable (m : (ℓ : Loc nD τ sig) → Buf (Elt Ideal) ℓ)

/-- The gradient of the residual that the kernel leaves is the reference's. -/
theorem value_grad (hpre : Cert.Pre_Kernel5Ideal_finite5 m) (c : Dev nD) : (dats m 0 c).arrAt 7 cfg0.N
    = val_main_v66 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  obtain ⟨h0, h1, h2, h2', h3, h4, h5, h7⟩ := finite_of_pre _ _ _ _ _ _ _ _ (fun j => congrFun (hpre c) j)
  rw [final7, entry_dup, entry_w, entry_x, entry_dx, entry_mod, entry_g]
  exact grad_eq _ _ _ _ _ _ _ _ h0 h1 h2 h2' h3 h4 h5 h7

/-- The gradient of the mixer's output that the kernel leaves is the reference's. -/
theorem value_gated (hpre : Cert.Pre_Kernel5Ideal_finite5 m) (c : Dev nD) : (dats m 0 c).arrAt 8 cfg0.N
    = val_main_v75 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  obtain ⟨h0, h1, h2, h2', h3, h4, h5, h7⟩ := finite_of_pre _ _ _ _ _ _ _ _ (fun j => congrFun (hpre c) j)
  rw [final8, entry_dup, entry_w, entry_x, entry_dx, entry_mod, entry_g]
  exact gated_eq _ _ _ _ _ _ _ _ h0 h1 h2 h2' h3 h4 h5 h7

/-- The sums that the kernel leaves are the reference's. -/
theorem value_sums (hpre : Cert.Pre_Kernel5Ideal_finite5 m) (c : Dev nD) : (dats m 0 c).arrAt 9 cfg0.N
    = val_main_v84 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  obtain ⟨h0, h1, h2, h2', h3, h4, h5, h7⟩ := finite_of_pre _ _ _ _ _ _ _ _ (fun j => congrFun (hpre c) j)
  rw [final9, entry_dup, entry_w, entry_x, entry_dx, entry_mod, entry_g, entry_mo]
  exact sums_eq _ _ _ _ _ _ _ _ h0 h1 h2 h2' h3 h4 h5 h7

/-- The reference's frame: it is straight-line host code. -/
theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- Both programs leave the same gradients on finite arguments. -/
theorem algebraic : Cert.algebraic_Kernel5Ideal_Reference5Ideal_pre_finite5 := by
  intro m ρ m' ρ' hpre hagree
  refine ⟨fun c => (dats m 0 c).arrAt 7 cfg0.N, fun c => (dats m 0 c).arrAt 8 cfg0.N, fun c => (dats m 0 c).arrAt 9 cfg0.N, run_blocks m ρ, ?_⟩
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' ρ')
  all_goals obtain ⟨h0, h1, h2, h3, h4, h5, h6, h7⟩ := hagree c
  · rw [Cert.Reference5Ideal.Read.val_main_v66_eq, h0, h1, h2, h3, h4, h5, h6, h7]; exact (value_grad m hpre c).symm
  · rw [Cert.Reference5Ideal.Read.val_main_v75_eq, h0, h1, h2, h3, h4, h5, h6, h7]; exact (value_gated m hpre c).symm
  · rw [Cert.Reference5Ideal.Read.val_main_v84_eq, h0, h1, h2, h3, h4, h5, h6, h7]; exact (value_sums m hpre c).symm

end Cert.Proof.DMlpUp

end
-- ==== Proof.LossHead.Block.lean ====
/-
  The call `mlp_down` with the loss head: the product `ff · w_down` gives the MLP's output, the gated sum with the residual
  goes through the final rms norm, and the squared error against the target gives the loss; on the same rows the call makes
  the gradient of the residual, that gradient times the gate, and three sums over all rows. This module reads what one grid
  point of 512 rows leaves in its blocks; the body treats its rows in two halves of 256.
-/
module

public import proofs.«01_k».proof.Proof.Gen.Kernel4Ideal.Value
public import proofs.«01_k».proof.Proof.Norm.Backward
public import Idealize.ShloMosaic.Lib.Pipeline.ValueKit.Point
public import Idealize.ShloMosaic.Lib.Pipeline.ReadBack
public import Idealize.ShloMosaic.Lib.WritesUnit
public import Idealize.ShloMosaic.Lib.Tactic

@[expose] public section

set_option maxRecDepth 16384
set_option maxHeartbeats 2000000

noncomputable section

namespace Cert.Kernel4Ideal.Value
open Cert.Kernel4Ideal Cert.Kernel4Ideal.Gen Idealize.ShloMosaic Idealize.ShloMosaic.TcCoe Idealize.SL.Sem
open Idealize.ShloMosaic.Pipeline (Dat)
open Cert.Proof.Norm

/-- The product of one half. -/
theorem pay4_apply (v3 v8 v14 v20 : Vec Ideal S256x1024 .bf16) (v5 v10 v16 v22 : Vec Ideal S1x1024x1024 .bf16) (x : S256x1024.Idx) :
    k0_pay4 v3 v5 v8 v10 v14 v16 v20 v22 x = ∑ k : Fin 1024, v3 (ix2 (x 0) k) * v5 (ix3 0 k (x 1)) + ∑ k : Fin 1024, v8 (ix2 (x 0) k) * v10 (ix3 0 k (x 1))
      + ∑ k : Fin 1024, v14 (ix2 (x 0) k) * v16 (ix3 0 k (x 1)) + ∑ k : Fin 1024, v20 (ix2 (x 0) k) * v22 (ix3 0 k (x 1)) := by
  idx_vars x
  pointwise [k0_pay4]

/-- The residual with the gated product added. -/
theorem pay7_apply (v25 v49 : Vec Ideal S256x1024 .f32) (v50 : Vec Ideal S1x1024 .f32) (x : S256x1024.Idx) :
    k0_pay7 v25 v49 v50 x = v49 x + v50 (ix2 0 (x 1)) * v25 x := by
  idx_vars x
  pointwise [k0_pay7]

section Norm

variable (v25 v49 : Vec Ideal S256x1024 .f32) (v50 : Vec Ideal S1x1024 .f32)

/-- The reciprocal root of a row's mean square. -/
theorem pay10_apply (x : S256x1.Idx) : k0_pay10 (k0_pay8 v25 v49 v50) k0_pay9 x = Cert.Proof.Norm.inv fun k => k0_pay7 v25 v49 v50 (ix2 (x 0) k) := by
  idx_vars x
  pointwise [k0_pay10, k0_pay8, k0_pay9]
  rfl

/-- The normalised row. -/
theorem pay11_apply (x : S256x1024.Idx) : k0_pay11 (k0_pay7 v25 v49 v50) (k0_pay8 v25 v49 v50) k0_pay9 x = unit (fun k => k0_pay7 v25 v49 v50 (ix2 (x 0) k)) (x 1) := by
  idx_vars x
  pointwise [k0_pay11]
  rw [pay10_apply]
  rfl

end Norm

section Head

variable (v54 v69 : Vec Ideal S256x1024 .f32) (v59 v60 : Vec Ideal S256x1 .f32) (v65 v73 v88 p : Vec Ideal S1x1024 .f32)

/-- The error. -/
theorem pay12_apply (x : S256x1024.Idx) : k0_pay12 v54 v59 v60 v65 v69 x = k0_pay11 v54 v59 v60 x * v65 (ix2 0 (x 1)) - v69 x := by
  idx_vars x
  pointwise [k0_pay12]

/-- The gradient of the normalised row times the weight: the error over the width. -/
theorem pay13_apply (x : S256x1024.Idx) : k0_pay13 v54 v59 v60 v65 v69 x = Ideal.div (k0_pay12 v54 v59 v60 v65 v69 x) width := by
  idx_vars x
  pointwise [k0_pay13]

/-- The gradient of the row. -/
theorem pay14_apply (x : S256x1024.Idx) : k0_pay14 v54 v59 v60 v65 v69 v73 x
    = k0_pay10 v59 v60 (ix2 (x 0) 0) * (k0_pay13 v54 v59 v60 v65 v69 x * v73 (ix2 0 (x 1)) - k0_pay11 v54 v59 v60 x
      * Ideal.div (∑ k : Fin 1024, k0_pay13 (F := Ideal) v54 v59 v60 v65 v69 (ix2 (x 0) k) * v73 (ix2 0 k) * k0_pay11 (F := Ideal) v54 v59 v60 (ix2 (x 0) k)) width) := by
  idx_vars x
  pointwise [k0_pay14]

/-- The gradient of the row times the gate. -/
theorem pay15_apply (x : S256x1024.Idx) : k0_pay15 v54 v59 v60 v65 v69 v73 v88 x = k0_pay14 v54 v59 v60 v65 v69 v73 x * v88 (ix2 0 (x 1)) := by
  idx_vars x
  pointwise [k0_pay15]

/-- A half's term of the first sum. -/
theorem pay16_apply (x : S1x1024.Idx) : k0_pay16 v54 v59 v60 v65 v69 p x
    = p x + ∑ s : Fin 256, k0_pay13 (F := Ideal) v54 v59 v60 v65 v69 (ix2 s (x 1)) * k0_pay11 (F := Ideal) v54 v59 v60 (ix2 s (x 1)) := by
  idx_vars x
  pointwise [k0_pay16]

/-- A half's term of the second sum. -/
theorem pay17_apply (v25 v86 : Vec Ideal S256x1024 .f32) (x : S1x1024.Idx) : k0_pay17 v25 v86 p x = p x + ∑ s : Fin 256, v86 (ix2 s (x 1)) * v25 (ix2 s (x 1)) := by
  idx_vars x
  pointwise [k0_pay17]

/-- A half's term of the third sum. -/
theorem pay18_apply (v70 : Vec Ideal S256x1024 .f32) (x : S1x1024.Idx) :
    k0_pay18 v70 p x = p x + ∑ s : Fin 256, v70 (ix2 s (x 1)) * v70 (ix2 s (x 1)) * Ideal.ofBits .f32 0x3A000000#32 := by
  idx_vars x
  pointwise [k0_pay18]

end Head

section Second

variable (d v t : Vec Ideal S256x1024 .f32) (q g g' p : Vec Ideal S1x1024 .f32)

/-! The second half computes the same functions, cut at other places. -/

/-- The second half's product. -/
theorem second_prod (v3 v8 v14 v20 : Vec Ideal S256x1024 .bf16) (v5 v10 v16 v22 : Vec Ideal S1x1024x1024 .bf16) :
    k0_pay6 (k0_pay5 v3) v5 v8 v10 v14 v16 v20 v22 = k0_pay4 v3 v5 v8 v10 v14 v16 v20 v22 := rfl

/-- The second half's gradient of the row. -/
theorem second_grad : k0_pay25 (k0_pay20 d v q) (k0_pay21 d v q) (k0_pay22 g) t g' = k0_pay14 (k0_pay7 d v q) (k0_pay8 d v q) k0_pay9 g t g' := rfl

/-- The second half's gradient of the row times the gate. -/
theorem second_gated : k0_pay26 (k0_pay20 d v q) (k0_pay21 d v q) (k0_pay22 g) t g' p = k0_pay15 (k0_pay7 d v q) (k0_pay8 d v q) k0_pay9 g t g' p := rfl

/-- The second half's first sum. -/
theorem second_sum0 : k0_pay27 (k0_pay21 d v q) (k0_pay22 g) t p = k0_pay16 (k0_pay7 d v q) (k0_pay8 d v q) k0_pay9 g t p := rfl

/-- The second half's second sum. -/
theorem second_sum1 : k0_pay1 (k0_pay28 d (k0_pay20 d v q) (k0_pay21 d v q) (k0_pay22 g) t g') (k0_pay29 p)
    = k0_pay17 d (k0_pay14 (k0_pay7 d v q) (k0_pay8 d v q) k0_pay9 g t g') p := rfl

/-- The second half's third sum. -/
theorem second_sum2 : k0_pay2 (k0_pay23 (k0_pay21 d v q) (k0_pay22 g) t) p = k0_pay18 (k0_pay12 (k0_pay7 d v q) (k0_pay8 d v q) k0_pay9 g t) p := rfl

end Second

section Any

variable {n : ℕ} (x0 : Vec Ideal (⟨2, ![n, 4096]⟩ : Shape) .bf16) (x1 : Vec Ideal S4x1024x1024 .bf16) (x2 : Rows n) (x3 : Rows 8) (x4 : Rows 1) (x5 : Rows n)

/-- Row `s` of the product, the weight in four blocks of rows. -/
def prod (s : Fin n) : Row := fun j => ∑ b : Fin 4, ∑ k : Fin 1024, x0 (ix2 s ⟨1024 * b.val + k.val, by omega⟩) * x1 (ix3 b k j)

/-- Row `s` of the residual with the gated product added. -/
def resid (s : Fin n) : Row := fun j => x2 (ix2 s j) + x3 (ix2 5 j) * prod x0 x1 s j

/-- The error of row `s`. -/
def err (s : Fin n) : Row := fun j => unit (resid x0 x1 x2 x3 s) j * x4 (ix2 0 j) - x5 (ix2 s j)

/-- The gradient of row `s` of the norm's result. -/
def errGrad (s : Fin n) : Row := fun j => Ideal.div (err x0 x1 x2 x3 x4 x5 s j) width

/-- The gradient of row `s` of the residual. -/
def gradRow (s : Fin n) : Row := fun j =>
  Cert.Proof.Norm.inv (resid x0 x1 x2 x3 s) * (errGrad x0 x1 x2 x3 x4 x5 s j * x4 (ix2 0 j) - unit (resid x0 x1 x2 x3 s) j
    * Ideal.div (∑ k : Fin 1024, errGrad x0 x1 x2 x3 x4 x5 s k * x4 (ix2 0 k) * unit (resid x0 x1 x2 x3 s) k) width)

/-- The gradient's block. -/
def gradBlk : Rows n := fun y => gradRow x0 x1 x2 x3 x4 x5 (y 0) (y 1)

/-- The gradient's block times the gate. -/
def gatedBlk : Rows n .bf16 := fun y => gradRow x0 x1 x2 x3 x4 x5 (y 0) (y 1) * x3 (ix2 5 (y 1))

/-- What row `s` adds to row `r` of the sums. -/
def term (r : ℕ) (s : Fin n) : Row := fun j =>
  match r with
  | 0 => errGrad x0 x1 x2 x3 x4 x5 s j * unit (resid x0 x1 x2 x3 s) j
  | 1 => gradRow x0 x1 x2 x3 x4 x5 s j * prod x0 x1 s j
  | 2 => err x0 x1 x2 x3 x4 x5 s j * err x0 x1 x2 x3 x4 x5 s j * Ideal.ofBits .f32 0x3A000000#32
  | _ => 0

end Any

section Half

variable (o : ℕ) (ho : o + 256 ≤ 512) (x0 : Vec Ideal S512x4096 .bf16) (x1 : Vec Ideal S4x1024x1024 .bf16) (x2 : Vec Ideal S512x1024 .f32) (x3 : Vec Ideal S8x1024 .f32) (x4 : Vec Ideal S1x1024 .f32) (x5 : Vec Ideal S512x1024 .f32)

/-- The product of one half of the rows, read at an index. -/
theorem half_prod (h0 h1 h2 h3 g0 g1 g2 g3) (x : S256x1024.Idx) :
    k0_pay4 (View.ld x0 (Rect.unit ![o, 0] ![256, 1024] h0)) (View.ld x1 (Rect.unit ![0, 0, 0] ![1, 1024, 1024] g0))
      (View.ld x0 (Rect.unit ![o, 1024] ![256, 1024] h1)) (View.ld x1 (Rect.unit ![1, 0, 0] ![1, 1024, 1024] g1))
      (View.ld x0 (Rect.unit ![o, 2048] ![256, 1024] h2)) (View.ld x1 (Rect.unit ![2, 0, 0] ![1, 1024, 1024] g2))
      (View.ld x0 (Rect.unit ![o, 3072] ![256, 1024] h3)) (View.ld x1 (Rect.unit ![3, 0, 0] ![1, 1024, 1024] g3)) x
      = prod x0 x1 (rowAt o ho (x 0)) (x 1) := by
  refine (pay4_apply _ _ _ _ _ _ _ _ x).trans ?_
  unfold prod
  rw [Fin.sum_univ_four]
  refine congrArg₂ _ (congrArg₂ _ (congrArg₂ _ ?_ ?_) ?_) ?_
  all_goals
    refine Finset.sum_congr rfl fun k _ => congrArg₂ _ (View.ld_unit_apply_of _ _ _ _ _ _ fun a => ?_) (View.ld_unit_apply_of _ _ _ _ _ _ fun a => ?_)
  all_goals fin_cases a
  all_goals simp [ix2_0, ix2_1, ix3_0, ix3_1, ix3_2]
  all_goals omega

variable (d : Vec Ideal S256x1024 .f32) (hd : ∀ x : S256x1024.Idx, d x = prod x0 x1 (rowAt o ho (x 0)) (x 1))

include hd

/-- The residual of one half. -/
theorem half_resid (h2 h3) (s : Fin 256) : (fun k => k0_pay7 d (View.ld x2 (Rect.unit ![o, 0] ![256, 1024] h2)) (View.ld x3 (Rect.unit ![5, 0] ![1, 1024] h3)) (ix2 s k)) = resid x0 x1 x2 x3 (rowAt o ho s) := by
  funext k
  rw [pay7_apply]
  exact congrArg₂ _ (half_row o ho x2 h2 s k) (congrArg₂ _ (ld_row 5 (by omega) x3 h3 k) (hd _))

/-- The normalised row of one half. -/
theorem half_unit (h2 h3) (x : S256x1024.Idx) : k0_pay11 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 x = unit (resid x0 x1 x2 x3 (rowAt o ho (x 0))) (x 1) := by
  rw [pay11_apply]
  exact congrArg (unit · (x 1)) (half_resid o ho x0 x1 x2 x3 d hd h2 h3 (x 0))

/-- The error of one half. -/
theorem half_err (h2 h3 h4 h5) (x : S256x1024.Idx) : k0_pay12 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) x = err x0 x1 x2 x3 x4 x5 (rowAt o ho (x 0)) (x 1) := by
  rw [pay12_apply]
  exact congrArg₂ _ (congrArg₂ _ (half_unit o ho x0 x1 x2 x3 d hd h2 h3 x) (ld_one x4 h4 (x 1))) ((congrArg _ (eq_ix2 x)).trans (half_row o ho x5 h5 (x 0) (x 1)))

/-- The gradient of one half's rows of the norm's result. -/
theorem half_errGrad (h2 h3 h4 h5) (x : S256x1024.Idx) : k0_pay13 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) x = errGrad x0 x1 x2 x3 x4 x5 (rowAt o ho (x 0)) (x 1) := by
  rw [pay13_apply]
  exact congrArg (Ideal.div · width) (half_err o ho x0 x1 x2 x3 x4 x5 d hd h2 h3 h4 h5 x)

/-- The gradient of one half's rows of the residual. -/
theorem half_grad (h2 h3 h4 h5) (x : S256x1024.Idx) : k0_pay14 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) (View.ld x4 (Rect.unit ![0, 0] ![1, 1024] h4)) x = gradRow x0 x1 x2 x3 x4 x5 (rowAt o ho (x 0)) (x 1) := by
  rw [pay14_apply]
  refine congrArg₂ _ ?_ (congrArg₂ _ (congrArg₂ _ ?_ ?_) (congrArg₂ _ ?_ (congrArg (Ideal.div · width) (Finset.sum_congr rfl fun k _ => congrArg₂ _ (congrArg₂ _ ?_ ?_) ?_))))
  · rw [pay10_apply]
    exact congrArg Cert.Proof.Norm.inv (half_resid o ho x0 x1 x2 x3 d hd h2 h3 (x 0))
  · exact half_errGrad o ho x0 x1 x2 x3 x4 x5 d hd h2 h3 h4 h5 x
  · exact ld_one x4 h4 (x 1)
  · exact half_unit o ho x0 x1 x2 x3 d hd h2 h3 x
  · exact half_errGrad o ho x0 x1 x2 x3 x4 x5 d hd h2 h3 h4 h5 (ix2 (n0 := 256) (x 0) k)
  · exact ld_one x4 h4 k
  · exact half_unit o ho x0 x1 x2 x3 d hd h2 h3 (ix2 (n0 := 256) (x 0) k)

/-- The gradient of one half's rows of the residual, times the gate. -/
theorem half_gated (h2 h3 h4 h5) (x : S256x1024.Idx) :
    k0_pay15 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) (View.ld x4 (Rect.unit ![0, 0] ![1, 1024] h4)) (View.ld x3 (Rect.unit ![5, 0] ![1, 1024] h3)) x = gradRow x0 x1 x2 x3 x4 x5 (rowAt o ho (x 0)) (x 1) * x3 (ix2 5 (x 1)) := by
  rw [pay15_apply]
  exact congrArg₂ _ (half_grad o ho x0 x1 x2 x3 x4 x5 d hd h2 h3 h4 h5 x) (ld_row 5 (by omega) x3 h3 (x 1))

/-- What one half adds to the first sum. -/
theorem half_sum0 (h2 h3 h4 h5) (prev : Vec Ideal S1x1024 .f32) (x : S1x1024.Idx) :
    k0_pay16 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) prev x = prev x + ∑ s : Fin 256, term x0 x1 x2 x3 x4 x5 0 (rowAt o ho s) (x 1) := by
  rw [pay16_apply]
  refine congrArg _ (Finset.sum_congr rfl fun s _ => ?_)
  exact congrArg₂ _ (half_errGrad o ho x0 x1 x2 x3 x4 x5 d hd h2 h3 h4 h5 (ix2 s (x 1))) (half_unit o ho x0 x1 x2 x3 d hd h2 h3 (ix2 s (x 1)))

/-- What one half adds to the second sum. -/
theorem half_sum1 (h2 h3 h4 h5) (prev : Vec Ideal S1x1024 .f32) (x : S1x1024.Idx) :
    k0_pay17 d (k0_pay14 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5)) (View.ld x4 (Rect.unit ![0, 0] ![1, 1024] h4))) prev x = prev x + ∑ s : Fin 256, term x0 x1 x2 x3 x4 x5 1 (rowAt o ho s) (x 1) := by
  rw [pay17_apply]
  exact congrArg _ (Finset.sum_congr rfl fun s _ => congrArg₂ _ (half_grad o ho x0 x1 x2 x3 x4 x5 d hd h2 h3 h4 h5 (ix2 s (x 1))) (hd _))

/-- What one half adds to the third sum. -/
theorem half_sum2 (h2 h3 h4 h5) (prev : Vec Ideal S1x1024 .f32) (x : S1x1024.Idx) :
    k0_pay18 (k0_pay12 (k0_pay7 d (View.ld x2 (Rect.unit ![o, 0] ![256, 1024] h2)) (View.ld x3 (Rect.unit ![5, 0] ![1, 1024] h3))) (k0_pay8 d (View.ld x2 (Rect.unit ![o, 0] ![256, 1024] h2)) (View.ld x3 (Rect.unit ![5, 0] ![1, 1024] h3))) k0_pay9 (View.ld x4 (Rect.unit ![0, 0] ![1, 1024] h4)) (View.ld x5 (Rect.unit ![o, 0] ![256, 1024] h5))) prev x = prev x + ∑ s : Fin 256, term x0 x1 x2 x3 x4 x5 2 (rowAt o ho s) (x 1) := by
  rw [pay18_apply]
  have he := fun s => half_err o ho x0 x1 x2 x3 x4 x5 d hd h2 h3 h4 h5 (ix2 s (x 1))
  exact congrArg _ (Finset.sum_congr rfl fun s _ => congrArg₂ _ (congrArg₂ _ (he s) (he s)) rfl)

end Half

section Point

variable (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole)
  (x0 : Vec Ideal S512x4096 .bf16) (x1 : Vec Ideal S4x1024x1024 .bf16) (x2 : Vec Ideal S512x1024 .f32) (x3 : Vec Ideal S8x1024 .f32) (x4 : Vec Ideal S1x1024 .f32) (x5 : Vec Ideal S512x1024 .f32)

include harg1 harg2 harg3 harg4 harg5 harg6 harg7 harg8 harg9

/-- The first point's stores leave the gradient's block. -/
theorem out6A_eq (hc0 : cond0_0 i) : out0_A_6 c i arg1 harg1 arg2 harg2 arg3 harg3 arg4 harg4 arg5 harg5 arg6 harg6 arg7 harg7 arg8 harg8 arg9 harg9 hc0 x0 x1 x2 x3 x4 x5 = gradBlk x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, second_prod, second_grad, second_gated, second_sum0, second_sum1, second_sum2]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- The later points' stores leave the gradient's block. -/
theorem out6B_eq (hc0 : ¬cond0_0 i) (x8 : Vec Ideal S8x1024 .f32) : out0_B_6 c i arg1 harg1 arg2 harg2 arg3 harg3 arg4 harg4 arg5 harg5 arg6 harg6 arg7 harg7 arg8 harg8 arg9 harg9 hc0 x0 x1 x2 x3 x4 x5 x8 = gradBlk x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  simp only [View.readAt_eq_ld, harg1.read_unread, harg2.read_unread, harg3.read_unread, harg4.read_unread, harg5.read_unread, harg6.read_unread, second_prod, second_grad, second_gated, second_sum0, second_sum1, second_sum2]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- The first point's stores leave the gated gradient's block. -/
theorem out7A_eq (hc0 : cond0_0 i) : out0_A_7 c i arg1 harg1 arg2 harg2 arg3 harg3 arg4 harg4 arg5 harg5 arg6 harg6 arg7 harg7 arg8 harg8 arg9 harg9 hc0 x0 x1 x2 x3 x4 x5 = gatedBlk x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, second_prod, second_grad, second_gated, second_sum0, second_sum1, second_sum2]
  funext y
  canon_tiles x h using View.cover_of_tiled_head _ _ _ (by rfl) y
  · rw [idx_of y (rowAt 256 (by omega) (x 0)) (x 1) (by simp [h0]) h1]
    exact half_gated 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_gated 0 (by omega) x0 x1 x2 x3 x4 x5 _ (half_prod 0 (by omega) x0 x1 _ _ _ _ _ _ _ _) _ _ _ _ x

/-- The later points' stores leave the gated gradient's block. -/
theorem out7B_eq (hc0 : ¬cond0_0 i) (x8 : Vec Ideal S8x1024 .f32) : out0_B_7 c i arg1 harg1 arg2 harg2 arg3 harg3 arg4 harg4 arg5 harg5 arg6 harg6 arg7 harg7 arg8 harg8 arg9 harg9 hc0 x0 x1 x2 x3 x4 x5 x8 = gatedBlk x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x8)]
  unfold kernelRun0_B
  dsimp only
  sl_unfold_words
  simp only [View.readAt_eq_ld, harg1.read_unread, harg2.read_unread, harg3.read_unread, harg4.read_unread, harg5.read_unread, harg6.read_unread, second_prod, second_grad, second_gated, second_sum0, second_sum1, second_sum2]
  funext y
  canon_tiles x h using View.cover_of_tiled_head _ _ _ (by rfl) y
  · rw [idx_of y (rowAt 256 (by omega) (x 0)) (x 1) (by simp [h0]) h1]
    exact half_gated 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_gated 0 (by omega) x0 x1 x2 x3 x4 x5 _ (half_prod 0 (by omega) x0 x1 _ _ _ _ _ _ _ _) _ _ _ _ x

/-- A later point's stores into the sums leave what was there, and what the point's rows add. -/
theorem out8B_eq (hc0 : ¬cond0_0 i) (x8 : Vec Ideal S8x1024 .f32) : out0_B_8 c i arg1 harg1 arg2 harg2 arg3 harg3 arg4 harg4 arg5 harg5 arg6 harg6 arg7 harg7 arg8 harg8 arg9 harg9 hc0 x0 x1 x2 x3 x4 x5 x8 = addRows (term x0 x1 x2 x3 x4 x5) x8 := by
  unfold out0_B_8
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg9.read_unread, second_prod, second_grad, second_gated, second_sum0, second_sum1, second_sum2]
  funext y
  refine read_row _ _ 2 _ _ _ y (fun h => addRows_two (term x0 x1 x2 x3 x4 x5) 2 (by omega) (half_sum2 0 (by omega) x0 x1 x2 x3 x4 x5 _ (half_prod 0 (by omega) x0 x1 _ _ _ _ _ _ _ _) _ _ _ _) (half_sum2 256 (by omega) x0 x1 x2 x3 x4 x5 _ (half_prod 256 (by omega) x0 x1 _ _ _ _ _ _ _ _) _ _ _ _) x8 y h _) fun n2 => ?_
  refine read_row _ _ 1 _ _ _ y (fun h => addRows_two (term x0 x1 x2 x3 x4 x5) 1 (by omega) (half_sum1 0 (by omega) x0 x1 x2 x3 x4 x5 _ (half_prod 0 (by omega) x0 x1 _ _ _ _ _ _ _ _) _ _ _ _) (half_sum1 256 (by omega) x0 x1 x2 x3 x4 x5 _ (half_prod 256 (by omega) x0 x1 _ _ _ _ _ _ _ _) _ _ _ _) x8 y h _) fun n1 => ?_
  refine read_row _ _ 0 _ _ _ y (fun h => addRows_two (term x0 x1 x2 x3 x4 x5) 0 (by omega) (half_sum0 0 (by omega) x0 x1 x2 x3 x4 x5 _ (half_prod 0 (by omega) x0 x1 _ _ _ _ _ _ _ _) _ _ _ _) (half_sum0 256 (by omega) x0 x1 x2 x3 x4 x5 _ (half_prod 256 (by omega) x0 x1 _ _ _ _ _ _ _ _) _ _ _ _) x8 y h _) fun n0 => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  exact (congrFun (harg9.read_unread x8) y).trans (addRows_kept (term x0 x1 x2 x3 x4 x5) x8 y fun s j => by simp [term, n0, n1, n2])

/-- The first point's stores into the sums leave what the point's rows add to zeros. -/
theorem out8A_eq (hc0 : cond0_0 i) : out0_A_8 c i arg1 harg1 arg2 harg2 arg3 harg3 arg4 harg4 arg5 harg5 arg6 harg6 arg7 harg7 arg8 harg8 arg9 harg9 hc0 x0 x1 x2 x3 x4 x5 = addRows (term x0 x1 x2 x3 x4 x5) (k0_pay3 (F := Ideal)) := by
  unfold out0_A_8
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg4.read_unread, harg5.read_unread, harg6.read_unread, harg9.read_unread, second_prod, second_grad, second_gated, second_sum0, second_sum1, second_sum2]
  funext y
  refine read_row _ _ 2 _ _ _ y (fun h => addRows_two (term x0 x1 x2 x3 x4 x5) 2 (by omega) (half_sum2 0 (by omega) x0 x1 x2 x3 x4 x5 _ (half_prod 0 (by omega) x0 x1 _ _ _ _ _ _ _ _) _ _ _ _) (half_sum2 256 (by omega) x0 x1 x2 x3 x4 x5 _ (half_prod 256 (by omega) x0 x1 _ _ _ _ _ _ _ _) _ _ _ _) (k0_pay3 (F := Ideal)) y h _) fun n2 => ?_
  refine read_row _ _ 1 _ _ _ y (fun h => addRows_two (term x0 x1 x2 x3 x4 x5) 1 (by omega) (half_sum1 0 (by omega) x0 x1 x2 x3 x4 x5 _ (half_prod 0 (by omega) x0 x1 _ _ _ _ _ _ _ _) _ _ _ _) (half_sum1 256 (by omega) x0 x1 x2 x3 x4 x5 _ (half_prod 256 (by omega) x0 x1 _ _ _ _ _ _ _ _) _ _ _ _) (k0_pay3 (F := Ideal)) y h _) fun n1 => ?_
  refine read_row _ _ 0 _ _ _ y (fun h => addRows_two (term x0 x1 x2 x3 x4 x5) 0 (by omega) (half_sum0 0 (by omega) x0 x1 x2 x3 x4 x5 _ (half_prod 0 (by omega) x0 x1 _ _ _ _ _ _ _ _) _ _ _ _) (half_sum0 256 (by omega) x0 x1 x2 x3 x4 x5 _ (half_prod 256 (by omega) x0 x1 _ _ _ _ _ _ _ _) _ _ _ _) (k0_pay3 (F := Ideal)) y h _) fun n0 => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  refine (read_whole _ _ _ _ _ y).trans ?_
  exact (addRows_kept (term x0 x1 x2 x3 x4 x5) (k0_pay3 (F := Ideal)) y fun s j => by simp [term, n0, n1, n2])

end Point

end Cert.Kernel4Ideal.Value

end
-- ==== Proof.LossHead.Arrays.lean ====
/-
  The result arrays of the call `mlp_down` with the loss head after its run: each point of 512 rows writes its rows of the
  gradient and of the gated gradient, and adds its rows' terms to the block of sums, which the first point sets to zero and
  the last writes back.
-/
module

public import proofs.«01_k».proof.Proof.LossHead.Block

@[expose] public section

set_option maxRecDepth 16384
set_option maxHeartbeats 2000000

noncomputable section

namespace Cert.Kernel4Ideal.Value
open Cert.Kernel4Ideal Cert.Kernel4Ideal.Gen Idealize.ShloMosaic Idealize.ShloMosaic.TcCoe Idealize.SL.Sem
open Idealize.ShloMosaic.Pipeline (Dat)
open Cert.Proof.Norm

variable (m : (ℓ : Loc nD τ sig) → Buf (Elt Ideal) ℓ) (ρ : Dev nD → PrngReg)

/-- The block each window reads or writes at point `t`: the row arrays' blocks go with the point, the others are whole. -/
theorem index0 : ∀ t : Fin cfg0.N, (win0_1.index t (0 : Fin 3) = 0 ∧ win0_1.index t (1 : Fin 3) = 0 ∧ win0_1.index t (2 : Fin 3) = 0)
    ∧ (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- A point's rows of the product are the array's. -/
theorem blk_prod (c : Dev nD) (t : Fin cfg0.N) (s : Fin 512) :
    prod (n := 512) (iblk m c 0 t) (iblk m c 1 t) s = prod (n := 4096) (V m c main_v5) (V m c main_v4) (rowIn t s) := by
  obtain ⟨⟨w0, w1, w2⟩, ⟨a0, a1⟩, _⟩ := index0 t
  funext j
  unfold prod
  reads_congr
  all_goals blk_ext! [iblk, w0, w1, w2, a0, a1]

/-- Every point reads the whole modulation. -/
theorem blk_mod (c : Dev nD) (t : Fin cfg0.N) : @Eq (Vec Ideal S8x1024 .f32) (iblk m c 3 t) (V m c main_v1) := by
  obtain ⟨_, _, _, ⟨d0, d1⟩, _⟩ := index0 t
  funext y
  reads_congr
  all_goals blk_ext! [iblk, d0, d1]

/-- Every point reads the norm's whole weight. -/
theorem blk_g (c : Dev nD) (t : Fin cfg0.N) : @Eq (Vec Ideal S1x1024 .f32) (iblk m c 4 t) (V m c main_v2) := by
  obtain ⟨_, _, _, _, ⟨e0, e1⟩, _⟩ := index0 t
  funext y
  reads_congr
  all_goals blk_ext! [iblk, e0, e1]

/-- A point's rows of the residual are the array's. -/
theorem blk_resid (c : Dev nD) (t : Fin cfg0.N) (s : Fin 512) : resid (n := 512) (iblk m c 0 t) (iblk m c 1 t) (iblk m c 2 t) (iblk m c 3 t) s
    = resid (n := 4096) (V m c main_v5) (V m c main_v4) (V m c main_arg0) (V m c main_v1) (rowIn t s) := by
  obtain ⟨_, _, ⟨b0, b1⟩, _⟩ := index0 t
  have h : ∀ j, @Eq EReal ((iblk m c 2 t : Vec Ideal S512x1024 .f32) (ix2 s j)) ((V m c main_arg0 : Vec Ideal S4096x1024 .f32) (ix2 (rowIn t s) j)) := fun j => by
    reads_congr
    all_goals blk_ext! [iblk, b0, b1]
  funext j
  unfold resid
  rw [blk_prod, blk_mod, h]

/-- A point's rows of the error are the array's. -/
theorem blk_err (c : Dev nD) (t : Fin cfg0.N) (s : Fin 512) : err (n := 512) (iblk m c 0 t) (iblk m c 1 t) (iblk m c 2 t) (iblk m c 3 t) (iblk m c 4 t) (iblk m c 5 t) s
    = err (n := 4096) (V m c main_v5) (V m c main_v4) (V m c main_arg0) (V m c main_v1) (V m c main_v2) (V m c main_arg5) (rowIn t s) := by
  obtain ⟨_, _, _, _, _, ⟨b0, b1⟩, _⟩ := index0 t
  have h : ∀ j, @Eq EReal ((iblk m c 5 t : Vec Ideal S512x1024 .f32) (ix2 s j)) ((V m c main_arg5 : Vec Ideal S4096x1024 .f32) (ix2 (rowIn t s) j)) := fun j => by
    reads_congr
    all_goals blk_ext! [iblk, b0, b1]
  funext j
  unfold err
  rw [blk_resid, blk_g, h]

/-- A point's rows of the error over the width are the array's. -/
theorem blk_errGrad (c : Dev nD) (t : Fin cfg0.N) (s : Fin 512) : errGrad (n := 512) (iblk m c 0 t) (iblk m c 1 t) (iblk m c 2 t) (iblk m c 3 t) (iblk m c 4 t) (iblk m c 5 t) s
    = errGrad (n := 4096) (V m c main_v5) (V m c main_v4) (V m c main_arg0) (V m c main_v1) (V m c main_v2) (V m c main_arg5) (rowIn t s) := by
  unfold errGrad
  rw [blk_err]

/-- A point's rows of the gradient are the array's. -/
theorem blk_grad (c : Dev nD) (t : Fin cfg0.N) (s : Fin 512) : gradRow (n := 512) (iblk m c 0 t) (iblk m c 1 t) (iblk m c 2 t) (iblk m c 3 t) (iblk m c 4 t) (iblk m c 5 t) s
    = gradRow (n := 4096) (V m c main_v5) (V m c main_v4) (V m c main_arg0) (V m c main_v1) (V m c main_v2) (V m c main_arg5) (rowIn t s) := by
  unfold gradRow
  rw [blk_errGrad, blk_resid, blk_g]

/-- A point's terms of the sums are the array's rows' terms. -/
theorem blk_term (c : Dev nD) (t : Fin cfg0.N) (r : ℕ) (s : Fin 512) : term (n := 512) (iblk m c 0 t) (iblk m c 1 t) (iblk m c 2 t) (iblk m c 3 t) (iblk m c 4 t) (iblk m c 5 t) r s
    = term (n := 4096) (V m c main_v5) (V m c main_v4) (V m c main_arg0) (V m c main_v1) (V m c main_v2) (V m c main_arg5) r (rowIn t s) := by
  unfold term
  rw [blk_errGrad, blk_resid, blk_grad, blk_prod, blk_err]

/-- What every point leaves in the gradient's block. -/
theorem after6 (c : Dev nD) (t : Fin cfg0.N) : (outsAt0 m c t.val t.isLt).1 = gradBlk (n := 512) (iblk m c 0 t) (iblk m c 1 t) (iblk m c 2 t) (iblk m c 3 t) (iblk m c 4 t) (iblk m c 5 t) := by
  by_cases h : t.val % 8 = 0
  · rw [outsAt0_A m c t h]
    dsimp only
    rw [out6A_eq]
  · rw [outsAt0_B m c t h]
    dsimp only
    rw [out6B_eq]

/-- What every point leaves in the gated gradient's block. -/
theorem after7 (c : Dev nD) (t : Fin cfg0.N) : (outsAt0 m c t.val t.isLt).2.1 = gatedBlk (n := 512) (iblk m c 0 t) (iblk m c 1 t) (iblk m c 2 t) (iblk m c 3 t) (iblk m c 4 t) (iblk m c 5 t) := by
  by_cases h : t.val % 8 = 0
  · rw [outsAt0_A m c t h]
    dsimp only
    rw [out7A_eq]
  · rw [outsAt0_B m c t h]
    dsimp only
    rw [out7B_eq]

/-- After the run the first result array is the gradient of every row. -/
theorem final6 (c : Dev nD) : (dats m 0 c).arrAt 6 cfg0.N = gradBlk (n := 4096) (V m c main_v5) (V m c main_v4) (V m c main_arg0) (V m c main_v1) (V m c main_v2) (V m c main_arg5) := by
  refine (dats m 0 c).arrAt_eq_of_covers 6 _ (by decide +kernel) fun t hf y => ?_
  blk_simp
  rw [after0_6, after6]
  obtain ⟨_, _, _, _, _, _, ⟨f0, f1⟩, _⟩ := index0 t
  unfold gradBlk
  refine (congrFun (blk_grad m c t (y 0)) (y 1)).trans ?_
  have e0 : ((win0_6.blk t).view.emb y 0 : Fin 4096) = rowIn t (y 0) := Fin.ext (by simp [f0, Nat.mul_comm])
  have e1 : ((win0_6.blk t).view.emb y 1 : Fin 1024) = y 1 := Fin.ext (by simp [f1])
  exact congrArg₂ (fun (s : Fin 4096) (j : Fin 1024) => (gradRow (n := 4096) (V m c main_v5) (V m c main_v4) (V m c main_arg0) (V m c main_v1) (V m c main_v2) (V m c main_arg5) s j : EReal)) e0.symm e1.symm

/-- After the run the second result array is the gradient of every row times the gate. -/
theorem final7 (c : Dev nD) : (dats m 0 c).arrAt 7 cfg0.N = gatedBlk (n := 4096) (V m c main_v5) (V m c main_v4) (V m c main_arg0) (V m c main_v1) (V m c main_v2) (V m c main_arg5) := by
  refine (dats m 0 c).arrAt_eq_of_covers 7 _ (by decide +kernel) fun t hf y => ?_
  blk_simp
  rw [after0_7, after7]
  obtain ⟨_, _, _, _, _, _, _, ⟨f0, f1⟩, _⟩ := index0 t
  unfold gatedBlk
  refine (congrArg₂ (fun a b : EReal => a * b) (congrFun (blk_grad m c t (y 0)) (y 1)) (congrFun (blk_mod m c t) (ix2 5 (y 1)))).trans ?_
  have e0 : ((win0_7.blk t).view.emb y 0 : Fin 4096) = rowIn t (y 0) := Fin.ext (by simp [f0, Nat.mul_comm])
  have e1 : ((win0_7.blk t).view.emb y 1 : Fin 1024) = y 1 := Fin.ext (by simp [f1])
  exact congrArg₂ (fun (s : Fin 4096) (j : Fin 1024) => (gradRow (n := 4096) (V m c main_v5) (V m c main_v4) (V m c main_arg0) (V m c main_v1) (V m c main_v2) (V m c main_arg5) s j : EReal) * (V m c main_v1 : Vec Ideal S8x1024 .f32) (ix2 5 j)) e0.symm e1.symm

/-- The zeros with which the first point starts the sums. -/
theorem start_apply (y : S8x1024.Idx) : (k0_pay3 (F := Ideal)) y = 0 := by
  idx_vars y
  pointwise [k0_pay3]

/-- After the last point the sums' block holds the terms of all rows. -/
theorem after8 (c : Dev nD) : (outsAt0 m c 7 (by decide)).2.2
    = fun y : S8x1024.Idx => ∑ s : Fin 4096, term (n := 4096) (V m c main_v5) (V m c main_v4) (V m c main_arg0) (V m c main_v1) (V m c main_v2) (V m c main_arg5) (y 0).val s (y 1) := by
  refine addRows_run (term (n := 4096) (V m c main_v5) (V m c main_v4) (V m c main_arg0) (V m c main_v1) (V m c main_v2) (V m c main_arg5)) (fun t h => (outsAt0 m c t h).2.2) (k0_pay3 (F := Ideal)) start_apply (fun h => ?_) fun t h => ?_
  · refine (congrArg (fun z => z.2.2) (outsAt0_A m c ⟨0, h⟩ (Nat.zero_mod 8))).trans ?_
    dsimp only
    rw [out8A_eq]
    exact congrArg (fun z => addRows z _) (funext fun r => funext fun s => blk_term m c ⟨0, h⟩ r s)
  · refine (congrArg (fun z => z.2.2) (outsAt0_B m c ⟨t + 1, h⟩ (show ¬(t + 1) % 8 = 0 by omega))).trans ?_
    dsimp only
    rw [out8B_eq]
    exact congrArg (fun z => addRows z _) (funext fun r => funext fun s => blk_term m c ⟨t + 1, h⟩ r s)

/-- After the run the third result array is the sums over all rows. -/
theorem final8 (c : Dev nD) : (dats m 0 c).arrAt 8 cfg0.N = fun y : S8x1024.Idx =>
    ∑ s : Fin 4096, term (n := 4096) (V m c main_v5) (V m c main_v4) (V m c main_arg0) (V m c main_v1) (V m c main_v2) (V m c main_arg5) (y 0).val s (y 1) := by
  refine (dats m 0 c).arrAt_eq_of_covers 8 _ (by decide +kernel) fun t hf y => ?_
  blk_simp
  have h7 : t = (⟨7, by decide⟩ : Fin cfg0.N) := Fin.ext ((by decide +kernel : ∀ t : Fin cfg0.N, (cfg0.win 8).flush t = true → t.val = 7) t hf)
  subst h7
  rw [after0_8, after8]
  obtain ⟨_, _, _, _, _, _, _, _, ⟨g0, g1⟩⟩ := index0 ⟨7, by decide⟩
  refine congrArg₂ (fun (r : ℕ) (j : Fin 1024) => ∑ s : Fin 4096, term (n := 4096) (V m c main_v5) (V m c main_v4) (V m c main_arg0) (V m c main_v1) (V m c main_v2) (V m c main_arg5) r s j) ?_ ?_
  · show (y 0).val = win0_8.index _ (0 : Fin 2) * 8 + (y 0).val
    rw [g0]
    omega
  · exact Fin.ext (by simpa using g1)

end Cert.Kernel4Ideal.Value

end
-- ==== Proof.LossHead.Reference.lean ====
/-
  The reference of the call `mlp_down` with the loss head, read at an index: the final rms norm of the residual with the
  gated product added, the squared error against the target, and `jax.grad` of the loss, as rows of 1024 features.
-/
module

public import proofs.«01_k».proof.Proof.Norm.Rows
public import proofs.«01_k».proof.Proof.Gen.Reference4Ideal.Run
public import proofs.«01_k».proof.Proof.Gen.Reference4Ideal.Read
public import Idealize.ShloMosaic.Lib.Pipeline.ValueKit.Point
public import Idealize.ShloMosaic.Lib.Tactic

@[expose] public section

set_option maxRecDepth 16384
set_option maxHeartbeats 2000000

noncomputable section

namespace Cert.Reference4Ideal.Read
open Cert.Reference4Ideal Cert.Reference4Ideal.Gen Idealize.ShloMosaic Idealize.ShloMosaic.TcCoe Idealize.SL.Sem
open Cert.Proof.Norm

variable (x0 : Vec Ideal S4096x1024 .f32) (x1 : Vec Ideal S4096x4096 .f32) (x2 : Vec Ideal S6x1024 .f32) (x3 : Vec Ideal S4096x1024 .f32)
  (x4 : Vec Ideal S1024 .f32) (x5 : Vec Ideal S4096x1024 .f32)

/-- Row `s` of the residual before the norm. -/
abbrev refRow (s : Fin 4096) : Row := fun k => val_main_v6 (F := Ideal) x0 x1 x2 x3 (ix2 s k)

/-- Row `s` of the error. -/
abbrev refErr (s : Fin 4096) : Row := fun k => val_main_v23 (F := Ideal) x0 x1 x2 x3 x4 x5 (ix2 s k)

/-- Row `s` of the residual: the row plus the gated product. -/
theorem ref_row (s : Fin 4096) (j : Fin 1024) :
    refRow x0 x1 x2 x3 s j = x0 (ix2 s j) + x2 (ix2 5 j) * ∑ k : Fin 4096, x1 (ix2 s k) * x3 (ix2 k j) := by
  rw [refRow, val_main_v6_apply, val_main_v5_apply, val_main_v2_apply, val_main_v4_apply, val_main_v3_apply, val_main_v1_apply, val_main_v0_apply]
  refine congrArg₂ (fun (a : EReal) z => x0 (ix2 s j) + x2 z * a) (Finset.sum_congr rfl fun k _ => congrArg₂ _ (congrArg x1 ?_) (congrArg x3 ?_)) ?_
  · funext a; fin_cases a <;> rfl
  · funext a; fin_cases a <;> rfl
  · funext a
    fin_cases a
    · rfl
    · exact Fin.ext (Nat.mod_eq_of_lt j.isLt)

/-- The product, element by element. -/
theorem ref_prod (s : Fin 4096) (j : Fin 1024) : val_main_v2 (F := Ideal) x1 x3 (ix2 s j) = ∑ k : Fin 4096, x1 (ix2 s k) * x3 (ix2 k j) := by
  rw [val_main_v2_apply]
  refine Finset.sum_congr rfl fun k _ => congrArg₂ _ (congrArg x1 ?_) (congrArg x3 ?_)
  all_goals funext a; fin_cases a <;> rfl

/-- The mean square of a row. -/
theorem ref_square (s : Fin 4096) (z : S4096x1.Idx) (h : (z 0).val = s.val) : val_main_v13 (F := Ideal) x0 x1 x2 x3 z = square (refRow x0 x1 x2 x3 s) := by
  simp only [val_main_v13_apply, val_main_v11_apply, val_main_v9_apply, val_main_v8_apply, val_main_v10_apply, val_main_v12_apply, val_main_v7_apply, val_main_cst_apply, val_main_cst_0_apply, val_main_cst_1_apply]
  have e : ∀ k, idx_main_v8 (idx_main_v9 z) k = ix2 s k := fun k => by
    funext a
    fin_cases a
    · exact Fin.ext h
    · rfl
  simp only [e]
  refine congrArg (Ideal.div · width + small) ?_
  exact (congrArg (· + _) Ideal.ofBits_zero_f32).trans (zero_add _)

/-- The normalised row. -/
theorem ref_unit (s : Fin 4096) (j : Fin 1024) : val_main_v19 (F := Ideal) x0 x1 x2 x3 (ix2 s j) = unit (refRow x0 x1 x2 x3 s) j := by
  rw [val_main_v19_apply, val_main_v18_apply, val_main_v14_apply, ref_square x0 x1 x2 x3 s _ rfl]
  rfl

/-- The error: the normalised row times the weight, less the target. -/
theorem ref_err (s : Fin 4096) (j : Fin 1024) : refErr x0 x1 x2 x3 x4 x5 s j = unit (refRow x0 x1 x2 x3 s) j * x4 (ix1 j) - x5 (ix2 s j) := by
  rw [refErr, val_main_v23_apply, val_main_v22_apply, ref_unit, val_main_v21_apply, val_main_v20_apply]
  refine congrArg (fun z => unit (refRow x0 x1 x2 x3 s) j * x4 z - x5 (ix2 s j)) ?_
  funext a
  fin_cases a; rfl

/-- The gradient of the norm's result: the error over the width, for a finite error. -/
theorem ref_errGrad (s : Fin 4096) (j : Fin 1024) (h : Fin' (refErr x0 x1 x2 x3 x4 x5 s j)) :
    val_main_v45 (F := Ideal) x0 x1 x2 x3 x4 x5 (ix2 s j) = Ideal.div (refErr x0 x1 x2 x3 x4 x5 s j) width := by
  obtain ⟨e, he⟩ := h.exists_real
  rw [val_main_v45_apply, val_main_v44_apply, val_main_v43_apply, val_main_v42_apply, val_main_v41_apply, val_main_v40_apply, val_main_v34_apply, val_main_v33_apply]
  show Ideal.div (Ideal.ofBits .f32 1056964608#32 * Ideal.ofBits .f32 1065353216#32) width * (Ideal.ofBits .f32 1073741824#32 * refErr x0 x1 x2 x3 x4 x5 s j) = _
  rw [he, half_eq, two_eq, Ideal.ofBits_one_f32, mul_one, width_eq, Ideal.div_coe (by norm_num), Ideal.div_coe (by norm_num)]
  simp only [← EReal.coe_mul]
  congr 1
  ring

/-- The gradient of the normalised row. -/
theorem ref_normGrad (s : Fin 4096) (j : Fin 1024) (h : Fin' (refErr x0 x1 x2 x3 x4 x5 s j)) :
    val_main_v50 (F := Ideal) x0 x1 x2 x3 x4 x5 (ix2 s j) = Ideal.div (refErr x0 x1 x2 x3 x4 x5 s j) width * x4 (ix1 j) := by
  rw [val_main_v50_apply, ref_errGrad x0 x1 x2 x3 x4 x5 s j h, val_main_v49_apply, val_main_v20_apply]
  refine congrArg (fun z => Ideal.div (refErr x0 x1 x2 x3 x4 x5 s j) width * x4 z) ?_
  funext a
  fin_cases a; rfl

/-- The factor of the row in the gradient through the mean square. -/
theorem ref_slope (s : Fin 4096) (j : Fin 1024) :
    val_main_v61 (F := Ideal) x0 x1 x2 x3 x4 x5 (ix2 s j) = slope (refRow x0 x1 x2 x3 s) (fun k => val_main_v50 (F := Ideal) x0 x1 x2 x3 x4 x5 (ix2 s k)) := by
  rw [val_main_v61_apply, val_main_v60_apply, Fin.sum_univ_one, val_main_v59_apply, val_main_v57_apply, val_main_v54_apply, val_main_v53_apply,
    val_main_v17_apply, val_main_v16_apply, val_main_v15_apply, val_main_v14_apply, val_main_v58_apply, ref_square x0 x1 x2 x3 s _ rfl]
  have e : ∀ k, idx_main_v53 (idx_main_v54 (idx_main_v60 (idx_main_v61 (ix2 s j)) 0)) k = ix2 s k := fun k => by
    funext a
    fin_cases a
    · refine Fin.ext ?_
      show s.val * 1 + 0 = s.val
      omega
    · rfl
  simp only [e, val_main_v52_apply]
  refine (congrArg (· + _) Ideal.ofBits_zero_f32).trans ((zero_add _).trans ?_)
  refine congrArg (fun z => Ideal.div (z * (Ideal.ofBits .f32 3204448256#32 * Ideal.div (inv (refRow x0 x1 x2 x3 s)) (square (refRow x0 x1 x2 x3 s)))) width) ?_
  exact (congrArg (· + _) Ideal.ofBits_zero_f32).trans (zero_add _)

/-- The gradient of the row, in its terms. -/
theorem ref_grad (s : Fin 4096) (j : Fin 1024) :
    val_main_v65 (F := Ideal) x0 x1 x2 x3 x4 x5 (ix2 s j)
      = val_main_v50 (F := Ideal) x0 x1 x2 x3 x4 x5 (ix2 s j) * inv (refRow x0 x1 x2 x3 s)
        + refRow x0 x1 x2 x3 s j * slope (refRow x0 x1 x2 x3 s) (fun k => val_main_v50 (F := Ideal) x0 x1 x2 x3 x4 x5 (ix2 s k))
        + slope (refRow x0 x1 x2 x3 s) (fun k => val_main_v50 (F := Ideal) x0 x1 x2 x3 x4 x5 (ix2 s k)) * refRow x0 x1 x2 x3 s j := by
  rw [val_main_v65_apply, val_main_v64_apply, val_main_v63_apply, val_main_v62_apply, val_main_v56_apply, val_main_v55_apply,
    val_main_v14_apply, ref_slope, ref_square x0 x1 x2 x3 s _ rfl]
  rfl

/-- The gradient of the MLP's output: the gradient of the row times the gate. -/
theorem ref_gated (s : Fin 4096) (j : Fin 1024) :
    val_main_v73 (F := Ideal) x0 x1 x2 x3 x4 x5 (ix2 s j) = x2 (ix2 5 j) * val_main_v65 (F := Ideal) x0 x1 x2 x3 x4 x5 (ix2 s j) := by
  rw [val_main_v73_apply, val_main_v67_apply, val_main_v66_apply, val_main_v3_apply, val_main_v1_apply, val_main_v0_apply]
  refine congrArg (fun z => x2 z * val_main_v65 (F := Ideal) x0 x1 x2 x3 x4 x5 (ix2 s j)) ?_
  funext a
  fin_cases a
  · rfl
  · exact Fin.ext (Nat.mod_eq_of_lt j.isLt)

/-- The gradient of the norm's weight: the sum over all rows. -/
theorem ref_sum0 (j : Fin 1024) (z : S1024.Idx) (hz : z = ix1 j) : val_main_v51 (F := Ideal) x0 x1 x2 x3 x4 x5 z
    = ∑ s : Fin 4096, unit (refRow x0 x1 x2 x3 s) j * val_main_v45 (F := Ideal) x0 x1 x2 x3 x4 x5 (ix2 s j) := by
  subst hz
  rw [val_main_v51_apply, Fin.sum_univ_one, val_main_v48_apply, val_main_v47_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v47 (idx_main_v48 (idx_main_v51 (ix1 j) 0)) s = ix2 s j := by
    funext a
    fin_cases a
    · rfl
    · refine Fin.ext ?_
      show 0 * 1024 + j.val = j.val
      omega
  rw [e, val_main_v46_apply, ref_unit]
  rfl

/-- The gradient of the gate: the sum over all rows. -/
theorem ref_sum1 (j : Fin 1024) (z : S1024.Idx) (hz : z = ix1 j) : val_main_v71 (F := Ideal) x0 x1 x2 x3 x4 x5 z
    = ∑ s : Fin 4096, val_main_v65 (F := Ideal) x0 x1 x2 x3 x4 x5 (ix2 s j) * ∑ k : Fin 4096, x1 (ix2 s k) * x3 (ix2 k j) := by
  subst hz
  rw [val_main_v71_apply, Fin.sum_univ_one, val_main_v70_apply, val_main_v69_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v69 (idx_main_v70 (idx_main_v71 (ix1 j) 0)) s = ix2 s j := by
    funext a
    fin_cases a
    · rfl
    · refine Fin.ext ?_
      show 0 * 1024 + j.val = j.val
      omega
  rw [e, val_main_v68_apply, ref_prod]
  rfl

/-- The loss of a feature: half the sum of the squared errors over the width. -/
theorem ref_loss (j : Fin 1024) (z : S1024.Idx) (hz : z = ix1 j) : val_main_v31 (F := Ideal) x0 x1 x2 x3 x4 x5 z
    = Ideal.div (Ideal.ofBits .f32 1056964608#32 * ∑ s : Fin 4096, refErr x0 x1 x2 x3 x4 x5 s j * refErr x0 x1 x2 x3 x4 x5 s j) width := by
  subst hz
  rw [val_main_v31_apply, val_main_v30_apply, val_main_v29_apply, val_main_v28_apply, val_main_v27_apply]
  refine congrArg (fun z => Ideal.div (Ideal.ofBits .f32 1056964608#32 * z) width) ?_
  refine (congrArg (· + _) Ideal.ofBits_zero_f32).trans ((zero_add _).trans ?_)
  refine Finset.sum_congr rfl fun s _ => ?_
  have e : idx_main_v27 (ix1 j) s = ix2 s j := by
    funext a
    fin_cases a <;> rfl
  rw [e, val_main_v24_apply]
  rfl

end Cert.Reference4Ideal.Read

end
-- ==== Proof.LossHead.Equation.lean ====
/-
  The call `mlp_down` with the loss head against `jax.grad` of the loss: the gradient of the residual row by the closed
  form of the norm's derivative, that of the MLP's output, and the sums over the rows that are the gradients of the final
  norm's weight and of the gate and the loss of each feature. The closed form needs finite factors.
-/
module

public import proofs.«01_k».proof.Defs
public import proofs.«01_k».proof.Proof.Norm.Finite
public import proofs.«01_k».proof.Proof.Norm.Arguments
public import proofs.«01_k».proof.Proof.LossHead.Arrays
public import proofs.«01_k».proof.Proof.LossHead.Reference
public import proofs.«01_k».proof.Proof.Gen.Pre_finite4
public import Idealize.ShloMosaic.Lib.Claim
public import Idealize.ShloMosaic.Lib.Quiescent

@[expose] public section

set_option maxRecDepth 16384
set_option maxHeartbeats 2000000

noncomputable section

namespace Cert.Proof.LossHead

open Idealize.ShloMosaic Idealize.ShloMosaic.TcCoe Idealize.SL.Sem
open Cert.Kernel4Ideal Cert.Kernel4Ideal.Gen Cert.Kernel4Ideal.Value
open Cert.Proof.Norm Cert.Reference4Ideal.Read

/-- The weight as the call reads it: four blocks of rows. -/
abbrev blocked (x3 : Vec Ideal S4096x1024 .f32) : Vec Ideal S4x1024x1024 .bf16 :=
  shapeCast S4x1024x1024 (truncf (F := Ideal) (s := S4096x1024) .bf16 (φ := .f32) x3 bitsLt_bf16_f32) shapeCasts_S4096x1024_S4x1024x1024

/-- The modulation as the call reads it: two rows of zeros below its six. -/
abbrev padded (x2 : Vec Ideal S6x1024 .f32) : Vec Ideal S8x1024 .f32 :=
  concatenate S8x1024 0 [⟨S6x1024, x2⟩, ⟨S2x1024, broadcastInDim S2x1024 ![] bcast_S_S2x1024 (constant (F := Ideal) S_ .f32 0x00000000#32)⟩]
    concatenates_S6x1024_S2x1024_S8x1024_d0

/-- The norm's weight as the call reads it: one row. -/
abbrev asRow (x4 : Vec Ideal S1024 .f32) : Vec Ideal S1x1024 .f32 := shapeCast S1x1024 x4 shapeCasts_S1024_S1x1024

/-- The activations as the call reads them. -/
abbrev narrow (x1 : Vec Ideal S4096x4096 .f32) : Vec Ideal S4096x4096 .bf16 := truncf (F := Ideal) .bf16 (φ := .f32) x1 bitsLt_bf16_f32

section Entry

variable (m : (ℓ : Loc nD τ sig) → Buf (Elt Ideal) ℓ)

/-- The activations as the call is given them. -/
theorem entry_ff (c : Dev nD) : @Eq (Vec Ideal S4096x4096 .bf16) (V m c main_v5) (narrow (m ((c : Thread nD τ).loc main_arg1))) := by
  simp only [V, List.flatten_cons, List.flatten_nil, List.append_nil, List.cons_append, List.nil_append]
  after_results
  try rfl

/-- The weight as the call is given it. -/
theorem entry_w (c : Dev nD) : @Eq (Vec Ideal S4x1024x1024 .bf16) (V m c main_v4) (blocked (m ((c : Thread nD τ).loc main_arg3))) := by
  simp only [V, List.flatten_cons, List.flatten_nil, List.append_nil, List.cons_append, List.nil_append]
  after_results
  try rfl

/-- The residual row as the call is given it. -/
theorem entry_x (c : Dev nD) : @Eq (Vec Ideal S4096x1024 .f32) (V m c main_arg0) (m ((c : Thread nD τ).loc main_arg0)) := by
  simp only [V, List.flatten_cons, List.flatten_nil, List.append_nil, List.cons_append, List.nil_append]
  after_results
  try rfl

/-- The modulation as the call is given it. -/
theorem entry_mod (c : Dev nD) : @Eq (Vec Ideal S8x1024 .f32) (V m c main_v1) (padded (m ((c : Thread nD τ).loc main_arg2))) := by
  simp only [V, List.flatten_cons, List.flatten_nil, List.append_nil, List.cons_append, List.nil_append]
  after_results
  try rfl

/-- The norm's weight as the call is given it. -/
theorem entry_g (c : Dev nD) : @Eq (Vec Ideal S1x1024 .f32) (V m c main_v2) (asRow (m ((c : Thread nD τ).loc main_arg4))) := by
  simp only [V, List.flatten_cons, List.flatten_nil, List.append_nil, List.cons_append, List.nil_append]
  after_results
  try rfl

/-- The target as the call is given it. -/
theorem entry_target (c : Dev nD) : @Eq (Vec Ideal S4096x1024 .f32) (V m c main_arg5) (m ((c : Thread nD τ).loc main_arg5)) := by
  simp only [V, List.flatten_cons, List.flatten_nil, List.append_nil, List.cons_append, List.nil_append]
  after_results
  try rfl

end Entry

section Equation

variable (x0 : Vec Ideal S4096x1024 .f32) (x1 : Vec Ideal S4096x4096 .f32) (x2 : Vec Ideal S6x1024 .f32) (x3 : Vec Ideal S4096x1024 .f32)
  (x4 : Vec Ideal S1024 .f32) (x5 : Vec Ideal S4096x1024 .f32)

/-- The product with the four blocks of the weight is the product with the whole of it. -/
theorem prod_eq (s : Fin 4096) (j : Fin 1024) : prod (n := 4096) (narrow x1) (blocked x3) s j = ∑ k : Fin 4096, x1 (ix2 s k) * x3 (ix2 k j) := by
  refine Eq.trans ?_ (sum_blocks 4 1024 4096 rfl fun k => x1 (ix2 s k) * x3 (ix2 k j)).symm
  refine Finset.sum_congr rfl fun b _ => Finset.sum_congr rfl fun k _ => congrArg (x1 (ix2 s _) * ·) ?_
  refine shapeCast_apply _ _ _ _ ?_
  rw [Shape.rowMajor_val_two, Shape.rowMajor_val_three]
  show (1024 * b.val + k.val) * 1024 + j.val = (b.val * 1024 + k.val) * 1024 + j.val
  omega

/-- The residual with the gated product added is the reference's. -/
theorem resid_eq (s : Fin 4096) : resid (n := 4096) (narrow x1) (blocked x3) x0 (padded x2) s = refRow x0 x1 x2 x3 s := by
  funext j
  rw [ref_row]
  exact congrArg₂ (fun a b : EReal => x0 (ix2 s j) + a * b) (padded_apply x2 _ _ 5 j) (prod_eq x1 x3 s j)

/-- The error is the reference's. -/
theorem err_eq (s : Fin 4096) : err (n := 4096) (narrow x1) (blocked x3) x0 (padded x2) (asRow x4) x5 s = refErr x0 x1 x2 x3 x4 x5 s := by
  funext j
  rw [ref_err, ← resid_eq]
  exact congrArg (fun z : EReal => unit _ j * z - x5 (ix2 s j)) (asRow_apply x4 _ j)

/-- The residual is finite. -/
theorem residual_finite (h0 : ∀ i, Fin' (x0 i)) (h1 : ∀ i, Fin' (x1 i)) (h2 : ∀ j, Fin' (x2 (ix2 5 j))) (h3 : ∀ i, Fin' (x3 i)) (s : Fin 4096) (k : Fin 1024) : Fin' (refRow x0 x1 x2 x3 s k) := by
  rw [ref_row]
  exact (h0 _).add ((h2 k).mul (Fin'.sum fun q => (h1 _).mul (h3 _)))

/-- The error is finite. -/
theorem err_finite (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) (s : Fin 4096) (k : Fin 1024) : Fin' (refErr x0 x1 x2 x3 x4 x5 s k) := by
  rw [ref_err]
  exact ((Fin'.unit (residual_finite x0 x1 x2 x3 h0 h1 h2 h3 s) k).mul (h4 _)).sub (h5 _)

/-- The gradient of the norm's result is finite. -/
theorem errGrad_finite (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) (s : Fin 4096) (k : Fin 1024) : Fin' (Ideal.div (refErr x0 x1 x2 x3 x4 x5 s k) width) := by
  rw [width_eq, Ideal.div_coe (by norm_num)]
  exact (err_finite x0 x1 x2 x3 x4 x5 h0 h1 h2 h3 h4 h5 s k).mul (Fin'.coe _)

/-- The gradient of a residual row is the reference's, on finite factors. -/
theorem gradRow_eq (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) (s : Fin 4096) (j : Fin 1024) :
    gradRow (n := 4096) (narrow x1) (blocked x3) x0 (padded x2) (asRow x4) x5 s j = val_main_v65 (F := Ideal) x0 x1 x2 x3 x4 x5 (ix2 s j) := by
  have hp : (fun k => errGrad (n := 4096) (narrow x1) (blocked x3) x0 (padded x2) (asRow x4) x5 s k * asRow x4 (ix2 0 k)) = fun k => val_main_v50 (F := Ideal) x0 x1 x2 x3 x4 x5 (ix2 s k) := by
    funext k
    rw [ref_normGrad x0 x1 x2 x3 x4 x5 s k (err_finite x0 x1 x2 x3 x4 x5 h0 h1 h2 h3 h4 h5 s k), ← err_eq]
    exact congrArg (fun z : EReal => Ideal.div _ width * z) (asRow_apply x4 _ k)
  have hf : ∀ k, Fin' (val_main_v50 (F := Ideal) x0 x1 x2 x3 x4 x5 (ix2 s k)) := fun k => by
    rw [ref_normGrad x0 x1 x2 x3 x4 x5 s k (err_finite x0 x1 x2 x3 x4 x5 h0 h1 h2 h3 h4 h5 s k)]
    exact (errGrad_finite x0 x1 x2 x3 x4 x5 h0 h1 h2 h3 h4 h5 s k).mul (h4 _)
  rw [ref_grad]
  refine Eq.trans ?_ ((through_eq 0 _ _ (residual_finite x0 x1 x2 x3 h0 h1 h2 h3 s) hf j).trans ?_)
  · refine Eq.trans ?_ (congrArg (fun p => through 0 (refRow x0 x1 x2 x3 s) p j) hp)
    rw [← resid_eq]
    exact (zero_add _).symm
  · simp only [zero_add]

/-- The gradient of the residual is the reference's. -/
theorem grad_eq (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) : gradBlk (n := 4096) (narrow x1) (blocked x3) x0 (padded x2) (asRow x4) x5 = val_main_v65 (F := Ideal) x0 x1 x2 x3 x4 x5 := by
  funext i
  obtain ⟨s, j, rfl⟩ : ∃ (s : Fin 4096) (j : Fin 1024), i = ix2 s j := ⟨i 0, i 1, by funext a; fin_cases a <;> rfl⟩
  exact gradRow_eq x0 x1 x2 x3 x4 x5 h0 h1 h2 h3 h4 h5 s j

/-- The gradient of the MLP's output is the reference's. -/
theorem gated_eq (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) : gatedBlk (n := 4096) (narrow x1) (blocked x3) x0 (padded x2) (asRow x4) x5 = val_main_v73 (F := Ideal) x0 x1 x2 x3 x4 x5 := by
  funext i
  obtain ⟨s, j, rfl⟩ : ∃ (s : Fin 4096) (j : Fin 1024), i = ix2 s j := ⟨i 0, i 1, by funext a; fin_cases a <;> rfl⟩
  refine Eq.trans ?_ (ref_gated x0 x1 x2 x3 x4 x5 s j).symm
  exact (congrArg₂ (fun a b : EReal => a * b) (gradRow_eq x0 x1 x2 x3 x4 x5 h0 h1 h2 h3 h4 h5 s j) (padded_apply x2 _ _ 5 j)).trans (mul_comm _ _)

/-- The loss of a feature: the factor inside the sum or outside, on finite errors. -/
theorem loss_eq (e : Fin 4096 → EReal) (he : ∀ s, Fin' (e s)) : Ideal.div (Ideal.ofBits .f32 1056964608#32 * ∑ s : Fin 4096, e s * e s) width
    = ∑ s : Fin 4096, e s * e s * Ideal.ofBits .f32 0x3A000000#32 := by
  choose y hy using fun s => (he s).exists_real
  obtain rfl : e = fun s => (y s : EReal) := funext hy
  rw [half_eq, half_width_eq, width_eq, Ideal.div_coe (by norm_num)]
  simp only [← EReal.coe_mul, ← coe_sum]
  refine congrArg _ ?_
  rw [Finset.mul_sum, Finset.sum_mul]
  refine Finset.sum_congr rfl fun s _ => ?_
  ring

/-- The sums over the rows are the reference's. -/
theorem sums_eq (h0 : ∀ i, Fin' (x0 i)) (h1 : ∀ i, Fin' (x1 i)) (h2 : ∀ j, Fin' (x2 (ix2 5 j))) (h3 : ∀ i, Fin' (x3 i)) (h4 : ∀ i, Fin' (x4 i)) (h5 : ∀ i, Fin' (x5 i)) : (fun y : S8x1024.Idx => ∑ s : Fin 4096, term (n := 4096) (narrow x1) (blocked x3) x0 (padded x2) (asRow x4) x5 (y 0).val s (y 1)) = val_main_v82 (F := Ideal) x0 x1 x2 x3 x4 x5 := by
  funext y
  refine Eq.symm ?_
  refine stack_apply _ _ _ _ _ _ _ _ _ y _ (fun h => ?_) (fun h => ?_) (fun h => ?_) (fun h => ?_) (fun h => ?_) (fun h => ?_) (fun h => ?_) (fun h => ?_)
  · rw [val_main_v74_apply, ref_sum0 x0 x1 x2 x3 x4 x5 (y 1) _ (by funext a; fin_cases a; rfl), h]
    refine Finset.sum_congr rfl fun s _ => ?_
    rw [ref_errGrad x0 x1 x2 x3 x4 x5 s (y 1) (err_finite x0 x1 x2 x3 x4 x5 h0 h1 h2 h3 h4 h5 s (y 1)), ← resid_eq, ← err_eq]
    exact mul_comm _ _
  · rw [val_main_v75_apply, ref_sum1 x0 x1 x2 x3 x4 x5 (y 1) _ (by funext a; fin_cases a; rfl), h]
    exact Finset.sum_congr rfl fun s _ => (congrArg₂ (fun a b : EReal => a * b) (gradRow_eq x0 x1 x2 x3 x4 x5 h0 h1 h2 h3 h4 h5 s (y 1)) (prod_eq x1 x3 s (y 1))).symm
  · rw [val_main_v76_apply, ref_loss x0 x1 x2 x3 x4 x5 (y 1) _ (by funext a; fin_cases a; rfl), h, loss_eq _ fun s => err_finite x0 x1 x2 x3 x4 x5 h0 h1 h2 h3 h4 h5 s (y 1)]
    refine Finset.sum_congr rfl fun s _ => ?_
    rw [← err_eq]
    rfl
  all_goals
    rw [h]
    exact Ideal.ofBits_zero_f32.trans (Finset.sum_eq_zero fun s _ => rfl).symm

/-- What the precondition says of the arguments. -/
theorem finite_of_pre (h : ∀ j, Cert.Pre_finite4.fn (F := Ideal) x0 x1 x2 x3 x4 x5 j = 1#1) :
    (∀ i, Fin' (x0 i)) ∧ (∀ i, Fin' (x1 i)) ∧ (∀ j, Fin' (x2 (ix2 5 j))) ∧ (∀ i, Fin' (x3 i)) ∧ (∀ i, Fin' (x4 i)) ∧ (∀ i, Fin' (x5 i)) := by
  haveI : Subsingleton (⟨0, ![]⟩ : Shape).Idx := ⟨fun a b => funext fun i => i.elim0⟩
  have h := h fun i => i.elim0
  obtain ⟨h, h5⟩ := both_of_andi h
  obtain ⟨h, h4⟩ := both_of_andi h
  obtain ⟨h, h3⟩ := both_of_andi h
  obtain ⟨h, h2⟩ := both_of_andi h
  obtain ⟨h0, h1⟩ := both_of_andi h
  refine ⟨finite_of_all x0 _ _ _ _ _ h0, finite_of_all x1 _ _ _ _ _ h1, fun j => ?_, finite_of_all x3 _ _ _ _ _ h3,
    finite_of_all x4 _ _ _ _ _ h4, finite_of_all x5 _ _ _ _ _ h5⟩
  rw [← modRow_apply 5 x2 Cert.Pre_finite4.Facts.slices_S6x1024_S1x1024_5_0 Cert.Pre_finite4.Facts.shapeCasts_S1x1024_S1024 j]
  exact finite_of_all _ _ _ _ _ _ h2 (ix1 j)

end Equation

variable (m : (ℓ : Loc nD τ sig) → Buf (Elt Ideal) ℓ)

/-- The gradient of the residual that the kernel leaves is the reference's. -/
theorem value_grad (hpre : Cert.Pre_Kernel4Ideal_finite4 m) (c : Dev nD) : (dats m 0 c).arrAt 6 cfg0.N
    = val_main_v65 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨h0, h1, h2, h3, h4, h5⟩ := finite_of_pre _ _ _ _ _ _ (fun j => congrFun (hpre c) j)
  rw [final6, entry_ff, entry_w, entry_x, entry_mod, entry_g, entry_target]
  exact grad_eq _ _ _ _ _ _ h0 h1 h2 h3 h4 h5

/-- The gradient of the MLP's output that the kernel leaves is the reference's. -/
theorem value_gated (hpre : Cert.Pre_Kernel4Ideal_finite4 m) (c : Dev nD) : (dats m 0 c).arrAt 7 cfg0.N
    = val_main_v73 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨h0, h1, h2, h3, h4, h5⟩ := finite_of_pre _ _ _ _ _ _ (fun j => congrFun (hpre c) j)
  rw [final7, entry_ff, entry_w, entry_x, entry_mod, entry_g, entry_target]
  exact gated_eq _ _ _ _ _ _ h0 h1 h2 h3 h4 h5

/-- The sums that the kernel leaves are the reference's. -/
theorem value_sums (hpre : Cert.Pre_Kernel4Ideal_finite4 m) (c : Dev nD) : (dats m 0 c).arrAt 8 cfg0.N
    = val_main_v82 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨h0, h1, h2, h3, h4, h5⟩ := finite_of_pre _ _ _ _ _ _ (fun j => congrFun (hpre c) j)
  rw [final8, entry_ff, entry_w, entry_x, entry_mod, entry_g, entry_target]
  exact sums_eq _ _ _ _ _ _ h0 h1 h2 h3 h4 h5

/-- The reference's frame: it is straight-line host code. -/
theorem frame_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- Both programs leave the same gradients and losses on finite arguments. -/
theorem algebraic : Cert.algebraic_Kernel4Ideal_Reference4Ideal_pre_finite4 := by
  intro m ρ m' ρ' hpre hagree
  refine ⟨fun c => (dats m 0 c).arrAt 6 cfg0.N, fun c => (dats m 0 c).arrAt 7 cfg0.N, fun c => (dats m 0 c).arrAt 8 cfg0.N, run_blocks m ρ, ?_⟩
  refine (θ_run Cert.Reference4Ideal.defs _ _).mono (fun r h c => ⟨(h c).1.trans ?_, (h c).2.1.trans ?_, (h c).2.2.1.trans ?_, (h c).2.2.2⟩)
    (Cert.Reference4Ideal.Value.run (F := Ideal) m' ρ')
  all_goals obtain ⟨h0, h1, h2, h3, h4, h5⟩ := hagree c
  · rw [Cert.Reference4Ideal.Read.val_main_v65_eq, h0, h1, h2, h3, h4, h5]; exact (value_grad m hpre c).symm
  · rw [Cert.Reference4Ideal.Read.val_main_v73_eq, h0, h1, h2, h3, h4, h5]; exact (value_gated m hpre c).symm
  · rw [Cert.Reference4Ideal.Read.val_main_v82_eq, h0, h1, h2, h3, h4, h5]; exact (value_sums m hpre c).symm

end Cert.Proof.LossHead

end
-- ==== Proof.DProjIn.Block.lean ====
/-
  The backward call `d_proj_in` of the modulated norm before the mixers: the product `dproj · w_inᵀ` gives the gradient of
  the modulated row, and from it the call makes the gradient of the row, and three sums over all rows. This module reads
  what one grid point of 512 rows leaves in its blocks; the body treats its rows in two halves of 256.
-/
module

public import proofs.«01_k».proof.Proof.Gen.Kernel6Ideal.Value
public import proofs.«01_k».proof.Proof.Norm.Backward
public import Idealize.ShloMosaic.Lib.Pipeline.ValueKit.Point
public import Idealize.ShloMosaic.Lib.Pipeline.ReadBack
public import Idealize.ShloMosaic.Lib.WritesUnit
public import Idealize.ShloMosaic.Lib.Tactic

@[expose] public section

set_option maxRecDepth 16384
set_option maxHeartbeats 2000000

noncomputable section

namespace Cert.Kernel6Ideal.Value
open Cert.Kernel6Ideal Cert.Kernel6Ideal.Gen Idealize.ShloMosaic Idealize.ShloMosaic.TcCoe Idealize.SL.Sem
open Idealize.ShloMosaic.Pipeline (Dat)
open Cert.Proof.Norm

/-- The first half's and the second half's products are one function. -/
theorem pay6_apply (v3 v8 v14 v20 : Vec Ideal S256x1280 .bf16) (v5 v10 v16 v22 : Vec Ideal S1x1024x1280 .bf16) (x : S256x1024.Idx) :
    k0_pay6 v3 v5 v8 v10 v14 v16 v20 v22 x = ∑ k : Fin 1280, v3 (ix2 (x 0) k) * v5 (ix3 0 (x 1) k) + ∑ k : Fin 1280, v8 (ix2 (x 0) k) * v10 (ix3 0 (x 1) k)
      + ∑ k : Fin 1280, v14 (ix2 (x 0) k) * v16 (ix3 0 (x 1) k) + ∑ k : Fin 1280, v20 (ix2 (x 0) k) * v22 (ix3 0 (x 1) k) := by
  idx_vars x
  pointwise [k0_pay6]

/-- The reciprocal root of a row's mean square. -/
theorem pay9_apply (v : Vec Ideal S256x1024 .f32) (x : S256x1.Idx) : k0_pay9 v x = Cert.Proof.Norm.inv fun k => v (ix2 (x 0) k) := by
  idx_vars x
  pointwise [k0_pay9]
  rfl

/-- The normalised row. -/
theorem pay10_apply (v : Vec Ideal S256x1024 .f32) (x : S256x1024.Idx) : k0_pay10 v x = unit (fun k => v (ix2 (x 0) k)) (x 1) := by
  idx_vars x
  pointwise [k0_pay10]
  rw [pay9_apply]
  rfl

/-- A half's term of the first sum, added to what was there. -/
theorem pay11_apply (v25 v60 : Vec Ideal S256x1024 .f32) (v61 v66 : Vec Ideal S1x1024 .f32) (x : S1x1024.Idx) :
    k0_pay11 v25 v60 v61 v66 x = v66 x + ∑ s : Fin 256, v25 (ix2 s (x 1)) * (v60 (ix2 s (x 1)) * v61 (ix2 0 (x 1))) := by
  idx_vars x
  pointwise [k0_pay11]

/-- A half's term of the second sum. -/
theorem pay12_apply (v25 : Vec Ideal S256x1024 .f32) (v72 : Vec Ideal S1x1024 .f32) (x : S1x1024.Idx) :
    k0_pay12 v25 v72 x = v72 x + ∑ s : Fin 256, v25 (ix2 s (x 1)) := by
  idx_vars x
  pointwise [k0_pay12]

/-- The product times one plus the scale. -/
theorem pay13_apply (v25 : Vec Ideal S256x1024 .f32) (v78 : Vec Ideal S1x1024 .f32) (x : S256x1024.Idx) :
    k0_pay13 v25 v78 x = v25 x * (Ideal.ofBits .f32 1065353216#32 + v78 (ix2 0 (x 1))) := by
  idx_vars x
  pointwise [k0_pay13]

/-- A half's term of the third sum. -/
theorem pay14_apply (v25 v60 : Vec Ideal S256x1024 .f32) (v78 v85 : Vec Ideal S1x1024 .f32) (x : S1x1024.Idx) :
    k0_pay14 v25 v60 v78 v85 x = v85 x + ∑ s : Fin 256, k0_pay13 v25 v78 (ix2 s (x 1)) * v60 (ix2 s (x 1)) := by
  idx_vars x
  pointwise [k0_pay14]

/-- The gradient of the normalised row. -/
theorem pay15_apply (v25 : Vec Ideal S256x1024 .f32) (v78 v91 : Vec Ideal S1x1024 .f32) (x : S256x1024.Idx) :
    k0_pay15 v25 v78 v91 x = k0_pay13 v25 v78 x * v91 (ix2 0 (x 1)) := by
  idx_vars x
  pointwise [k0_pay15]

/-- The gradient of the normalised row times that row. -/
theorem pay16_apply (v25 v60 : Vec Ideal S256x1024 .f32) (v78 v91 : Vec Ideal S1x1024 .f32) (x : S256x1024.Idx) :
    k0_pay16 v25 v60 v78 v91 x = k0_pay15 v25 v78 v91 x * v60 x := by
  idx_vars x
  pointwise [k0_pay16]

/-- The gradient of the row. -/
theorem pay17_apply (v50 v60 v94 v95 : Vec Ideal S256x1024 .f32) (v58 : Vec Ideal S256x1 .f32) (x : S256x1024.Idx) :
    k0_pay17 v50 v58 v60 v94 v95 x = v50 x + v58 (ix2 (x 0) 0) * (v94 x - v60 x * Ideal.div (∑ k : Fin 1024, v95 (ix2 (x 0) k)) width) := by
  idx_vars x
  pointwise [k0_pay17]

/-- Row `s` of the product, of any number of rows. -/
abbrev prod {n : ℕ} (x : Vec Ideal (⟨2, ![n, 5120]⟩ : Shape) .bf16) (w : Vec Ideal S4x1024x1280 .bf16) (s : Fin n) : Row := prodRow 1280 rfl x w s

/-- What row `s` adds to row `r` of the sums. -/
abbrev term {n : ℕ} (x : Vec Ideal (⟨2, ![n, 5120]⟩ : Shape) .bf16) (w : Vec Ideal S4x1024x1280 .bf16) (v : Rows n) (mod : Rows 8) (g : Rows 1) (r : ℕ) (s : Fin n) : Row :=
  sumTerm 1 r (prod x w s) (rowOf v s) mod g

section Half

variable (o : ℕ) (ho : o + 256 ≤ 512) (x0 : Vec Ideal S512x5120 .bf16) (x1 : Vec Ideal S4x1024x1280 .bf16) (x2 x3 : Vec Ideal S512x1024 .f32) (x4 : Vec Ideal S8x1024 .f32) (x5 : Vec Ideal S1x1024 .f32)

/-- The product of one half of the rows, read at an index. -/
theorem half_prod (h0 h1 h2 h3 g0 g1 g2 g3) (x : S256x1024.Idx) :
    k0_pay6 (View.ld x0 (Rect.unit ![o, 0] ![256, 1280] h0)) (View.ld x1 (Rect.unit ![0, 0, 0] ![1, 1024, 1280] g0))
      (View.ld x0 (Rect.unit ![o, 1280] ![256, 1280] h1)) (View.ld x1 (Rect.unit ![1, 0, 0] ![1, 1024, 1280] g1))
      (View.ld x0 (Rect.unit ![o, 2560] ![256, 1280] h2)) (View.ld x1 (Rect.unit ![2, 0, 0] ![1, 1024, 1280] g2))
      (View.ld x0 (Rect.unit ![o, 3840] ![256, 1280] h3)) (View.ld x1 (Rect.unit ![3, 0, 0] ![1, 1024, 1280] g3)) x
      = prod x0 x1 (rowAt o ho (x 0)) (x 1) := by
  refine (pay6_apply _ _ _ _ _ _ _ _ x).trans ?_
  unfold prod prodRow
  rw [Fin.sum_univ_four]
  refine congrArg₂ _ (congrArg₂ _ (congrArg₂ _ ?_ ?_) ?_) ?_
  all_goals
    refine Finset.sum_congr rfl fun k _ => congrArg₂ _ (View.ld_unit_apply_of _ _ _ _ _ _ fun a => ?_) (View.ld_unit_apply_of _ _ _ _ _ _ fun a => ?_)
  all_goals fin_cases a
  all_goals simp [ix2_0, ix2_1, ix3_0, ix3_1, ix3_2]
  all_goals omega

/-- The normalised row of one half. -/
theorem half_unit (h) (x : S256x1024.Idx) :
    k0_pay10 (View.ld x2 (Rect.unit ![o, 0] ![256, 1024] h)) x = unit (rowOf x2 (rowAt o ho (x 0))) (x 1) := by
  rw [pay10_apply]
  exact congrArg (unit · (x 1)) (funext fun k => half_row o ho x2 h (x 0) k)

variable (d : Vec Ideal S256x1024 .f32) (hd : ∀ x : S256x1024.Idx, d x = prod x0 x1 (rowAt o ho (x 0)) (x 1))

include hd

/-- The gradient of the rows of one half. -/
theorem half_grad (h2 h3 h4 h5) (x : S256x1024.Idx) :
    k0_pay17 (View.ld x3 (Rect.unit ![o, 0] ![256, 1024] h3)) (k0_pay9 (View.ld x2 (Rect.unit ![o, 0] ![256, 1024] h2)))
      (k0_pay10 (View.ld x2 (Rect.unit ![o, 0] ![256, 1024] h2)))
      (k0_pay15 d (View.ld x4 (Rect.unit ![1, 0] ![1, 1024] h4)) (View.ld x5 (Rect.unit ![0, 0] ![1, 1024] h5)))
      (k0_pay16 d (k0_pay10 (View.ld x2 (Rect.unit ![o, 0] ![256, 1024] h2))) (View.ld x4 (Rect.unit ![1, 0] ![1, 1024] h4)) (View.ld x5 (Rect.unit ![0, 0] ![1, 1024] h5))) x
      = through (x3 (ix2 (rowAt o ho (x 0)) (x 1))) (rowOf x2 (rowAt o ho (x 0))) (normGrad 1 (prod x0 x1 (rowAt o ho (x 0))) x4 x5) (x 1) := by
  have hp : ∀ j : Fin 1024, k0_pay15 d (View.ld x4 (Rect.unit ![1, 0] ![1, 1024] h4)) (View.ld x5 (Rect.unit ![0, 0] ![1, 1024] h5)) (ix2 (x 0) j)
      = normGrad 1 (prod x0 x1 (rowAt o ho (x 0))) x4 x5 j := fun j => by
    rw [pay15_apply, pay13_apply]
    exact congrArg₂ _ (congrArg₂ _ (hd _) (congrArg _ (ld_row 1 (by omega) x4 h4 j))) (ld_one x5 h5 j)
  rw [pay17_apply, pay9_apply]
  unfold through
  refine congrArg₂ _ ?_ (congrArg₂ _ ?_ (congrArg₂ _ ?_ (congrArg₂ _ ?_ (congrArg (Ideal.div · width) (Finset.sum_congr rfl fun k _ => ?_)))))
  · exact (congrArg _ (eq_ix2 x)).trans (half_row o ho x3 h3 (x 0) (x 1))
  · exact congrArg Cert.Proof.Norm.inv (funext fun k => half_row o ho x2 h2 (x 0) k)
  · exact (congrArg _ (eq_ix2 x)).trans (hp (x 1))
  · exact half_unit o ho x2 h2 x
  · rw [pay16_apply]
    exact congrArg₂ _ (hp k) (half_unit o ho x2 h2 (ix2 (n0 := 256) (x 0) k))

/-- What one half adds to the first sum. -/
theorem half_sum0 (h2 h5) (prev : Vec Ideal S1x1024 .f32) (x : S1x1024.Idx) :
    k0_pay11 d (k0_pay10 (View.ld x2 (Rect.unit ![o, 0] ![256, 1024] h2))) (View.ld x5 (Rect.unit ![0, 0] ![1, 1024] h5)) prev x
      = prev x + ∑ s : Fin 256, term x0 x1 x2 x4 x5 0 (rowAt o ho s) (x 1) := by
  rw [pay11_apply]
  refine congrArg _ (Finset.sum_congr rfl fun s _ => ?_)
  exact congrArg₂ _ (hd _) (congrArg₂ _ (half_unit o ho x2 h2 (ix2 s (x 1))) (ld_one x5 h5 (x 1)))

/-- What one half adds to the second sum. -/
theorem half_sum1 (prev : Vec Ideal S1x1024 .f32) (x : S1x1024.Idx) :
    k0_pay12 d prev x = prev x + ∑ s : Fin 256, term x0 x1 x2 x4 x5 1 (rowAt o ho s) (x 1) := by
  rw [pay12_apply]
  refine congrArg _ (Finset.sum_congr rfl fun s _ => ?_)
  exact hd _

/-- What one half adds to the third sum. -/
theorem half_sum2 (h2 h4) (prev : Vec Ideal S1x1024 .f32) (x : S1x1024.Idx) :
    k0_pay14 d (k0_pay10 (View.ld x2 (Rect.unit ![o, 0] ![256, 1024] h2))) (View.ld x4 (Rect.unit ![1, 0] ![1, 1024] h4)) prev x
      = prev x + ∑ s : Fin 256, term x0 x1 x2 x4 x5 2 (rowAt o ho s) (x 1) := by
  rw [pay14_apply]
  refine congrArg _ (Finset.sum_congr rfl fun s _ => ?_)
  rw [pay13_apply]
  exact congrArg₂ _ (congrArg₂ _ (hd _) (congrArg _ (ld_row 1 (by omega) x4 h4 (x 1)))) (half_unit o ho x2 h2 (ix2 s (x 1)))

end Half

/-- The gradient's block: every row's gradient through the norm, added to the gradient that passes by. -/
def gradBlk {n : ℕ} (x0 : Vec Ideal (⟨2, ![n, 5120]⟩ : Shape) .bf16) (x1 : Vec Ideal S4x1024x1280 .bf16) (x2 x3 : Vec Ideal (⟨2, ![n, 1024]⟩ : Shape) .f32) (x4 : Vec Ideal S8x1024 .f32) (x5 : Vec Ideal S1x1024 .f32) : Vec Ideal (⟨2, ![n, 1024]⟩ : Shape) .f32 := fun y =>
  through (x3 y) (rowOf x2 (y 0)) (normGrad 1 (prod x0 x1 (y 0)) x4 x5) (y 1)

section Point

variable (c : Dev nD) (i : grid0.Coords) (arg1 : Memref sig .tc .vmem S512x5120 .bf16) (harg1 : arg1.IsWhole) (arg2 : Memref sig .tc .vmem S4x1024x1280 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S8x1024 .f32) (harg8 : arg8.IsWhole)
  (x0 : Vec Ideal S512x5120 .bf16) (x1 : Vec Ideal S4x1024x1280 .bf16) (x2 x3 : Vec Ideal S512x1024 .f32) (x4 : Vec Ideal S8x1024 .f32) (x5 : Vec Ideal S1x1024 .f32)

include harg1 harg2 harg3 harg4 harg5 harg6 harg7 harg8

/-- The first point's stores leave the gradient's block. -/
theorem out6A_eq (hc0 : cond0_0 i) : out0_A_6 c i arg1 harg1 arg2 harg2 arg3 harg3 arg4 harg4 arg5 harg5 arg6 harg6 arg7 harg7 arg8 harg8 hc0 x0 x1 x2 x3 x4 x5 = gradBlk x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- A later point's stores leave the gradient's block. -/
theorem out6B_eq (hc0 : ¬cond0_0 i) (x7 : Vec Ideal S8x1024 .f32) : out0_B_6 c i arg1 harg1 arg2 harg2 arg3 harg3 arg4 harg4 arg5 harg5 arg6 harg6 arg7 harg7 arg8 harg8 hc0 x0 x1 x2 x3 x4 x5 x7 = gradBlk x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 x7)]
  unfold kernelRun0_B
  dsimp only
  sl_unfold_words
  simp only [View.readAt_eq_ld, harg1.read_unread, harg2.read_unread, harg3.read_unread, harg4.read_unread, harg5.read_unread, harg6.read_unread]
  funext y
  canon_tiles x h using View.cover_of_tiled_head _ _ _ (by rfl) y
  · rw [idx_of y (rowAt 256 (by omega) (x 0)) (x 1) (by simp [h0]) h1]
    exact half_grad 256 (by omega) x0 x1 x2 x3 x4 x5 _ (half_prod 256 (by omega) x0 x1 _ _ _ _ _ _ _ _) _ _ _ _ x
  · rw [idx_of y (rowAt 0 (by omega) (x 0)) (x 1) (by simp [h0]) h1]
    exact half_grad 0 (by omega) x0 x1 x2 x3 x4 x5 _ (half_prod 0 (by omega) x0 x1 _ _ _ _ _ _ _ _) _ _ _ _ x

/-- A later point's stores into the sums leave what was there, and what the point's rows add. -/
theorem out7B_eq (hc0 : ¬cond0_0 i) (x7 : Vec Ideal S8x1024 .f32) : out0_B_7 c i arg1 harg1 arg2 harg2 arg3 harg3 arg4 harg4 arg5 harg5 arg6 harg6 arg7 harg7 arg8 harg8 hc0 x0 x1 x2 x3 x4 x5 x7 = addRows (term x0 x1 x2 x4 x5) x7 := by
  unfold out0_B_7
  unfold kernelRun0_B
  dsimp only
  sl_unfold_words
  simp (disch := decide) only [↓ View.readCov_skip, ↓ View.readCov_cons_toLoadRect, ↓ View.readCov_fill]
  simp only [View.readAt_eq_ld, harg1.read_unread, harg2.read_unread, harg3.read_unread, harg5.read_unread, harg6.read_unread, harg8.read_unread]
  funext y
  refine read_row _ _ 2 _ _ _ y (fun h => addRows_two (term x0 x1 x2 x4 x5) 2 (by omega) (half_sum2 0 (by omega) x0 x1 x2 x4 x5 _ (half_prod 0 (by omega) x0 x1 _ _ _ _ _ _ _ _) _ _) (half_sum2 256 (by omega) x0 x1 x2 x4 x5 _ (half_prod 256 (by omega) x0 x1 _ _ _ _ _ _ _ _) _ _) x7 y h _) fun n2 => ?_
  refine read_row _ _ 1 _ _ _ y (fun h => addRows_two (term x0 x1 x2 x4 x5) 1 (by omega) (half_sum1 0 (by omega) x0 x1 x2 x4 x5 _ (half_prod 0 (by omega) x0 x1 _ _ _ _ _ _ _ _)) (half_sum1 256 (by omega) x0 x1 x2 x4 x5 _ (half_prod 256 (by omega) x0 x1 _ _ _ _ _ _ _ _)) x7 y h _) fun n1 => ?_
  refine read_row _ _ 0 _ _ _ y (fun h => addRows_two (term x0 x1 x2 x4 x5) 0 (by omega) (half_sum0 0 (by omega) x0 x1 x2 x4 x5 _ (half_prod 0 (by omega) x0 x1 _ _ _ _ _ _ _ _) _ _) (half_sum0 256 (by omega) x0 x1 x2 x4 x5 _ (half_prod 256 (by omega) x0 x1 _ _ _ _ _ _ _ _) _ _) x7 y h _) fun n0 => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  exact (congrFun (harg8.read_unread x7) y).trans (addRows_kept (term x0 x1 x2 x4 x5) x7 y fun s j => by simp [sumTerm, n0, n1, n2])

/-- The first point's stores into the sums leave what the point's rows add to zeros. -/
theorem out7A_eq (hc0 : cond0_0 i) : out0_A_7 c i arg1 harg1 arg2 harg2 arg3 harg3 arg4 harg4 arg5 harg5 arg6 harg6 arg7 harg7 arg8 harg8 hc0 x0 x1 x2 x3 x4 x5 = addRows (term x0 x1 x2 x4 x5) (k0_pay5 (F := Ideal)) := by
  unfold out0_A_7
  unfold kernelRun0_A
  dsimp only
  sl_unfold_words
  simp (disch := decide) only [↓ View.readCov_skip, ↓ View.readCov_cons_toLoadRect, ↓ View.readCov_fill]
  simp only [View.readAt_eq_ld, harg1.read_unread, harg2.read_unread, harg3.read_unread, harg5.read_unread, harg6.read_unread, harg8.read_unread]
  funext y
  refine read_row _ _ 2 _ _ _ y (fun h => addRows_two (term x0 x1 x2 x4 x5) 2 (by omega) (half_sum2 0 (by omega) x0 x1 x2 x4 x5 _ (half_prod 0 (by omega) x0 x1 _ _ _ _ _ _ _ _) _ _) (half_sum2 256 (by omega) x0 x1 x2 x4 x5 _ (half_prod 256 (by omega) x0 x1 _ _ _ _ _ _ _ _) _ _) (k0_pay5 (F := Ideal)) y h _) fun n2 => ?_
  refine read_row _ _ 1 _ _ _ y (fun h => addRows_two (term x0 x1 x2 x4 x5) 1 (by omega) (half_sum1 0 (by omega) x0 x1 x2 x4 x5 _ (half_prod 0 (by omega) x0 x1 _ _ _ _ _ _ _ _)) (half_sum1 256 (by omega) x0 x1 x2 x4 x5 _ (half_prod 256 (by omega) x0 x1 _ _ _ _ _ _ _ _)) (k0_pay5 (F := Ideal)) y h _) fun n1 => ?_
  refine read_row _ _ 0 _ _ _ y (fun h => addRows_two (term x0 x1 x2 x4 x5) 0 (by omega) (half_sum0 0 (by omega) x0 x1 x2 x4 x5 _ (half_prod 0 (by omega) x0 x1 _ _ _ _ _ _ _ _) _ _) (half_sum0 256 (by omega) x0 x1 x2 x4 x5 _ (half_prod 256 (by omega) x0 x1 _ _ _ _ _ _ _ _) _ _) (k0_pay5 (F := Ideal)) y h _) fun n0 => ?_
  refine read_row _ _ 2 _ _ _ y (fun h => absurd h n2) fun _ => ?_
  refine read_row _ _ 1 _ _ _ y (fun h => absurd h n1) fun _ => ?_
  refine read_row _ _ 0 _ _ _ y (fun h => absurd h n0) fun _ => ?_
  refine (read_whole _ _ _ _ _ y).trans ?_
  exact (addRows_kept (term x0 x1 x2 x4 x5) (k0_pay5 (F := Ideal)) y fun s j => by simp [sumTerm, n0, n1, n2])

end Point

end Cert.Kernel6Ideal.Value

end
-- ==== Proof.DProjIn.Arrays.lean ====
/-
  The result arrays of the call `d_proj_in` after its run: each point of 512 rows writes its rows of the gradient, and adds
  its rows' terms to the block of sums, which the first point sets to zero and the last writes back.
-/
module

public import proofs.«01_k».proof.Proof.DProjIn.Block

@[expose] public section

set_option maxRecDepth 16384
set_option maxHeartbeats 2000000

noncomputable section

namespace Cert.Kernel6Ideal.Value
open Cert.Kernel6Ideal Cert.Kernel6Ideal.Gen Idealize.ShloMosaic Idealize.ShloMosaic.TcCoe Idealize.SL.Sem
open Idealize.ShloMosaic.Pipeline (Dat)
open Cert.Proof.Norm

variable (m : (ℓ : Loc nD τ sig) → Buf (Elt Ideal) ℓ) (ρ : Dev nD → PrngReg)

/-- The block each window reads or writes at point `t`: the row arrays' blocks go with the point, the others are whole. -/
theorem index0 : ∀ t : Fin cfg0.N, (win0_1.index t (0 : Fin 3) = 0 ∧ win0_1.index t (1 : Fin 3) = 0 ∧ win0_1.index t (2 : Fin 3) = 0)
    ∧ (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

/-- A point's rows of the product are the array's. -/
theorem blk_prod (c : Dev nD) (t : Fin cfg0.N) (s : Fin 512) :
    prod (n := 512) (iblk m c 0 t) (iblk m c 1 t) s = prod (n := 4096) (V m c main_v6) (V m c main_v5) (rowIn t s) := by
  obtain ⟨⟨w0, w1, w2⟩, ⟨a0, a1⟩, _⟩ := index0 t
  funext j
  unfold prod prodRow
  reads_congr
  all_goals blk_ext! [iblk, w0, w1, w2, a0, a1]

/-- A point's rows of the norm's argument are the array's. -/
theorem blk_row (c : Dev nD) (t : Fin cfg0.N) (s : Fin 512) : rowOf (n := 512) (iblk m c 2 t) s = rowOf (n := 4096) (V m c main_arg0) (rowIn t s) := by
  obtain ⟨_, _, ⟨b0, b1⟩, _⟩ := index0 t
  funext j
  unfold rowOf
  reads_congr
  all_goals blk_ext! [iblk, b0, b1]

/-- Every point reads the whole modulation. -/
theorem blk_mod (c : Dev nD) (t : Fin cfg0.N) : @Eq (Vec Ideal S8x1024 .f32) (iblk m c 4 t) (V m c main_v1) := by
  obtain ⟨_, _, _, _, ⟨d0, d1⟩, _⟩ := index0 t
  funext y
  reads_congr
  all_goals blk_ext! [iblk, d0, d1]

/-- Every point reads the norm's whole weight. -/
theorem blk_g (c : Dev nD) (t : Fin cfg0.N) : @Eq (Vec Ideal S1x1024 .f32) (iblk m c 5 t) (V m c main_v2) := by
  obtain ⟨_, _, _, _, _, ⟨e0, e1⟩, _⟩ := index0 t
  funext y
  reads_congr
  all_goals blk_ext! [iblk, e0, e1]

/-- What every point leaves in the gradient's block. -/
theorem after6 (c : Dev nD) (t : Fin cfg0.N) : (outsAt0 m c t.val t.isLt).1
    = gradBlk (n := 512) (iblk m c 0 t) (iblk m c 1 t) (iblk m c 2 t) (iblk m c 3 t) (iblk m c 4 t) (iblk m c 5 t) := by
  by_cases h : t.val % 8 = 0
  · rw [outsAt0_A m c t h]
    dsimp only
    rw [out6A_eq]
  · rw [outsAt0_B m c t h]
    dsimp only
    rw [out6B_eq]

/-- After the run the first result array is the gradient of every row. -/
theorem final6 (c : Dev nD) : (dats m 0 c).arrAt 6 cfg0.N = gradBlk (n := 4096) (V m c main_v6) (V m c main_v5) (V m c main_arg0) (V m c main_arg4) (V m c main_v1) (V m c main_v2) := by
  refine (dats m 0 c).arrAt_eq_of_covers 6 _ (by decide +kernel) fun t hf y => ?_
  blk_simp
  rw [after0_6, after6]
  obtain ⟨_, _, _, ⟨c0, c1⟩, _, _, ⟨f0, f1⟩, _⟩ := index0 t
  unfold gradBlk
  rw [blk_mod, blk_g]
  have e0 : ((win0_6.blk t).view.emb y 0 : Fin 4096) = rowIn t (y 0) := Fin.ext (by simp [f0, Nat.mul_comm])
  have e1 : ((win0_6.blk t).view.emb y 1 : Fin 1024) = y 1 := Fin.ext (by simp [f1])
  refine through_congr ?_ ((blk_row m c t (y 0)).trans (congrArg (rowOf _) e0.symm)) (congrArg (normGrad 1 · _ _) ((blk_prod m c t (y 0)).trans (congrArg (prod _ _) e0.symm))) e1.symm
  reads_congr
  all_goals blk_ext! [iblk, c0, c1, f0, f1]

/-- A point's terms of the sums are the array's rows' terms. -/
theorem blk_term (c : Dev nD) (t : Fin cfg0.N) (r : ℕ) (s : Fin 512) :
    term (n := 512) (iblk m c 0 t) (iblk m c 1 t) (iblk m c 2 t) (iblk m c 4 t) (iblk m c 5 t) r s
      = term (n := 4096) (V m c main_v6) (V m c main_v5) (V m c main_arg0) (V m c main_v1) (V m c main_v2) r (rowIn t s) := by
  unfold term
  rw [blk_prod, blk_row, blk_mod, blk_g]

/-- The zeros with which the first point starts the sums. -/
theorem start_apply (y : S8x1024.Idx) : (k0_pay5 (F := Ideal)) y = 0 := by
  idx_vars y
  pointwise [k0_pay5]

/-- After the last point the sums' block holds the terms of all rows. -/
theorem after7 (c : Dev nD) : (outsAt0 m c 7 (by decide)).2
    = fun y : S8x1024.Idx => ∑ s : Fin 4096, term (n := 4096) (V m c main_v6) (V m c main_v5) (V m c main_arg0) (V m c main_v1) (V m c main_v2) (y 0).val s (y 1) := by
  refine addRows_run (term (n := 4096) (V m c main_v6) (V m c main_v5) (V m c main_arg0) (V m c main_v1) (V m c main_v2)) (fun t h => (outsAt0 m c t h).2) (k0_pay5 (F := Ideal)) start_apply (fun h => ?_) fun t h => ?_
  · refine (congrArg Prod.snd (outsAt0_A m c ⟨0, h⟩ (Nat.zero_mod 8))).trans ?_
    dsimp only
    rw [out7A_eq]
    exact congrArg (fun z => addRows z _) (funext fun r => funext fun s => blk_term m c ⟨0, h⟩ r s)
  · refine (congrArg Prod.snd (outsAt0_B m c ⟨t + 1, h⟩ (show ¬(t + 1) % 8 = 0 by omega))).trans ?_
    dsimp only
    rw [out7B_eq]
    exact congrArg (fun z => addRows z _) (funext fun r => funext fun s => blk_term m c ⟨t + 1, h⟩ r s)

/-- After the run the second result array is the sums over all rows. -/
theorem final7 (c : Dev nD) : (dats m 0 c).arrAt 7 cfg0.N = fun y : S8x1024.Idx =>
    ∑ s : Fin 4096, term (n := 4096) (V m c main_v6) (V m c main_v5) (V m c main_arg0) (V m c main_v1) (V m c main_v2) (y 0).val s (y 1) := by
  refine (dats m 0 c).arrAt_eq_of_covers 7 _ (by decide +kernel) fun t hf y => ?_
  blk_simp
  have h7 : t = (⟨7, by decide⟩ : Fin cfg0.N) := Fin.ext ((by decide +kernel : ∀ t : Fin cfg0.N, (cfg0.win 7).flush t = true → t.val = 7) t hf)
  subst h7
  rw [after0_7, after7]
  obtain ⟨_, _, _, _, _, _, _, ⟨g0, g1⟩⟩ := index0 ⟨7, by decide⟩
  refine congrArg₂ (fun (r : ℕ) (j : Fin 1024) => ∑ s : Fin 4096, term (n := 4096) (V m c main_v6) (V m c main_v5) (V m c main_arg0) (V m c main_v1) (V m c main_v2) r s j) ?_ ?_
  · show (y 0).val = win0_7.index _ (0 : Fin 2) * 8 + (y 0).val
    rw [g0]
    omega
  · exact Fin.ext (by simpa using g1)

end Cert.Kernel6Ideal.Value

end
-- ==== Proof.DProjIn.Reference.lean ====
/-
  The reference of the call `d_proj_in`, read at an index: `jax.vjp` of the modulated rms norm times the weight, as rows of
  1024 features.
-/
module

public import proofs.«01_k».proof.Proof.Norm.Rows
public import proofs.«01_k».proof.Proof.Gen.Reference6Ideal.Run
public import proofs.«01_k».proof.Proof.Gen.Reference6Ideal.Read
public import Idealize.ShloMosaic.Lib.Pipeline.ValueKit.Point
public import Idealize.ShloMosaic.Lib.Tactic

@[expose] public section

set_option maxRecDepth 16384
set_option maxHeartbeats 2000000

noncomputable section

namespace Cert.Reference6Ideal.Read
open Cert.Reference6Ideal Cert.Reference6Ideal.Gen Idealize.ShloMosaic Idealize.ShloMosaic.TcCoe Idealize.SL.Sem
open Cert.Proof.Norm

variable (x0 : Vec Ideal S4096x1024 .f32) (x1 : Vec Ideal S6x1024 .f32) (x2 : Vec Ideal S1024 .f32) (x3 : Vec Ideal S1024x5120 .f32)
  (x4 : Vec Ideal S4096x1024 .f32) (x5 : Vec Ideal S4096x5120 .f32)

/-- Row `s` of the product with the transposed weight. -/
def refProd (s : Fin 4096) : Row := fun j => ∑ k : Fin 5120, x5 (ix2 s k) * x3 (ix2 j k)

/-- Row `s` of an array. -/
abbrev refRow (s : Fin 4096) : Row := fun k => x0 (ix2 s k)

/-- The mean square of a row. -/
theorem ref_square (s : Fin 4096) (z : S4096x1.Idx) (h : (z 0).val = s.val) : val_main_v10 (F := Ideal) x0 z = square (refRow x0 s) := by
  simp only [val_main_v10_apply, val_main_v8_apply, val_main_v6_apply, val_main_v5_apply, val_main_v7_apply, val_main_v9_apply, val_main_v4_apply, val_main_cst_apply, val_main_cst_0_apply, val_main_cst_1_apply]
  have e : ∀ k, idx_main_v5 (idx_main_v6 z) k = ix2 s k := fun k => by
    funext a
    fin_cases a
    · exact Fin.ext h
    · rfl
  simp only [e]
  refine congrArg (Ideal.div · width + small) ?_
  exact (congrArg (· + _) Ideal.ofBits_zero_f32).trans (zero_add _)

/-- The normalised row. -/
theorem ref_unit (s : Fin 4096) (j : Fin 1024) : val_main_v16 (F := Ideal) x0 (ix2 s j) = unit (refRow x0 s) j := by
  rw [val_main_v16_apply, val_main_v15_apply, val_main_v11_apply, ref_square x0 s _ rfl]
  rfl

/-- The product with the transposed weight. -/
theorem ref_prod (s : Fin 4096) (j : Fin 1024) : val_main_v29 (F := Ideal) x3 x5 (ix2 s j) = refProd x3 x5 s j := by
  rw [val_main_v29_apply]
  refine Finset.sum_congr rfl fun k _ => congrArg₂ _ (congrArg x5 ?_) (congrArg x3 ?_)
  all_goals funext a; fin_cases a <;> rfl

/-- The product's row times one plus the scale. -/
theorem ref_scaled (s : Fin 4096) (j : Fin 1024) :
    val_main_v37 (F := Ideal) x1 x3 x5 (ix2 s j) = refProd x3 x5 s j * (Ideal.ofBits .f32 1065353216#32 + x1 (ix2 1 j)) := by
  rw [val_main_v37_apply, ref_prod, val_main_v36_apply]
  simp only [val_main_v22_apply, val_main_v21_apply, val_main_v20_apply, val_main_v3_apply, val_main_v2_apply, val_main_v1_apply, val_main_v0_apply, val_main_cst_3_apply]
  refine congrArg (fun z => refProd x3 x5 s j * (Ideal.ofBits .f32 1065353216#32 + x1 z)) ?_
  funext a
  fin_cases a
  · rfl
  · exact Fin.ext (Nat.mod_eq_of_lt j.isLt)

/-- The gradient of the normalised row. -/
theorem ref_normGrad (s : Fin 4096) (j : Fin 1024) :
    val_main_v43 (F := Ideal) x1 x2 x3 x5 (ix2 s j) = refProd x3 x5 s j * (Ideal.ofBits .f32 1065353216#32 + x1 (ix2 1 j)) * x2 (ix1 j) := by
  rw [val_main_v43_apply, ref_scaled, val_main_v42_apply, val_main_v17_apply]
  refine congrArg (fun z => refProd x3 x5 s j * (Ideal.ofBits .f32 1065353216#32 + x1 (ix2 1 j)) * x2 z) ?_
  funext a
  fin_cases a; rfl

/-- The factor of the row in the gradient through the mean square. -/
theorem ref_slope (s : Fin 4096) (j : Fin 1024) :
    val_main_v55 (F := Ideal) x0 x1 x2 x3 x5 (ix2 s j) = slope (refRow x0 s) (fun k => val_main_v43 (F := Ideal) x1 x2 x3 x5 (ix2 s k)) := by
  rw [val_main_v55_apply, val_main_v54_apply, Fin.sum_univ_one, val_main_v53_apply, val_main_v51_apply, val_main_v47_apply, val_main_v46_apply,
    val_main_v14_apply, val_main_v13_apply, val_main_v12_apply, val_main_v11_apply, val_main_v52_apply, ref_square x0 s _ rfl]
  have e : ∀ k, idx_main_v46 (idx_main_v47 (idx_main_v54 (idx_main_v55 (ix2 s j)) 0)) k = ix2 s k := fun k => by
    funext a
    fin_cases a
    · refine Fin.ext ?_
      show s.val * 1 + 0 = s.val
      omega
    · rfl
  simp only [e, val_main_v45_apply]
  refine (congrArg (· + _) Ideal.ofBits_zero_f32).trans ((zero_add _).trans ?_)
  refine congrArg (fun z => Ideal.div (z * (Ideal.ofBits .f32 3204448256#32 * Ideal.div (inv (refRow x0 s)) (square (refRow x0 s)))) width) ?_
  exact (congrArg (· + _) Ideal.ofBits_zero_f32).trans (zero_add _)

/-- The gradient of the row, in its three terms. -/
theorem ref_grad (s : Fin 4096) (j : Fin 1024) :
    val_main_v59 (F := Ideal) x0 x1 x2 x3 x4 x5 (ix2 s j)
      = x4 (ix2 s j) + val_main_v43 (F := Ideal) x1 x2 x3 x5 (ix2 s j) * inv (refRow x0 s)
        + x0 (ix2 s j) * slope (refRow x0 s) (fun k => val_main_v43 (F := Ideal) x1 x2 x3 x5 (ix2 s k))
        + slope (refRow x0 s) (fun k => val_main_v43 (F := Ideal) x1 x2 x3 x5 (ix2 s k)) * x0 (ix2 s j) := by
  rw [val_main_v59_apply, val_main_v58_apply, val_main_v57_apply, val_main_v56_apply, val_main_v50_apply, val_main_v49_apply, val_main_v48_apply,
    val_main_v11_apply, ref_slope, ref_square x0 s _ rfl]
  rfl

/-- The gradient of the scale: the sum over all rows. -/
theorem ref_sum0 (j : Fin 1024) (z : S1024.Idx) (hz : z = ix1 j) : val_main_v38 (F := Ideal) x0 x2 x3 x5 z
    = ∑ s : Fin 4096, unit (refRow x0 s) j * x2 (ix1 j) * refProd x3 x5 s j := by
  subst hz
  rw [val_main_v38_apply, Fin.sum_univ_one, val_main_v35_apply, val_main_v34_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v34 (idx_main_v35 (idx_main_v38 (ix1 j) 0)) s = ix2 s j := by
    funext a
    fin_cases a
    · rfl
    · refine Fin.ext ?_
      show 0 * 1024 + j.val = j.val
      omega
  rw [e, val_main_v33_apply, val_main_v19_apply, ref_unit, ref_prod, val_main_v18_apply, val_main_v17_apply]
  refine congrArg (fun z => unit (refRow x0 s) j * x2 z * refProd x3 x5 s j) ?_
  funext a
  fin_cases a; rfl

/-- The gradient of the shift: the sum over all rows. -/
theorem ref_sum1 (j : Fin 1024) (z : S1024.Idx) (hz : z = ix1 j) : val_main_v32 (F := Ideal) x3 x5 z
    = ∑ s : Fin 4096, refProd x3 x5 s j := by
  subst hz
  rw [val_main_v32_apply, Fin.sum_univ_one, val_main_v31_apply, val_main_v30_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v30 (idx_main_v31 (idx_main_v32 (ix1 j) 0)) s = ix2 s j := by
    funext a
    fin_cases a
    · rfl
    · refine Fin.ext ?_
      show 0 * 1024 + j.val = j.val
      omega
  rw [e, ref_prod]

/-- The gradient of the norm's weight: the sum over all rows. -/
theorem ref_sum2 (j : Fin 1024) (z : S1024.Idx) (hz : z = ix1 j) : val_main_v44 (F := Ideal) x0 x1 x3 x5 z
    = ∑ s : Fin 4096, unit (refRow x0 s) j * (refProd x3 x5 s j * (Ideal.ofBits .f32 1065353216#32 + x1 (ix2 1 j))) := by
  subst hz
  rw [val_main_v44_apply, Fin.sum_univ_one, val_main_v41_apply, val_main_v40_apply]
  refine (congrArg (· + _) Ideal.ofBits_zero_f32).trans ((zero_add _).trans ((congrArg (· + _) Ideal.ofBits_zero_f32).trans ((zero_add _).trans ?_)))
  refine Finset.sum_congr rfl fun s _ => ?_
  have e : idx_main_v40 (idx_main_v41 (idx_main_v44 (ix1 j) 0)) s = ix2 s j := by
    funext a
    fin_cases a
    · rfl
    · refine Fin.ext ?_
      show 0 * 1024 + j.val = j.val
      omega
  rw [e, val_main_v39_apply, ref_unit, ref_scaled]
  rfl

end Cert.Reference6Ideal.Read

end
-- ==== Proof.DProjIn.Equation.lean ====
/-
  The backward call `d_proj_in` against `jax.vjp` of `modulated_norm(x) @ w_in`: the gradient of the residual row by the
  closed form of the norm's derivative, and the sums over the rows that are the gradients of the norm's weight and of the
  modulation. The closed form needs finite factors; the sums do not.
-/
module

public import proofs.«01_k».proof.Defs
public import proofs.«01_k».proof.Proof.Norm.Finite
public import proofs.«01_k».proof.Proof.Norm.Arguments
public import proofs.«01_k».proof.Proof.DProjIn.Arrays
public import proofs.«01_k».proof.Proof.DProjIn.Reference
public import proofs.«01_k».proof.Proof.Gen.Pre_finite6
public import Idealize.ShloMosaic.Lib.Claim
public import Idealize.ShloMosaic.Lib.Quiescent

@[expose] public section

set_option maxRecDepth 16384
set_option maxHeartbeats 2000000

noncomputable section

namespace Cert.Proof.DProjIn

open Idealize.ShloMosaic Idealize.ShloMosaic.TcCoe Idealize.SL.Sem
open Cert.Kernel6Ideal Cert.Kernel6Ideal.Gen Cert.Kernel6Ideal.Value
open Cert.Proof.Norm Cert.Reference6Ideal.Read

/-- The weight as the call reads it: four blocks of columns. -/
abbrev blocked (x3 : Vec Ideal S1024x5120 .f32) : Vec Ideal S4x1024x1280 .bf16 :=
  transpose S4x1024x1280 [1, 0, 2] (shapeCast S1024x4x1280 (truncf (F := Ideal) (s := S1024x5120) .bf16 (φ := .f32) x3 bitsLt_bf16_f32)
    shapeCasts_S1024x5120_S1024x4x1280) transposes_S1024x4x1280_S4x1024x1280_1_0_2

/-- The modulation as the call reads it: two rows of zeros below its six. -/
abbrev padded (x1 : Vec Ideal S6x1024 .f32) : Vec Ideal S8x1024 .f32 :=
  concatenate S8x1024 0 [⟨S6x1024, x1⟩, ⟨S2x1024, broadcastInDim S2x1024 ![] bcast_S_S2x1024 (constant (F := Ideal) S_ .f32 0x00000000#32)⟩]
    concatenates_S6x1024_S2x1024_S8x1024_d0

/-- The norm's weight as the call reads it: one row. -/
abbrev asRow (x2 : Vec Ideal S1024 .f32) : Vec Ideal S1x1024 .f32 := shapeCast S1x1024 x2 shapeCasts_S1024_S1x1024

section Entry

variable (m : (ℓ : Loc nD τ sig) → Buf (Elt Ideal) ℓ)

/-- The cotangent as the call is given it. -/
theorem entry_dproj (c : Dev nD) : @Eq (Vec Ideal S4096x5120 .bf16) (V m c main_v6)
    (truncf (F := Ideal) (s := S4096x5120) .bf16 (φ := .f32) (m ((c : Thread nD τ).loc main_arg5)) bitsLt_bf16_f32) := by
  simp only [V, List.flatten_cons, List.flatten_nil, List.append_nil, List.cons_append, List.nil_append]
  after_results
  try rfl

/-- The weight as the call is given it. -/
theorem entry_w (c : Dev nD) : @Eq (Vec Ideal S4x1024x1280 .bf16) (V m c main_v5) (blocked (m ((c : Thread nD τ).loc main_arg3))) := by
  simp only [V, List.flatten_cons, List.flatten_nil, List.append_nil, List.cons_append, List.nil_append]
  after_results
  try rfl

/-- The residual row as the call is given it. -/
theorem entry_x (c : Dev nD) : @Eq (Vec Ideal S4096x1024 .f32) (V m c main_arg0) (m ((c : Thread nD τ).loc main_arg0)) := by
  simp only [V, List.flatten_cons, List.flatten_nil, List.append_nil, List.cons_append, List.nil_append]
  after_results
  try rfl

/-- The residual's own cotangent as the call is given it. -/
theorem entry_dx (c : Dev nD) : @Eq (Vec Ideal S4096x1024 .f32) (V m c main_arg4) (m ((c : Thread nD τ).loc main_arg4)) := by
  simp only [V, List.flatten_cons, List.flatten_nil, List.append_nil, List.cons_append, List.nil_append]
  after_results
  try rfl

/-- The modulation as the call is given it. -/
theorem entry_mod (c : Dev nD) : @Eq (Vec Ideal S8x1024 .f32) (V m c main_v1) (padded (m ((c : Thread nD τ).loc main_arg1))) := by
  simp only [V, List.flatten_cons, List.flatten_nil, List.append_nil, List.cons_append, List.nil_append]
  after_results
  try rfl

/-- The norm's weight as the call is given it. -/
theorem entry_g (c : Dev nD) : @Eq (Vec Ideal S1x1024 .f32) (V m c main_v2) (asRow (m ((c : Thread nD τ).loc main_arg2))) := by
  simp only [V, List.flatten_cons, List.flatten_nil, List.append_nil, List.cons_append, List.nil_append]
  after_results
  try rfl

end Entry

section Equation

variable (x0 : Vec Ideal S4096x1024 .f32) (x1 : Vec Ideal S6x1024 .f32) (x2 : Vec Ideal S1024 .f32) (x3 : Vec Ideal S1024x5120 .f32)
  (x4 : Vec Ideal S4096x1024 .f32) (x5 : Vec Ideal S4096x5120 .f32)

/-- The product with the four blocks of the transposed weight is the product with the whole of it. -/
theorem prod_eq (s : Fin 4096) :
    prod (n := 4096) (truncf (F := Ideal) .bf16 (φ := .f32) x5 bitsLt_bf16_f32) (blocked x3) s = refProd x3 x5 s :=
  prodRow_blocked (n := 4096) (m := 1280) (N := 5120) rfl x5 x3 _ _ _ _ s

/-- The gradient of the normalised row is the reference's. -/
theorem normGrad_eq (s : Fin 4096) (j : Fin 1024) :
    normGrad 1 (refProd x3 x5 s) (padded x1) (asRow x2) j = val_main_v43 (F := Ideal) x1 x2 x3 x5 (ix2 s j) := by
  rw [ref_normGrad]
  exact congrArg₂ _ (congrArg (fun z => refProd x3 x5 s j * (_ + z)) (padded_apply x1 _ _ 1 j)) (asRow_apply x2 _ j)

/-- The gradient of the residual row is the reference's, on finite factors. -/
theorem grad_eq (h0 : ∀ i, Fin' (x0 i)) (h1 : ∀ j, Fin' (x1 (ix2 1 j))) (h2 : ∀ i, Fin' (x2 i)) (h3 : ∀ i, Fin' (x3 i)) (h5 : ∀ i, Fin' (x5 i)) :
    gradBlk (n := 4096) (truncf (F := Ideal) .bf16 (φ := .f32) x5 bitsLt_bf16_f32) (blocked x3) x0 x4 (padded x1) (asRow x2)
      = val_main_v59 (F := Ideal) x0 x1 x2 x3 x4 x5 := by
  funext i
  obtain ⟨s, j, rfl⟩ : ∃ (s : Fin 4096) (j : Fin 1024), i = ix2 s j := ⟨i 0, i 1, by funext a; fin_cases a <;> rfl⟩
  have hp : normGrad 1 (prod (n := 4096) (truncf (F := Ideal) .bf16 (φ := .f32) x5 bitsLt_bf16_f32) (blocked x3) s) (padded x1) (asRow x2)
      = fun k => val_main_v43 (F := Ideal) x1 x2 x3 x5 (ix2 s k) := by
    rw [prod_eq]
    exact funext fun j => normGrad_eq x1 x2 x3 x5 s j
  have hf : ∀ k, Fin' (val_main_v43 (F := Ideal) x1 x2 x3 x5 (ix2 s k)) := fun k => by
    rw [ref_normGrad]
    refine ((Fin'.sum fun q => (h5 _).mul (h3 _)).mul (Fin'.add ?_ (h1 k))).mul (h2 _)
    rw [Ideal.ofBits_one_f32]
    exact Fin'.one
  refine (through_congr rfl rfl hp rfl).trans ((through_eq _ _ _ (fun k => h0 _) hf j).trans ?_)
  exact (ref_grad x0 x1 x2 x3 x4 x5 s j).symm

/-- The sums over the rows are the reference's, on any arguments. -/
theorem sums_eq : (fun y : S8x1024.Idx => ∑ s : Fin 4096,
      term (n := 4096) (truncf (F := Ideal) .bf16 (φ := .f32) x5 bitsLt_bf16_f32) (blocked x3) x0 (padded x1) (asRow x2) (y 0).val s (y 1))
    = val_main_v69 (F := Ideal) x0 x1 x2 x3 x5 := by
  funext y
  refine Eq.symm ?_
  refine stack_apply _ _ _ _ _ _ _ _ _ y _ (fun h => ?_) (fun h => ?_) (fun h => ?_) (fun h => ?_) (fun h => ?_) (fun h => ?_) (fun h => ?_) (fun h => ?_)
  · rw [val_main_v61_apply, ref_sum0 x0 x2 x3 x5 (y 1) _ (by funext a; fin_cases a; rfl)]
    refine Finset.sum_congr rfl fun s _ => ?_
    rw [term, prod_eq, h]
    exact (mul_comm _ _).trans (congrArg (fun z => refProd x3 x5 s (y 1) * (unit _ (y 1) * z)) (asRow_apply x2 _ (y 1)).symm)
  · rw [val_main_v62_apply, ref_sum1 x3 x5 (y 1) _ (by funext a; fin_cases a; rfl)]
    refine Finset.sum_congr rfl fun s _ => ?_
    rw [term, prod_eq, h]
    rfl
  · rw [val_main_v63_apply, ref_sum2 x0 x1 x3 x5 (y 1) _ (by funext a; fin_cases a; rfl)]
    refine Finset.sum_congr rfl fun s _ => ?_
    rw [term, prod_eq, h]
    refine (mul_comm _ _).trans (congrArg (fun z => refProd x3 x5 s (y 1) * (_ + z) * _) (padded_apply x1 _ _ 1 (y 1)).symm)
  all_goals
    refine Ideal.ofBits_zero_f32.trans (Finset.sum_eq_zero fun s _ => ?_).symm
    rw [term, h]
    rfl

variable (m : (ℓ : Loc nD τ sig) → Buf (Elt Ideal) ℓ)

/-- What the precondition says of the arguments. -/
theorem finite_of_pre (x4 : Vec Ideal S4096x1024 .f32) (h : ∀ j, Cert.Pre_finite6.fn (F := Ideal) x0 x1 x2 x3 x4 x5 j = 1#1) :
    (∀ i, Fin' (x0 i)) ∧ (∀ j, Fin' (x1 (ix2 1 j))) ∧ (∀ i, Fin' (x2 i)) ∧ (∀ i, Fin' (x3 i)) ∧ (∀ i, Fin' (x5 i)) := by
  haveI : Subsingleton (⟨0, ![]⟩ : Shape).Idx := ⟨fun a b => funext fun i => i.elim0⟩
  have h := h fun i => i.elim0
  obtain ⟨h, h5⟩ := both_of_andi h
  obtain ⟨h, h3⟩ := both_of_andi h
  obtain ⟨h, h2⟩ := both_of_andi h
  obtain ⟨h0, h1⟩ := both_of_andi h
  refine ⟨finite_of_all x0 _ _ _ _ _ h0, fun j => ?_, finite_of_all x2 _ _ _ _ _ h2, finite_of_all x3 _ _ _ _ _ h3, finite_of_all x5 _ _ _ _ _ h5⟩
  rw [← modRow_apply 1 x1 Cert.Pre_finite6.Facts.slices_S6x1024_S1x1024_1_0 Cert.Pre_finite6.Facts.shapeCasts_S1x1024_S1024 j]
  exact finite_of_all _ _ _ _ _ _ h1 (ix1 j)

end Equation

variable (m : (ℓ : Loc nD τ sig) → Buf (Elt Ideal) ℓ)

/-- The gradient of the residual row that the kernel leaves is the reference's. -/
theorem value_grad (hpre : Cert.Pre_Kernel6Ideal_finite6 m) (c : Dev nD) : (dats m 0 c).arrAt 6 cfg0.N
    = val_main_v59 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨h0, h1, h2, h3, h5⟩ := finite_of_pre _ _ _ _ _ _ (fun j => congrFun (hpre c) j)
  rw [final6, entry_dproj, entry_w, entry_x, entry_dx, entry_mod, entry_g]
  exact grad_eq _ _ _ _ _ _ h0 h1 h2 h3 h5

/-- The sums that the kernel leaves are the reference's. -/
theorem value_sums (c : Dev nD) : (dats m 0 c).arrAt 7 cfg0.N
    = val_main_v69 (F := Ideal) (m ((c : Thread nD τ).loc main_arg0)) (m ((c : Thread nD τ).loc main_arg1)) (m ((c : Thread nD τ).loc main_arg2))
      (m ((c : Thread nD τ).loc main_arg3)) (m ((c : Thread nD τ).loc main_arg5)) := by
  rw [final7, entry_dproj, entry_w, entry_x, entry_mod, entry_g]
  exact sums_eq _ _ _ _ _

/-- The reference's frame: it is straight-line host code. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Both programs leave the same gradients on finite arguments. -/
theorem algebraic : Cert.algebraic_Kernel6Ideal_Reference6Ideal_pre_finite6 := by
  intro m ρ m' ρ' hpre hagree
  refine ⟨fun c => (dats m 0 c).arrAt 6 cfg0.N, fun c => (dats m 0 c).arrAt 7 cfg0.N, run_blocks m ρ, ?_⟩
  refine (θ_run Cert.Reference6Ideal.defs _ _).mono (fun r h c => ⟨(h c).1.trans ?_, (h c).2.1.trans ?_, (h c).2.2⟩)
    (Cert.Reference6Ideal.Value.run (F := Ideal) m' ρ')
  all_goals obtain ⟨h0, h1, h2, h3, h4, h5⟩ := hagree c
  · rw [Cert.Reference6Ideal.Read.val_main_v59_eq, h0, h1, h2, h3, h4, h5]; exact (value_grad m hpre c).symm
  · rw [Cert.Reference6Ideal.Read.val_main_v69_eq, h0, h1, h2, h3, h5]; exact (value_sums m c).symm

end Cert.Proof.DProjIn

end
-- ==== Proof.Branches.Block.lean ====
/-
  The forward call `branches`: the products of the two branches with their weights, each times the logistic function of its
  gate's column of the projection, and their sum. The call also keeps each gate and each product times the gate's slope,
  which the backward call reads. The call takes the logistic function as `tanh`. This module reads what one grid point of
  512 rows leaves in its five blocks, and what the result arrays hold after the run.
-/
module

public import proofs.«01_k».proof.Proof.Gen.Kernel7Ideal.Value
public import proofs.«01_k».proof.Proof.Norm.Backward
public import Idealize.ShloMosaic.Lib.Pipeline.ValueKit.Point
public import Idealize.ShloMosaic.Lib.Tactic

@[expose] public section

set_option maxRecDepth 16384
set_option maxHeartbeats 2000000

noncomputable section

namespace Cert.Kernel7Ideal.Value
open Cert.Kernel7Ideal Cert.Kernel7Ideal.Gen Idealize.ShloMosaic Idealize.ShloMosaic.TcCoe Idealize.SL.Sem
open Idealize.ShloMosaic.Pipeline (Dat)
open Cert.Proof.Norm

/-- A gate, as the call takes it. -/
def gate (z : EReal) : EReal := Ideal.ofBits .f32 1056964608#32 * Ideal.tanh (Ideal.ofBits .f32 1056964608#32 * z) + Ideal.ofBits .f32 1056964608#32

/-- Row `s` of a branch's product with its weight. -/
def branchRow {n : ℕ} (x : Rows n .bf16) (w : Vec Ideal S1x1024x1024 .bf16) (s : Fin n) : Row := fun j => ∑ k : Fin 1024, x (ix2 s k) * w (ix3 0 k j)

/-- The two gated products, added. -/
def mergeElt (z z' p p' : EReal) : EReal := gate z * p + gate z' * p'

/-- A product times its gate's slope. -/
def slopeElt (z p : EReal) : EReal := p * (gate z * (1 - gate z))

/-- The four kinds of payload, at an index. -/
theorem pay8_apply (v0 v5 : Vec Ideal S512x1024 .bf16) (v2 v7 : Vec Ideal S1x1024x1024 .bf16) (v10 v18 : Vec Ideal S512x1024 .f32) (x : S512x1024.Idx) :
    k0_pay8 v0 v2 v5 v7 v10 v18 x = mergeElt (v10 x) (v18 x) (branchRow v0 v2 (x 0) (x 1)) (branchRow v5 v7 (x 0) (x 1)) := by
  idx_vars x
  pointwise [k0_pay8, k0_pay6, k0_pay7, k0_pay4, k0_pay5]
  rfl

theorem pay9_apply (v10 : Vec Ideal S512x1024 .f32) (x : S512x1024.Idx) : k0_pay9 v10 x = gate (v10 x) := by
  idx_vars x
  pointwise [k0_pay9, k0_pay6]
  rfl

theorem pay2_apply (v0 : Vec Ideal S512x1024 .bf16) (v2 : Vec Ideal S1x1024x1024 .bf16) (v10 : Vec Ideal S512x1024 .f32) (x : S512x1024.Idx) :
    k0_pay2 (k0_pay4 v0 v2) (k0_pay6 v10) x = slopeElt (v10 x) (branchRow v0 v2 (x 0) (x 1)) := by
  idx_vars x
  pointwise [k0_pay2, k0_pay6, k0_pay4]
  rfl

theorem second_gate (v18 : Vec Ideal S512x1024 .f32) : k0_pay1 (k0_pay7 v18) = k0_pay9 v18 := rfl

theorem second_slope (v5 : Vec Ideal S512x1024 .bf16) (v7 : Vec Ideal S1x1024x1024 .bf16) (v18 : Vec Ideal S512x1024 .f32) :
    k0_pay3 (k0_pay5 v5 v7) (k0_pay7 v18) = k0_pay2 (k0_pay4 v5 v7) (k0_pay6 v18) := rfl

/-- A whole block, loaded. -/
theorem ld_rows {e : EltTy} (v : Vec Ideal S512x1024 e) (h) : View.ld v (Rect.unit (s := S512x1024) ![0, 0] S512x1024.size h) = v := by
  funext x
  refine View.ld_unit_apply_of _ _ _ _ _ _ fun a => ?_
  fin_cases a
  all_goals simp

theorem ld_weight (v : Vec Ideal S1x1024x1024 .bf16) (h) : View.ld v (Rect.unit (s := S1x1024x1024) ![0, 0, 0] S1x1024x1024.size h) = v := by
  funext x
  refine View.ld_unit_apply_of _ _ _ _ _ _ fun a => ?_
  fin_cases a
  all_goals simp

section Point

variable (x0 x1 : Vec Ideal S512x1024 .bf16) (x2 x3 : Vec Ideal S512x1024 .f32) (x4 x5 : Vec Ideal S1x1024x1024 .bf16)

/-- One store over a whole block leaves what it stored. -/
theorem canon_whole (p : Vec Ideal S512x1024 .bf16) : View.canon [⟨r0_0, p⟩] = p := by
  funext y
  canon_tiles x h using View.cover_of_tiled_head _ _ _ (by rfl) y
  exact congrArg p (by
    funext a
    fin_cases a
    · exact Fin.ext h0.symm
    · exact Fin.ext h1.symm)

theorem out6_eq : out0_6 x0 x1 x2 x3 x4 x5 = fun y => mergeElt (x2 y) (x3 y) (branchRow x0 x4 (y 0) (y 1)) (branchRow x1 x5 (y 0) (y 1)) := by
  unfold_out out0_6
  rw [canon_whole]
  funext y
  refine (pay8_apply _ _ _ _ _ _ y).trans ?_
  rw [ld_rows, ld_rows, ld_rows, ld_rows, ld_weight, ld_weight]

theorem out7_eq : out0_7 x0 x1 x2 x3 x4 x5 = fun y => gate (x2 y) := by
  unfold_out out0_7
  rw [canon_whole]
  funext y
  refine (pay9_apply _ y).trans ?_
  rw [ld_rows]

theorem out8_eq : out0_8 x0 x1 x2 x3 x4 x5 = fun y => gate (x3 y) := by
  unfold_out out0_8
  rw [canon_whole, second_gate]
  funext y
  refine (pay9_apply _ y).trans ?_
  rw [ld_rows]

theorem out9_eq : out0_9 x0 x1 x2 x3 x4 x5 = fun y => slopeElt (x2 y) (branchRow x0 x4 (y 0) (y 1)) := by
  unfold_out out0_9
  rw [canon_whole]
  funext y
  refine (pay2_apply _ _ _ y).trans ?_
  rw [ld_rows, ld_rows, ld_weight]

theorem out10_eq : out0_10 x0 x1 x2 x3 x4 x5 = fun y => slopeElt (x3 y) (branchRow x1 x5 (y 0) (y 1)) := by
  unfold_out out0_10
  rw [canon_whole, second_slope]
  funext y
  refine (pay2_apply _ _ _ y).trans ?_
  rw [ld_rows, ld_rows, ld_weight]

end Point

variable (m : (ℓ : Loc nD τ sig) → Buf (Elt Ideal) ℓ) (ρ : Dev nD → PrngReg)

/-- The columns of the projection from column `q` on, of which the two gates are two blocks of 1024. -/
abbrev cols (q : ℕ) (hq : q + 1024 ≤ 5120) (p : Vec Ideal S4096x5120 .f32) (s : Fin 4096) : Row := fun j => p (ix2 s ⟨q + j.val, by omega⟩)

/-- The block each window reads or writes at point `t`. -/
theorem index0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 3)
    ∧ (win0_3.index t (0 : Fin 2) = t.val ∧ win0_3.index t (1 : Fin 2) = 4)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- A row of a point's first product is a row of the array's. -/
theorem blk_first (c : Dev nD) (t : Fin cfg0.N) (s : Fin 512) (j : Fin 1024) :
    branchRow (n := 512) (iblk m c 0 t) (iblk m c 4 t) s j = branchRow (n := 4096) (V m c main_v4) (V m c main_v1) (rowIn t s) j := by
  obtain ⟨⟨e0, e1⟩, _, _, _, ⟨e2, e3, e4⟩, _⟩ := index0 t
  unfold branchRow
  reads_congr
  all_goals blk_ext! [iblk, e0, e1, e2, e3, e4, rowIn, Nat.mul_comm]

/-- And of the second. -/
theorem blk_second (c : Dev nD) (t : Fin cfg0.N) (s : Fin 512) (j : Fin 1024) :
    branchRow (n := 512) (iblk m c 1 t) (iblk m c 5 t) s j = branchRow (n := 4096) (V m c main_v5) (V m c main_v3) (rowIn t s) j := by
  obtain ⟨_, ⟨e0, e1⟩, _, _, _, ⟨e2, e3, e4⟩, _⟩ := index0 t
  unfold branchRow
  reads_congr
  all_goals blk_ext! [iblk, e0, e1, e2, e3, e4, rowIn, Nat.mul_comm]

/-- A point's block of the first gate's columns. -/
theorem blk_col (c : Dev nD) (t : Fin cfg0.N) (s : Fin 512) (j : Fin 1024) :
    (iblk m c 2 t : Rows 512) (ix2 s j) = cols 3072 (by omega) (V m c main_arg2) (rowIn t s) j := by
  obtain ⟨_, _, ⟨e0, e1⟩, _⟩ := index0 t
  unfold cols
  reads_congr
  all_goals blk_ext! [iblk, e0, e1, rowIn, Nat.mul_comm]

/-- And of the second's. -/
theorem blk_col' (c : Dev nD) (t : Fin cfg0.N) (s : Fin 512) (j : Fin 1024) :
    (iblk m c 3 t : Rows 512) (ix2 s j) = cols 4096 (by omega) (V m c main_arg2) (rowIn t s) j := by
  obtain ⟨_, _, _, ⟨e0, e1⟩, _⟩ := index0 t
  unfold cols
  reads_congr
  all_goals blk_ext! [iblk, e0, e1, rowIn, Nat.mul_comm]

theorem mergeElt_congr {a a' b b' p p' q q' : EReal} (ha : a = a') (hb : b = b') (hp : p = p') (hq : q = q') : mergeElt a b p q = mergeElt a' b' p' q' := by
  rw [ha, hb, hp, hq]

theorem slopeElt_congr {a a' p p' : EReal} (ha : a = a') (hp : p = p') : slopeElt a p = slopeElt a' p' := by
  rw [ha, hp]

/-- After the run this result array is the merged branches. -/
theorem final6 (c : Dev nD) : (dats m 0 c).arrAt 6 cfg0.N = fun y : S4096x1024.Idx => mergeElt (cols 3072 (by omega) (V m c main_arg2) (y 0) (y 1)) (cols 4096 (by omega) (V m c main_arg2) (y 0) (y 1)) (branchRow (n := 4096) (V m c main_v4) (V m c main_v1) (y 0) (y 1)) (branchRow (n := 4096) (V m c main_v5) (V m c main_v3) (y 0) (y 1)) := by
  refine (dats m 0 c).arrAt_eq_of_covers 6 _ (by decide +kernel) fun t hf y => ?_
  blk_simp
  rw [after0_6, out6_eq]
  obtain ⟨_, _, _, _, _, _, ⟨f0, f1⟩, _⟩ := index0 t
  have hy : y = ix2 (n0 := 512) (n1 := 1024) (y 0) (y 1) := by funext a; fin_cases a <;> rfl
  have e0 : ((win0_6.blk t).view.emb y 0 : Fin 4096) = rowIn t (y 0) := Fin.ext (by simp [f0, Nat.mul_comm])
  have e1 : ((win0_6.blk t).view.emb y 1 : Fin 1024) = y 1 := Fin.ext (by simp [f1])
  refine Eq.trans ?_ (congrArg₂ (fun (s : Fin 4096) (j : Fin 1024) => mergeElt (cols 3072 (by omega) (V m c main_arg2) s j) (cols 4096 (by omega) (V m c main_arg2) s j) (branchRow (n := 4096) (V m c main_v4) (V m c main_v1) s j) (branchRow (n := 4096) (V m c main_v5) (V m c main_v3) s j)) e0.symm e1.symm)
  rw [hy]
  exact mergeElt_congr (blk_col m c t _ _) (blk_col' m c t _ _) (blk_first m c t _ _) (blk_second m c t _ _)

/-- After the run this result array is the first gate. -/
theorem final7 (c : Dev nD) : (dats m 0 c).arrAt 7 cfg0.N = fun y : S4096x1024.Idx => gate (cols 3072 (by omega) (V m c main_arg2) (y 0) (y 1)) := by
  refine (dats m 0 c).arrAt_eq_of_covers 7 _ (by decide +kernel) fun t hf y => ?_
  blk_simp
  rw [after0_7, out7_eq]
  obtain ⟨_, _, _, _, _, _, _, ⟨f0, f1⟩, _⟩ := index0 t
  have hy : y = ix2 (n0 := 512) (n1 := 1024) (y 0) (y 1) := by funext a; fin_cases a <;> rfl
  have e0 : ((win0_7.blk t).view.emb y 0 : Fin 4096) = rowIn t (y 0) := Fin.ext (by simp [f0, Nat.mul_comm])
  have e1 : ((win0_7.blk t).view.emb y 1 : Fin 1024) = y 1 := Fin.ext (by simp [f1])
  refine Eq.trans ?_ (congrArg₂ (fun (s : Fin 4096) (j : Fin 1024) => gate (cols 3072 (by omega) (V m c main_arg2) s j)) e0.symm e1.symm)
  rw [hy]
  exact congrArg gate (blk_col m c t _ _)

/-- After the run this result array is the second gate. -/
theorem final8 (c : Dev nD) : (dats m 0 c).arrAt 8 cfg0.N = fun y : S4096x1024.Idx => gate (cols 4096 (by omega) (V m c main_arg2) (y 0) (y 1)) := by
  refine (dats m 0 c).arrAt_eq_of_covers 8 _ (by decide +kernel) fun t hf y => ?_
  blk_simp
  rw [after0_8, out8_eq]
  obtain ⟨_, _, _, _, _, _, _, _, ⟨f0, f1⟩, _⟩ := index0 t
  have hy : y = ix2 (n0 := 512) (n1 := 1024) (y 0) (y 1) := by funext a; fin_cases a <;> rfl
  have e0 : ((win0_8.blk t).view.emb y 0 : Fin 4096) = rowIn t (y 0) := Fin.ext (by simp [f0, Nat.mul_comm])
  have e1 : ((win0_8.blk t).view.emb y 1 : Fin 1024) = y 1 := Fin.ext (by simp [f1])
  refine Eq.trans ?_ (congrArg₂ (fun (s : Fin 4096) (j : Fin 1024) => gate (cols 4096 (by omega) (V m c main_arg2) s j)) e0.symm e1.symm)
  rw [hy]
  exact congrArg gate (blk_col' m c t _ _)

/-- After the run this result array is the first product times its gate's slope. -/
theorem final9 (c : Dev nD) : (dats m 0 c).arrAt 9 cfg0.N = fun y : S4096x1024.Idx => slopeElt (cols 3072 (by omega) (V m c main_arg2) (y 0) (y 1)) (branchRow (n := 4096) (V m c main_v4) (V m c main_v1) (y 0) (y 1)) := by
  refine (dats m 0 c).arrAt_eq_of_covers 9 _ (by decide +kernel) fun t hf y => ?_
  blk_simp
  rw [after0_9, out9_eq]
  obtain ⟨_, _, _, _, _, _, _, _, _, ⟨f0, f1⟩, _⟩ := index0 t
  have hy : y = ix2 (n0 := 512) (n1 := 1024) (y 0) (y 1) := by funext a; fin_cases a <;> rfl
  have e0 : ((win0_9.blk t).view.emb y 0 : Fin 4096) = rowIn t (y 0) := Fin.ext (by simp [f0, Nat.mul_comm])
  have e1 : ((win0_9.blk t).view.emb y 1 : Fin 1024) = y 1 := Fin.ext (by simp [f1])
  refine Eq.trans ?_ (congrArg₂ (fun (s : Fin 4096) (j : Fin 1024) => slopeElt (cols 3072 (by omega) (V m c main_arg2) s j) (branchRow (n := 4096) (V m c main_v4) (V m c main_v1) s j)) e0.symm e1.symm)
  rw [hy]
  exact slopeElt_congr (blk_col m c t _ _) (blk_first m c t _ _)

/-- After the run this result array is the second product times its gate's slope. -/
theorem final10 (c : Dev nD) : (dats m 0 c).arrAt 10 cfg0.N = fun y : S4096x1024.Idx => slopeElt (cols 4096 (by omega) (V m c main_arg2) (y 0) (y 1)) (branchRow (n := 4096) (V m c main_v5) (V m c main_v3) (y 0) (y 1)) := by
  refine (dats m 0 c).arrAt_eq_of_covers 10 _ (by decide +kernel) fun t hf y => ?_
  blk_simp
  rw [after0_10, out10_eq]
  obtain ⟨_, _, _, _, _, _, _, _, _, _, ⟨f0, f1⟩⟩ := index0 t
  have hy : y = ix2 (n0 := 512) (n1 := 1024) (y 0) (y 1) := by funext a; fin_cases a <;> rfl
  have e0 : ((win0_10.blk t).view.emb y 0 : Fin 4096) = rowIn t (y 0) := Fin.ext (by simp [f0, Nat.mul_comm])
  have e1 : ((win0_10.blk t).view.emb y 1 : Fin 1024) = y 1 := Fin.ext (by simp [f1])
  refine Eq.trans ?_ (congrArg₂ (fun (s : Fin 4096) (j : Fin 1024) => slopeElt (cols 4096 (by omega) (V m c main_arg2) s j) (branchRow (n := 4096) (V m c main_v5) (V m c main_v3) s j)) e0.symm e1.symm)
  rw [hy]
  exact slopeElt_congr (blk_col' m c t _ _) (blk_second m c t _ _)

end Cert.Kernel7Ideal.Value

end
-- ==== Proof.SeqBackward.Reset.lean ====
/- The zeroing at the first step of the backward pass of the recurrence: what the body does under its one
   conditional, as a program of its own, and what it leaves in the seven buffers which live across steps. -/
module

public import proofs.«01_k».proof.Proof.Gen.Kernel2Ideal.Frame
public import proofs.«01_k».proof.Proof.Gen.Kernel2Ideal.Loops
public import Idealize.ShloMosaic.Lib.VecWindow

@[expose] public section

set_option maxRecDepth 16384

noncomputable section

namespace Cert.Kernel2Ideal.SeqBackward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (c : Dev nD) (i : grid0.Coords)
  (arg16 : Memref sig .tc .vmem S16x1024 .f32) (harg16 : arg16.IsWhole)
  (arg17 : Memref sig .tc .vmem S4x256x256 .f32) (harg17 : arg17.IsWhole)
  (arg18 : Memref sig .tc .vmem S4x256x256 .f32) (harg18 : arg18.IsWhole)
  (arg19 : Memref sig .tc .vmem S4x256x256 .f32) (harg19 : arg19.IsWhole)
  (arg20 : Memref sig .tc .vmem S1x1024 .f32) (harg20 : arg20.IsWhole)
  (arg21 : Memref sig .tc .vmem S8x1024 .f32) (harg21 : arg21.IsWhole)
  (arg22 : Memref sig .tc .vmem S16x1024 .f32) (harg22 : arg22.IsWhole)

/-- The body's conditional: at the grid's first step the gradient sums, the three weight gradients and the three
    carried rows are set to zero. -/
def reset : Prog (TpuEff nD τ sig (Elt F) Λ₀ .tc) PUnit :=
  let v3 : BitVec 1 := Scalar.cmpi .ne (Scalar.extui (Scalar.cmpi .eq (BitVec.ofNat 32 (i 0).val) 0#32)) 0#32
  if k0_h1 : v3 = 1#1 then do
    let v1485 : Vec F S16x1024 .f32 ← Prog.lift (.load arg16 (Rect.unit (s := S16x1024) ![0, 0] S16x1024.size inb_S16x1024_S16x1024_0_0).toLoadRect (View.loadsAt_vmem h_S16x1024))
    Prog.lift (.store arg16 (Rect.unit (s := S16x1024) ![0, 0] S16x1024.size inb_S16x1024_S16x1024_0_0) (k0_pay3 (F := F)) Finset.univ (View.stores_vmem_bits_univ h_S16x1024 rfl) (.inl rfl))
    let v1487 : Vec F S4x256x256 .f32 ← Prog.lift (.load arg17 (Rect.unit (s := S4x256x256) ![0, 0, 0] S4x256x256.size inb_S4x256x256_S4x256x256_0_0_0).toLoadRect (View.loadsAt_vmem h_S4x256x256))
    Prog.lift (.store arg17 (Rect.unit (s := S4x256x256) ![0, 0, 0] S4x256x256.size inb_S4x256x256_S4x256x256_0_0_0) (k0_pay4 (F := F)) Finset.univ (View.stores_vmem_bits_univ h_S4x256x256 rfl) (.inl rfl))
    let v1489 : Vec F S4x256x256 .f32 ← Prog.lift (.load arg18 (Rect.unit (s := S4x256x256) ![0, 0, 0] S4x256x256.size inb_S4x256x256_S4x256x256_0_0_0).toLoadRect (View.loadsAt_vmem h_S4x256x256))
    Prog.lift (.store arg18 (Rect.unit (s := S4x256x256) ![0, 0, 0] S4x256x256.size inb_S4x256x256_S4x256x256_0_0_0) (k0_pay5 (F := F)) Finset.univ (View.stores_vmem_bits_univ h_S4x256x256 rfl) (.inl rfl))
    let v1491 : Vec F S4x256x256 .f32 ← Prog.lift (.load arg19 (Rect.unit (s := S4x256x256) ![0, 0, 0] S4x256x256.size inb_S4x256x256_S4x256x256_0_0_0).toLoadRect (View.loadsAt_vmem h_S4x256x256))
    Prog.lift (.store arg19 (Rect.unit (s := S4x256x256) ![0, 0, 0] S4x256x256.size inb_S4x256x256_S4x256x256_0_0_0) (k0_pay6 (F := F)) Finset.univ (View.stores_vmem_bits_univ h_S4x256x256 rfl) (.inl rfl))
    let v1493 : Vec F S1x1024 .f32 ← Prog.lift (.load arg20 (Rect.unit (s := S1x1024) ![0, 0] S1x1024.size inb_S1x1024_S1x1024_0_0).toLoadRect (View.loadsAt_vmem h_S1x1024))
    Prog.lift (.store arg20 (Rect.unit (s := S1x1024) ![0, 0] S1x1024.size inb_S1x1024_S1x1024_0_0) (k0_pay7 (F := F)) Finset.univ (View.stores_vmem_bits_univ h_S1x1024 rfl) (.inl rfl))
    let v1497 : Vec F S8x1024 .f32 ← Prog.lift (.load arg21 (Rect.unit (s := S8x1024) ![0, 0] S8x1024.size inb_S8x1024_S8x1024_0_0).toLoadRect (View.loadsAt_vmem h_S8x1024))
    Prog.lift (.store arg21 (Rect.unit (s := S8x1024) ![0, 0] S8x1024.size inb_S8x1024_S8x1024_0_0) (k0_pay8 (F := F)) Finset.univ (View.stores_vmem_bits_univ h_S8x1024 rfl) (.inl rfl))
    let v1501 : Vec F S16x1024 .f32 ← Prog.lift (.load arg22 (Rect.unit (s := S16x1024) ![0, 0] S16x1024.size inb_S16x1024_S16x1024_0_0).toLoadRect (View.loadsAt_vmem h_S16x1024))
    Prog.lift (.store arg22 (Rect.unit (s := S16x1024) ![0, 0] S16x1024.size inb_S16x1024_S16x1024_0_0) (k0_pay9 (F := F)) Finset.univ (View.stores_vmem_bits_univ h_S16x1024 rfl) (.inl rfl))
    pure ⟨⟩
  else do
    pure ⟨⟩

/-- The conditional of `reset`: true at the first step. -/
abbrev atFirst (i : grid0.Coords) : Prop :=
  Scalar.cmpi .ne (Scalar.extui (Scalar.cmpi .eq (BitVec.ofNat 32 (i 0).val) 0#32)) 0#32 = 1#1

/-- What the buffers which live across steps hold. -/
structure Carry (F : FTy → Type) where
  sums : Vec F S16x1024 .f32
  dwa : Vec F S4x256x256 .f32
  dwx : Vec F S4x256x256 .f32
  dwp : Vec F S4x256x256 .f32
  g : Vec F S1x1024 .f32
  dxr : Vec F S8x1024 .f32
  q : Vec F S16x1024 .f32

/-- All of them zero. -/
def Carry.zero : Carry F := ⟨k0_pay3, k0_pay4, k0_pay5, k0_pay6, k0_pay7, k0_pay8, k0_pay9⟩

/-- After the conditional: zero at the first step, as before at the others. -/
def Carry.start (i : grid0.Coords) (y : Carry F) : Carry F := open Classical in if atFirst i then Carry.zero else y

/-- The buffers of a `Carry`, each owned at its field. -/
def Carry.owned (y : Carry F) : sProp 𝕄 :=
  iprop(owns (c : Thread nD τ) arg16 fullShare y.sums ∗ owns (c : Thread nD τ) arg17 fullShare y.dwa ∗ owns (c : Thread nD τ) arg18 fullShare y.dwx ∗ owns (c : Thread nD τ) arg19 fullShare y.dwp ∗ owns (c : Thread nD τ) arg20 fullShare y.g ∗ owns (c : Thread nD τ) arg21 fullShare y.dxr ∗ owns (c : Thread nD τ) arg22 fullShare y.q)

include harg16 harg17 harg18 harg19 harg20 harg21 harg22 in
set_option maxHeartbeats 1000000 in
/-- The conditional's triple. -/
theorem reset_run (y : Carry F) (E : Set ℕ) (K : PUnit → sProp 𝕄) :
    iprop(Carry.owned c arg16 arg17 arg18 arg19 arg20 arg21 arg22 y ∗ (Carry.owned c arg16 arg17 arg18 arg19 arg20 arg21 arg22 (y.start i) -∗ K ⟨⟩))
      ⊢ wp frame (wpE (defs₀ (F := F)) Variants.none c none) E (reset i arg16 arg17 arg18 arg19 arg20 arg21 arg22) K := by
  by_cases hc : atFirst i
  · rw [show Carry.start i y = Carry.zero from if_pos hc, show reset i arg16 arg17 arg18 arg19 arg20 arg21 arg22 = _ from dif_pos hc]
    unfold Carry.owned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    obtain rfl := harg16.eq_unread hf0; obtain rfl := harg17.eq_unread hf1; obtain rfl := harg18.eq_unread hf2; obtain rfl := harg19.eq_unread hf3; obtain rfl := harg20.eq_unread hf4; obtain rfl := harg21.eq_unread hf5; obtain rfl := harg22.eq_unread hf6
    sl_exec
    sl_step
    iapply Hk
    isplitl [H0]
    · iexists _; isplitr; swap; · iexact H0
      ipureintro; exact View.read_writes_full _ _ _ _ _
    isplitl [H1]
    · iexists _; isplitr; swap; · iexact H1
      ipureintro; exact View.read_writes_full _ _ _ _ _
    isplitl [H2]
    · iexists _; isplitr; swap; · iexact H2
      ipureintro; exact View.read_writes_full _ _ _ _ _
    isplitl [H3]
    · iexists _; isplitr; swap; · iexact H3
      ipureintro; exact View.read_writes_full _ _ _ _ _
    isplitl [H4]
    · iexists _; isplitr; swap; · iexact H4
      ipureintro; exact View.read_writes_full _ _ _ _ _
    isplitl [H5]
    · iexists _; isplitr; swap; · iexact H5
      ipureintro; exact View.read_writes_full _ _ _ _ _
    iexists _; isplitr; swap; · iexact H6
    ipureintro; exact View.read_writes_full _ _ _ _ _
  · rw [show Carry.start i y = y from if_neg hc, show reset i arg16 arg17 arg18 arg19 arg20 arg21 arg22 = _ from dif_neg hc]
    unfold Carry.owned owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    obtain rfl := harg16.eq_unread hf0; obtain rfl := harg17.eq_unread hf1; obtain rfl := harg18.eq_unread hf2; obtain rfl := harg19.eq_unread hf3; obtain rfl := harg20.eq_unread hf4; obtain rfl := harg21.eq_unread hf5; obtain rfl := harg22.eq_unread hf6
    sl_step
    iapply Hk
    isplitl [H0]
    · iexists _; isplitr; · ipureintro; exact harg16.read_unread _
      iexact H0
    isplitl [H1]
    · iexists _; isplitr; · ipureintro; exact harg17.read_unread _
      iexact H1
    isplitl [H2]
    · iexists _; isplitr; · ipureintro; exact harg18.read_unread _
      iexact H2
    isplitl [H3]
    · iexists _; isplitr; · ipureintro; exact harg19.read_unread _
      iexact H3
    isplitl [H4]
    · iexists _; isplitr; · ipureintro; exact harg20.read_unread _
      iexact H4
    isplitl [H5]
    · iexists _; isplitr; · ipureintro; exact harg21.read_unread _
      iexact H5
    iexists _; isplitr; · ipureintro; exact harg22.read_unread _
    iexact H6

end Cert.Kernel2Ideal.SeqBackward

end
-- ==== Proof.SeqBackward.Step.lean ====
/- One step of the backward pass of the recurrence, its pooled branch: what the step leaves of the branch's gradient, of its
   two sums and of its weight gradient, told group by group of 256 columns. The step walks the 256 rows of its block; the
   quotients of the block's first sixteen rows are kept for the next step, which is the block above. -/
module

public import proofs.«01_k».proof.Proof.SeqBackward.Reset
public import proofs.«01_k».proof.Proof.Norm.Rows
public import Idealize.ShloMosaic.Lib.WritesUnit
public import Idealize.ShloMosaic.Lib.Pointwise.Index

@[expose] public section

set_option maxRecDepth 16384

noncomputable section

namespace Cert.Kernel2Ideal.SeqBackward

open Idealize.ShloMosaic Idealize.ShloMosaic.TcCoe
open Idealize.SL Idealize.SL.Sem
open Cert.Kernel2Ideal.Gen

variable {F : FTy → Type} [FloatOps F] {e : EltTy}

/-! ### Groups of columns -/

/-- Column `l` of group `g`. -/
def lane (g : Fin 4) (l : Fin 256) : Fin 1024 := ⟨256 * g.val + l.val, by omega⟩

/-- That column of the pooled branch, among the projection's. -/
def poolCol (g : Fin 4) (l : Fin 256) : Fin 5120 := ⟨2048 + (256 * g.val + l.val), by omega⟩

/-- A column of the two gates, among the projection's. -/
def gateCol (l : Fin 2048) : Fin 5120 := ⟨3072 + l.val, by omega⟩

/-- A block's columns of one group. -/
def lanes (x : Vec F S256x1024 e) (g : Fin 4) : Vec F S256x256 e := fun j => x (ix2 (j 0) (lane g (j 1)))

/-- Those of the sixteen carried rows. -/
def heads (x : Vec F S16x1024 e) (g : Fin 4) : Vec F S16x256 e := fun j => x (ix2 (j 0) (lane g (j 1)))

/-- Those of one row of the parameters. -/
def param (x : Vec F S8x1024 e) (r : Fin 8) (g : Fin 4) : Vec F S1x256 e := fun j => x (ix2 r (lane g (j 1)))

/-- Those of one row of the sums. -/
def sumRow (x : Vec F S16x1024 e) (r : Fin 16) (g : Fin 4) : Vec F S1x256 e := fun j => x (ix2 r (lane g (j 1)))

/-- The matrix of one group. -/
def panel (x : Vec F S4x256x256 e) (g : Fin 4) : Vec F S1x256x256 e := fun j => x (ix3 g (j 1) (j 2))

theorem read_lanes (m : Memref sig .tc .vmem S256x1024 e) (hm : m.IsWhole) (x : Vec F S256x1024 e) (g : Fin 4) {o : Fin 2 → ℕ}
    (inb) (ho : o = ![0, 256 * g.val]) :
    View.readAt (Elt F) m.view (Rect.unit (s := S256x1024) o S256x256.size inb).toLoadRect (hm.unread x) = lanes x g := by
  subst ho; funext j
  show m.view.read (Elt F) (hm.unread x) _ = _
  rw [hm.read_unread]
  have h0 : (j 0).val < _ := (j 0).isLt
  refine congrArg x (funext fun a => Fin.ext ?_)
  fin_cases a <;> simp [Rect.unit, ix2, lane] at h0 ⊢ <;> try omega

theorem read_heads (m : Memref sig .tc .vmem S16x1024 e) (hm : m.IsWhole) (x : Vec F S16x1024 e) (g : Fin 4) {o : Fin 2 → ℕ}
    (inb) (ho : o = ![0, 256 * g.val]) :
    View.readAt (Elt F) m.view (Rect.unit (s := S16x1024) o S16x256.size inb).toLoadRect (hm.unread x) = heads x g := by
  subst ho; funext j
  show m.view.read (Elt F) (hm.unread x) _ = _
  rw [hm.read_unread]
  have h0 : (j 0).val < _ := (j 0).isLt
  refine congrArg x (funext fun a => Fin.ext ?_)
  fin_cases a <;> simp [Rect.unit, ix2, lane] at h0 ⊢ <;> try omega

theorem read_param (m : Memref sig .tc .vmem S8x1024 e) (hm : m.IsWhole) (x : Vec F S8x1024 e) (r : Fin 8) (g : Fin 4) {o : Fin 2 → ℕ}
    (inb) (ho : o = ![r.val, 256 * g.val]) :
    View.readAt (Elt F) m.view (Rect.unit (s := S8x1024) o S1x256.size inb).toLoadRect (hm.unread x) = param x r g := by
  subst ho; funext j
  show m.view.read (Elt F) (hm.unread x) _ = _
  rw [hm.read_unread]
  have h0 : (j 0).val < _ := (j 0).isLt
  refine congrArg x (funext fun a => Fin.ext ?_)
  fin_cases a <;> simp [Rect.unit, ix2, lane] at h0 ⊢ <;> try omega

theorem read_sumRow (m : Memref sig .tc .vmem S16x1024 e) (hm : m.IsWhole) (x : Vec F S16x1024 e) (r : Fin 16) (g : Fin 4) {o : Fin 2 → ℕ}
    (inb) (ho : o = ![r.val, 256 * g.val]) :
    View.readAt (Elt F) m.view (Rect.unit (s := S16x1024) o S1x256.size inb).toLoadRect (hm.unread x) = sumRow x r g := by
  subst ho; funext j
  show m.view.read (Elt F) (hm.unread x) _ = _
  rw [hm.read_unread]
  have h0 : (j 0).val < _ := (j 0).isLt
  refine congrArg x (funext fun a => Fin.ext ?_)
  fin_cases a <;> simp [Rect.unit, ix2, lane] at h0 ⊢ <;> try omega

theorem read_panel (m : Memref sig .tc .vmem S4x256x256 e) (hm : m.IsWhole) (x : Vec F S4x256x256 e) (g : Fin 4) {o : Fin 3 → ℕ}
    (inb) (ho : o = ![g.val, 0, 0]) :
    View.readAt (Elt F) m.view (Rect.unit (s := S4x256x256) o S1x256x256.size inb).toLoadRect (hm.unread x) = panel x g := by
  subst ho; funext j
  show m.view.read (Elt F) (hm.unread x) _ = _
  rw [hm.read_unread]
  have h0 : (j 0).val < _ := (j 0).isLt
  refine congrArg x (funext fun a => Fin.ext ?_)
  fin_cases a <;> simp [Rect.unit, ix3] at h0 ⊢ <;> try omega

theorem readAt_all (m : Memref sig .tc .vmem S256x2048 e) (hm : m.IsWhole) (x : Vec F S256x2048 e) {o : Fin 2 → ℕ} (inb) (ho : o = ![0, 0]) :
    View.readAt (Elt F) m.view (Rect.unit (s := S256x2048) o S256x2048.size inb).toLoadRect (hm.unread x) = x := by
  subst ho; funext j
  show m.view.read (Elt F) (hm.unread x) _ = _
  rw [hm.read_unread]
  refine congrArg x (funext fun a => Fin.ext ?_)
  fin_cases a <;> simp [Rect.unit]

/-! ### One group's arithmetic -/

/-- The position of each row of the step's block, counted from one. -/
def positions (i : grid0.Coords) : FVec F S256x256 .f32 :=
  k0_pay93 (Scalar.subi 15#32 (BitVec.ofNat 32 (i 0).val)) (iota .tc S256x256 32 [0] iota_S256x256_d0_w32)

/-- The four windows' widths, as numbers of the format. -/
def widthBits : Fin 4 → BitVec 32 := ![0x40000000#32, 0x40800000#32, 0x41000000#32, 0x41800000#32]

/-- The gradient of the window mean: the scaled gradient times the transposed weights. -/
def meanGrad (a : Vec F S256x256 .bf16) (b : Vec F S1x256 .f32) (w : Vec F S1x256x256 .bf16) : FVec F S256x256 .f32 :=
  k0_pay278 (k0_pay273 a b) w

/-- That gradient over the number of rows in each window. -/
def quotient (i : grid0.Coords) (g : Fin 4) (a : Vec F S256x256 .bf16) (b : Vec F S1x256 .f32) (w : Vec F S1x256x256 .bf16) :
    FVec F S256x256 .f32 :=
  mulf (meanGrad a b w) (divf (broadcast S256x256 (Scalar.ofBits .f32 0x3F800000#32))
    (minimumf (positions i) (broadcast S256x256 (Scalar.ofBits .f32 (widthBits g)))))

/-- A block's rows and, under them, the sixteen rows carried. -/
def extended (q : FVec F S256x256 .f32) (h : Vec F S16x256 .f32) : FVec F S272x256 .f32 :=
  concatenate S272x256 0 [⟨S256x256, q⟩, ⟨S16x256, h⟩] concatenates_S256x256_S16x256_S272x256_d0

/-- The rows and the rows turned by `k`, added. -/
def turned (k : BitVec 32) (z : FVec F S272x256 .f32) : FVec F S272x256 .f32 :=
  addf z (dynamicRotate 0 k none z rotates_S272x256_d0)

/-- The sums of as many successive rows as the group's window is wide. -/
def windowed (g : Fin 4) (z : FVec F S272x256 .f32) : FVec F S272x256 .f32 :=
  match g with
  | 0 => turned 271#32 z
  | 1 => turned 270#32 (turned 271#32 z)
  | 2 => turned 268#32 (turned 270#32 (turned 271#32 z))
  | 3 => turned 264#32 (turned 268#32 (turned 270#32 (turned 271#32 z)))

/-- The gradient of the branch's rows. -/
def poolGrad (i : grid0.Coords) (g : Fin 4) (a : Vec F S256x256 .bf16) (b : Vec F S1x256 .f32) (w : Vec F S1x256x256 .bf16)
    (h : Vec F S16x256 .f32) : FVec F S256x256 .bf16 :=
  k0_pay1 (meanGrad a b w) (windowed g (extended (quotient i g a b w) h))

/-- The weight gradient after the step. -/
def weightGrad (p a : Vec F S256x256 .bf16) (b : Vec F S1x256 .f32) (w : Vec F S1x256x256 .f32) : FVec F S1x256x256 .f32 :=
  k0_pay277 (k0_pay270 p) (k0_pay273 a b) w

/-- The bias's gradient after the step. -/
def biasGrad (a : Vec F S256x256 .bf16) (b : Vec F S1x256 .f32) (s : Vec F S1x256 .f32) : FVec F S1x256 .f32 :=
  k0_pay275 (k0_pay273 a b) (k0_pay274 s)

/-- The scale's gradient after the step. -/
def scaleGrad (p : Vec F S256x256 .bf16) (w : Vec F S1x256x256 .bf16) (b a' : Vec F S1x256 .f32) (a : Vec F S256x256 .bf16) : FVec F S1x256 .f32 :=
  k0_pay272 p w b a a'

/-! ### What a step leaves -/

variable (i : grid0.Coords) (x5 x7 : Vec F S256x1024 .bf16) (x8 : Vec F S256x2048 .bf16) (x10 : Vec F S8x1024 .f32) (x13 : Vec F S4x256x256 .bf16)

/-- In the carried rows: the quotients of the block's first sixteen rows. -/
def LeavesRows (q : Vec F S16x1024 .f32) : Prop :=
  ∀ (g : Fin 4) (r : Fin 16) (l : Fin 256),
    q (ix2 r (lane g l)) = k0_pay186 (quotient i g (lanes x7 g) (param x10 5 g) (panel x13 g)) (ix2 r l)

/-- In the gradient block: the branch's gradient, and the gates' gradient as it came. -/
def LeavesBlock (q : Vec F S16x1024 .f32) (d : Vec F S256x5120 .bf16) : Prop :=
  (∀ (g : Fin 4) (s l : Fin 256), d (ix2 s (poolCol g l)) = poolGrad i g (lanes x7 g) (param x10 5 g) (panel x13 g) (heads q g) (ix2 s l))
    ∧ ∀ (s : Fin 256) (l : Fin 2048), d (ix2 s (gateCol l)) = k0_pay2 x8 (ix2 s l)

/-- In the sums: the rows of the bias and of the scale. -/
def LeavesSums (s0 s : Vec F S16x1024 .f32) : Prop :=
  ∀ (g : Fin 4) (l : Fin 256),
    s (ix2 8 (lane g l)) = biasGrad (lanes x7 g) (param x10 5 g) (sumRow s0 8 g) (ix2 0 l)
      ∧ s (ix2 9 (lane g l)) = scaleGrad (lanes x5 g) (panel x13 g) (param x10 4 g) (sumRow s0 9 g) (lanes x7 g) (ix2 0 l)

/-- In the weight gradient: each group's matrix. -/
def LeavesWeight (w0 w : Vec F S4x256x256 .f32) : Prop :=
  ∀ (g : Fin 4) (a b : Fin 256), w (ix3 g a b) = weightGrad (lanes x5 g) (lanes x7 g) (param x10 5 g) (panel w0 g) (ix3 0 a b)

/-! ### Reading a list of pieces -/

section Pieces

variable {A B : ℕ} {sp : Space} {κ : Kind} (v : View sig κ sp ⟨2, ![A, B]⟩ e) (f : v.ty.Contents (Elt F))

/-- A place outside the newest piece, which lies in rows `o0 …` and columns `o1 …`. -/
theorem read_past {o0 o1 s0 s1 : ℕ} (inb) (w) (L : List (View.Piece (Elt F) ⟨2, ![A, B]⟩ e)) (r : Fin A) (c : Fin B)
    (h : r.val < o0 ∨ o0 + s0 ≤ r.val ∨ c.val < o1 ∨ o1 + s1 ≤ c.val) :
    v.read (Elt F) (v.writes (Elt F) f (⟨Rect.unit (s := ⟨2, ![A, B]⟩) ![o0, o1] ![s0, s1] inb, w⟩ :: L)) (ix2 r c)
      = v.read (Elt F) (v.writes (Elt F) f L) (ix2 r c) := by
  by_cases h0 : r.val < o0 ∨ o0 + s0 ≤ r.val
  · exact View.read_writes_cons_unit_of_not_mem v f inb w L (ix2 r c) rfl 0 h0
  · exact View.read_writes_cons_unit_of_not_mem v f inb w L (ix2 r c) rfl 1 (by
      show c.val < o1 ∨ o1 + s1 ≤ c.val
      omega)

/-- A place in the newest piece. -/
theorem read_in {o0 o1 s0 s1 : ℕ} (inb) (w : Vec F ⟨2, ![s0, s1]⟩ e) (L : List (View.Piece (Elt F) ⟨2, ![A, B]⟩ e)) (r : Fin A) (c : Fin B)
    (r' : Fin s0) (c' : Fin s1) (h0 : r.val = o0 + r'.val) (h1 : c.val = o1 + c'.val) :
    v.read (Elt F) (v.writes (Elt F) f (⟨Rect.unit (s := ⟨2, ![A, B]⟩) ![o0, o1] ![s0, s1] inb, w⟩ :: L)) (ix2 r c)
      = w (ix2 r' c') :=
  View.read_writes_cons_unit_of_mem v f inb w L (ix2 r c) (ix2 r' c') rfl (fun a => by
    fin_cases a
    · exact h0
    · exact h1)

end Pieces

section Panels

variable {sp : Space} {κ : Kind} (v : View sig κ sp S4x256x256 e) (f : v.ty.Contents (Elt F))

/-- A place outside the newest piece, which is one whole matrix of the four. -/
theorem panel_past {o0 : ℕ} (inb) (w) (L : List (View.Piece (Elt F) S4x256x256 e)) (g : Fin 4) (a b : Fin 256) (h : g.val ≠ o0) :
    v.read (Elt F) (v.writes (Elt F) f (⟨Rect.unit (s := S4x256x256) ![o0, 0, 0] S1x256x256.size inb, w⟩ :: L)) (ix3 g a b)
      = v.read (Elt F) (v.writes (Elt F) f L) (ix3 g a b) :=
  View.read_writes_cons_unit_of_not_mem v f inb w L (ix3 g a b) rfl 0 (by
    show g.val < o0 ∨ o0 + 1 ≤ g.val
    omega)

/-- A place in it. -/
theorem panel_in {o0 : ℕ} (inb) (w : Vec F S1x256x256 e) (L : List (View.Piece (Elt F) S4x256x256 e)) (g : Fin 4) (a b : Fin 256) (h : g.val = o0) :
    v.read (Elt F) (v.writes (Elt F) f (⟨Rect.unit (s := S4x256x256) ![o0, 0, 0] S1x256x256.size inb, w⟩ :: L)) (ix3 g a b)
      = w (ix3 0 a b) :=
  View.read_writes_cons_unit_of_mem v f inb w L (ix3 g a b) (ix3 0 a b) rfl (fun k => by
    fin_cases k
    · exact h
    · exact (Nat.zero_add _).symm
    · exact (Nat.zero_add _).symm)

end Panels

theorem lane_val (g : Fin 4) (l : Fin 256) : (lane g l).val = 256 * g.val + l.val := rfl
theorem poolCol_val (g : Fin 4) (l : Fin 256) : (poolCol g l).val = 2048 + (256 * g.val + l.val) := rfl
theorem gateCol_val (l : Fin 2048) : (gateCol l).val = 3072 + l.val := rfl

/-- Equal parts give equal values. -/
theorem congr₃ {α β γ δ : Type} (f : α → β → γ → δ) {a a' : α} {b b' : β} {c c' : γ} (ha : a = a') (hb : b = b') (hc : c = c') :
    f a b c = f a' b' c' := by rw [ha, hb, hc]
theorem congr₄ {α β γ δ ε : Type} (f : α → β → γ → δ → ε) {a a' : α} {b b' : β} {c c' : γ} {d d' : δ} (ha : a = a') (hb : b = b') (hc : c = c')
    (hd : d = d') : f a b c d = f a' b' c' d' := by rw [ha, hb, hc, hd]
theorem congr₅ {α β γ δ ε ζ : Type} (f : α → β → γ → δ → ε → ζ) {a a' : α} {b b' : β} {c c' : γ} {d d' : δ} {h h' : ε} (ha : a = a') (hb : b = b')
    (hc : c = c') (hd : d = d') (hh : h = h') : f a b c d h = f a' b' c' d' h' := by rw [ha, hb, hc, hd, hh]

/-- The group's arithmetic is the step's, as the step spells it for each group. -/
theorem quotient0 (a : Vec F S256x256 .bf16) (b : Vec F S1x256 .f32) (w : Vec F S1x256x256 .bf16) :
    k0_pay136 (k0_pay134 a b w) (k0_pay135 (positions i)) = quotient i 0 a b w := rfl
theorem quotient1 (a : Vec F S256x256 .bf16) (b : Vec F S1x256 .f32) (w : Vec F S1x256x256 .bf16) :
    k0_pay184 (positions i) (k0_pay177 a) b w = quotient i 1 a b w := rfl
theorem quotient2 (a : Vec F S256x256 .bf16) (b : Vec F S1x256 .f32) (w : Vec F S1x256x256 .bf16) :
    k0_pay230 (positions i) (k0_pay222 a) (k0_pay224 b) w = quotient i 2 a b w := rfl
theorem quotient3 (a : Vec F S256x256 .bf16) (b : Vec F S1x256 .f32) (w : Vec F S1x256x256 .bf16) :
    k0_pay279 (positions i) (k0_pay273 a b) w = quotient i 3 a b w := rfl

end Cert.Kernel2Ideal.SeqBackward

end
-- ==== Proof.SeqBackward.Scan.lean ====
/- The reverse recurrence of one step: its block's 256 rows are walked from the last to the first, eight at a time. Each
   eight are closed by three rounds of doubling, and the first of them is handed on to the eight above. -/
module

public import proofs.«01_k».proof.Proof.SeqBackward.Step

@[expose] public section

set_option maxRecDepth 16384

noncomputable section

namespace Cert.Kernel2Ideal.SeqBackward

open Idealize.ShloMosaic Idealize.ShloMosaic.TcCoe
open Idealize.SL Idealize.SL.Sem
open Cert.Kernel2Ideal.Gen

variable {F : FTy → Type} [FloatOps F] {e : EltTy}

/-! ### The walk -/

/-- The eight rows trip `k` works on: the last eight at the first trip. -/
def eight (x : Vec F S256x1024 e) (k : ℕ) : Vec F S8x1024 e :=
  fun j => x (ix2 ⟨8 * (31 - k) + (j 0).val, by have h : (j 0).val < 8 := (j 0).isLt; omega⟩ (j 1))

/-- What is handed to trip `k`: at first `g`, then the first row of the eight before. -/
def handed (a b : Vec F S256x1024 .f32) (g : Vec F S1x1024 .f32) : ℕ → Vec F S1x1024 .f32
  | 0 => g
  | k + 1 => k0_pay91 (handed a b g k) (eight a k) (eight b k)

/-- The rows the walk leaves. -/
def walked (a b : Vec F S256x1024 .f32) (g : Vec F S1x1024 .f32) : Vec F S256x1024 .f32 :=
  fun j => k0_pay90 (handed a b g (31 - (j 0).val / 8)) (eight a (31 - (j 0).val / 8)) (eight b (31 - (j 0).val / 8))
    (ix2 ⟨(j 0).val % 8, Nat.mod_lt _ (by decide)⟩ (j 1))

/-- The first row of trip `k`'s eight. -/
theorem trip_offset (k : Fin k0_t1_loop.trips) : k0_off1 k = ![8 * (31 - k.val), 0] := by
  have h : ∀ k : Fin k0_t1_loop.trips, k0_off1 k 0 = 8 * (31 - k.val) := by decide +kernel
  funext a
  fin_cases a
  · exact h k
  · rfl

/-- The loop makes thirty-two trips. -/
theorem trips_eq : Scf.trips k0_t1_loop.lb k0_t1_loop.ub k0_t1_loop.st = 32 := by rfl

theorem read_eight (m : Memref sig .tc .vmem S256x1024 e) (f : m.view.ty.Contents (Elt F)) (x : Vec F S256x1024 e)
    (hx : m.view.read (Elt F) f = x) (k : Fin k0_t1_loop.trips) (inb) :
    View.readAt (Elt F) m.view (Rect.unit (s := S256x1024) (k0_off1 k) S8x1024.size inb).toLoadRect f = eight x k := by
  subst hx; funext j
  show m.view.read (Elt F) f _ = m.view.read (Elt F) f _
  have h0 : (j 0).val < 8 := (j 0).isLt
  have hk := trip_offset k
  refine congrArg (m.view.read (Elt F) f) (funext fun a => Fin.ext ?_)
  fin_cases a
  · show k0_off1 k 0 + 1 * (j 0).val = 8 * (31 - k.val) + (j 0).val
    have hk0 : k0_off1 k 0 = 8 * (31 - k.val) := congrFun hk 0
    omega
  · show k0_off1 k 1 + 1 * (j 1).val = (j 1).val
    have hk1 : k0_off1 k 1 = 0 := congrFun hk 1
    omega

section Loop

variable (𝒱 : Variants) (c : Dev nD) (bd : Option 𝒱.V) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S8x1024 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S256x2048 .bf16) (harg9 : arg9.IsWhole)
  (arg10 : Memref sig .tc .vmem S4x1024 .f32) (harg10 : arg10.IsWhole)
  (arg11 : Memref sig .tc .vmem S8x1024 .f32) (harg11 : arg11.IsWhole)
  (arg12 : Memref sig .tc .vmem S4x256x256 .bf16) (harg12 : arg12.IsWhole)
  (arg13 : Memref sig .tc .vmem S4x256x256 .bf16) (harg13 : arg13.IsWhole)
  (arg14 : Memref sig .tc .vmem S4x256x256 .bf16) (harg14 : arg14.IsWhole)
  (arg15 : Memref sig .tc .vmem S256x5120 .bf16) (harg15 : arg15.IsWhole)
  (arg16 : Memref sig .tc .vmem S16x1024 .f32) (harg16 : arg16.IsWhole)
  (arg17 : Memref sig .tc .vmem S4x256x256 .f32) (harg17 : arg17.IsWhole)
  (arg18 : Memref sig .tc .vmem S4x256x256 .f32) (harg18 : arg18.IsWhole)
  (arg19 : Memref sig .tc .vmem S4x256x256 .f32) (harg19 : arg19.IsWhole)
  (arg20 : Memref sig .tc .vmem S1x1024 .f32) (harg20 : arg20.IsWhole)
  (arg21 : Memref sig .tc .vmem S8x1024 .f32) (harg21 : arg21.IsWhole)
  (arg22 : Memref sig .tc .vmem S16x1024 .f32) (harg22 : arg22.IsWhole)
  (arg23 : Memref sig .tc .vmem S256x1024 .f32) (harg23 : arg23.IsWhole)
  (arg24 : Memref sig .tc .vmem S256x1024 .f32) (harg24 : arg24.IsWhole)
  (arg25 : Memref sig .tc .vmem S256x1024 .f32) (harg25 : arg25.IsWhole)
  (arg26 : Memref sig .tc .vmem S256x1024 .f32) (harg26 : arg26.IsWhole)
  (arg27 : Memref sig .tc .vmem S256x1024 .f32) (harg27 : arg27.IsWhole)
  (arg28 : Memref sig .tc .vmem S256x1024 .f32) (harg28 : arg28.IsWhole)
  (arg29 : Memref sig .tc .vmem S256x1024 .f32) (harg29 : arg29.IsWhole)
  (v0 : BitVec 32) (v4 : IVec S256x256 32) (v469 v491 v502 : FVec F S256x256 .f32)
  (X : BufTy.Contents (Elt F) arg23.view.ty) (Y : BufTy.Contents (Elt F) arg24.view.ty)

theorem trip_result (k : Fin k0_t1_loop.trips) (acc : Vec F S1x1024 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y k acc
      = k0_pay91 acc (eight (arg23.view.read (Elt F) X) k) (eight (arg24.view.read (Elt F) Y) k) := by
  unfold tripR_k0_t1 trip_k0_t1
  exact congr₃ k0_pay91 rfl (read_eight arg23 X _ rfl k _) (read_eight arg24 Y _ rfl k _)

theorem trip_pieces (k : Fin k0_t1_loop.trips) (acc : Vec F S1x1024 .f32) :
    ∃ inb, tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y k acc
      = [⟨Rect.unit (s := S256x1024) ![8 * (31 - k.val), 0] ![8, 1024] inb, k0_pay90 acc (eight (arg23.view.read (Elt F) X) k) (eight (arg24.view.read (Elt F) Y) k)⟩] := by
  rw [← trip_offset k, ← read_eight arg23 X _ rfl k (k0_off1_inb k), ← read_eight arg24 Y _ rfl k (k0_off1_inb k)]
  refine ⟨k0_off1_inb k, ?_⟩
  unfold tripL_k0_t1 trip_k0_t1
  rfl

/-- Before trip `k`: the row handed on. -/
theorem state_carry (g : Vec F S1x1024 .f32) (k : ℕ) (hk : k ≤ 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g k).1
      = handed (arg23.view.read (Elt F) X) (arg24.view.read (Elt F) Y) g k := by
  induction k with
  | zero => rfl
  | succ k ih =>
    have h := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g ⟨k, by show k < Scf.trips _ _ _; rw [trips_eq]; omega⟩
    refine (congrArg Prod.fst h).trans ?_
    refine (trip_result 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y _ _).trans ?_
    rw [ih (by omega)]
    rfl

/-- Before trip `k`: the rows walked. -/
theorem state_rows (g : Vec F S1x1024 .f32) (f : arg25.view.ty.Contents (Elt F)) (k : ℕ) (hk : k ≤ 32) (r : Fin 256) (l : Fin 1024) (hr : 256 ≤ r.val + 8 * k) :
    arg25.view.read (Elt F) (arg25.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g k).2) (ix2 r l)
      = walked (arg23.view.read (Elt F) X) (arg24.view.read (Elt F) Y) g (ix2 r l) := by
  induction k with
  | zero => have := r.isLt; omega
  | succ k ih =>
    have h := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g ⟨k, by show k < Scf.trips _ _ _; rw [trips_eq]; omega⟩
    rw [show (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g (k + 1)).2 = _ from congrArg Prod.snd h]
    obtain ⟨inb, hp⟩ := trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y ⟨k, by show k < Scf.trips _ _ _; rw [trips_eq]; omega⟩
      (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g k).1
    dsimp only at hp ⊢
    rw [hp, List.singleton_append]
    by_cases hin : r.val < 8 * (31 - k) + 8
    · refine (read_in _ _ _ _ _ r l ⟨r.val % 8, Nat.mod_lt _ (by decide)⟩ l (by show r.val = 8 * (31 - k) + r.val % 8; omega) (by omega)).trans ?_
      rw [state_carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g k (by omega)]
      have hq : 31 - r.val / 8 = k := by omega
      show _ = k0_pay90 (handed _ _ g (31 - r.val / 8)) (eight _ (31 - r.val / 8)) (eight _ (31 - r.val / 8)) (ix2 ⟨r.val % 8, Nat.mod_lt _ (by decide)⟩ l)
      rw [hq]
    · refine (read_past _ _ _ _ _ r l (by omega)).trans ?_
      exact ih (by omega) (by omega)

/-- A group's columns of the rows the loop leaves. -/
theorem loop_lanes (g : Vec F S1x1024 .f32) (f : arg25.view.ty.Contents (Elt F)) (a b : Vec F S256x1024 .f32)
    (ha : arg23.view.read (Elt F) X = a) (hb : arg24.view.read (Elt F) Y = b) (u : Fin 4) {o : Fin 2 → ℕ} (inb) (ho : o = ![0, 256 * u.val])
    (g' : Vec F S1x1024 .f32) (hg : g = g') :
    View.readAt (Elt F) arg25.view (Rect.unit (s := S256x1024) o S256x256.size inb).toLoadRect
        (arg25.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g (Scf.trips k0_t1_loop.lb k0_t1_loop.ub k0_t1_loop.st)).2)
      = lanes (walked a b g') u := by
  subst ha hb ho hg; funext j
  rw [trips_eq]
  have h0 : (j 0).val < 256 := (j 0).isLt
  refine Eq.trans ?_ (state_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g f 32 (by omega) (j 0) (lane u (j 1)) (by omega))
  refine congrArg (arg25.view.read (Elt F) _) (funext fun a => Fin.ext ?_)
  fin_cases a <;> simp [Rect.unit, ix2, lane] at h0 ⊢ <;> try omega

/-- The row the loop hands on. -/
theorem loop_carry (g : Vec F S1x1024 .f32) (a b : Vec F S256x1024 .f32)
    (ha : arg23.view.read (Elt F) X = a) (hb : arg24.view.read (Elt F) Y = b) (g' : Vec F S1x1024 .f32) (hg : g = g') :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g (Scf.trips k0_t1_loop.lb k0_t1_loop.ub k0_t1_loop.st)).1
      = handed a b g' 32 := by
  subst ha hb hg
  rw [trips_eq]
  exact state_carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v0 v4 v469 v491 v502 X Y g 32 (le_refl _)

end Loop

end Cert.Kernel2Ideal.SeqBackward

end
-- ==== Proof.SeqBackward.Gates.lean ====
/- One step of the backward pass of the recurrence, its scanned branch: what the step leaves of the gradient row it hands
   on, of the input gate's bias gradient and of that gate's weight gradient, told group by group of 256 columns. -/
module

public import proofs.«01_k».proof.Proof.SeqBackward.Scan

@[expose] public section

set_option maxRecDepth 16384

noncomputable section

namespace Cert.Kernel2Ideal.SeqBackward

open Idealize.ShloMosaic Idealize.ShloMosaic.TcCoe
open Idealize.SL Idealize.SL.Sem
open Cert.Kernel2Ideal.Gen

variable {F : FTy → Type} [FloatOps F] {e : EltTy}

/-! ### One group's arithmetic -/

/-- The number of each row. -/
def rowNumbers : IVec S256x256 32 := iota .tc S256x256 32 [0] iota_S256x256_d0_w32

/-- The decay of each row: `x` the convolved rows, `w` and `p` the decay gate's weights and bias, `q` the decay's parameter. -/
def decayOf (x : Vec F S256x256 .f32) (w : Vec F S1x256x256 .bf16) (p q : Vec F S1x256 .f32) : FVec F S256x256 .f32 :=
  k0_pay18 (k0_pay12 x w p) q

/-- The decay of the row below each row, and one under the last. -/
def nextDecay (x : Vec F S256x256 .f32) (w : Vec F S1x256x256 .bf16) (p q : Vec F S1x256 .f32) : FVec F S256x256 .f32 :=
  k0_pay27 rowNumbers (k0_pay16 (k0_pay12 x w p) q)

/-- The square of the input's factor. -/
def squaredFactor (x : Vec F S256x256 .f32) (w : Vec F S1x256x256 .bf16) (p q : Vec F S1x256 .f32) : FVec F S256x256 .f32 :=
  k0_pay21 (k0_pay17 (k0_pay12 x w p) q)

/-- The input gate. -/
def inputGate (x : Vec F S256x256 .f32) (w : Vec F S1x256x256 .bf16) (p : Vec F S1x256 .f32) : FVec F S256x256 .f32 :=
  k0_pay20 (k0_pay13 x w p) k0_pay14

/-- The gradient of the recurrence's rows before the recurrence: the branch's gradient `d` through the activated `y`. -/
def incoming (y : Vec F S256x256 .f32) (d : Vec F S256x256 .bf16) : FVec F S256x256 .f32 := k0_pay28 (k0_pay23 y) (k0_pay25 d)

/-- The gradient at the input gate: of the walked rows `h`, through the input's factor and the convolved rows. -/
def gateGrad (i : grid0.Coords) (h x m : Vec F S256x256 .f32) : FVec F S256x256 .f32 := k0_pay98 (k0_pay10 i) h (k0_pay94 x) m

/-- The gate's bias gradient after the step. -/
def gateBias (i : grid0.Coords) (h x m z : Vec F S256x256 .f32) (s : Vec F S1x256 .f32) : FVec F S1x256 .f32 :=
  k0_pay104 z (gateGrad i h x m) s

/-- The gate's weight gradient after the step. -/
def gateWeight (i : grid0.Coords) (h x m z : Vec F S256x256 .f32) (w : Vec F S1x256x256 .f32) : FVec F S1x256x256 .f32 :=
  k0_pay110 (k0_pay106 (k0_pay94 x)) (k0_pay108 z (gateGrad i h x m)) w

/-! ### Four groups side by side -/

/-- Four groups of columns, joined. -/
def joined (w : Fin 4 → Vec F S256x256 e) : Vec F S256x1024 e :=
  fun j => w ⟨(j 1).val / 256, Nat.div_lt_of_lt_mul (show (j 1).val < 256 * 4 from (j 1).isLt)⟩ (ix2 (j 0) ⟨(j 1).val % 256, Nat.mod_lt _ (by decide)⟩)

theorem joined_lane (w : Fin 4 → Vec F S256x256 e) (s : Fin 256) (g : Fin 4) (l : Fin 256) : joined w (ix2 s (lane g l)) = w g (ix2 s l) := by
  have h1 : (⟨(lane g l).val / 256, Nat.div_lt_of_lt_mul (show (lane g l).val < 256 * 4 from (lane g l).isLt)⟩ : Fin 4) = g := Fin.ext (by
    show (256 * g.val + l.val) / 256 = g.val
    omega)
  have h2 : (⟨(lane g l).val % 256, Nat.mod_lt _ (by decide)⟩ : Fin 256) = l := Fin.ext (by
    show (256 * g.val + l.val) % 256 = l.val
    omega)
  show w ⟨(lane g l).val / 256, _⟩ (ix2 s ⟨(lane g l).val % 256, _⟩) = _
  rw [h1, h2]

theorem lane_split (j : Fin 1024) : ∃ g l, j = lane g l :=
  ⟨⟨j.val / 256, by omega⟩, ⟨j.val % 256, by omega⟩, Fin.ext (by show j.val = 256 * (j.val / 256) + j.val % 256; omega)⟩

/-- Two blocks are equal when they are at every column of every group. -/
theorem funext_lanes {a b : Vec F S256x1024 e} (h : ∀ (s : Fin 256) (g : Fin 4) (l : Fin 256), a (ix2 s (lane g l)) = b (ix2 s (lane g l))) : a = b := by
  funext j
  obtain ⟨g, l, hj⟩ := lane_split (j 1)
  have hj' : j = ix2 (j 0) (lane g l) := by rw [← hj]; exact (ix2_eta j).symm
  exact (congrArg a hj').trans ((h (j 0) g l).trans (congrArg b hj').symm)

section Blocks

variable {sp : Space} {κ : Kind} (v : View sig κ sp S256x1024 e) (f : v.ty.Contents (Elt F)) (w : Fin 4 → Vec F S256x256 e)
  {w0 w1 w2 w3 : Vec F S256x256 e} (h0 : w0 = w 0) (h1 : w1 = w 1) (h2 : w2 = w 2) (h3 : w3 = w 3) (i0 i1 i2 i3)

include h0 h1 h2 h3

/-- A buffer stored a group at a time holds the groups joined. -/
theorem read_four :
    v.read (Elt F) (v.writes (Elt F) f [⟨Rect.unit (s := S256x1024) ![0, 768] S256x256.size i3, w3⟩, ⟨Rect.unit (s := S256x1024) ![0, 512] S256x256.size i2, w2⟩,
        ⟨Rect.unit (s := S256x1024) ![0, 256] S256x256.size i1, w1⟩, ⟨Rect.unit (s := S256x1024) ![0, 0] S256x256.size i0, w0⟩]) = joined w := by
  subst h0 h1 h2 h3
  refine funext_lanes fun s g l => ?_
  rw [joined_lane]
  have hl := lane_val g l
  match g with
  | 0 =>
    have hg : (0 : Fin 4).val = 0 := rfl
    rw [hg] at hl
    repeat refine (read_past _ _ _ _ _ _ _ (by omega)).trans ?_
    exact read_in _ _ _ _ _ _ _ s l (by omega) (by omega)
  | 1 =>
    have hg : (1 : Fin 4).val = 1 := rfl
    rw [hg] at hl
    repeat refine (read_past _ _ _ _ _ _ _ (by omega)).trans ?_
    exact read_in _ _ _ _ _ _ _ s l (by omega) (by omega)
  | 2 =>
    have hg : (2 : Fin 4).val = 2 := rfl
    rw [hg] at hl
    repeat refine (read_past _ _ _ _ _ _ _ (by omega)).trans ?_
    exact read_in _ _ _ _ _ _ _ s l (by omega) (by omega)
  | 3 =>
    have hg : (3 : Fin 4).val = 3 := rfl
    rw [hg] at hl
    exact read_in _ _ _ _ _ _ _ s l (by omega) (by omega)

/-- One group read back. -/
theorem back_lanes (g : Fin 4) {o : Fin 2 → ℕ} (inb) (ho : o = ![0, 256 * g.val]) :
    v.readCov [⟨Rect.unit (s := S256x1024) ![0, 768] S256x256.size i3, w3⟩, ⟨Rect.unit (s := S256x1024) ![0, 512] S256x256.size i2, w2⟩,
        ⟨Rect.unit (s := S256x1024) ![0, 256] S256x256.size i1, w1⟩, ⟨Rect.unit (s := S256x1024) ![0, 0] S256x256.size i0, w0⟩]
      (Rect.unit (s := S256x1024) o S256x256.size inb).toLoadRect = w g := by
  subst ho; funext j
  have h := congrFun (read_four v v.junk w h0 h1 h2 h3 i0 i1 i2 i3) (ix2 (j 0) (lane g (j 1)))
  refine Eq.trans ?_ (h.trans ((joined_lane w (j 0) g (j 1)).trans (congrArg (w g) (ix2_eta j))))
  have h0 : (j 0).val < 256 := (j 0).isLt
  refine congrArg (v.read (Elt F) _) (funext fun a => Fin.ext ?_)
  fin_cases a <;> simp [Rect.unit, ix2, lane] at h0 ⊢ <;> try omega

/-- The first row read back. -/
theorem back_top (inb) :
    v.readCov [⟨Rect.unit (s := S256x1024) ![0, 768] S256x256.size i3, w3⟩, ⟨Rect.unit (s := S256x1024) ![0, 512] S256x256.size i2, w2⟩,
        ⟨Rect.unit (s := S256x1024) ![0, 256] S256x256.size i1, w1⟩, ⟨Rect.unit (s := S256x1024) ![0, 0] S256x256.size i0, w0⟩]
      (Rect.unit (s := S256x1024) ![0, 0] S1x1024.size inb).toLoadRect = fun j => joined w (ix2 0 (j 1)) := by
  funext j
  refine Eq.trans ?_ (congrFun (read_four v v.junk w h0 h1 h2 h3 i0 i1 i2 i3) (ix2 0 (j 1)))
  have h0 : (j 0).val < 1 := (j 0).isLt
  refine congrArg (v.read (Elt F) _) (funext fun a => Fin.ext ?_)
  fin_cases a <;> simp [Rect.unit, ix2] at h0 ⊢ <;> try omega

end Blocks

/-- The whole carried row, read. -/
theorem readAt_row (m : Memref sig .tc .vmem S1x1024 e) (hm : m.IsWhole) (x : Vec F S1x1024 e) (inb) :
    View.readAt (Elt F) m.view (Rect.unit (s := S1x1024) ![0, 0] S1x1024.size inb).toLoadRect (hm.unread x) = x := by
  funext j
  show m.view.read (Elt F) (hm.unread x) _ = _
  rw [hm.read_unread]
  refine congrArg x (funext fun a => Fin.ext ?_)
  fin_cases a <;> simp [Rect.unit]

/-! ### What a step leaves -/

variable (i : grid0.Coords) (x1 x2 : Vec F S256x1024 .f32) (x6 : Vec F S256x1024 .bf16) (x10 : Vec F S8x1024 .f32) (x11 x12 : Vec F S4x256x256 .bf16)

/-- The four groups' decays. -/
def decays : Fin 4 → Vec F S256x256 .f32 := fun g => decayOf (lanes x2 g) (panel x11 g) (param x10 1 g) (param x10 3 g)
/-- The decays a row ahead. -/
def nextDecays : Fin 4 → Vec F S256x256 .f32 := fun g => nextDecay (lanes x2 g) (panel x11 g) (param x10 1 g) (param x10 3 g)
/-- The input's factors, squared. -/
def squaredFactors : Fin 4 → Vec F S256x256 .f32 := fun g => squaredFactor (lanes x2 g) (panel x11 g) (param x10 1 g) (param x10 3 g)
/-- The input gates. -/
def inputGates : Fin 4 → Vec F S256x256 .f32 := fun g => inputGate (lanes x2 g) (panel x12 g) (param x10 2 g)
/-- The gradients before the recurrence. -/
def incomings : Fin 4 → Vec F S256x256 .f32 := fun g => incoming (lanes x1 g) (lanes x6 g)

/-- The rows the step walks, from the row `g` handed to it. -/
def walkedRows (g : Vec F S1x1024 .f32) : Vec F S256x1024 .f32 := walked (joined (nextDecays x2 x10 x11)) (joined (incomings x1 x6)) g

/-- The row handed to the next step. -/
def handedOn (g : Vec F S1x1024 .f32) : Vec F S1x1024 .f32 :=
  k0_pay92 (handed (joined (nextDecays x2 x10 x11)) (joined (incomings x1 x6)) g 32) (fun j => joined (decays x2 x10 x11) (ix2 0 (j 1)))

/-- In the sums: the row of the input gate's bias. -/
def LeavesGateBias (g : Vec F S1x1024 .f32) (s0 s : Vec F S16x1024 .f32) : Prop :=
  ∀ (u : Fin 4) (l : Fin 256), s (ix2 6 (lane u l))
    = gateBias i (lanes (walkedRows x1 x2 x6 x10 x11 g) u) (lanes x2 u) (squaredFactors x2 x10 x11 u) (inputGates x2 x10 x12 u) (sumRow s0 6 u) (ix2 0 l)

/-- In the input gate's weight gradient: each group's matrix. -/
def LeavesGateWeight (g : Vec F S1x1024 .f32) (w0 w : Vec F S4x256x256 .f32) : Prop :=
  ∀ (u : Fin 4) (a b : Fin 256), w (ix3 u a b)
    = gateWeight i (lanes (walkedRows x1 x2 x6 x10 x11 g) u) (lanes x2 u) (squaredFactors x2 x10 x11 u) (inputGates x2 x10 x12 u) (panel w0 u) (ix3 0 a b)

end Cert.Kernel2Ideal.SeqBackward

end
-- ==== Proof.SeqBackward.Formula.lean ====
/- The pooled branch's gradients over the extended reals: what one step's arithmetic on a group of 256 columns is, place by
   place. The transposed mean over a window is a sum of successive rows of quotients, which the step forms by doubling: rows
   and rows turned by one, then by two, four and eight. -/
module

public import proofs.«01_k».proof.Proof.SeqBackward.Step
public import Idealize.ShloMosaic.Lib.Pipeline.ValueKit.Point
public import proofs.«01_k».proof.Proof.Norm.Finite
public import Idealize.ShloMosaic.Lib.Tactic

@[expose] public section

set_option maxRecDepth 16384
set_option maxHeartbeats 2000000

noncomputable section

namespace Cert.Kernel2Ideal.SeqBackward

open Idealize.ShloMosaic Idealize.ShloMosaic.TcCoe
open Idealize.SL Idealize.SL.Sem
open Cert.Kernel2Ideal.Gen

/-- The width of each group's window. -/
def wide : Fin 4 → ℕ := ![2, 4, 8, 16]

/-- The number of rows in the window at row `n`: as many as there are above it, up to the window's width. -/
def rowsIn (g : Fin 4) (n : ℕ) : ℝ := ((min (n + 1) (wide g) : ℕ) : ℝ)

theorem rowsIn_ne (g : Fin 4) (n : ℕ) : rowsIn g n ≠ 0 := by
  have : 0 < wide g := by revert g; decide
  unfold rowsIn
  exact_mod_cast (Nat.pos_iff_ne_zero.mp (lt_min (Nat.succ_pos n) this))

/-- That number is the smaller of the row's position and the width. -/
theorem min_rows (g : Fin 4) (n : ℕ) : min (((n + 1 : ℕ) : ℝ) : EReal) ((wide g : ℝ) : EReal) = (rowsIn g n : EReal) := by
  unfold rowsIn
  rcases le_total (n + 1) (wide g) with h | h
  · rw [min_eq_left (by exact_mod_cast h), min_eq_left h]
  · rw [min_eq_right (by exact_mod_cast h), min_eq_right h]

/-- The widths, as numbers of the format. -/
theorem width_bits (g : Fin 4) : Ideal.ofBits .f32 (widthBits g) = ((wide g : ℝ) : EReal) := by
  fin_cases g <;> simp [widthBits, wide, Ideal.ofBits, Ideal.ieee, -EReal.coe_mul] <;> norm_num

variable (a p : Vec Ideal S256x256 .bf16) (b a' : Vec Ideal S1x256 .f32) (w : Vec Ideal S1x256x256 .bf16)

theorem meanGrad_apply (s l : Fin 256) : meanGrad a b w (ix2 s l) = ∑ k : Fin 256, (a (ix2 s k) * b (ix2 0 k)) * w (ix3 0 l k) := by
  unfold meanGrad
  pointwise [k0_pay278, k0_pay273, k0_pay276, k0_pay271]

theorem weightGrad_apply (w0 : Vec Ideal S1x256x256 .f32) (i j : Fin 256) :
    weightGrad p a b w0 (ix3 0 i j) = w0 (ix3 0 i j) + ∑ s : Fin 256, p (ix2 s i) * (a (ix2 s j) * b (ix2 0 j)) := by
  unfold weightGrad
  pointwise [k0_pay277, k0_pay270, k0_pay273, k0_pay276, k0_pay271]

theorem biasGrad_apply (l : Fin 256) : biasGrad a b a' (ix2 0 l) = a' (ix2 0 l) + ∑ s : Fin 256, a (ix2 s l) * b (ix2 0 l) := by
  unfold biasGrad
  pointwise [k0_pay275, k0_pay274, k0_pay273, k0_pay271]

theorem scaleGrad_apply (l : Fin 256) : scaleGrad p w b a' a (ix2 0 l)
    = a' (ix2 0 l) + ∑ s : Fin 256, a (ix2 s l) * ((∑ k : Fin 256, p (ix2 s k) * w (ix3 0 k l)) + b (ix2 0 l)) := by
  unfold scaleGrad
  pointwise [k0_pay272, k0_pay270, k0_pay271]

theorem positions_apply (i : grid0.Coords) (hi : (i 0).val < 16) (s l : Fin 256) :
    positions (F := Ideal) i (ix2 s l) = (((256 * (15 - (i 0).val) + s.val + 1 : ℕ) : ℝ) : EReal) := by
  unfold positions
  pointwise [k0_pay93]
  refine congrArg (fun x : ℝ => (x : EReal)) ?_
  show ((BitVec.toInt _ : ℤ) : ℝ) = _
  have : (IntOp.addi (IntOp.addi (BitVec.ofNat 32 s.val) (Scalar.muli (Scalar.subi (15#32) (BitVec.ofNat 32 (i 0).val)) 256#32)) 1#32)
      = BitVec.ofNat 32 (256 * (15 - (i 0).val) + s.val + 1) := by
    apply BitVec.eq_of_toNat_eq
    simp [IntOp.addi, Scalar.muli, Scalar.subi, IntOp.muli, IntOp.subi]
    omega
  rw [this, BitVec.toInt_eq_toNat_of_lt (by simp; omega)]
  simp only [BitVec.toNat_ofNat]
  rw [Nat.mod_eq_of_lt (by omega)]
  push_cast
  rfl

theorem quotient_apply (i : grid0.Coords) (hi : (i 0).val < 16) (g : Fin 4) (s l : Fin 256) : quotient i g a b w (ix2 s l)
    = Ideal.div (meanGrad a b w (ix2 s l)) (rowsIn g (256 * (15 - (i 0).val) + s.val)) := by
  unfold quotient
  pointwise []
  rw [positions_apply i hi, width_bits, min_rows, Ideal.div_coe (rowsIn_ne _ _), Ideal.div_coe (rowsIn_ne _ _), one_mul]

theorem extended_apply (q : FVec Ideal S256x256 .f32) (h : Vec Ideal S16x256 .f32) (s : Fin 272) (l : Fin 256) :
    extended q h (ix2 s l) = if h' : s.val < 256 then q (ix2 ⟨s.val, h'⟩ l) else h (ix2 ⟨s.val - 256, by omega⟩ l) := by
  unfold extended
  pointwise []

theorem turned_apply (d : ℕ) (k : BitVec 32) (hk : k = BitVec.ofNat 32 (272 - d)) (hd : d < 16) (hd' : 0 < d) (z : FVec Ideal S272x256 .f32) (s : Fin 272) (l : Fin 256) (h : s.val + d < 272) :
    turned k z (ix2 s l) = z (ix2 s l) + z (ix2 ⟨s.val + d, h⟩ l) := by
  unfold turned
  pointwise []
  subst hk
  refine congrArg _ (congrArg (fun u => z (ix2 u l)) (Fin.ext ?_))
  simp only [BitVec.toNat_ofNat]
  omega

/-- Row `n` of the extended block, nothing past its end. -/
def rowN (z : FVec Ideal S272x256 .f32) (l : Fin 256) (n : ℕ) : EReal := if h : n < 272 then z (ix2 ⟨n, h⟩ l) else 0

theorem rowN_turned (d : ℕ) (k : BitVec 32) (hk : k = BitVec.ofNat 32 (272 - d)) (hd : d < 16) (hd' : 0 < d) (z : FVec Ideal S272x256 .f32) (l : Fin 256) (n : ℕ)
    (h : n + d < 272) : rowN (turned k z) l n = rowN z l n + rowN z l (n + d) := by
  unfold rowN
  rw [dif_pos (by omega), dif_pos (by omega), dif_pos h]
  exact turned_apply d k hk hd hd' z ⟨n, by omega⟩ l h

/-- The doubled sums are the sums over the group's window. -/
theorem windowed_apply (g : Fin 4) (z : FVec Ideal S272x256 .f32) (l : Fin 256) (n : ℕ) (h : n ≤ 256) :
    rowN (windowed g z) l n = ∑ k ∈ Finset.range (wide g), rowN z l (n + k) := by
  have one : ∀ n, n + 1 < 272 → rowN (turned 271#32 z) l n = rowN z l n + rowN z l (n + 1) := fun n h => rowN_turned 1 _ rfl (by omega) (by omega) z l n h
  have two : ∀ z n, n + 2 < 272 → rowN (turned 270#32 z) l n = rowN z l n + rowN z l (n + 2) := fun z n h => rowN_turned 2 _ rfl (by omega) (by omega) z l n h
  have four : ∀ z n, n + 4 < 272 → rowN (turned 268#32 z) l n = rowN z l n + rowN z l (n + 4) := fun z n h => rowN_turned 4 _ rfl (by omega) (by omega) z l n h
  have eight : ∀ z n, n + 8 < 272 → rowN (turned 264#32 z) l n = rowN z l n + rowN z l (n + 8) := fun z n h => rowN_turned 8 _ rfl (by omega) (by omega) z l n h
  fin_cases g
  · show rowN (turned 271#32 z) l n = ∑ k ∈ Finset.range 2, _
    rw [one n (by omega)]
    simp only [Finset.sum_range_succ, Finset.sum_range_zero, zero_add, add_zero]
  · show rowN (turned 270#32 (turned 271#32 z)) l n = ∑ k ∈ Finset.range 4, _
    rw [two _ n (by omega), one n (by omega), one (n + 2) (by omega)]
    simp only [Finset.sum_range_succ, Finset.sum_range_zero, zero_add, add_zero, add_assoc, Nat.reduceAdd]
  · show rowN (turned 268#32 (turned 270#32 (turned 271#32 z))) l n = ∑ k ∈ Finset.range 8, _
    rw [four _ n (by omega), two _ n (by omega), two _ (n + 4) (by omega), one n (by omega), one (n + 2) (by omega), one (n + 4) (by omega), one (n + 4 + 2) (by omega)]
    simp only [Finset.sum_range_succ, Finset.sum_range_zero, zero_add, add_zero, add_assoc, Nat.reduceAdd]
  · show rowN (turned 264#32 (turned 268#32 (turned 270#32 (turned 271#32 z)))) l n = ∑ k ∈ Finset.range 16, _
    rw [eight _ n (by omega), four _ n (by omega), four _ (n + 8) (by omega), two _ n (by omega), two _ (n + 4) (by omega), two _ (n + 8) (by omega), two _ (n + 8 + 4) (by omega),
      one n (by omega), one (n + 2) (by omega), one (n + 4) (by omega), one (n + 4 + 2) (by omega), one (n + 8) (by omega), one (n + 8 + 2) (by omega), one (n + 8 + 4) (by omega), one (n + 8 + 4 + 2) (by omega)]
    simp only [Finset.sum_range_succ, Finset.sum_range_zero, zero_add, add_zero, add_assoc, Nat.reduceAdd]

theorem poolGrad_apply (i : grid0.Coords) (g : Fin 4) (h : Vec Ideal S16x256 .f32) (s l : Fin 256) :
    poolGrad i g a b w h (ix2 s l)
      = (∑ k ∈ Finset.range (wide g), rowN (extended (quotient i g a b w) h) l (s.val + k)) - meanGrad a b w (ix2 s l) := by
  rw [← windowed_apply g _ l s.val (by omega)]
  unfold poolGrad rowN
  rw [dif_pos (by omega)]
  pointwise [k0_pay1]

/-- The carried rows, and the gates' gradient as it came. -/
theorem kept_apply (q : FVec Ideal S256x256 .f32) (r : Fin 16) (l : Fin 256) : k0_pay186 q (ix2 r l) = q (ix2 ⟨r.val, by omega⟩ l) := by
  pointwise [k0_pay186]
theorem gates_apply (x : Vec Ideal S256x2048 .bf16) (s : Fin 256) (l : Fin 2048) : k0_pay2 x (ix2 s l) = x (ix2 s l) := by
  pointwise [k0_pay2]
theorem zero_rows (j : S16x1024.Idx) : k0_pay9 (F := Ideal) j = 0 := by pointwise [k0_pay9]
theorem zero_sums (j : S16x1024.Idx) : k0_pay3 (F := Ideal) j = 0 := by pointwise [k0_pay3]
theorem zero_weight (j : S4x256x256.Idx) : k0_pay6 (F := Ideal) j = 0 := by pointwise [k0_pay6]

/-- Eight rows stacked, the last two of zeros. -/
def stacked (r0 r1 r2 r3 r4 r5 : Vec Ideal S1024 .f32) : Vec Ideal S8x1024 .f32 :=
  let row (r : Vec Ideal S1024 .f32) : Vec Ideal S1x1024 .f32 := broadcastInDim S1x1024 ![1] bcast_S1024_S1x1024_1 r
  let none : Vec Ideal S1x1024 .f32 := row (broadcastInDim S1024 ![] bcast_S_S1024 (constant (F := Ideal) S_ .f32 0#32))
  concatenate S8x1024 0 [⟨S1x1024, row r0⟩, ⟨S1x1024, row r1⟩, ⟨S1x1024, row r2⟩, ⟨S1x1024, row r3⟩, ⟨S1x1024, row r4⟩, ⟨S1x1024, row r5⟩, ⟨S1x1024, none⟩, ⟨S1x1024, none⟩]
    concatenates_S1x1024_S1x1024_S1x1024_S1x1024_S1x1024_S1x1024_S1x1024_S1x1024_S8x1024_d0

/-- Their rows from the second on: the gates' biases, the decay's parameter, the branch's bias and scale. -/
theorem stacked_row (r0 r1 r2 r3 r4 r5 : Vec Ideal S1024 .f32) (l : Fin 1024) :
    stacked r0 r1 r2 r3 r4 r5 (ix2 1 l) = r1 (ix1 l) ∧ stacked r0 r1 r2 r3 r4 r5 (ix2 2 l) = r2 (ix1 l) ∧ stacked r0 r1 r2 r3 r4 r5 (ix2 3 l) = r3 (ix1 l)
      ∧ stacked r0 r1 r2 r3 r4 r5 (ix2 4 l) = r4 (ix1 l) ∧ stacked r0 r1 r2 r3 r4 r5 (ix2 5 l) = r5 (ix1 l) := by
  have row : ∀ (k : Fin 8) (n : ℕ), (ix2 k l (0 : Fin 2)).val = n → k.val = n := fun _ _ h => h
  unfold stacked
  dsimp only
  refine ⟨?_, ?_, ?_, ?_, ?_⟩
  all_goals
    refine Cert.Proof.Norm.stack_apply _ _ _ _ _ _ _ _ _ (ix2 _ l) _ (fun h => ?_) (fun h => ?_) (fun h => ?_) (fun h => ?_) (fun h => ?_) (fun h => ?_) (fun h => ?_) (fun h => ?_)
    all_goals first
      | exact absurd (row _ _ h) (by decide)
      | pointwise []

end Cert.Kernel2Ideal.SeqBackward

end
-- ==== Proof.SeqBackward.Recurrence.lean ====
/- The reverse recurrence over the reals: the gradient of a row is its own and, through the decay of the row below, the one of
   the row below. Three rounds of doubling close eight rows; the trips close a step's 256 rows, and the steps all rows. -/
module

public import proofs.«01_k».proof.Proof.SeqBackward.Gates
public import proofs.«01_k».proof.Proof.SeqBackward.Formula

@[expose] public section

set_option maxRecDepth 16384
set_option maxHeartbeats 2000000

noncomputable section

namespace Cert.Kernel2Ideal.SeqBackward

open Idealize.ShloMosaic Idealize.ShloMosaic.TcCoe
open Cert.Kernel2Ideal.Gen

/-! ### One step's rows -/

/-- Eight rows closed: each row's gradient is its own and, through its factor, the next one's. -/
theorem eight_real (acc : Vec Ideal S1x1024 .f32) (a b : Vec Ideal S8x1024 .f32) (c : Fin 1024) (A B H : ℕ → ℝ)
    (ha : ∀ r : Fin 8, a (ix2 r c) = (A r.val : EReal)) (hb : ∀ r : Fin 8, b (ix2 r c) = (B r.val : EReal)) (hg : acc (ix2 0 c) = (H 8 : EReal))
    (hH : ∀ r < 8, H r = B r + A r * H (r + 1)) (r : Fin 8) : k0_pay89 acc a b (ix2 r c) = (H r.val : EReal) := by
  have h0 := hH 0 (by omega)
  have h1 := hH 1 (by omega)
  have h2 := hH 2 (by omega)
  have h3 := hH 3 (by omega)
  have h4 := hH 4 (by omega)
  have h5 := hH 5 (by omega)
  have h6 := hH 6 (by omega)
  have h7 := hH 7 (by omega)
  simp only [Nat.reduceAdd, zero_add] at h0 h1 h2 h3 h4 h5 h6 h7
  have a0 := ha 0; have a1 := ha 1; have a2 := ha 2; have a3 := ha 3; have a4 := ha 4; have a5 := ha 5; have a6 := ha 6; have a7 := ha 7
  have b0 := hb 0; have b1 := hb 1; have b2 := hb 2; have b3 := hb 3; have b4 := hb 4; have b5 := hb 5; have b6 := hb 6; have b7 := hb 7
  fin_cases r
  all_goals
    pointwise [k0_pay89]
    simp only [Scalar.select, IntOp.cmpi, a0, a1, a2, a3, a4, a5, a6, a7, b0, b1, b2, b3, b4, b5, b6, b7, hg]
    simp (decide := true) only [if_true, if_false]
    simp only [← EReal.coe_mul, ← EReal.coe_add]
    refine congrArg _ ?_
    simp only [Fin.isValue, Fin.val_zero, Fin.val_one, Fin.val_two, Fin.coe_ofNat_eq_mod, Nat.reduceMod]
    simp only [h0, h1, h2, h3, h4, h5, h6, h7]
    ring

/-- A step's rows walked, from the row handed to it, and the rows handed on between. -/
theorem handed_real (a b : Vec Ideal S256x1024 .f32) (g : Vec Ideal S1x1024 .f32) (c : Fin 1024) (A B H : ℕ → ℝ)
    (ha : ∀ r : Fin 256, a (ix2 r c) = (A r.val : EReal)) (hb : ∀ r : Fin 256, b (ix2 r c) = (B r.val : EReal)) (hg : g (ix2 0 c) = (H 256 : EReal))
    (hH : ∀ r < 256, H r = B r + A r * H (r + 1)) : ∀ k ≤ 32, handed a b g k (ix2 0 c) = (H (256 - 8 * k) : EReal)
  | 0, _ => hg
  | k + 1, hk => by
    have ih := handed_real a b g c A B H ha hb hg hH k (by omega)
    show k0_pay91 (handed a b g k) (eight a k) (eight b k) (ix2 0 c) = _
    refine Eq.trans (b := k0_pay89 (handed a b g k) (eight a k) (eight b k) (ix2 0 c)) (by pointwise [k0_pay91]) ?_
    have h := eight_real (handed a b g k) (eight a k) (eight b k) c (fun r => A (8 * (31 - k) + r)) (fun r => B (8 * (31 - k) + r)) (fun r => H (8 * (31 - k) + r))
      (fun r => ha _) (fun r => hb _) (by rw [ih]; congr 2; omega) (fun r hr => hH _ (by omega)) 0
    rw [h]
    show ((H (8 * (31 - k) + 0) : ℝ) : EReal) = _
    congr 2
    omega

theorem walked_real (a b : Vec Ideal S256x1024 .f32) (g : Vec Ideal S1x1024 .f32) (c : Fin 1024) (A B H : ℕ → ℝ)
    (ha : ∀ r : Fin 256, a (ix2 r c) = (A r.val : EReal)) (hb : ∀ r : Fin 256, b (ix2 r c) = (B r.val : EReal)) (hg : g (ix2 0 c) = (H 256 : EReal))
    (hH : ∀ r < 256, H r = B r + A r * H (r + 1)) (s : Fin 256) : walked a b g (ix2 s c) = (H s.val : EReal) := by
  have ih := handed_real a b g c A B H ha hb hg hH (31 - s.val / 8) (by omega)
  show k0_pay90 (handed a b g (31 - s.val / 8)) (eight a (31 - s.val / 8)) (eight b (31 - s.val / 8)) (ix2 ⟨s.val % 8, Nat.mod_lt _ (by decide)⟩ c) = _
  refine Eq.trans (b := k0_pay89 (handed a b g (31 - s.val / 8)) (eight a (31 - s.val / 8)) (eight b (31 - s.val / 8)) (ix2 ⟨s.val % 8, Nat.mod_lt _ (by decide)⟩ c)) (by pointwise [k0_pay90]) ?_
  have h := eight_real (handed a b g (31 - s.val / 8)) (eight a (31 - s.val / 8)) (eight b (31 - s.val / 8)) c (fun r => A (8 * (31 - (31 - s.val / 8)) + r))
    (fun r => B (8 * (31 - (31 - s.val / 8)) + r)) (fun r => H (8 * (31 - (31 - s.val / 8)) + r))
    (fun r => ha _) (fun r => hb _) (by rw [ih]; congr 2; omega) (fun r hr => hH _ (by omega)) ⟨s.val % 8, Nat.mod_lt _ (by decide)⟩
  rw [h]
  show ((H (8 * (31 - (31 - s.val / 8)) + s.val % 8) : ℝ) : EReal) = _
  congr 2
  omega

/-! ### The gates and the decay, at real numbers -/

/-- The logistic function. -/
def sigma (x : ℝ) : ℝ := 1 / (1 + Real.exp (-x))

/-- The softplus function. -/
def softplus (x : ℝ) : ℝ := max x 0 + Real.log (1 + Real.exp (-|x|))

theorem sigma_pos (x : ℝ) : 0 < sigma x := by unfold sigma; positivity

theorem softplus_nonneg (x : ℝ) : 0 ≤ softplus x :=
  add_nonneg (le_max_right _ _) (Real.log_nonneg (by have := Real.exp_pos (-|x|); linarith))

/-- The logistic function through the hyperbolic tangent. -/
theorem sigma_tanh (x : ℝ) : 1 / 2 * Real.tanh (1 / 2 * x) + 1 / 2 = sigma x := by
  unfold sigma
  rw [Real.tanh_eq_sinh_div_cosh, Real.sinh_eq, Real.cosh_eq, show -x = -(1 / 2 * x) + -(1 / 2 * x) by ring, Real.exp_add]
  have h : Real.exp (-(1 / 2 * x)) = (Real.exp (1 / 2 * x))⁻¹ := Real.exp_neg _
  rw [h]
  have hp := Real.exp_pos (1 / 2 * x)
  field_simp
  ring

/-- One less the squared decay, through the hyperbolic tangent. -/
theorem squared_tanh (x : ℝ) : (0 - Real.tanh x) * (1 + Real.exp x * Real.exp x) = 1 - Real.exp (2 * x) := by
  rw [Real.tanh_eq_sinh_div_cosh, Real.sinh_eq, Real.cosh_eq, show 2 * x = x + x by ring, Real.exp_add, Real.exp_neg]
  have hp := Real.exp_pos x
  field_simp
  ring

theorem tanh_half (x : ℝ) : Ideal.ofBits .f32 0x3F000000#32 * Ideal.tanh (Ideal.ofBits .f32 0x3F000000#32 * (x : EReal)) + Ideal.ofBits .f32 0x3F000000#32 = (sigma x : EReal) := by
  rw [show Ideal.ofBits .f32 0x3F000000#32 = ((1 / 2 : ℝ) : EReal) from Cert.Proof.Norm.half_eq, ← EReal.coe_mul, Ideal.tanh_coe, ← EReal.coe_mul, ← EReal.coe_add, sigma_tanh]

theorem minus_eight : Ideal.ofBits .f32 0xC1000000#32 = ((-8 : ℝ) : EReal) := by
  simp [Ideal.ofBits, Ideal.ieee, -EReal.coe_mul]
  norm_num

theorem coe_max (x y : ℝ) : ((max x y : ℝ) : EReal) = max (x : EReal) (y : EReal) := Monotone.map_max fun _ _ h => EReal.coe_le_coe_iff.mpr h

/-- The logarithm of one more than an exponential. -/
theorem log1p_exp (x : ℝ) : Ideal.log1p (Ideal.exp ((-|x| : ℝ) : EReal)) = ((Real.log (1 + Real.exp (-|x|)) : ℝ) : EReal) := by
  have hp := Real.exp_pos (-|x|)
  rw [Ideal.exp_coe]
  unfold Ideal.log1p
  rw [show (1 : EReal) = ((1 : ℝ) : EReal) from rfl, ← EReal.coe_add, Ideal.log_coe, if_neg (by linarith)]

section Group

variable (x : Vec Ideal S256x256 .f32) (w : Vec Ideal S1x256x256 .bf16) (p q : Vec Ideal S1x256 .f32)
  (ξ ω : Fin 256 → Fin 256 → ℝ) (ϖ κ : Fin 256 → ℝ) (hx : ∀ s k, x (ix2 s k) = (ξ s k : EReal)) (hw : ∀ k l, w (ix3 0 k l) = (ω k l : EReal))
  (hp : ∀ l, p (ix2 0 l) = (ϖ l : EReal)) (hq : ∀ l, q (ix2 0 l) = (κ l : EReal))

/-- A gate's argument. -/
def gateArg (ξ ω : Fin 256 → Fin 256 → ℝ) (ϖ : Fin 256 → ℝ) (s l : Fin 256) : ℝ := (∑ k : Fin 256, ξ s k * ω k l) + ϖ l

/-- The logarithm of the decay. -/
def logDecayAt (ξ ω : Fin 256 → Fin 256 → ℝ) (ϖ κ : Fin 256 → ℝ) (s l : Fin 256) : ℝ := -8 * sigma (gateArg ξ ω ϖ s l) * softplus (κ l)

include hx hw hp

theorem arg_real (s l : Fin 256) : (∑ k : Fin 256, x (ix2 s k) * w (ix3 0 k l)) + p (ix2 0 l) = (gateArg ξ ω ϖ s l : EReal) := by
  unfold gateArg
  rw [EReal.coe_add, Cert.Proof.Norm.coe_sum, hp]
  exact congrArg (· + _) (Finset.sum_congr rfl fun k _ => by rw [hx, hw, EReal.coe_mul])

theorem decayGate_real (s l : Fin 256) : k0_pay12 x w p (ix2 s l) = (sigma (gateArg ξ ω ϖ s l) : EReal) := by
  rw [← tanh_half, ← arg_real x w p ξ ω ϖ hx hw hp]
  pointwise [k0_pay12, k0_pay11]

theorem inputGate_real (s l : Fin 256) : inputGate x w p (ix2 s l) = (sigma (gateArg ξ ω ϖ s l) : EReal) := by
  rw [← tanh_half, ← arg_real x w p ξ ω ϖ hx hw hp]
  unfold inputGate
  pointwise [k0_pay20, k0_pay13, k0_pay14, k0_pay11]

include hq

theorem logDecay_real (s l : Fin 256) : k0_pay15 (k0_pay12 x w p) q (ix2 s l) = (logDecayAt ξ ω ϖ κ s l : EReal) := by
  have h := decayGate_real x w p ξ ω ϖ hx hw hp s l
  generalize k0_pay12 x w p = r at h ⊢
  pointwise [k0_pay15]
  rw [h, hq, if_neg (fun e => e rfl), minus_eight]
  have ha : (0 : EReal) - FloatOps.absf (F := Ideal) (φ := .f32) ((κ l : ℝ) : EReal) = ((-|κ l| : ℝ) : EReal) := by
    show (0 : EReal) - max ((κ l : ℝ) : EReal) (-((κ l : ℝ) : EReal)) = _
    rw [← EReal.coe_neg, ← coe_max, ← EReal.coe_zero, ← EReal.coe_sub, zero_sub]
    rfl
  rw [ha, log1p_exp, ← EReal.coe_zero, ← coe_max, ← EReal.coe_add, ← EReal.coe_mul, ← EReal.coe_mul]
  rfl

theorem decay_real (s l : Fin 256) : decayOf x w p q (ix2 s l) = (Real.exp (logDecayAt ξ ω ϖ κ s l) : EReal) := by
  have h := logDecay_real x w p q ξ ω ϖ κ hx hw hp hq s l
  unfold decayOf
  generalize k0_pay12 x w p = r at h ⊢
  pointwise [k0_pay18, k0_pay16]
  rw [h, Ideal.exp_coe]

theorem nextDecay_real (s l : Fin 256) :
    nextDecay x w p q (ix2 s l) = ((if h : s.val + 1 < 256 then Real.exp (logDecayAt ξ ω ϖ κ ⟨s.val + 1, h⟩ l) else 1 : ℝ) : EReal) := by
  have h := fun s => logDecay_real x w p q ξ ω ϖ κ hx hw hp hq s l
  unfold nextDecay rowNumbers
  generalize k0_pay12 x w p = r at h ⊢
  pointwise [k0_pay27, k0_pay16]
  simp only [h, Ideal.exp_coe]
  have e : ∀ s : Fin 256, IntOp.cmpi CmpIPredicate.eq (BitVec.ofNat 32 s.val) 255#32 = if s.val + 1 < 256 then 0#1 else 1#1 := by decide +kernel
  rw [e]
  by_cases h1 : s.val + 1 < 256
  · rw [if_pos h1, dif_pos h1]
    refine (if_neg (by decide)).trans (congrArg (fun u => ((Real.exp (logDecayAt ξ ω ϖ κ u l) : ℝ) : EReal)) (Fin.ext ?_))
    show (s.val + 256 - 255) % 256 = s.val + 1
    omega
  · rw [if_neg h1, dif_neg h1]
    exact if_pos rfl

theorem squaredFactor_real (s l : Fin 256) : squaredFactor x w p q (ix2 s l) = ((1 - Real.exp (2 * logDecayAt ξ ω ϖ κ s l) : ℝ) : EReal) := by
  have h := logDecay_real x w p q ξ ω ϖ κ hx hw hp hq s l
  unfold squaredFactor
  generalize k0_pay12 x w p = r at h ⊢
  pointwise [k0_pay21, k0_pay17, k0_pay16]
  rw [h, Ideal.exp_coe, Ideal.tanh_coe, ← squared_tanh]
  simp only [EReal.coe_mul, EReal.coe_sub, EReal.coe_add, EReal.coe_zero, EReal.coe_one]

end Group

/-- The step's first row is the first of all rows. -/
theorem first_row (i : grid0.Coords) (hi : (i 0).val < 16) (s l : Fin 256) :
    k0_pay10 i (ix2 s l) = if 256 * (15 - (i 0).val) + s.val = 0 then 1#1 else 0#1 := by
  have e : ∀ (u : Fin 16) (s : Fin 256), IntOp.andi (IntOp.cmpi CmpIPredicate.eq (BitVec.ofNat 32 s.val) 0#32)
      (Scalar.cmpi CmpIPredicate.eq (Scalar.subi (15#32) (BitVec.ofNat 32 u.val)) 0#32) = if 256 * (15 - u.val) + s.val = 0 then 1#1 else 0#1 := by decide +kernel
  pointwise [k0_pay10]
  exact e ⟨(i 0).val, hi⟩ s

/-- The gradient at the input gate. -/
theorem gateGrad_real (i : grid0.Coords) (hi : (i 0).val < 16) (h x m : Vec Ideal S256x256 .f32) (s l : Fin 256) (η ξ μ : ℝ)
    (hh : h (ix2 s l) = (η : EReal)) (hx : x (ix2 s l) = (ξ : EReal)) (hm : m (ix2 s l) = (μ : EReal)) (hμ : 0 ≤ μ) :
    gateGrad i h x m (ix2 s l) = ((η * (if 256 * (15 - (i 0).val) + s.val = 0 then 1 else Real.sqrt μ) * ξ : ℝ) : EReal) := by
  have hf := first_row i hi s l
  unfold gateGrad
  generalize k0_pay10 i = f at hf ⊢
  pointwise [k0_pay98, k0_pay96, k0_pay94]
  rw [hf, hh, hx, hm, Ideal.sqrt_coe, if_neg (not_lt.2 hμ)]
  by_cases h0 : 256 * (15 - (i 0).val) + s.val = 0
  · rw [if_pos h0, if_pos h0]
    simp [Scalar.select]
  · rw [if_neg h0, if_neg h0]
    simp [Scalar.select]

/-- The gate's bias gradient. -/
theorem gateBias_apply (i : grid0.Coords) (h x m z : Vec Ideal S256x256 .f32) (b : Vec Ideal S1x256 .f32) (l : Fin 256) :
    gateBias i h x m z b (ix2 0 l) = b (ix2 0 l) + ∑ s : Fin 256, gateGrad i h x m (ix2 s l) * (z (ix2 s l) * (1 - z (ix2 s l))) := by
  unfold gateBias
  generalize gateGrad i h x m = y
  pointwise [k0_pay104, k0_pay102]

/-- The gate's weight gradient. -/
theorem gateWeight_apply (i : grid0.Coords) (h x m z : Vec Ideal S256x256 .f32) (w : Vec Ideal S1x256x256 .f32) (a l : Fin 256) :
    gateWeight i h x m z w (ix3 0 a l) = w (ix3 0 a l) + ∑ s : Fin 256, x (ix2 s a) * (gateGrad i h x m (ix2 s l) * (z (ix2 s l) * (1 - z (ix2 s l)))) := by
  unfold gateWeight
  generalize gateGrad i h x m = y
  pointwise [k0_pay110, k0_pay106, k0_pay108, k0_pay102, k0_pay94]

/-! ### All rows -/

/-- The sum of the logarithms down to a row. -/
def level (lam : ℕ → ℝ) (n : ℕ) : ℝ := ∑ k ∈ Finset.range (n + 1), lam k

/-- The gradient of row `n`: of every row from `n` on, its own times the decays between. -/
def back (lam b : ℕ → ℝ) (n : ℕ) : ℝ := ∑ t ∈ Finset.range 4096, if n ≤ t then Real.exp (level lam t - level lam n) * b t else 0

theorem back_end (lam b : ℕ → ℝ) : back lam b 4096 = 0 :=
  Finset.sum_eq_zero fun t ht => if_neg (by have := Finset.mem_range.mp ht; omega)

theorem back_step (lam b : ℕ → ℝ) (n : ℕ) (hn : n < 4096) : back lam b n = b n + Real.exp (lam (n + 1)) * back lam b (n + 1) := by
  unfold back
  rw [Finset.mul_sum, ← Finset.add_sum_erase _ _ (Finset.mem_range.mpr hn), ← Finset.add_sum_erase (Finset.range 4096) (fun t => Real.exp (lam (n + 1)) * _) (Finset.mem_range.mpr hn),
    if_pos le_rfl, if_neg (by omega), sub_self, Real.exp_zero, one_mul, mul_zero, zero_add]
  refine congrArg _ (Finset.sum_congr rfl fun t ht => ?_)
  have hne : t ≠ n := (Finset.mem_erase.mp ht).1
  by_cases h : n ≤ t
  · rw [if_pos h, if_pos (by omega), ← mul_assoc, ← Real.exp_add]
    refine congrArg (fun z => Real.exp z * b t) ?_
    show _ = lam (n + 1) + (level lam t - level lam (n + 1))
    rw [show level lam (n + 1) = level lam n + lam (n + 1) from Finset.sum_range_succ _ _]
    ring
  · rw [if_neg h, if_neg (by omega), mul_zero]

/-- The activated value of `y`. -/
def gelu (y : EReal) : EReal :=
  y * (Ideal.ofBits .f32 0x3F000000#32 * (1 + Ideal.tanh (Ideal.ofBits .f32 0x3F4C422A#32 * (y + Ideal.ofBits .f32 0x3D372713#32 * (y * y * y)))))

theorem gelu_real (y : ℝ) : ∃ r : ℝ, gelu y = (r : EReal) := by
  have h1 : ∃ r : ℝ, Ideal.ofBits .f32 0x3F4C422A#32 = (r : EReal) := ⟨_, by simp [Ideal.ofBits, Ideal.ieee, -EReal.coe_mul]; rfl⟩
  have h2 : ∃ r : ℝ, Ideal.ofBits .f32 0x3D372713#32 = (r : EReal) := ⟨_, by simp [Ideal.ofBits, Ideal.ieee, -EReal.coe_mul]; rfl⟩
  obtain ⟨r1, h1⟩ := h1
  obtain ⟨r2, h2⟩ := h2
  unfold gelu
  rw [h1, h2, show Ideal.ofBits .f32 0x3F000000#32 = ((1 / 2 : ℝ) : EReal) from Cert.Proof.Norm.half_eq, show (1 : EReal) = ((1 : ℝ) : EReal) from rfl]
  simp only [← EReal.coe_mul, ← EReal.coe_add, Ideal.tanh_coe]
  exact ⟨_, rfl⟩

/-- The gradient of the recurrence's rows, their own: the cotangent through the activated value. -/
theorem incoming_apply (y : Vec Ideal S256x256 .f32) (d : Vec Ideal S256x256 .bf16) (s l : Fin 256) : incoming y d (ix2 s l) = d (ix2 s l) * gelu (y (ix2 s l)) := by
  unfold incoming gelu
  pointwise [k0_pay28, k0_pay23, k0_pay25, k0_pay22]
  rw [mul_comm (Ideal.ofBits FTy.f32 _) (y (ix2 s l)), mul_assoc (y (ix2 s l))]

theorem zero_handed (j : S1x1024.Idx) : k0_pay7 (F := Ideal) j = 0 := by pointwise [k0_pay7]
theorem zero_gate (j : S4x256x256.Idx) : k0_pay5 (F := Ideal) j = 0 := by pointwise [k0_pay5]
theorem handedOn_apply (a b : Vec Ideal S1x1024 .f32) (j : Fin 1024) : k0_pay92 a b (ix2 0 j) = b (ix2 0 j) * a (ix2 0 j) := by pointwise [k0_pay92]

/-! ### The branch's numbers -/

/-- The numbers the branch reads, by groups: the convolved rows, the rows' own gradients, the two gates' weights and biases, and the
    decay's parameter. -/
structure Branch where
  X : Fin 4 → Fin 4096 → Fin 256 → ℝ
  T : Fin 4 → Fin 4096 → Fin 256 → ℝ
  WA : Fin 4 → Fin 256 → Fin 256 → ℝ
  WX : Fin 4 → Fin 256 → Fin 256 → ℝ
  PA : Fin 4 → Fin 256 → ℝ
  PX : Fin 4 → Fin 256 → ℝ
  Q : Fin 4 → Fin 256 → ℝ

/-- The arrays are those numbers. -/
structure Branch.Holds (D : Branch) (x t : Fin 4096 → Fin 1024 → EReal) (wa wx : Fin 4 → Fin 256 → Fin 256 → EReal) (pa px q : Fin 1024 → EReal) : Prop where
  hX : ∀ g s l, x s (lane g l) = (D.X g s l : EReal)
  hT : ∀ g s l, t s (lane g l) = (D.T g s l : EReal)
  hWA : ∀ g k l, wa g k l = (D.WA g k l : EReal)
  hWX : ∀ g k l, wx g k l = (D.WX g k l : EReal)
  hPA : ∀ g l, pa (lane g l) = (D.PA g l : EReal)
  hPX : ∀ g l, px (lane g l) = (D.PX g l : EReal)
  hQ : ∀ g l, q (lane g l) = (D.Q g l : EReal)

namespace Branch

variable (D : Branch) (g : Fin 4) (l : Fin 256)

/-- The logarithm of a row's decay, zero past the last row. -/
def lam (n : ℕ) : ℝ := if h : n < 4096 then -8 * sigma ((∑ k : Fin 256, D.X g ⟨n, h⟩ k * D.WA g k l) + D.PA g l) * softplus (D.Q g l) else 0

/-- A row's own gradient. -/
def own (n : ℕ) : ℝ := if h : n < 4096 then D.T g ⟨n, h⟩ l else 0

/-- A row's gradient. -/
def row (n : ℕ) : ℝ := back (D.lam g l) (D.own g l) n

/-- The input gate. -/
def gate (s : Fin 4096) : ℝ := sigma ((∑ k : Fin 256, D.X g s k * D.WX g k l) + D.PX g l)

/-- The factor of the input. -/
def factor (n : ℕ) : ℝ := if n = 0 then 1 else Real.sqrt (1 - Real.exp (2 * D.lam g l n))

/-- The gradient at the input gate's argument. -/
def atGate (s : Fin 4096) : ℝ := D.row g l s.val * D.factor g l s.val * D.X g s l * (D.gate g l s * (1 - D.gate g l s))

theorem lam_nonpos (n : ℕ) : D.lam g l n ≤ 0 := by
  unfold lam
  split
  · have h1 := sigma_pos ((∑ k : Fin 256, D.X g ⟨n, ‹_›⟩ k * D.WA g k l) + D.PA g l)
    have h2 := softplus_nonneg (D.Q g l)
    nlinarith [mul_nonneg h1.le h2]
  · exact le_rfl

theorem square_nonneg (n : ℕ) : 0 ≤ 1 - Real.exp (2 * D.lam g l n) := by
  have := D.lam_nonpos g l n
  have : Real.exp (2 * D.lam g l n) ≤ 1 := Real.exp_le_one_iff.mpr (by linarith)
  linarith

end Branch

end Cert.Kernel2Ideal.SeqBackward

end
-- ==== Proof.Branches.Equation.lean ====
/-
  The forward call `branches` against the reference's lines: the logistic function of each gate times the branch's product,
  their sum, the gates, and the products times the gates' slopes. The call's `tanh` is the reference's quotient on every
  extended real.
-/
module

public import proofs.«01_k».proof.Defs
public import proofs.«01_k».proof.Proof.Branches.Block
public import proofs.«01_k».proof.Proof.SeqBackward.Recurrence
public import proofs.«01_k».proof.Proof.Gen.Reference7Ideal.Run
public import proofs.«01_k».proof.Proof.Gen.Reference7Ideal.Read
public import Idealize.ShloMosaic.Lib.Claim
public import Idealize.ShloMosaic.Lib.Quiescent

@[expose] public section

set_option maxRecDepth 16384
set_option maxHeartbeats 2000000

noncomputable section

namespace Cert.Proof.Branches

open Idealize.ShloMosaic Idealize.ShloMosaic.TcCoe Idealize.SL.Sem
open Cert.Kernel7Ideal Cert.Kernel7Ideal.Gen Cert.Kernel7Ideal.Value
open Cert.Proof.Norm Cert.Reference7Ideal.Read

/-- The gate is the logistic function as a quotient, at the infinities too. -/
theorem gate_eq (z : EReal) : gate z = Ideal.div (Ideal.ofBits .f32 1065353216#32) (Ideal.ofBits .f32 1065353216#32 + Ideal.exp (-z)) := by
  rw [Ideal.ofBits_one_f32]
  unfold gate
  induction z using EReal.rec with
  | bot =>
    rw [half_eq, EReal.coe_mul_bot_of_pos (by norm_num), Ideal.tanh_bot, EReal.neg_bot, Ideal.exp_top, EReal.add_top_of_ne_bot (by decide)]
    rw [show (-1 : EReal) = ((-1 : ℝ) : EReal) from rfl, ← EReal.coe_mul, ← EReal.coe_add]
    simp [Ideal.div]
  | top =>
    rw [half_eq, EReal.coe_mul_top_of_pos (by norm_num), Ideal.tanh_top, EReal.neg_top, Ideal.exp_bot, add_zero]
    rw [show (1 : EReal) = ((1 : ℝ) : EReal) from rfl, ← EReal.coe_mul, ← EReal.coe_add, Ideal.div_coe (by norm_num), ← EReal.coe_mul]
    norm_num
  | coe x =>
    have hp := Real.exp_pos (-x)
    refine (Cert.Kernel2Ideal.SeqBackward.tanh_half x).trans ?_
    rw [← EReal.coe_neg, Ideal.exp_coe, show (1 : EReal) = ((1 : ℝ) : EReal) from rfl, ← EReal.coe_add, Ideal.div_coe (by linarith), ← EReal.coe_mul, one_mul]
    rfl

/-- A weight as the call reads it: one block. -/
abbrev block (w : Vec Ideal S1024x1024 .f32) : Vec Ideal S1x1024x1024 .bf16 :=
  shapeCast S1x1024x1024 (truncf (F := Ideal) (s := S1024x1024) .bf16 (φ := .f32) w bitsLt_bf16_f32) shapeCasts_S1024x1024_S1x1024x1024

/-- A branch as the call reads it. -/
abbrev rows (x : Vec Ideal S4096x1024 .f32) : Vec Ideal S4096x1024 .bf16 := truncf (F := Ideal) (s := S4096x1024) .bf16 (φ := .f32) x bitsLt_bf16_f32

section Entry

variable (m : (ℓ : Loc nD τ sig) → Buf (Elt Ideal) ℓ)

/-- The first branch as the call is given it. -/
theorem entry_a (c : Dev nD) : @Eq (Vec Ideal S4096x1024 .bf16) (V m c main_v4) (rows (m ((c : Thread nD τ).loc main_arg0))) := by
  simp only [V, List.flatten_cons, List.flatten_nil, List.append_nil, List.cons_append, List.nil_append]
  after_results
  try rfl

/-- The second branch as the call is given it. -/
theorem entry_b (c : Dev nD) : @Eq (Vec Ideal S4096x1024 .bf16) (V m c main_v5) (rows (m ((c : Thread nD τ).loc main_arg1))) := by
  simp only [V, List.flatten_cons, List.flatten_nil, List.append_nil, List.cons_append, List.nil_append]
  after_results
  try rfl

/-- The first weight as the call is given it. -/
theorem entry_wa (c : Dev nD) : @Eq (Vec Ideal S1x1024x1024 .bf16) (V m c main_v1) (block (m ((c : Thread nD τ).loc main_arg3))) := by
  simp only [V, List.flatten_cons, List.flatten_nil, List.append_nil, List.cons_append, List.nil_append]
  after_results
  try rfl

/-- The second weight as the call is given it. -/
theorem entry_wb (c : Dev nD) : @Eq (Vec Ideal S1x1024x1024 .bf16) (V m c main_v3) (block (m ((c : Thread nD τ).loc main_arg4))) := by
  simp only [V, List.flatten_cons, List.flatten_nil, List.append_nil, List.cons_append, List.nil_append]
  after_results
  try rfl

/-- The projection as the call is given it. -/
theorem entry_proj (c : Dev nD) : @Eq (Vec Ideal S4096x5120 .f32) (V m c main_arg2) (m ((c : Thread nD τ).loc main_arg2)) := by
  simp only [V, List.flatten_cons, List.flatten_nil, List.append_nil, List.cons_append, List.nil_append]
  after_results
  try rfl

end Entry

section Equation

variable (x0 x1 : Vec Ideal S4096x1024 .f32) (x2 : Vec Ideal S4096x5120 .f32) (x3 x4 : Vec Ideal S1024x1024 .f32)

/-- A block of a weight, element by element. -/
theorem block_apply (w : Vec Ideal S1024x1024 .f32) (k j : Fin 1024) : block w (ix3 0 k j) = w (ix2 k j) := by
  refine shapeCast_apply _ _ _ _ ?_
  rw [Shape.rowMajor_val_two, Shape.rowMajor_val_three]
  show k.val * 1024 + j.val = (0 * 1024 + k.val) * 1024 + j.val
  omega

/-- The first product is the reference's. -/
theorem first_eq (i : S4096x1024.Idx) : branchRow (n := 4096) (rows x0) (block x3) (i 0) (i 1) = val_main_v0 (F := Ideal) x0 x3 i := by
  rw [val_main_v0_apply]
  refine Finset.sum_congr rfl fun k _ => congrArg₂ _ (congrArg x0 ?_) ((block_apply x3 k (i 1)).trans (congrArg x3 ?_))
  all_goals funext a; fin_cases a <;> rfl

/-- And the second. -/
theorem second_eq (i : S4096x1024.Idx) : branchRow (n := 4096) (rows x1) (block x4) (i 0) (i 1) = val_main_v1 (F := Ideal) x1 x4 i := by
  rw [val_main_v1_apply]
  refine Finset.sum_congr rfl fun k _ => congrArg₂ _ (congrArg x1 ?_) ((block_apply x4 k (i 1)).trans (congrArg x4 ?_))
  all_goals funext a; fin_cases a <;> rfl

/-- The first gate is the reference's. -/
theorem gate_first (i : S4096x1024.Idx) : gate (cols 3072 (by omega) x2 (i 0) (i 1)) = val_main_v9 (F := Ideal) x2 i := by
  rw [val_main_v9_apply, val_main_v8_apply, val_main_cst_0_apply, val_main_v7_apply, val_main_v6_apply, val_main_cst_apply, val_main_v5_apply, val_main_v4_apply, val_main_v2_apply]
  refine (gate_eq _).trans (congrArg (fun z => Ideal.div (Ideal.ofBits .f32 1065353216#32) (Ideal.ofBits .f32 1065353216#32 + Ideal.exp (-z))) (congrArg x2 ?_))
  funext a
  fin_cases a
  all_goals refine Fin.ext ?_
  all_goals simp [idx_main_v2, ix2_0, ix2_1]
  all_goals omega

/-- And the second. -/
theorem gate_second (i : S4096x1024.Idx) : gate (cols 4096 (by omega) x2 (i 0) (i 1)) = val_main_v19 (F := Ideal) x2 i := by
  rw [val_main_v19_apply, val_main_v18_apply, val_main_cst_3_apply, val_main_v17_apply, val_main_v16_apply, val_main_cst_2_apply, val_main_v15_apply, val_main_v14_apply, val_main_v3_apply]
  refine (gate_eq _).trans (congrArg (fun z => Ideal.div (Ideal.ofBits .f32 1065353216#32) (Ideal.ofBits .f32 1065353216#32 + Ideal.exp (-z))) (congrArg x2 ?_))
  funext a
  fin_cases a
  all_goals refine Fin.ext ?_
  all_goals simp [idx_main_v3, ix2_0, ix2_1]
  all_goals omega

/-- The reference's cotangent is one everywhere. -/
theorem ones_apply (i : Cert.Reference7Ideal.S4096x1024.Idx) : val_main_v25 (F := Ideal) i = (1 : EReal) := by
  rw [val_main_v25_apply, val_main_cst_5_apply]
  exact Ideal.ofBits_one_f32

end Equation

variable (m : (ℓ : Loc nD τ sig) → Buf (Elt Ideal) ℓ)

/-- The merged branches that the kernel leaves are the reference's. -/
theorem value_merged (c : Dev nD) : (dats m 0 c).arrAt 6 cfg0.N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [final6, entry_a, entry_b, entry_wa, entry_wb, entry_proj]
  funext i
  rw [val_main_v32_apply, val_main_v24_apply, val_main_v13_apply, val_main_v23_apply]
  unfold mergeElt
  exact congrArg₂ (fun a b : EReal => a + b) (congrArg₂ (fun a b : EReal => a * b) (gate_first _ i) (first_eq _ _ i)) (congrArg₂ (fun a b : EReal => a * b) (gate_second _ i) (second_eq _ _ i))

/-- The first gate that the kernel leaves is the reference's. -/
theorem value_gate (c : Dev nD) : (dats m 0 c).arrAt 7 cfg0.N = val_main_v33 (F := Ideal) (m ((c : Thread nD τ).loc main_arg2)) := by
  rw [final7, entry_proj]
  funext i
  rw [val_main_v33_apply, val_main_v29_apply, ones_apply]
  exact (gate_first _ i).trans (mul_one (_ : EReal)).symm

/-- And the second. -/
theorem value_gate' (c : Dev nD) : (dats m 0 c).arrAt 8 cfg0.N = val_main_v34 (F := Ideal) (m ((c : Thread nD τ).loc main_arg2)) := by
  rw [final8, entry_proj]
  funext i
  rw [val_main_v34_apply, val_main_v26_apply, ones_apply]
  exact (gate_second _ i).trans (mul_one (_ : EReal)).symm

/-- The first product times its gate's slope is the reference's. -/
theorem value_slope (c : Dev nD) : (dats m 0 c).arrAt 9 cfg0.N = val_main_v35 (F := Ideal) (m ((c : Thread nD τ).loc main_arg0)) (m ((c : Thread nD τ).loc main_arg2)) (m ((c : Thread nD τ).loc main_arg3)) := by
  rw [final9, entry_a, entry_wa, entry_proj]
  funext i
  rw [val_main_v35_apply, val_main_v31_apply, val_main_v30_apply, ones_apply, val_main_v12_apply, val_main_v11_apply, val_main_v10_apply, val_main_cst_1_apply]
  unfold slopeElt
  rw [first_eq, gate_first]
  refine congrArg₂ (fun a b : EReal => a * b) (one_mul (_ : EReal)).symm (congrArg (fun z : EReal => (val_main_v9 (F := Ideal) (m ((c : Thread nD τ).loc main_arg2)) i : EReal) * (z - (val_main_v9 (F := Ideal) (m ((c : Thread nD τ).loc main_arg2)) i : EReal))) ?_)
  exact Ideal.ofBits_one_f32.symm

/-- And the second. -/
theorem value_slope' (c : Dev nD) : (dats m 0 c).arrAt 10 cfg0.N = val_main_v36 (F := Ideal) (m ((c : Thread nD τ).loc main_arg1)) (m ((c : Thread nD τ).loc main_arg2)) (m ((c : Thread nD τ).loc main_arg4)) := by
  rw [final10, entry_b, entry_wb, entry_proj]
  funext i
  rw [val_main_v36_apply, val_main_v28_apply, val_main_v27_apply, ones_apply, val_main_v22_apply, val_main_v21_apply, val_main_v20_apply, val_main_cst_4_apply]
  unfold slopeElt
  rw [second_eq, gate_second]
  refine congrArg₂ (fun a b : EReal => a * b) (one_mul (_ : EReal)).symm (congrArg (fun z : EReal => (val_main_v19 (F := Ideal) (m ((c : Thread nD τ).loc main_arg2)) i : EReal) * (z - (val_main_v19 (F := Ideal) (m ((c : Thread nD τ).loc main_arg2)) i : EReal))) ?_)
  exact Ideal.ofBits_one_f32.symm

/-- The reference's frame: it is straight-line host code. -/
theorem frame_reference : Cert.quiescent_Reference7Ideal := fun m ρ _ =>
  (θ_run Cert.Reference7Ideal.defs _ _).mono (fun r h => ⟨fun c => (h c).2.2.2.2.2, sem_eq_zero_of_no_sems (by decide) r.2⟩)
    (Cert.Reference7Ideal.Value.run (F := Ideal) m ρ)

/-- Both programs leave the same five results, on any arguments. -/
theorem algebraic : Cert.algebraic_Kernel7Ideal_Reference7Ideal := by
  intro m ρ m' ρ' _ hagree
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, run_blocks m ρ, ?_⟩
  refine (θ_run Cert.Reference7Ideal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.Reference7Ideal.Value.run (F := Ideal) m' ρ')
  all_goals obtain ⟨h0, h1, h2, h3, h4⟩ := hagree c
  · rw [val_main_v32_eq, h0, h1, h2, h3, h4]; exact (value_merged m c).symm
  · rw [val_main_v33_eq, h2]; exact (value_gate m c).symm
  · rw [val_main_v34_eq, h2]; exact (value_gate' m c).symm
  · rw [val_main_v35_eq, h0, h2, h3]; exact (value_slope m c).symm
  · rw [val_main_v36_eq, h1, h2, h4]; exact (value_slope' m c).symm

end Cert.Proof.Branches

end
-- ==== Proof.Norm.Modulated.lean ====
/-
  The modulated rms norm as the forward calls take it: the normalised row times the norm's weight, times one plus the
  scale, plus the shift.
-/
module

public import proofs.«01_k».proof.Proof.Norm.Backward

@[expose] public section

noncomputable section

namespace Cert.Proof.Norm
open Idealize.ShloMosaic

/-- One element of the modulated row: its weight, its scale and its shift. -/
def modElt (u g scale shift : EReal) : EReal := u * g * (1 + scale) + shift

/-- The one of the two programs is a literal. -/
theorem modElt_eq (u g scale shift : EReal) : modElt u g scale shift = u * g * (Ideal.ofBits .f32 1065353216#32 + scale) + shift := by
  rw [Ideal.ofBits_one_f32]
  rfl

theorem modElt_congr {u u' g g' a a' b b' : EReal} (hu : u = u') (hg : g = g') (ha : a = a') (hb : b = b') : modElt u g a b = modElt u' g' a' b' := by
  rw [hu, hg, ha, hb]

/-- The modulated row. The scale is row `q` of the modulation and the shift row `p`. -/
def modulated (q p : Fin 8) (x : Row) (mod : Rows 8) (g : Rows 1) : Row := fun j =>
  modElt (unit x j) (g (ix2 0 j)) (mod (ix2 q j)) (mod (ix2 p j))

end Cert.Proof.Norm

end
-- ==== Proof.MixOut.Block.lean ====
/-
  The forward call `mix_out`: the product of the merged branches with `w_mix`, the residual row plus the gate times that
  product, and the modulated norm of the new residual row. This module reads what one grid point of 512 rows leaves in its
  three blocks, and what the result arrays hold after the run; the body treats its rows in two halves of 256.
-/
module

public import proofs.«01_k».proof.Proof.Gen.Kernel8Ideal.Value
public import proofs.«01_k».proof.Proof.Norm.Modulated
public import Idealize.ShloMosaic.Lib.Pipeline.ValueKit.Point
public import Idealize.ShloMosaic.Lib.Tactic

@[expose] public section

set_option maxRecDepth 16384
set_option maxHeartbeats 2000000

noncomputable section

namespace Cert.Kernel8Ideal.Value
open Cert.Kernel8Ideal Cert.Kernel8Ideal.Gen Idealize.ShloMosaic Idealize.ShloMosaic.TcCoe Idealize.SL.Sem
open Idealize.ShloMosaic.Pipeline (Dat)
open Cert.Proof.Norm

/-- Row `s` of the product with the weight. -/
def mixRow {n : ℕ} (x0 : Rows n .bf16) (x1 : Vec Ideal S1x1024x1024 .bf16) (s : Fin n) : Row := fun j => ∑ k : Fin 1024, x0 (ix2 s k) * x1 (ix3 0 k j)

/-- Row `s` of the new residual: the gate is row 2 of the modulation. -/
def resRow {n : ℕ} (x0 : Rows n .bf16) (x1 : Vec Ideal S1x1024x1024 .bf16) (x2 : Rows n) (x3 : Rows 8) (s : Fin n) : Row := fun j =>
  x2 (ix2 s j) + x3 (ix2 2 j) * mixRow x0 x1 s j

/-- A half's product with the weight. -/
theorem pay3_apply (v : Vec Ideal S256x1024 .bf16) (w : Vec Ideal S1x1024x1024 .bf16) (x : S256x1024.Idx) :
    k0_pay3 v w x = ∑ k : Fin 1024, v (ix2 (x 0) k) * w (ix3 0 k (x 1)) := by
  idx_vars x
  pointwise [k0_pay3]

/-- A half's new residual. -/
theorem pay10_apply (v9 v47 : Vec Ideal S256x1024 .f32) (v48 : Vec Ideal S1x1024 .f32) (x : S256x1024.Idx) :
    k0_pay10 v9 v47 v48 x = v47 x + v48 (ix2 0 (x 1)) * v9 x := by
  idx_vars x
  pointwise [k0_pay10]

/-- Its normalised row, times the norm's weight. -/
theorem pay11_apply (v9 v47 : Vec Ideal S256x1024 .f32) (v48 v64 : Vec Ideal S1x1024 .f32) (x : S256x1024.Idx) :
    k0_pay11 v9 v47 v48 v64 x = unit (fun k => k0_pay10 v9 v47 v48 (ix2 (x 0) k)) (x 1) * v64 (ix2 0 (x 1)) := by
  idx_vars x
  pointwise [k0_pay11]
  rfl

/-- The scale and the shift. -/
theorem pay1_apply (v67 : Vec Ideal S256x1024 .f32) (v68 v74 : Vec Ideal S1x1024 .f32) (x : S256x1024.Idx) :
    k0_pay1 v67 v68 v74 x = v67 x * (1 + v68 (ix2 0 (x 1))) + v74 (ix2 0 (x 1)) := by
  idx_vars x
  pointwise [k0_pay1]

/-- The two halves run one chain of operations. -/
theorem first_mo (v0 : Vec Ideal S256x1024 .bf16) (v2 : Vec Ideal S1x1024x1024 .bf16) : k0_pay4 v0 v2 = k0_pay9 (k0_pay3 v0 v2) := rfl

theorem first_res (v0 : Vec Ideal S256x1024 .bf16) (v2 : Vec Ideal S1x1024x1024 .bf16) (v12 : Vec Ideal S256x1024 .f32) (v13 : Vec Ideal S1x1024 .f32) :
    k0_pay5 v0 v2 v12 v13 = k0_pay10 (k0_pay3 v0 v2) v12 v13 := rfl

theorem first_norm (v0 : Vec Ideal S256x1024 .bf16) (v2 : Vec Ideal S1x1024x1024 .bf16) (v12 : Vec Ideal S256x1024 .f32) (v13 v29 v33 v39 : Vec Ideal S1x1024 .f32) :
    k0_pay8 (k0_pay6 v0 v2 v12 v13) (k0_pay7 v29) v33 v39 = k0_pay1 (k0_pay11 (k0_pay3 v0 v2) v12 v13 v29) v33 v39 := rfl

section Half

variable (o : ℕ) (ho : o + 256 ≤ 512) (x0 : Vec Ideal S512x1024 .bf16) (x1 : Vec Ideal S1x1024x1024 .bf16) (x2 : Vec Ideal S512x1024 .f32) (x3 : Vec Ideal S8x1024 .f32) (x4 : Vec Ideal S1x1024 .f32)

/-- The product of the half that starts at row `o`. -/
theorem half_mo (h0 h1) (x : S256x1024.Idx) :
    k0_pay3 (View.ld x0 (Rect.unit ![o, 0] ![256, 1024] h0)) (View.ld x1 (Rect.unit ![0, 0, 0] ![1, 1024, 1024] h1)) x = mixRow x0 x1 (rowAt o ho (x 0)) (x 1) := by
  refine (pay3_apply _ _ x).trans (Finset.sum_congr rfl fun k _ => congrArg₂ _ (half_row o ho x0 h0 (x 0) k) (View.ld_unit_apply_of _ _ _ _ _ _ fun a => ?_))
  fin_cases a
  all_goals simp [ix3_0, ix3_1, ix3_2]

/-- Its new residual. -/
theorem half_res (h0 h1 h2 h3) (x : S256x1024.Idx) :
    k0_pay10 (k0_pay3 (View.ld x0 (Rect.unit ![o, 0] ![256, 1024] h0)) (View.ld x1 (Rect.unit ![0, 0, 0] ![1, 1024, 1024] h1))) (View.ld x2 (Rect.unit ![o, 0] ![256, 1024] h2))
      (View.ld x3 (Rect.unit ![2, 0] ![1, 1024] h3)) x = resRow x0 x1 x2 x3 (rowAt o ho (x 0)) (x 1) := by
  rw [pay10_apply, half_mo o ho]
  refine congrArg₂ _ ((congrArg _ (eq_ix2 x)).trans (half_row o ho x2 h2 (x 0) (x 1))) (congrArg (· * _) ?_)
  exact ld_row 2 (by omega) x3 h3 (x 1)

/-- The modulated norm of its new residual. -/
theorem half_norm (h0 h1 h2 h3 h4 h5 h6) (x : S256x1024.Idx) :
    k0_pay1 (k0_pay11 (k0_pay3 (View.ld x0 (Rect.unit ![o, 0] ![256, 1024] h0)) (View.ld x1 (Rect.unit ![0, 0, 0] ![1, 1024, 1024] h1))) (View.ld x2 (Rect.unit ![o, 0] ![256, 1024] h2))
        (View.ld x3 (Rect.unit ![2, 0] ![1, 1024] h3)) (View.ld x4 (Rect.unit ![0, 0] ![1, 1024] h4)))
      (View.ld x3 (Rect.unit ![4, 0] ![1, 1024] h5)) (View.ld x3 (Rect.unit ![3, 0] ![1, 1024] h6)) x
      = modulated 4 3 (resRow x0 x1 x2 x3 (rowAt o ho (x 0))) x3 x4 (x 1) := by
  rw [pay1_apply, pay11_apply]
  refine modElt_congr (congrArg (unit · (x 1)) (funext fun k => half_res o ho x0 x1 x2 x3 h0 h1 h2 h3 (ix2 (x 0) k))) (ld_one x4 h4 (x 1)) ?_ ?_
  · exact ld_row 4 (by omega) x3 h5 (x 1)
  · exact ld_row 3 (by omega) x3 h6 (x 1)

end Half

/-- The three blocks, of any number of rows. -/
def moBlk {n : ℕ} (x0 : Rows n .bf16) (x1 : Vec Ideal S1x1024x1024 .bf16) : Rows n .bf16 := fun y => mixRow x0 x1 (y 0) (y 1)

def resBlk {n : ℕ} (x0 : Rows n .bf16) (x1 : Vec Ideal S1x1024x1024 .bf16) (x2 : Rows n) (x3 : Rows 8) : Rows n := fun y => resRow x0 x1 x2 x3 (y 0) (y 1)

def normBlk {n : ℕ} (x0 : Rows n .bf16) (x1 : Vec Ideal S1x1024x1024 .bf16) (x2 : Rows n) (x3 : Rows 8) (x4 : Rows 1) : Rows n .bf16 := fun y =>
  modulated 4 3 (resRow x0 x1 x2 x3 (y 0)) x3 x4 (y 1)

section Point

variable (x0 : Vec Ideal S512x1024 .bf16) (x1 : Vec Ideal S1x1024x1024 .bf16) (x2 : Vec Ideal S512x1024 .f32) (x3 : Vec Ideal S8x1024 .f32) (x4 : Vec Ideal S1x1024 .f32)

/-- The product's two stores. -/
theorem out5_eq : out0_5 x0 x1 x2 x3 x4 = moBlk x0 x1 := by
  unfold_out out0_5
  rw [first_mo]
  funext y
  canon_tiles x h using View.cover_of_tiled_head _ _ _ (by rfl) y
  · rw [idx_of y (rowAt 256 (by omega) (x 0)) (x 1) (by simp [h0]) h1]
    exact half_mo 256 (by omega) x0 x1 _ _ x
  · rw [idx_of y (rowAt 0 (by omega) (x 0)) (x 1) (by simp [h0]) h1]
    exact half_mo 0 (by omega) x0 x1 _ _ x

/-- The residual's two stores. -/
theorem out6_eq : out0_6 x0 x1 x2 x3 x4 = resBlk x0 x1 x2 x3 := by
  unfold_out out0_6
  rw [first_res]
  funext y
  canon_tiles x h using View.cover_of_tiled_head _ _ _ (by rfl) y
  · rw [idx_of y (rowAt 256 (by omega) (x 0)) (x 1) (by simp [h0]) h1]
    exact half_res 256 (by omega) x0 x1 x2 x3 _ _ _ _ x
  · rw [idx_of y (rowAt 0 (by omega) (x 0)) (x 1) (by simp [h0]) h1]
    exact half_res 0 (by omega) x0 x1 x2 x3 _ _ _ _ x

/-- The norm's two stores. -/
theorem out7_eq : out0_7 x0 x1 x2 x3 x4 = normBlk x0 x1 x2 x3 x4 := by
  unfold_out out0_7
  rw [first_norm]
  funext y
  canon_tiles x h using View.cover_of_tiled_head _ _ _ (by rfl) y
  · rw [idx_of y (rowAt 256 (by omega) (x 0)) (x 1) (by simp [h0]) h1]
    exact half_norm 256 (by omega) x0 x1 x2 x3 x4 _ _ _ _ _ _ _ x
  · rw [idx_of y (rowAt 0 (by omega) (x 0)) (x 1) (by simp [h0]) h1]
    exact half_norm 0 (by omega) x0 x1 x2 x3 x4 _ _ _ _ _ _ _ x

end Point

variable (m : (ℓ : Loc nD τ sig) → Buf (Elt Ideal) ℓ) (ρ : Dev nD → PrngReg)

/-- The block each window reads or writes at point `t`. -/
theorem index0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A row of a point's product is a row of the array's. -/
theorem blk_mix (c : Dev nD) (t : Fin cfg0.N) (s : Fin 512) (j : Fin 1024) :
    mixRow (n := 512) (iblk m c 0 t) (iblk m c 1 t) s j = mixRow (n := 4096) (V m c main_v5) (V m c main_v4) (rowIn t s) j := by
  obtain ⟨e0, e1, e2, e3, e4, _⟩ := index0 t
  unfold mixRow
  reads_congr
  all_goals blk_ext! [iblk, e0, e1, e2, e3, e4, rowIn, Nat.mul_comm]

/-- A row of a point's new residual is a row of the array's. -/
theorem blk_res (c : Dev nD) (t : Fin cfg0.N) (s : Fin 512) :
    resRow (n := 512) (iblk m c 0 t) (iblk m c 1 t) (iblk m c 2 t) (iblk m c 3 t) s
      = resRow (n := 4096) (V m c main_v5) (V m c main_v4) (V m c main_arg0) (V m c main_v1) (rowIn t s) := by
  obtain ⟨_, _, _, _, _, e5, e6, e7, e8, _⟩ := index0 t
  funext j
  unfold resRow
  rw [blk_mix]
  reads_congr
  all_goals blk_ext! [iblk, e5, e6, e7, e8, rowIn, Nat.mul_comm]

/-- After the run the first result array is the product. -/
theorem final5 (c : Dev nD) : (dats m 0 c).arrAt 5 cfg0.N = moBlk (n := 4096) (V m c main_v5) (V m c main_v4) := by
  refine (dats m 0 c).arrAt_eq_of_covers 5 _ (by decide +kernel) fun t hf y => ?_
  blk_simp
  rw [after0_5, out5_eq]
  obtain ⟨_, _, _, _, _, _, _, _, _, _, _, f0, f1, _⟩ := index0 t
  unfold moBlk
  have e0 : ((win0_5.blk t).view.emb y 0 : Fin 4096) = rowIn t (y 0) := Fin.ext (by simp [f0, Nat.mul_comm])
  have e1 : ((win0_5.blk t).view.emb y 1 : Fin 1024) = y 1 := Fin.ext (by simp [f1])
  exact (blk_mix m c t (y 0) (y 1)).trans (congrArg₂ (mixRow (n := 4096) (V m c main_v5) (V m c main_v4)) e0.symm e1.symm)

/-- The second is the new residual. -/
theorem final6 (c : Dev nD) : (dats m 0 c).arrAt 6 cfg0.N = resBlk (n := 4096) (V m c main_v5) (V m c main_v4) (V m c main_arg0) (V m c main_v1) := by
  refine (dats m 0 c).arrAt_eq_of_covers 6 _ (by decide +kernel) fun t hf y => ?_
  blk_simp
  rw [after0_6, out6_eq]
  obtain ⟨_, _, _, _, _, _, _, _, _, _, _, _, _, f0, f1, _⟩ := index0 t
  unfold resBlk
  have e0 : ((win0_6.blk t).view.emb y 0 : Fin 4096) = rowIn t (y 0) := Fin.ext (by simp [f0, Nat.mul_comm])
  have e1 : ((win0_6.blk t).view.emb y 1 : Fin 1024) = y 1 := Fin.ext (by simp [f1])
  exact (congrFun (blk_res m c t (y 0)) (y 1)).trans (congrArg₂ (resRow (n := 4096) (V m c main_v5) (V m c main_v4) (V m c main_arg0) (V m c main_v1)) e0.symm e1.symm)

/-- The third is the modulated norm of the new residual. -/
theorem final7 (c : Dev nD) : (dats m 0 c).arrAt 7 cfg0.N = normBlk (n := 4096) (V m c main_v5) (V m c main_v4) (V m c main_arg0) (V m c main_v1) (V m c main_v2) := by
  refine (dats m 0 c).arrAt_eq_of_covers 7 _ (by decide +kernel) fun t hf y => ?_
  blk_simp
  rw [after0_7, out7_eq]
  obtain ⟨_, _, _, _, _, _, _, e7, e8, e9, e10, _, _, _, _, f0, f1⟩ := index0 t
  unfold normBlk
  have e0 : ((win0_7.blk t).view.emb y 0 : Fin 4096) = rowIn t (y 0) := Fin.ext (by simp [f0, Nat.mul_comm])
  have e1 : ((win0_7.blk t).view.emb y 1 : Fin 1024) = y 1 := Fin.ext (by simp [f1])
  have hm : ∀ (q : Fin 8) (j : Fin 1024), (iblk m c 3 t : Rows 8) (ix2 q j) = (V m c main_v1 : Rows 8) (ix2 q j) := fun q j => by
    reads_congr
    all_goals blk_ext! [iblk, e7, e8]
  have hg : ∀ j : Fin 1024, (iblk m c 4 t : Rows 1) (ix2 0 j) = (V m c main_v2 : Rows 1) (ix2 0 j) := fun j => by
    reads_congr
    all_goals blk_ext! [iblk, e9, e10]
  have key : modulated 4 3 (resRow (n := 4096) (V m c main_v5) (V m c main_v4) (V m c main_arg0) (V m c main_v1) (rowIn t (y 0))) (iblk m c 3 t) (iblk m c 4 t) (y 1)
      = modulated 4 3 (resRow (n := 4096) (V m c main_v5) (V m c main_v4) (V m c main_arg0) (V m c main_v1) (rowIn t (y 0))) (V m c main_v1) (V m c main_v2) (y 1) :=
    modElt_congr rfl (hg _) (hm _ _) (hm _ _)
  refine (congrArg (fun r => modulated 4 3 r (iblk m c 3 t) (iblk m c 4 t) (y 1)) (blk_res m c t (y 0))).trans ?_
  exact key.trans (congrArg₂ (fun s j => modulated 4 3 (resRow (n := 4096) (V m c main_v5) (V m c main_v4) (V m c main_arg0) (V m c main_v1) s) (V m c main_v1) (V m c main_v2) j) e0.symm e1.symm)

end Cert.Kernel8Ideal.Value

end
-- ==== Proof.MixOut.Equation.lean ====
/-
  The forward call `mix_out` against the reference's lines: the product with `w_mix`, the residual row plus the gate times
  the product, and the modulated norm of the new residual row.
-/
module

public import proofs.«01_k».proof.Defs
public import proofs.«01_k».proof.Proof.MixOut.Block
public import proofs.«01_k».proof.Proof.Norm.Arguments
public import proofs.«01_k».proof.Proof.Gen.Reference8Ideal.Run
public import proofs.«01_k».proof.Proof.Gen.Reference8Ideal.Read
public import Idealize.ShloMosaic.Lib.Claim
public import Idealize.ShloMosaic.Lib.Quiescent

@[expose] public section

set_option maxRecDepth 16384
set_option maxHeartbeats 2000000

noncomputable section

namespace Cert.Proof.MixOut

open Idealize.ShloMosaic Idealize.ShloMosaic.TcCoe Idealize.SL.Sem
open Cert.Kernel8Ideal Cert.Kernel8Ideal.Gen Cert.Kernel8Ideal.Value
open Cert.Proof.Norm Cert.Reference8Ideal.Read

/-- The weight as the call reads it: one block. -/
abbrev block (x3 : Vec Ideal S1024x1024 .f32) : Vec Ideal S1x1024x1024 .bf16 :=
  shapeCast S1x1024x1024 (truncf (F := Ideal) (s := S1024x1024) .bf16 (φ := .f32) x3 bitsLt_bf16_f32) shapeCasts_S1024x1024_S1x1024x1024

/-- The merged branches as the call reads them. -/
abbrev rows (x1 : Vec Ideal S4096x1024 .f32) : Vec Ideal S4096x1024 .bf16 := truncf (F := Ideal) (s := S4096x1024) .bf16 (φ := .f32) x1 bitsLt_bf16_f32

/-- The modulation as the call reads it: two rows of zeros below its six. -/
abbrev padded (x2 : Vec Ideal S6x1024 .f32) : Vec Ideal S8x1024 .f32 :=
  concatenate S8x1024 0 [⟨S6x1024, x2⟩, ⟨S2x1024, broadcastInDim S2x1024 ![] bcast_S_S2x1024 (constant (F := Ideal) S_ .f32 0x00000000#32)⟩]
    concatenates_S6x1024_S2x1024_S8x1024_d0

/-- The norm's weight as the call reads it: one row. -/
abbrev asRow (x4 : Vec Ideal S1024 .f32) : Vec Ideal S1x1024 .f32 := shapeCast S1x1024 x4 shapeCasts_S1024_S1x1024

section Entry

variable (m : (ℓ : Loc nD τ sig) → Buf (Elt Ideal) ℓ)

/-- The merged branches as the call is given them. -/
theorem entry_rows (c : Dev nD) : @Eq (Vec Ideal S4096x1024 .bf16) (V m c main_v5) (rows (m ((c : Thread nD τ).loc main_arg1))) := by
  simp only [V, List.flatten_cons, List.flatten_nil, List.append_nil, List.cons_append, List.nil_append]
  after_results
  try rfl

/-- The weight as the call is given it. -/
theorem entry_w (c : Dev nD) : @Eq (Vec Ideal S1x1024x1024 .bf16) (V m c main_v4) (block (m ((c : Thread nD τ).loc main_arg3))) := by
  simp only [V, List.flatten_cons, List.flatten_nil, List.append_nil, List.cons_append, List.nil_append]
  after_results
  try rfl

/-- The residual row as the call is given it. -/
theorem entry_x (c : Dev nD) : @Eq (Vec Ideal S4096x1024 .f32) (V m c main_arg0) (m ((c : Thread nD τ).loc main_arg0)) := by
  simp only [V, List.flatten_cons, List.flatten_nil, List.append_nil, List.cons_append, List.nil_append]
  after_results
  try rfl

/-- The modulation as the call is given it. -/
theorem entry_mod (c : Dev nD) : @Eq (Vec Ideal S8x1024 .f32) (V m c main_v1) (padded (m ((c : Thread nD τ).loc main_arg2))) := by
  simp only [V, List.flatten_cons, List.flatten_nil, List.append_nil, List.cons_append, List.nil_append]
  after_results
  try rfl

/-- The norm's weight as the call is given it. -/
theorem entry_g (c : Dev nD) : @Eq (Vec Ideal S1x1024 .f32) (V m c main_v2) (asRow (m ((c : Thread nD τ).loc main_arg4))) := by
  simp only [V, List.flatten_cons, List.flatten_nil, List.append_nil, List.cons_append, List.nil_append]
  after_results
  try rfl

end Entry

section Equation

variable (x0 x1 : Vec Ideal S4096x1024 .f32) (x2 : Vec Ideal S6x1024 .f32) (x3 : Vec Ideal S1024x1024 .f32) (x4 : Vec Ideal S1024 .f32)

/-- The product is the reference's. -/
theorem mix_eq (s : Fin 4096) (j : Fin 1024) : mixRow (n := 4096) (rows x1) (block x3) s j = val_main_v6 (F := Ideal) x1 x3 (ix2 s j) := by
  rw [val_main_v6_apply]
  refine Finset.sum_congr rfl fun k _ => congrArg₂ _ (congrArg x1 ?_) ?_
  · funext a; fin_cases a <;> rfl
  · refine shapeCast_apply _ _ _ _ ?_
    rw [Shape.rowMajor_val_two, Shape.rowMajor_val_three]
    show k.val * 1024 + j.val = (0 * 1024 + k.val) * 1024 + j.val
    omega

/-- The new residual is the reference's. -/
theorem res_eq (s : Fin 4096) (j : Fin 1024) : resRow (n := 4096) (rows x1) (block x3) x0 (padded x2) s j = val_main_v10 (F := Ideal) x0 x1 x2 x3 (ix2 s j) := by
  rw [val_main_v10_apply, val_main_v9_apply]
  simp only [val_main_v8_apply, val_main_v7_apply, val_main_v5_apply, val_main_v4_apply]
  refine congrArg (x0 (ix2 s j) + ·) (congrArg₂ _ ((padded_apply x2 _ _ 2 j).trans (congrArg x2 ?_)) (mix_eq x1 x3 s j))
  funext a
  fin_cases a
  · rfl
  · exact Fin.ext (Nat.mod_eq_of_lt j.isLt).symm

/-- The mean square of a row of the new residual, in the reference. -/
theorem ref_square (s : Fin 4096) (z : Cert.Reference8Ideal.S4096x1.Idx) (h : (z 0).val = s.val) :
    val_main_v17 (F := Ideal) x0 x1 x2 x3 z = square (fun k => val_main_v10 (F := Ideal) x0 x1 x2 x3 (ix2 s k)) := by
  simp only [val_main_v17_apply, val_main_v15_apply, val_main_v13_apply, val_main_v12_apply, val_main_v14_apply, val_main_v16_apply, val_main_v11_apply, val_main_cst_apply, val_main_cst_0_apply, val_main_cst_1_apply]
  have e : ∀ k, idx_main_v12 (idx_main_v13 z) k = ix2 s k := fun k => by
    funext a
    fin_cases a
    · exact Fin.ext h
    · rfl
  simp only [e]
  refine congrArg (Ideal.div · width + small) ?_
  exact (congrArg (· + _) Ideal.ofBits_zero_f32).trans (zero_add _)

/-- The modulated norm of the new residual is the reference's. -/
theorem norm_eq (s : Fin 4096) (j : Fin 1024) :
    modulated 4 3 (resRow (n := 4096) (rows x1) (block x3) x0 (padded x2) s) (padded x2) (asRow x4) j = val_main_v31 (F := Ideal) x0 x1 x2 x3 x4 (ix2 s j) := by
  rw [val_main_v31_apply, val_main_v28_apply, val_main_v23_apply, val_main_v20_apply, val_main_v19_apply, val_main_v18_apply, ref_square x0 x1 x2 x3 s _ rfl]
  simp only [val_main_v22_apply, val_main_v21_apply, val_main_v27_apply, val_main_v26_apply, val_main_v25_apply, val_main_v24_apply, val_main_cst_2_apply,
    val_main_v3_apply, val_main_v2_apply, val_main_v30_apply, val_main_v29_apply, val_main_v1_apply, val_main_v0_apply]
  refine Eq.trans ?_ (modElt_eq _ _ _ _)
  refine modElt_congr (congrArg (unit · j) (funext fun k => res_eq x0 x1 x2 x3 s k)) ((asRow_apply x4 _ j).trans (congrArg x4 ?_))
    ((padded_apply x2 _ _ 4 j).trans (congrArg x2 ?_)) ((padded_apply x2 _ _ 3 j).trans (congrArg x2 ?_))
  · funext a
    fin_cases a; rfl
  all_goals
    funext a
    fin_cases a
    · rfl
    · exact Fin.ext (Nat.mod_eq_of_lt j.isLt).symm

end Equation

variable (m : (ℓ : Loc nD τ sig) → Buf (Elt Ideal) ℓ)

/-- An index of the rows, by its coordinates. -/
theorem idx_eq (i : S4096x1024.Idx) : i = ix2 (n0 := 4096) (n1 := 1024) (i 0) (i 1) := by
  funext a; fin_cases a <;> rfl

/-- The product that the kernel leaves is the reference's. -/
theorem value_mo (c : Dev nD) : (dats m 0 c).arrAt 5 cfg0.N
    = val_main_v32 (F := Ideal) (m ((c : Thread nD τ).loc main_arg1)) (m ((c : Thread nD τ).loc main_arg3)) := by
  rw [final5, entry_rows, entry_w]
  funext i
  exact (mix_eq _ _ (i 0) (i 1)).trans (congrArg (val_main_v6 (F := Ideal) _ _) (idx_eq i).symm)

/-- The new residual that the kernel leaves is the reference's. -/
theorem value_res (c : Dev nD) : (dats m 0 c).arrAt 6 cfg0.N
    = val_main_v10 (F := Ideal) (m ((c : Thread nD τ).loc main_arg0)) (m ((c : Thread nD τ).loc main_arg1)) (m ((c : Thread nD τ).loc main_arg2)) (m ((c : Thread nD τ).loc main_arg3)) := by
  rw [final6, entry_rows, entry_w, entry_x, entry_mod]
  funext i
  exact (res_eq _ _ _ _ (i 0) (i 1)).trans (congrArg (val_main_v10 (F := Ideal) _ _ _ _) (idx_eq i).symm)

/-- The norm that the kernel leaves is the reference's. -/
theorem value_norm (c : Dev nD) : (dats m 0 c).arrAt 7 cfg0.N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [final7, entry_rows, entry_w, entry_x, entry_mod, entry_g]
  funext i
  exact (norm_eq _ _ _ _ _ (i 0) (i 1)).trans (congrArg (val_main_v31 (F := Ideal) _ _ _ _ _) (idx_eq i).symm)

/-- The reference's frame: it is straight-line host code. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- Both programs leave the same three results, on any arguments. -/
theorem algebraic : Cert.algebraic_Kernel8Ideal_Reference8Ideal := by
  intro m ρ m' ρ' _ hagree
  refine ⟨fun c => (dats m 0 c).arrAt 5 cfg0.N, fun c => (dats m 0 c).arrAt 6 cfg0.N, fun c => (dats m 0 c).arrAt 7 cfg0.N, run_blocks m ρ, ?_⟩
  refine (θ_run Cert.Reference8Ideal.defs _ _).mono (fun r h c => ⟨(h c).1.trans ?_, (h c).2.1.trans ?_, (h c).2.2.1.trans ?_, (h c).2.2.2⟩)
    (Cert.Reference8Ideal.Value.run (F := Ideal) m' ρ')
  all_goals obtain ⟨h0, h1, h2, h3, h4⟩ := hagree c
  · rw [val_main_v32_eq, h1, h3]; exact (value_mo m c).symm
  · rw [val_main_v10_eq, h0, h1, h2, h3]; exact (value_res m c).symm
  · rw [val_main_v33_eq, h0, h1, h2, h3, h4]; exact (value_norm m c).symm

end Cert.Proof.MixOut

end
-- ==== Proof.MlpUp.Block.lean ====
/-
  The forward call `mlp_up` of the MLP: the product `h · w_up`, taken in four column blocks of the weight, and the square of
  its positive part. This module reads what one grid point leaves in its block, and what the result array holds after the
  run, as functions of the arrays the call is given.
-/
module

public import proofs.«01_k».proof.Proof.Gen.Kernel9Ideal.Value
public import Idealize.ShloMosaic.Lib.Pipeline.ValueKit.Point
public import Idealize.ShloMosaic.Lib.Tactic

@[expose] public section

set_option maxRecDepth 16384
set_option maxHeartbeats 2000000

noncomputable section

namespace Cert.Kernel9Ideal.Value
open Cert.Kernel9Ideal Cert.Kernel9Ideal.Gen Idealize.ShloMosaic Idealize.ShloMosaic.TcCoe Idealize.SL.Sem
open Idealize.ShloMosaic.Pipeline (Dat)

/-- The square of the positive part. -/
def reluSq (u : EReal) : EReal := max u 0 * max u 0

/-- The zero of the two programs is a literal. -/
theorem reluSq_eq (u : EReal) : reluSq u = max u (Ideal.ofBits .f32 0#32) * max u (Ideal.ofBits .f32 0#32) := by simp [reluSq]

/-- The activation of `n` rows, at row `y 0` and column `y 1`: column `y 1 % 1024` of weight block `y 1 / 1024`. -/
def actBlk {n : ℕ} (x0 : Vec Ideal (⟨2, ![n, 1024]⟩ : Shape) .bf16) (x1 : Vec Ideal S4x1024x1024 .bf16) : Vec Ideal (⟨2, ![n, 4096]⟩ : Shape) .bf16 := fun y =>
  reluSq (∑ k : Fin 1024, x0 (ix2 (y 0) k) * x1 (ix3 ⟨(y 1).val / 1024, by have : (y 1).val < 4096 := (y 1).isLt; omega⟩ k ⟨(y 1).val % 1024, Nat.mod_lt _ (by decide)⟩))

/-- One store's value at an index: one half of the rows against one block of the weight. -/
theorem pay_apply (v0 : Vec Ideal S256x1024 .bf16) (v2 : Vec Ideal S1x1024x1024 .bf16) (x : S256x1024.Idx) :
    k0_pay2 (k0_pay6 v0 v2) x = reluSq (∑ k : Fin 1024, v0 (ix2 (x 0) k) * v2 (ix3 0 k (x 1))) := by
  idx_vars x
  pointwise [k0_pay2, k0_pay6, k0_pay5]
  rfl

/-- The eight stores of one grid point leave the activation of the point's blocks. -/
theorem out_eq (c : Dev nD) (i : grid0.Coords) (arg1 : Memref sig .tc .vmem S512x1024 .bf16) (harg1 : arg1.IsWhole) (arg2 : Memref sig .tc .vmem S4x1024x1024 .bf16) (harg2 : arg2.IsWhole) (arg3 : Memref sig .tc .vmem S512x4096 .bf16) (harg3 : arg3.IsWhole)
    (x0 : Vec Ideal S512x1024 .bf16) (x1 : Vec Ideal S4x1024x1024 .bf16) :
    out0_A_2 c i arg1 harg1 arg2 harg2 arg3 harg3 x0 x1 = actBlk x0 x1 := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread]
  funext y
  canon_tiles x h using View.cover_of_tiled_head _ _ _ (by rfl) y
  all_goals refine (pay_apply _ _ x).trans ?_
  all_goals
    refine congrArg reluSq (Finset.sum_congr rfl fun k _ => congrArg₂ _ (View.ld_unit_apply_of _ _ _ _ _ _ fun a => ?_) (View.ld_unit_apply_of _ _ _ _ _ _ fun a => ?_))
  all_goals fin_cases a
  all_goals simp [ix2_0, ix2_1, ix3_0, ix3_1, ix3_2]
  all_goals omega

variable (m : (ℓ : Loc nD τ sig) → Buf (Elt Ideal) ℓ) (ρ : Dev nD → PrngReg)

/-- The block each window reads or writes at point `t`. -/
theorem index0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- After the run the result array is the activation of the two arrays the call was given. -/
theorem final (c : Dev nD) : (dats m 0 c).arrAt 2 cfg0.N = actBlk (n := 4096) (V m c main_v3) (V m c main_v2) := by
  refine (dats m 0 c).arrAt_eq_of_covers 2 _ (by decide +kernel) fun t hf y => ?_
  blk_simp
  rw [after0_2]
  unfold outsAt0
  rw [out_eq]
  obtain ⟨e0, e1, e2, e3, e4, e5, e6⟩ := index0 t
  unfold actBlk
  reads_congr
  all_goals blk_ext! [iblk, e0, e1, e2, e3, e4, e5, e6]

end Cert.Kernel9Ideal.Value

end
-- ==== Proof.MlpUp.Equation.lean ====
/-
  The forward call `mlp_up` against `square (relu (h @ w_up))`: the four column blocks of the weight side by side are the
  whole of it.
-/
module

public import proofs.«01_k».proof.Defs
public import proofs.«01_k».proof.Proof.MlpUp.Block
public import proofs.«01_k».proof.Proof.Norm.Arguments
public import proofs.«01_k».proof.Proof.Gen.Reference9Ideal.Run
public import proofs.«01_k».proof.Proof.Gen.Reference9Ideal.Read
public import Idealize.ShloMosaic.Lib.Claim
public import Idealize.ShloMosaic.Lib.Quiescent

@[expose] public section

set_option maxRecDepth 16384
set_option maxHeartbeats 2000000

noncomputable section

namespace Cert.Proof.MlpUp

open Idealize.ShloMosaic Idealize.ShloMosaic.TcCoe Idealize.SL.Sem
open Cert.Kernel9Ideal Cert.Kernel9Ideal.Gen Cert.Kernel9Ideal.Value

variable (m : (ℓ : Loc nD τ sig) → Buf (Elt Ideal) ℓ)

/-- The rows as the call is given them. -/
theorem entry_h (c : Dev nD) : @Eq (Vec Ideal S4096x1024 .bf16) (V m c main_v3) (truncf (F := Ideal) (s := S4096x1024) .bf16 (φ := .f32) (m ((c : Thread nD τ).loc main_arg0)) bitsLt_bf16_f32) := by
  simp only [V, List.flatten_cons, List.flatten_nil, List.append_nil, List.cons_append, List.nil_append]
  after_results
  try rfl

/-- The weight as the call is given it: its columns in four blocks. -/
theorem entry_w (c : Dev nD) :
    @Eq (Vec Ideal S4x1024x1024 .bf16) (V m c main_v2) (transpose S4x1024x1024 [1, 0, 2] (shapeCast S1024x4x1024 (truncf (F := Ideal) (s := S1024x4096) (φ := .f32) .bf16 (m ((c : Thread nD τ).loc main_arg1)) bitsLt_bf16_f32) shapeCasts_S1024x4096_S1024x4x1024) transposes_S1024x4x1024_S4x1024x1024_1_0_2) := by
  simp only [V, List.flatten_cons, List.flatten_nil, List.append_nil, List.cons_append, List.nil_append]
  after_results
  try rfl

/-- The array the kernel leaves is the reference's value of the same two arguments. -/
theorem value_eq (c : Dev nD) : (dats m 0 c).arrAt 2 cfg0.N
    = Cert.Reference9Ideal.Read.val_main_v3 (F := Ideal) (m ((c : Thread nD τ).loc main_arg0)) (m ((c : Thread nD τ).loc main_arg1)) := by
  rw [final, entry_h, entry_w]
  funext i
  have i1 : (i 1).val < 4096 := (i 1).isLt
  rw [Cert.Reference9Ideal.Read.val_main_v3_apply, Cert.Reference9Ideal.Read.val_main_v2_apply, Cert.Reference9Ideal.Read.val_main_v1_apply,
    Cert.Reference9Ideal.Read.val_main_call0_v0_apply, Cert.Reference9Ideal.Read.val_main_v0_apply]
  refine Eq.trans (congrArg reluSq (Finset.sum_congr rfl fun k _ => congrArg₂ _ ?_ ?_)) (reluSq_eq _)
  · refine congrArg (m ((c : Thread nD τ).loc main_arg0)) ?_
    funext a; fin_cases a <;> rfl
  · refine (Cert.Proof.Norm.blocked_apply (m := 1024) (N := 4096) rfl _ _ _ _ _ _ _ (i 1) (Nat.div_add_mod (i 1).val 1024).symm).trans ?_
    refine congrArg (m ((c : Thread nD τ).loc main_arg1)) ?_
    funext a; fin_cases a <;> rfl

/-- The reference's frame: it is straight-line host code. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Both programs leave the same activation, on any arguments. -/
theorem algebraic : Cert.algebraic_Kernel9Ideal_Reference9Ideal := by
  intro m ρ m' ρ' _ hagree
  refine ⟨fun c => (dats m 0 c).arrAt 2 cfg0.N, run_blocks m ρ, ?_⟩
  refine (θ_run Cert.Reference9Ideal.defs _ _).mono (fun r h c => ⟨(h c).1.trans ?_, (h c).2⟩) (Cert.Reference9Ideal.Value.run (F := Ideal) m' ρ')
  obtain ⟨h0, h1⟩ := hagree c
  rw [Cert.Reference9Ideal.Read.val_main_v3_eq, h0, h1]
  exact (value_eq m c).symm

end Cert.Proof.MlpUp

end
-- ==== Proof.ProjIn.Block.lean ====
/-
  The forward call `proj_in`: the modulated norm of the residual row, and its product with `w_in`, the weight in four
  blocks of columns. This module reads what one grid point of 512 rows leaves in its blocks, and what the result arrays
  hold after the run; the body treats its rows in two halves of 256.
-/
module

public import proofs.«01_k».proof.Proof.Gen.Kernel10Ideal.Value
public import proofs.«01_k».proof.Proof.Norm.Modulated
public import Idealize.ShloMosaic.Lib.Pipeline.ValueKit.Point
public import Idealize.ShloMosaic.Lib.Tactic

@[expose] public section

set_option maxRecDepth 16384
set_option maxHeartbeats 2000000

noncomputable section

namespace Cert.Kernel10Ideal.Value
open Cert.Kernel10Ideal Cert.Kernel10Ideal.Gen Idealize.ShloMosaic Idealize.ShloMosaic.TcCoe Idealize.SL.Sem
open Idealize.ShloMosaic.Pipeline (Dat)
open Cert.Proof.Norm

/-- The modulated norm of `n` rows. -/
def modBlk {n : ℕ} (x0 : Rows n) (x2 : Rows 8) (x3 : Rows 1) : Rows n .bf16 := fun y => modulated 1 0 (rowOf x0 (y 0)) x2 x3 (y 1)

/-- Its product with the weight, at row `y 0` and column `y 1`: column `y 1 % 1280` of weight block `y 1 / 1280`. -/
def projBlk {n : ℕ} (x0 : Rows n) (x1 : Vec Ideal S4x1024x1280 .bf16) (x2 : Rows 8) (x3 : Rows 1) : Vec Ideal (⟨2, ![n, 5120]⟩ : Shape) .f32 := fun y =>
  ∑ k : Fin 1024, modulated 1 0 (rowOf x0 (y 0)) x2 x3 k * x1 (ix3 ⟨(y 1).val / 1280, by have : (y 1).val < 5120 := (y 1).isLt; omega⟩ k ⟨(y 1).val % 1280, Nat.mod_lt _ (by decide)⟩)

/-- The modulated norm of one half of the rows. -/
theorem pay1_apply (v0 : Vec Ideal S256x1024 .f32) (v11 v15 v21 : Vec Ideal S1x1024 .f32) (x : S256x1024.Idx) :
    k0_pay1 v0 v11 v15 v21 x = modElt (unit (fun k => v0 (ix2 (x 0) k)) (x 1)) (v11 (ix2 0 (x 1))) (v15 (ix2 0 (x 1))) (v21 (ix2 0 (x 1))) := by
  idx_vars x
  pointwise [k0_pay1]
  rfl

/-- A half's product with one block of the weight. -/
theorem pay4_apply (v : Vec Ideal S256x1024 .bf16) (w : Vec Ideal S1x1024x1280 .bf16) (x : S256x1280.Idx) :
    k0_pay4 v w x = ∑ k : Fin 1024, v (ix2 (x 0) k) * w (ix3 0 k (x 1)) := by
  idx_vars x
  pointwise [k0_pay4]

/-- The modulated norm of the half that starts at row `o`. -/
theorem half_mod (o : ℕ) (ho : o + 256 ≤ 512) (x0 : Vec Ideal S512x1024 .f32) (x2 : Vec Ideal S8x1024 .f32) (x3 : Vec Ideal S1x1024 .f32) (h0 h1 h2 h3) (x : S256x1024.Idx) :
    k0_pay1 (View.ld x0 (Rect.unit ![o, 0] ![256, 1024] h0)) (View.ld x3 (Rect.unit ![0, 0] ![1, 1024] h3)) (View.ld x2 (Rect.unit ![1, 0] ![1, 1024] h1)) (View.ld x2 (Rect.unit ![0, 0] ![1, 1024] h2)) x
      = modulated 1 0 (rowOf x0 (rowAt o ho (x 0))) x2 x3 (x 1) := by
  rw [pay1_apply]
  refine modElt_congr (congrArg (unit · (x 1)) (funext fun k => half_row o ho x0 h0 (x 0) k)) (ld_one x3 h3 (x 1)) ?_ ?_
  · exact ld_row 1 (by omega) x2 h1 (x 1)
  · exact ld_row 0 (by omega) x2 h2 (x 1)

section Point

variable (c : Dev nD) (i : grid0.Coords) (arg1 : Memref sig .tc .vmem S512x1024 .f32) (harg1 : arg1.IsWhole) (arg2 : Memref sig .tc .vmem S4x1024x1280 .bf16) (harg2 : arg2.IsWhole) (arg3 : Memref sig .tc .vmem S8x1024 .f32) (harg3 : arg3.IsWhole) (arg4 : Memref sig .tc .vmem S1x1024 .f32) (harg4 : arg4.IsWhole) (arg5 : Memref sig .tc .vmem S512x5120 .f32) (harg5 : arg5.IsWhole) (arg6 : Memref sig .tc .vmem S512x1024 .bf16) (harg6 : arg6.IsWhole)
  (x0 : Vec Ideal S512x1024 .f32) (x1 : Vec Ideal S4x1024x1280 .bf16) (x2 : Vec Ideal S8x1024 .f32) (x3 : Vec Ideal S1x1024 .f32)

/-- The two stores of the norm leave the norm of the point's rows. -/
theorem out5_eq : out0_A_5 c i arg1 harg1 arg2 harg2 arg3 harg3 arg4 harg4 arg5 harg5 arg6 harg6 x0 x1 x2 x3 = modBlk x0 x2 x3 := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  sl_unfold_words
  simp only [View.readAt_eq_ld, harg1.read_unread, harg3.read_unread, harg4.read_unread]
  funext y
  canon_tiles x h using View.cover_of_tiled_head _ _ _ (by rfl) y
  · rw [idx_of y (rowAt 256 (by omega) (x 0)) (x 1) (by simp [h0]) h1]
    exact half_mod 256 (by omega) x0 x2 x3 _ _ _ _ x
  · rw [idx_of y (rowAt 0 (by omega) (x 0)) (x 1) (by simp [h0]) h1]
    exact half_mod 0 (by omega) x0 x2 x3 _ _ _ _ x

/-- The eight stores of the product leave the product of the point's rows with the four blocks. -/
theorem out4_eq : out0_A_4 c i arg1 harg1 arg2 harg2 arg3 harg3 arg4 harg4 arg5 harg5 arg6 harg6 x0 x1 x2 x3 = projBlk x0 x1 x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  simp only [View.readAt_eq_ld, harg1.read_unread, harg2.read_unread, harg3.read_unread, harg4.read_unread]
  funext y
  canon_tiles x h using View.cover_of_tiled_head _ _ _ (by rfl) y
  all_goals first
    | refine (pay4_apply _ _ x).trans (Finset.sum_congr rfl fun k _ => congrArg₂ _ ?_ (View.ld_unit_apply_of _ _ _ _ _ _ ?_))
    | (intro a; fin_cases a <;> simp; done)
  all_goals first
    | intro a
      fin_cases a
      all_goals simp [ix3_0, ix3_1, ix3_2]
      all_goals omega
    | have h0' : (y 0).val = 256 + (x 0).val := h0
      refine (half_mod 256 (by omega) x0 x2 x3 _ _ _ _ (ix2 (x 0) k)).trans ?_
      exact congrArg (fun s => modulated 1 0 (rowOf x0 s) x2 x3 k) (Fin.ext h0'.symm)
    | refine (half_mod 0 (by omega) x0 x2 x3 _ _ _ _ (ix2 (x 0) k)).trans ?_
      exact congrArg (fun s => modulated 1 0 (rowOf x0 s) x2 x3 k) (Fin.ext ((Nat.zero_add _).trans h0.symm))

end Point

variable (m : (ℓ : Loc nD τ sig) → Buf (Elt Ideal) ℓ) (ρ : Dev nD → PrngReg)

/-- The block each window reads or writes at point `t`. -/
theorem index0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- After the run the norm's array is the modulated norm of the rows the call was given. -/
theorem final5 (c : Dev nD) : (dats m 0 c).arrAt 5 cfg0.N = modBlk (n := 4096) (V m c main_arg0) (V m c main_v1) (V m c main_v2) := by
  refine (dats m 0 c).arrAt_eq_of_covers 5 _ (by decide +kernel) fun t hf y => ?_
  blk_simp
  rw [after0_5]
  unfold outsAt0
  dsimp only
  rw [out5_eq]
  obtain ⟨e0, e1, e2, e3, e4, e5, e6, e7, e8, e9, e10, e11, e12⟩ := index0 t
  have hr : rowOf (n := 512) (iblk m c 0 t) (y 0) = rowOf (n := 4096) (V m c main_arg0) ((win0_5.blk t).view.emb y 0) := by
    funext k
    unfold rowOf
    reads_congr
    all_goals blk_ext! [iblk, e0, e1, e11, e12]
  unfold modBlk modulated
  rw [hr]
  refine modElt_congr (congrArg (unit _) ?_) ?_ ?_ ?_
  · exact Fin.ext (by simp [e12])
  all_goals reads_congr
  all_goals blk_ext! [iblk, e5, e6, e7, e8, e11, e12]

/-- And the product's array is its product with the weight. -/
theorem final4 (c : Dev nD) : (dats m 0 c).arrAt 4 cfg0.N = projBlk (n := 4096) (V m c main_arg0) (V m c main_v5) (V m c main_v1) (V m c main_v2) := by
  refine (dats m 0 c).arrAt_eq_of_covers 4 _ (by decide +kernel) fun t hf y => ?_
  blk_simp
  rw [after0_4]
  unfold outsAt0
  dsimp only
  rw [out4_eq]
  obtain ⟨e0, e1, e2, e3, e4, e5, e6, e7, e8, e9, e10, e11, e12⟩ := index0 t
  have hr : rowOf (n := 512) (iblk m c 0 t) (y 0) = rowOf (n := 4096) (V m c main_arg0) ((win0_4.blk t).view.emb y 0) := by
    funext k
    unfold rowOf
    reads_congr
    all_goals blk_ext! [iblk, e0, e1, e9, e10]
  unfold projBlk modulated
  rw [hr]
  have hs : ∀ f g : Fin 1024 → EReal, (∀ k, f k = g k) → ∑ k, f k = ∑ k, g k := fun f g h => Finset.sum_congr rfl fun k _ => h k
  refine hs _ _ fun k => congrArg₂ _ (modElt_congr rfl ?_ ?_ ?_) ?_
  all_goals reads_congr
  all_goals blk_ext! [iblk, e2, e3, e4, e5, e6, e7, e8, e9, e10]

end Cert.Kernel10Ideal.Value

end
-- ==== Proof.ProjIn.Equation.lean ====
/-
  The forward call `proj_in` against `modulated_norm(x) @ w_in`: the norm is the reference's row by row, and the four
  column blocks of the weight side by side are the whole of it.
-/
module

public import proofs.«01_k».proof.Defs
public import proofs.«01_k».proof.Proof.ProjIn.Block
public import proofs.«01_k».proof.Proof.Norm.Arguments
public import proofs.«01_k».proof.Proof.Gen.Reference10Ideal.Run
public import proofs.«01_k».proof.Proof.Gen.Reference10Ideal.Read
public import Idealize.ShloMosaic.Lib.Claim
public import Idealize.ShloMosaic.Lib.Quiescent

@[expose] public section

set_option maxRecDepth 16384
set_option maxHeartbeats 2000000

noncomputable section

namespace Cert.Proof.ProjIn

open Idealize.ShloMosaic Idealize.ShloMosaic.TcCoe Idealize.SL.Sem
open Cert.Kernel10Ideal Cert.Kernel10Ideal.Gen Cert.Kernel10Ideal.Value
open Cert.Proof.Norm Cert.Reference10Ideal.Read

/-- The weight as the call reads it: four blocks of columns. -/
abbrev blocked (x3 : Vec Ideal S1024x5120 .f32) : Vec Ideal S4x1024x1280 .bf16 :=
  transpose S4x1024x1280 [1, 0, 2] (shapeCast S1024x4x1280 (truncf (F := Ideal) (s := S1024x5120) .bf16 (φ := .f32) x3 bitsLt_bf16_f32)
    shapeCasts_S1024x5120_S1024x4x1280) transposes_S1024x4x1280_S4x1024x1280_1_0_2

/-- The modulation as the call reads it: two rows of zeros below its six. -/
abbrev padded (x1 : Vec Ideal S6x1024 .f32) : Vec Ideal S8x1024 .f32 :=
  concatenate S8x1024 0 [⟨S6x1024, x1⟩, ⟨S2x1024, broadcastInDim S2x1024 ![] bcast_S_S2x1024 (constant (F := Ideal) S_ .f32 0x00000000#32)⟩]
    concatenates_S6x1024_S2x1024_S8x1024_d0

/-- The norm's weight as the call reads it: one row. -/
abbrev asRow (x2 : Vec Ideal S1024 .f32) : Vec Ideal S1x1024 .f32 := shapeCast S1x1024 x2 shapeCasts_S1024_S1x1024

section Entry

variable (m : (ℓ : Loc nD τ sig) → Buf (Elt Ideal) ℓ)

/-- The residual row as the call is given it. -/
theorem entry_x (c : Dev nD) : @Eq (Vec Ideal S4096x1024 .f32) (V m c main_arg0) (m ((c : Thread nD τ).loc main_arg0)) := by
  simp only [V, List.flatten_cons, List.flatten_nil, List.append_nil, List.cons_append, List.nil_append]
  after_results
  try rfl

/-- The weight as the call is given it. -/
theorem entry_w (c : Dev nD) : @Eq (Vec Ideal S4x1024x1280 .bf16) (V m c main_v5) (blocked (m ((c : Thread nD τ).loc main_arg3))) := by
  simp only [V, List.flatten_cons, List.flatten_nil, List.append_nil, List.cons_append, List.nil_append]
  after_results
  try rfl

/-- The modulation as the call is given it. -/
theorem entry_mod (c : Dev nD) : @Eq (Vec Ideal S8x1024 .f32) (V m c main_v1) (padded (m ((c : Thread nD τ).loc main_arg1))) := by
  simp only [V, List.flatten_cons, List.flatten_nil, List.append_nil, List.cons_append, List.nil_append]
  after_results
  try rfl

/-- The norm's weight as the call is given it. -/
theorem entry_g (c : Dev nD) : @Eq (Vec Ideal S1x1024 .f32) (V m c main_v2) (asRow (m ((c : Thread nD τ).loc main_arg2))) := by
  simp only [V, List.flatten_cons, List.flatten_nil, List.append_nil, List.cons_append, List.nil_append]
  after_results
  try rfl

end Entry

section Equation

variable (x0 : Vec Ideal S4096x1024 .f32) (x1 : Vec Ideal S6x1024 .f32) (x2 : Vec Ideal S1024 .f32) (x3 : Vec Ideal S1024x5120 .f32)

/-- The mean square of a row, in the reference. -/
theorem ref_square (s : Fin 4096) (z : Cert.Reference10Ideal.S4096x1.Idx) (h : (z 0).val = s.val) : val_main_v6 (F := Ideal) x0 z = square (rowOf x0 s) := by
  simp only [val_main_v6_apply, val_main_v4_apply, val_main_v2_apply, val_main_v1_apply, val_main_v3_apply, val_main_v5_apply, val_main_v0_apply, val_main_cst_apply, val_main_cst_0_apply, val_main_cst_1_apply]
  have e : ∀ k, idx_main_v1 (idx_main_v2 z) k = ix2 s k := fun k => by
    funext a
    fin_cases a
    · exact Fin.ext h
    · rfl
  simp only [e]
  refine congrArg (Ideal.div · width + small) ?_
  exact (congrArg (· + _) Ideal.ofBits_zero_f32).trans (zero_add _)

/-- The modulated row is the reference's. -/
theorem mod_eq (s : Fin 4096) (j : Fin 1024) : modulated 1 0 (rowOf x0 s) (padded x1) (asRow x2) j = val_main_v24 (F := Ideal) x0 x1 x2 (ix2 s j) := by
  rw [val_main_v24_apply, val_main_v19_apply, val_main_v12_apply, val_main_v9_apply, val_main_v8_apply, val_main_v7_apply, ref_square x0 s _ rfl]
  simp only [val_main_v11_apply, val_main_v10_apply, val_main_v18_apply, val_main_v17_apply, val_main_v16_apply, val_main_v15_apply, val_main_cst_2_apply,
    val_main_v14_apply, val_main_v13_apply, val_main_v23_apply, val_main_v22_apply, val_main_v21_apply, val_main_v20_apply]
  refine Eq.trans ?_ (modElt_eq _ _ _ _)
  refine modElt_congr rfl ((asRow_apply x2 _ j).trans (congrArg x2 ?_)) ((padded_apply x1 _ _ 1 j).trans (congrArg x1 ?_)) ((padded_apply x1 _ _ 0 j).trans (congrArg x1 ?_))
  · funext a
    fin_cases a; rfl
  all_goals
    funext a
    fin_cases a
    · rfl
    · exact Fin.ext (Nat.mod_eq_of_lt j.isLt).symm

/-- The norm's array is the reference's. -/
theorem norm_eq : modBlk (n := 4096) x0 (padded x1) (asRow x2) = val_main_v26 (F := Ideal) x0 x1 x2 := by
  funext i
  obtain ⟨s, j, rfl⟩ : ∃ (s : Fin 4096) (j : Fin 1024), i = ix2 s j := ⟨i 0, i 1, by funext a; fin_cases a <;> rfl⟩
  exact mod_eq x0 x1 x2 s j

/-- The product's array is the reference's. -/
theorem proj_eq : projBlk (n := 4096) x0 (blocked x3) (padded x1) (asRow x2) = val_main_v25 (F := Ideal) x0 x1 x2 x3 := by
  funext i
  have i1 : (i 1).val < 5120 := (i 1).isLt
  rw [val_main_v25_apply]
  refine Finset.sum_congr rfl fun k _ => congrArg₂ _ ((mod_eq x0 x1 x2 (i 0) k).trans (congrArg _ ?_)) ?_
  · funext a; fin_cases a <;> rfl
  · refine (blocked_apply (m := 1280) (N := 5120) rfl _ _ _ _ _ _ _ (i 1) (Nat.div_add_mod (i 1).val 1280).symm).trans (congrArg x3 ?_)
    funext a; fin_cases a <;> rfl

end Equation

variable (m : (ℓ : Loc nD τ sig) → Buf (Elt Ideal) ℓ)

/-- The product that the kernel leaves is the reference's. -/
theorem value_proj (c : Dev nD) : (dats m 0 c).arrAt 4 cfg0.N
    = val_main_v25 (F := Ideal) (m ((c : Thread nD τ).loc main_arg0)) (m ((c : Thread nD τ).loc main_arg1)) (m ((c : Thread nD τ).loc main_arg2)) (m ((c : Thread nD τ).loc main_arg3)) := by
  rw [final4, entry_x, entry_w, entry_mod, entry_g]
  exact proj_eq _ _ _ _

/-- The norm that the kernel leaves is the reference's. -/
theorem value_norm (c : Dev nD) : (dats m 0 c).arrAt 5 cfg0.N
    = val_main_v26 (F := Ideal) (m ((c : Thread nD τ).loc main_arg0)) (m ((c : Thread nD τ).loc main_arg1)) (m ((c : Thread nD τ).loc main_arg2)) := by
  rw [final5, entry_x, entry_mod, entry_g]
  exact norm_eq _ _ _

/-- The reference's frame: it is straight-line host code. -/
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- Both programs leave the same product and the same norm, on any arguments. -/
theorem algebraic : Cert.algebraic_Kernel10Ideal_Reference10Ideal := by
  intro m ρ m' ρ' _ hagree
  refine ⟨fun c => (dats m 0 c).arrAt 4 cfg0.N, fun c => (dats m 0 c).arrAt 5 cfg0.N, run_blocks m ρ, ?_⟩
  refine (θ_run Cert.Reference10Ideal.defs _ _).mono (fun r h c => ⟨(h c).1.trans ?_, (h c).2.1.trans ?_, (h c).2.2⟩)
    (Cert.Reference10Ideal.Value.run (F := Ideal) m' ρ')
  all_goals obtain ⟨h0, h1, h2, h3⟩ := hagree c
  · rw [val_main_v25_eq, h0, h1, h2, h3]; exact (value_proj m c).symm
  · rw [val_main_v26_eq, h0, h1, h2]; exact (value_norm m c).symm

end Cert.Proof.ProjIn

end
-- ==== Proof.SeqBackward.Run.lean ====
/- One step of the backward pass of the recurrence, run on any staging buffers: what its stores leave in the
   gradient block, in the gradient sums, in the three weight gradients and in the three carried rows; of what
   belongs to the pooled branch and to the input gate, the values. -/
module

public import proofs.«01_k».proof.Proof.SeqBackward.Gates

@[expose] public section

set_option maxRecDepth 16384

noncomputable section

namespace Cert.Kernel2Ideal.SeqBackward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S8x1024 .f32) (harg5 : arg5.IsWhole)
  (arg6 : Memref sig .tc .vmem S256x1024 .bf16) (harg6 : arg6.IsWhole)
  (arg7 : Memref sig .tc .vmem S256x1024 .bf16) (harg7 : arg7.IsWhole)
  (arg8 : Memref sig .tc .vmem S256x1024 .bf16) (harg8 : arg8.IsWhole)
  (arg9 : Memref sig .tc .vmem S256x2048 .bf16) (harg9 : arg9.IsWhole)
  (arg10 : Memref sig .tc .vmem S4x1024 .f32) (harg10 : arg10.IsWhole)
  (arg11 : Memref sig .tc .vmem S8x1024 .f32) (harg11 : arg11.IsWhole)
  (arg12 : Memref sig .tc .vmem S4x256x256 .bf16) (harg12 : arg12.IsWhole)
  (arg13 : Memref sig .tc .vmem S4x256x256 .bf16) (harg13 : arg13.IsWhole)
  (arg14 : Memref sig .tc .vmem S4x256x256 .bf16) (harg14 : arg14.IsWhole)
  (arg15 : Memref sig .tc .vmem S256x5120 .bf16) (harg15 : arg15.IsWhole)
  (arg16 : Memref sig .tc .vmem S16x1024 .f32) (harg16 : arg16.IsWhole)
  (arg17 : Memref sig .tc .vmem S4x256x256 .f32) (harg17 : arg17.IsWhole)
  (arg18 : Memref sig .tc .vmem S4x256x256 .f32) (harg18 : arg18.IsWhole)
  (arg19 : Memref sig .tc .vmem S4x256x256 .f32) (harg19 : arg19.IsWhole)
  (arg20 : Memref sig .tc .vmem S1x1024 .f32) (harg20 : arg20.IsWhole)
  (arg21 : Memref sig .tc .vmem S8x1024 .f32) (harg21 : arg21.IsWhole)
  (arg22 : Memref sig .tc .vmem S16x1024 .f32) (harg22 : arg22.IsWhole)
  (arg23 : Memref sig .tc .vmem S256x1024 .f32) (harg23 : arg23.IsWhole)
  (arg24 : Memref sig .tc .vmem S256x1024 .f32) (harg24 : arg24.IsWhole)
  (arg25 : Memref sig .tc .vmem S256x1024 .f32) (harg25 : arg25.IsWhole)
  (arg26 : Memref sig .tc .vmem S256x1024 .f32) (harg26 : arg26.IsWhole)
  (arg27 : Memref sig .tc .vmem S256x1024 .f32) (harg27 : arg27.IsWhole)
  (arg28 : Memref sig .tc .vmem S256x1024 .f32) (harg28 : arg28.IsWhole)
  (arg29 : Memref sig .tc .vmem S256x1024 .f32) (harg29 : arg29.IsWhole)
  (x0 : Vec F S256x1024 .f32)
  (x1 : Vec F S256x1024 .f32)
  (x2 : Vec F S256x1024 .f32)
  (x3 : Vec F S256x1024 .f32)
  (x4 : Vec F S8x1024 .f32)
  (x5 : Vec F S256x1024 .bf16)
  (x6 : Vec F S256x1024 .bf16)
  (x7 : Vec F S256x1024 .bf16)
  (x8 : Vec F S256x2048 .bf16)
  (x9 : Vec F S4x1024 .f32)
  (x10 : Vec F S8x1024 .f32)
  (x11 : Vec F S4x256x256 .bf16)
  (x12 : Vec F S4x256x256 .bf16)
  (x13 : Vec F S4x256x256 .bf16)

/-- The fourteen inputs' buffers at their contents. -/
def inputsOwned : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13)

/-- The seven buffers of intermediate values, at anything. -/
def scratchOwned : sProp 𝕄 :=
  iprop((∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d))

/-- What the body's first part loads and computes after its conditional. -/
def firstLoads :
    Prog (TpuEff nD τ sig (Elt F) Λ₀ .tc) (Σ' (v0 : BitVec 32) (v4 : IVec S256x256 32) (v9 : IVec S256x256 1) (v26 : FVec F S256x256 .f32) (v33 : FVec F S256x256 .f32), FVec F S256x256 .f32) := do
  let arg0 : BitVec 32 := BitVec.ofNat 32 (i 0).val
  let v0 : BitVec 32 := Scalar.subi 15#32 arg0
  have v4 : IVec S256x256 32 := iota .tc S256x256 32 [0] iota_S256x256_d0_w32
  let v10 : Vec F S256x256 .f32 ← Prog.lift (.load arg3 (Rect.unit (s := S256x1024) ![0, 0] S256x256.size inb_S256x1024_S256x256_0_0).toLoadRect (View.loadsAt_vmem h_S256x256))
  let v13 : Vec F S1x256x256 .bf16 ← Prog.lift (.load arg12 (Rect.unit (s := S4x256x256) ![0, 0, 0] S1x256x256.size inb_S4x256x256_S1x256x256_0_0_0).toLoadRect (View.loadsAt_vmem h_S1x256x256))
  let v16 : Vec F S1x256 .f32 ← Prog.lift (.load arg11 (Rect.unit (s := S8x1024) ![1, 0] S1x256.size inb_S8x1024_S1x256_1_0).toLoadRect (View.loadsAt_vmem h_S1x256))
  let v27 : Vec F S1x256x256 .bf16 ← Prog.lift (.load arg13 (Rect.unit (s := S4x256x256) ![0, 0, 0] S1x256x256.size inb_S4x256x256_S1x256x256_0_0_0).toLoadRect (View.loadsAt_vmem h_S1x256x256))
  let v30 : Vec F S1x256 .f32 ← Prog.lift (.load arg11 (Rect.unit (s := S8x1024) ![2, 0] S1x256.size inb_S8x1024_S1x256_2_0).toLoadRect (View.loadsAt_vmem h_S1x256))
  pure ⟨v0, v4, k0_pay10 i, k0_pay12 v10 v13 v16, k0_pay13 v10 v27 v30, k0_pay14 (F := F)⟩

/-- The body's first part is the conditional zeroing followed by its loads. -/
theorem part1_split :
    k0_part1_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29
      = (reset (F := F) i arg16 arg17 arg18 arg19 arg20 arg21 arg22 >>= fun _ => firstLoads (F := F) i arg3 arg11 arg12 arg13) := by
  unfold k0_part1_skel reset firstLoads
  by_cases hc : Scalar.cmpi .ne (Scalar.extui (Scalar.cmpi .eq (BitVec.ofNat 32 (i 0).val) 0#32) : BitVec 32) 0#32 = 1#1
  · dsimp only
    rw [dif_pos hc, dif_pos hc]
    simp only [bind_assoc, pure_bind]
  · dsimp only
    rw [dif_neg hc, dif_neg hc]
    simp only [bind_assoc, pure_bind]

/-- The seven buffers which live across steps, after a step which began at `y`: the sums, the input gate's and the pooled
    branch's weight gradients, the row handed on and the pooled branch's carried rows as the step leaves them, the others at
    anything. -/
def livingLeft (y : Carry F) : sProp 𝕄 :=
  iprop((∃ d, ⌜LeavesSums x5 x7 x10 x13 (y.start i).sums d ∧ LeavesGateBias i x1 x2 x6 x10 x11 x12 (y.start i).g (y.start i).sums d⌝ ∗ owns (c : Thread nD τ) arg16 fullShare d)
    ∗ (∃ d, owns (c : Thread nD τ) arg17 fullShare d)
    ∗ (∃ d, ⌜LeavesGateWeight i x1 x2 x6 x10 x11 x12 (y.start i).g (y.start i).dwx d⌝ ∗ owns (c : Thread nD τ) arg18 fullShare d)
    ∗ (∃ d, ⌜LeavesWeight x5 x7 x10 (y.start i).dwp d⌝ ∗ owns (c : Thread nD τ) arg19 fullShare d)
    ∗ (∃ d, ⌜d = handedOn x1 x2 x6 x10 x11 (y.start i).g⌝ ∗ owns (c : Thread nD τ) arg20 fullShare d)
    ∗ (∃ d, owns (c : Thread nD τ) arg21 fullShare d)
    ∗ (∃ d, ⌜LeavesRows i x7 x10 x13 d⌝ ∗ owns (c : Thread nD τ) arg22 fullShare d))

set_option maxHeartbeats 8000000 in
include harg1 harg2 harg3 harg4 harg5 harg6 harg7 harg8 harg9 harg10 harg11 harg12 harg13 harg14 harg15 harg16 harg17 harg18 harg19 harg20 harg21 harg22 harg23 harg24 harg25 harg26 harg27 harg28 harg29 in
/-- The body's run from any contents of the outputs and the scratch: it ends, the inputs' buffers are as they were. -/
theorem body_run (E : Set ℕ) (K : PUnit → sProp 𝕄) (y : Carry F) :
    iprop(inputsOwned c arg1 arg2 arg3 arg4 arg5 arg6 arg7 arg8 arg9 arg10 arg11 arg12 arg13 arg14 x0 x1 x2 x3 x4 x5 x6 x7 x8 x9 x10 x11 x12 x13 ∗ (∃ d, owns (c : Thread nD τ) arg15 fullShare d) ∗ Carry.owned c arg16 arg17 arg18 arg19 arg20 arg21 arg22 y ∗ scratchOwned (F := F) c arg23 arg24 arg25 arg26 arg27 arg28 arg29
        ∗ (iprop(inputsOwned c arg1 arg2 arg3 arg4 arg5 arg6 arg7 arg8 arg9 arg10 arg11 arg12 arg13 arg14 x0 x1 x2 x3 x4 x5 x6 x7 x8 x9 x10 x11 x12 x13 ∗ (∃ d, ⌜LeavesBlock i x7 x8 x10 x13 (y.start i).q d⌝ ∗ owns (c : Thread nD τ) arg15 fullShare d) ∗ livingLeft c i arg16 arg17 arg18 arg19 arg20 arg21 arg22 x1 x2 x5 x6 x7 x10 x11 x12 x13 y ∗ scratchOwned (F := F) c arg23 arg24 arg25 arg26 arg27 arg28 arg29) -∗ K ⟨⟩))
      ⊢ wp frame (wpE (defs₀ (F := F)) Variants.none c none) E (cc0_seq_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_seq_backward_eq_skeleton]; unfold cc0_seq_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  rw [part1_split]
  rw [wp_bind, wp_bind]
  iintro ⟨Hin, H14, HY, Hsc, Hk⟩
  iapply (reset_run c i arg16 harg16 arg17 harg17 arg18 harg18 arg19 harg19 arg20 harg20 arg21 harg21 arg22 harg22 y E _)
  isplitl [HY]; · iexact HY
  iintro HY
  unfold inputsOwned Carry.owned livingLeft scratchOwned owns
  icases Hin with ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩
  icases H14 with ⟨%d14, %f14, -, H14⟩
  icases HY with ⟨⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩
  icases Hsc with ⟨⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
  sl_exec
  sl_step
  iapply Hk
  isplitl [H0 H1 H2 H3 H4 H5 H6 H7 H8 H9 H10 H11 H12 H13]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; isplitr; · ipureintro; exact harg14.read_unread _
    iexact H13
  isplitl [H14]
  · iexists _; isplitr; swap
    · iexists _; isplitr; swap; · iexact H14
      ipureintro; rfl
    ipureintro
    refine ⟨fun g s l => ?_, fun s l => ?_⟩
    · have hl := poolCol_val g l
      match g with
      | 0 =>
        have hg : (0 : Fin 4).val = 0 := rfl
        rw [hg] at hl
        repeat refine (read_past _ _ _ _ _ _ _ (by omega)).trans ?_
        refine (read_in _ _ _ _ _ _ _ s l (by omega) (by omega)).trans ?_
        exact congrFun (congr₄ (poolGrad i 0) (read_lanes arg8 harg8 x7 0 _ rfl) (read_param arg11 harg11 x10 5 0 _ rfl) (read_panel arg14 harg14 x13 0 _ rfl) (read_heads arg22 harg22 (y.start i).q 0 _ rfl)) _
      | 1 =>
        have hg : (1 : Fin 4).val = 1 := rfl
        rw [hg] at hl
        repeat refine (read_past _ _ _ _ _ _ _ (by omega)).trans ?_
        refine (read_in _ _ _ _ _ _ _ s l (by omega) (by omega)).trans ?_
        exact congrFun (congr₄ (poolGrad i 1) (read_lanes arg8 harg8 x7 1 _ rfl) (read_param arg11 harg11 x10 5 1 _ rfl) (read_panel arg14 harg14 x13 1 _ rfl) (read_heads arg22 harg22 (y.start i).q 1 _ rfl)) _
      | 2 =>
        have hg : (2 : Fin 4).val = 2 := rfl
        rw [hg] at hl
        repeat refine (read_past _ _ _ _ _ _ _ (by omega)).trans ?_
        refine (read_in _ _ _ _ _ _ _ s l (by omega) (by omega)).trans ?_
        exact congrFun (congr₄ (poolGrad i 2) (read_lanes arg8 harg8 x7 2 _ rfl) (read_param arg11 harg11 x10 5 2 _ rfl) (read_panel arg14 harg14 x13 2 _ rfl) (read_heads arg22 harg22 (y.start i).q 2 _ rfl)) _
      | 3 =>
        have hg : (3 : Fin 4).val = 3 := rfl
        rw [hg] at hl
        repeat refine (read_past _ _ _ _ _ _ _ (by omega)).trans ?_
        refine (read_in _ _ _ _ _ _ _ s l (by omega) (by omega)).trans ?_
        exact congrFun (congr₄ (poolGrad i 3) (read_lanes arg8 harg8 x7 3 _ rfl) (read_param arg11 harg11 x10 5 3 _ rfl) (read_panel arg14 harg14 x13 3 _ rfl) (read_heads arg22 harg22 (y.start i).q 3 _ rfl)) _
    · have hl := gateCol_val l
      repeat refine (read_past _ _ _ _ _ _ _ (by omega)).trans ?_
      refine (read_in _ _ _ _ _ _ _ s l (by omega) (by omega)).trans ?_
      exact congrFun (congrArg (k0_pay2 (F := F)) (readAt_all arg9 harg9 x8 _ rfl)) _
  isplitl [H15 H16 H17 H18 H19 H20 H21]
  · isplitl [H15]
    · iexists _; isplitr; swap
      · iexists _; isplitr; swap; · iexact H15
        ipureintro; rfl
      ipureintro
      refine ⟨fun g l => ?_, fun g l => ?_⟩
      · have hl := lane_val g l
        have h8 : (8 : Fin 16).val = 8 := rfl
        have h9 : (9 : Fin 16).val = 9 := rfl
        match g with
        | 0 =>
          have hg : (0 : Fin 4).val = 0 := rfl
          rw [hg] at hl
          constructor
          · repeat refine (read_past _ _ _ _ _ _ _ (by omega)).trans ?_
            refine (read_in _ _ _ _ _ _ _ 0 l (by omega) (by omega)).trans ?_
            exact congrFun (congr₃ biasGrad (read_lanes arg8 harg8 x7 0 _ rfl) (read_param arg11 harg11 x10 5 0 _ rfl) (read_sumRow arg16 harg16 (y.start i).sums 8 0 _ rfl)) _
          · repeat refine (read_past _ _ _ _ _ _ _ (by omega)).trans ?_
            refine (read_in _ _ _ _ _ _ _ 0 l (by omega) (by omega)).trans ?_
            exact congrFun (congr₅ scaleGrad (read_lanes arg6 harg6 x5 0 _ rfl) (read_panel arg14 harg14 x13 0 _ rfl) (read_param arg11 harg11 x10 4 0 _ rfl) (read_sumRow arg16 harg16 (y.start i).sums 9 0 _ rfl) (read_lanes arg8 harg8 x7 0 _ rfl)) _
        | 1 =>
          have hg : (1 : Fin 4).val = 1 := rfl
          rw [hg] at hl
          constructor
          · repeat refine (read_past _ _ _ _ _ _ _ (by omega)).trans ?_
            refine (read_in _ _ _ _ _ _ _ 0 l (by omega) (by omega)).trans ?_
            exact congrFun (congr₃ biasGrad (read_lanes arg8 harg8 x7 1 _ rfl) (read_param arg11 harg11 x10 5 1 _ rfl) (read_sumRow arg16 harg16 (y.start i).sums 8 1 _ rfl)) _
          · repeat refine (read_past _ _ _ _ _ _ _ (by omega)).trans ?_
            refine (read_in _ _ _ _ _ _ _ 0 l (by omega) (by omega)).trans ?_
            exact congrFun (congr₅ scaleGrad (read_lanes arg6 harg6 x5 1 _ rfl) (read_panel arg14 harg14 x13 1 _ rfl) (read_param arg11 harg11 x10 4 1 _ rfl) (read_sumRow arg16 harg16 (y.start i).sums 9 1 _ rfl) (read_lanes arg8 harg8 x7 1 _ rfl)) _
        | 2 =>
          have hg : (2 : Fin 4).val = 2 := rfl
          rw [hg] at hl
          constructor
          · repeat refine (read_past _ _ _ _ _ _ _ (by omega)).trans ?_
            refine (read_in _ _ _ _ _ _ _ 0 l (by omega) (by omega)).trans ?_
            exact congrFun (congr₃ biasGrad (read_lanes arg8 harg8 x7 2 _ rfl) (read_param arg11 harg11 x10 5 2 _ rfl) (read_sumRow arg16 harg16 (y.start i).sums 8 2 _ rfl)) _
          · repeat refine (read_past _ _ _ _ _ _ _ (by omega)).trans ?_
            refine (read_in _ _ _ _ _ _ _ 0 l (by omega) (by omega)).trans ?_
            exact congrFun (congr₅ scaleGrad (read_lanes arg6 harg6 x5 2 _ rfl) (read_panel arg14 harg14 x13 2 _ rfl) (read_param arg11 harg11 x10 4 2 _ rfl) (read_sumRow arg16 harg16 (y.start i).sums 9 2 _ rfl) (read_lanes arg8 harg8 x7 2 _ rfl)) _
        | 3 =>
          have hg : (3 : Fin 4).val = 3 := rfl
          rw [hg] at hl
          constructor
          · repeat refine (read_past _ _ _ _ _ _ _ (by omega)).trans ?_
            refine (read_in _ _ _ _ _ _ _ 0 l (by omega) (by omega)).trans ?_
            exact congrFun (congr₃ biasGrad (read_lanes arg8 harg8 x7 3 _ rfl) (read_param arg11 harg11 x10 5 3 _ rfl) (read_sumRow arg16 harg16 (y.start i).sums 8 3 _ rfl)) _
          · repeat refine (read_past _ _ _ _ _ _ _ (by omega)).trans ?_
            refine (read_in _ _ _ _ _ _ _ 0 l (by omega) (by omega)).trans ?_
            exact congrFun (congr₅ scaleGrad (read_lanes arg6 harg6 x5 3 _ rfl) (read_panel arg14 harg14 x13 3 _ rfl) (read_param arg11 harg11 x10 4 3 _ rfl) (read_sumRow arg16 harg16 (y.start i).sums 9 3 _ rfl) (read_lanes arg8 harg8 x7 3 _ rfl)) _
      · have hl := lane_val g l
        have h6 : (6 : Fin 16).val = 6 := rfl
        match g with
        | 0 =>
          have hg : (0 : Fin 4).val = 0 := rfl
          rw [hg] at hl
          repeat refine (read_past _ _ _ _ _ _ _ (by omega)).trans ?_
          refine (read_in _ _ _ _ _ _ _ 0 l (by omega) (by omega)).trans ?_
          exact congrFun (congr₅ (gateBias i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 0 _ rfl _ (readAt_row arg20 harg20 (y.start i).g _)) (read_lanes arg3 harg3 x2 0 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 0 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 0 _ rfl) (read_sumRow arg16 harg16 (y.start i).sums 6 0 _ rfl)) _
        | 1 =>
          have hg : (1 : Fin 4).val = 1 := rfl
          rw [hg] at hl
          repeat refine (read_past _ _ _ _ _ _ _ (by omega)).trans ?_
          refine (read_in _ _ _ _ _ _ _ 0 l (by omega) (by omega)).trans ?_
          exact congrFun (congr₅ (gateBias i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 1 _ rfl _ (readAt_row arg20 harg20 (y.start i).g _)) (read_lanes arg3 harg3 x2 1 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 1 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 1 _ rfl) (read_sumRow arg16 harg16 (y.start i).sums 6 1 _ rfl)) _
        | 2 =>
          have hg : (2 : Fin 4).val = 2 := rfl
          rw [hg] at hl
          repeat refine (read_past _ _ _ _ _ _ _ (by omega)).trans ?_
          refine (read_in _ _ _ _ _ _ _ 0 l (by omega) (by omega)).trans ?_
          exact congrFun (congr₅ (gateBias i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 2 _ rfl _ (readAt_row arg20 harg20 (y.start i).g _)) (read_lanes arg3 harg3 x2 2 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 2 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 2 _ rfl) (read_sumRow arg16 harg16 (y.start i).sums 6 2 _ rfl)) _
        | 3 =>
          have hg : (3 : Fin 4).val = 3 := rfl
          rw [hg] at hl
          repeat refine (read_past _ _ _ _ _ _ _ (by omega)).trans ?_
          refine (read_in _ _ _ _ _ _ _ 0 l (by omega) (by omega)).trans ?_
          exact congrFun (congr₅ (gateBias i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 3 _ rfl _ (readAt_row arg20 harg20 (y.start i).g _)) (read_lanes arg3 harg3 x2 3 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 3 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 3 _ rfl) (read_sumRow arg16 harg16 (y.start i).sums 6 3 _ rfl)) _
    isplitl [H16]
    · iexists _, _; isplitr; swap; · iexact H16
      ipureintro; rfl
    isplitl [H17]
    · iexists _; isplitr; swap
      · iexists _; isplitr; swap; · iexact H17
        ipureintro; rfl
      ipureintro
      intro g a b
      match g with
      | 0 =>
        repeat refine (panel_past _ _ _ _ _ _ _ _ (by decide)).trans ?_
        refine (panel_in _ _ _ _ _ _ _ _ (by rfl)).trans ?_
        exact congrFun (congr₅ (gateWeight i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 0 _ rfl _ (readAt_row arg20 harg20 (y.start i).g _)) (read_lanes arg3 harg3 x2 0 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 0 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 0 _ rfl) (read_panel arg18 harg18 (y.start i).dwx 0 _ rfl)) _
      | 1 =>
        repeat refine (panel_past _ _ _ _ _ _ _ _ (by decide)).trans ?_
        refine (panel_in _ _ _ _ _ _ _ _ (by rfl)).trans ?_
        exact congrFun (congr₅ (gateWeight i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 1 _ rfl _ (readAt_row arg20 harg20 (y.start i).g _)) (read_lanes arg3 harg3 x2 1 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 1 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 1 _ rfl) (read_panel arg18 harg18 (y.start i).dwx 1 _ rfl)) _
      | 2 =>
        repeat refine (panel_past _ _ _ _ _ _ _ _ (by decide)).trans ?_
        refine (panel_in _ _ _ _ _ _ _ _ (by rfl)).trans ?_
        exact congrFun (congr₅ (gateWeight i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 2 _ rfl _ (readAt_row arg20 harg20 (y.start i).g _)) (read_lanes arg3 harg3 x2 2 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 2 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 2 _ rfl) (read_panel arg18 harg18 (y.start i).dwx 2 _ rfl)) _
      | 3 =>
        repeat refine (panel_past _ _ _ _ _ _ _ _ (by decide)).trans ?_
        refine (panel_in _ _ _ _ _ _ _ _ (by rfl)).trans ?_
        exact congrFun (congr₅ (gateWeight i) (loop_lanes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) 3 _ rfl _ (readAt_row arg20 harg20 (y.start i).g _)) (read_lanes arg3 harg3 x2 3 _ rfl) (back_lanes arg29.view (squaredFactors x2 x10 x11) (congr₄ squaredFactor (read_lanes arg3 harg3 x2 0 _ rfl) (read_panel arg12 harg12 x11 0 _ rfl) (read_param arg11 harg11 x10 1 0 _ rfl) (read_param arg11 harg11 x10 3 0 _ rfl)) (congr₄ squaredFactor (read_lanes arg3 harg3 x2 1 _ rfl) (read_panel arg12 harg12 x11 1 _ rfl) (read_param arg11 harg11 x10 1 1 _ rfl) (read_param arg11 harg11 x10 3 1 _ rfl)) (congr₄ squaredFactor (read_lanes arg3 harg3 x2 2 _ rfl) (read_panel arg12 harg12 x11 2 _ rfl) (read_param arg11 harg11 x10 1 2 _ rfl) (read_param arg11 harg11 x10 3 2 _ rfl)) (congr₄ squaredFactor (read_lanes arg3 harg3 x2 3 _ rfl) (read_panel arg12 harg12 x11 3 _ rfl) (read_param arg11 harg11 x10 1 3 _ rfl) (read_param arg11 harg11 x10 3 3 _ rfl)) _ _ _ _ 3 _ rfl) (back_lanes arg28.view (inputGates x2 x10 x12) (congr₃ inputGate (read_lanes arg3 harg3 x2 0 _ rfl) (read_panel arg13 harg13 x12 0 _ rfl) (read_param arg11 harg11 x10 2 0 _ rfl)) (congr₃ inputGate (read_lanes arg3 harg3 x2 1 _ rfl) (read_panel arg13 harg13 x12 1 _ rfl) (read_param arg11 harg11 x10 2 1 _ rfl)) (congr₃ inputGate (read_lanes arg3 harg3 x2 2 _ rfl) (read_panel arg13 harg13 x12 2 _ rfl) (read_param arg11 harg11 x10 2 2 _ rfl)) (congr₃ inputGate (read_lanes arg3 harg3 x2 3 _ rfl) (read_panel arg13 harg13 x12 3 _ rfl) (read_param arg11 harg11 x10 2 3 _ rfl)) _ _ _ _ 3 _ rfl) (read_panel arg18 harg18 (y.start i).dwx 3 _ rfl)) _
    isplitl [H18]
    · iexists _; isplitr; swap
      · iexists _; isplitr; swap; · iexact H18
        ipureintro; rfl
      ipureintro
      intro g a b
      match g with
      | 0 =>
        repeat refine (panel_past _ _ _ _ _ _ _ _ (by decide)).trans ?_
        refine (panel_in _ _ _ _ _ _ _ _ (by rfl)).trans ?_
        exact congrFun (congr₄ weightGrad (read_lanes arg6 harg6 x5 0 _ rfl) (read_lanes arg8 harg8 x7 0 _ rfl) (read_param arg11 harg11 x10 5 0 _ rfl) (read_panel arg19 harg19 (y.start i).dwp 0 _ rfl)) _
      | 1 =>
        repeat refine (panel_past _ _ _ _ _ _ _ _ (by decide)).trans ?_
        refine (panel_in _ _ _ _ _ _ _ _ (by rfl)).trans ?_
        exact congrFun (congr₄ weightGrad (read_lanes arg6 harg6 x5 1 _ rfl) (read_lanes arg8 harg8 x7 1 _ rfl) (read_param arg11 harg11 x10 5 1 _ rfl) (read_panel arg19 harg19 (y.start i).dwp 1 _ rfl)) _
      | 2 =>
        repeat refine (panel_past _ _ _ _ _ _ _ _ (by decide)).trans ?_
        refine (panel_in _ _ _ _ _ _ _ _ (by rfl)).trans ?_
        exact congrFun (congr₄ weightGrad (read_lanes arg6 harg6 x5 2 _ rfl) (read_lanes arg8 harg8 x7 2 _ rfl) (read_param arg11 harg11 x10 5 2 _ rfl) (read_panel arg19 harg19 (y.start i).dwp 2 _ rfl)) _
      | 3 =>
        repeat refine (panel_past _ _ _ _ _ _ _ _ (by decide)).trans ?_
        refine (panel_in _ _ _ _ _ _ _ _ (by rfl)).trans ?_
        exact congrFun (congr₄ weightGrad (read_lanes arg6 harg6 x5 3 _ rfl) (read_lanes arg8 harg8 x7 3 _ rfl) (read_param arg11 harg11 x10 5 3 _ rfl) (read_panel arg19 harg19 (y.start i).dwp 3 _ rfl)) _
    isplitl [H19]
    · iexists _; isplitr; swap
      · iexists _; isplitr; swap; · iexact H19
        ipureintro; rfl
      ipureintro
      refine (View.read_writes_full _ _ _ _ _).trans ?_
      exact congrArg₂ k0_pay92 (loop_carry _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (read_four arg23.view _ (nextDecays x2 x10 x11) (congr₄ nextDecay (read_lanes arg3 harg3 x2 0 _ rfl) (read_panel arg12 harg12 x11 0 _ rfl) (read_param arg11 harg11 x10 1 0 _ rfl) (read_param arg11 harg11 x10 3 0 _ rfl)) (congr₄ nextDecay (read_lanes arg3 harg3 x2 1 _ rfl) (read_panel arg12 harg12 x11 1 _ rfl) (read_param arg11 harg11 x10 1 1 _ rfl) (read_param arg11 harg11 x10 3 1 _ rfl)) (congr₄ nextDecay (read_lanes arg3 harg3 x2 2 _ rfl) (read_panel arg12 harg12 x11 2 _ rfl) (read_param arg11 harg11 x10 1 2 _ rfl) (read_param arg11 harg11 x10 3 2 _ rfl)) (congr₄ nextDecay (read_lanes arg3 harg3 x2 3 _ rfl) (read_panel arg12 harg12 x11 3 _ rfl) (read_param arg11 harg11 x10 1 3 _ rfl) (read_param arg11 harg11 x10 3 3 _ rfl)) _ _ _ _) (read_four arg24.view _ (incomings x1 x6) (congrArg₂ incoming (read_lanes arg2 harg2 x1 0 _ rfl) (read_lanes arg7 harg7 x6 0 _ rfl)) (congrArg₂ incoming (read_lanes arg2 harg2 x1 1 _ rfl) (read_lanes arg7 harg7 x6 1 _ rfl)) (congrArg₂ incoming (read_lanes arg2 harg2 x1 2 _ rfl) (read_lanes arg7 harg7 x6 2 _ rfl)) (congrArg₂ incoming (read_lanes arg2 harg2 x1 3 _ rfl) (read_lanes arg7 harg7 x6 3 _ rfl)) _ _ _ _) _ (readAt_row arg20 harg20 (y.start i).g _)) (back_top arg26.view (decays x2 x10 x11) (congr₄ decayOf (read_lanes arg3 harg3 x2 0 _ rfl) (read_panel arg12 harg12 x11 0 _ rfl) (read_param arg11 harg11 x10 1 0 _ rfl) (read_param arg11 harg11 x10 3 0 _ rfl)) (congr₄ decayOf (read_lanes arg3 harg3 x2 1 _ rfl) (read_panel arg12 harg12 x11 1 _ rfl) (read_param arg11 harg11 x10 1 1 _ rfl) (read_param arg11 harg11 x10 3 1 _ rfl)) (congr₄ decayOf (read_lanes arg3 harg3 x2 2 _ rfl) (read_panel arg12 harg12 x11 2 _ rfl) (read_param arg11 harg11 x10 1 2 _ rfl) (read_param arg11 harg11 x10 3 2 _ rfl)) (congr₄ decayOf (read_lanes arg3 harg3 x2 3 _ rfl) (read_panel arg12 harg12 x11 3 _ rfl) (read_param arg11 harg11 x10 1 3 _ rfl) (read_param arg11 harg11 x10 3 3 _ rfl)) _ _ _ _ _)
    isplitl [H20]
    · iexists _, _; isplitr; swap; · iexact H20
      ipureintro; rfl
    iexists _; isplitr; swap
    · iexists _; isplitr; swap; · iexact H21
      ipureintro; rfl
    ipureintro
    intro g r l
    have hl := lane_val g l
    match g with
    | 0 =>
      have hg : (0 : Fin 4).val = 0 := rfl
      rw [hg] at hl
      repeat refine (read_past _ _ _ _ _ _ _ (by omega)).trans ?_
      refine (read_in _ _ _ _ _ _ _ r l (by omega) (by omega)).trans ?_
      exact congrFun (congr₃ (fun a b w => k0_pay186 (quotient i 0 a b w)) (read_lanes arg8 harg8 x7 0 _ rfl) (read_param arg11 harg11 x10 5 0 _ rfl) (read_panel arg14 harg14 x13 0 _ rfl)) _
    | 1 =>
      have hg : (1 : Fin 4).val = 1 := rfl
      rw [hg] at hl
      repeat refine (read_past _ _ _ _ _ _ _ (by omega)).trans ?_
      refine (read_in _ _ _ _ _ _ _ r l (by omega) (by omega)).trans ?_
      exact congrFun (congr₃ (fun a b w => k0_pay186 (quotient i 1 a b w)) (read_lanes arg8 harg8 x7 1 _ rfl) (read_param arg11 harg11 x10 5 1 _ rfl) (read_panel arg14 harg14 x13 1 _ rfl)) _
    | 2 =>
      have hg : (2 : Fin 4).val = 2 := rfl
      rw [hg] at hl
      repeat refine (read_past _ _ _ _ _ _ _ (by omega)).trans ?_
      refine (read_in _ _ _ _ _ _ _ r l (by omega) (by omega)).trans ?_
      exact congrFun (congr₃ (fun a b w => k0_pay186 (quotient i 2 a b w)) (read_lanes arg8 harg8 x7 2 _ rfl) (read_param arg11 harg11 x10 5 2 _ rfl) (read_panel arg14 harg14 x13 2 _ rfl)) _
    | 3 =>
      have hg : (3 : Fin 4).val = 3 := rfl
      rw [hg] at hl
      repeat refine (read_past _ _ _ _ _ _ _ (by omega)).trans ?_
      refine (read_in _ _ _ _ _ _ _ r l (by omega) (by omega)).trans ?_
      exact congrFun (congr₃ (fun a b w => k0_pay186 (quotient i 3 a b w)) (read_lanes arg8 harg8 x7 3 _ rfl) (read_param arg11 harg11 x10 5 3 _ rfl) (read_panel arg14 harg14 x13 3 _ rfl)) _
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  iexists _, _; isplitr; swap; · iexact H28
  ipureintro; rfl

end Cert.Kernel2Ideal.SeqBackward

end
-- ==== Proof.SeqBackward.Frame.lean ====
/- The launch of the backward pass of the recurrence: the pipeline's proof data, which relate what a step finds in its outputs
   to what it leaves there where the pooled branch is concerned and say nothing of the rest, the body's obligation from its
   run, and the claim that the arguments end as they were. Over any values, so that the claim of the printed program and
   that of the idealized one are the same theorem. -/
module

public import proofs.«01_k».proof.Proof.SeqBackward.Run
public import proofs.«01_k».proof.Proof.Gen.Kernel2Ideal.Points

@[expose] public section

set_option maxRecDepth 16384
set_option maxHeartbeats 4000000

noncomputable section

namespace Cert.Kernel2Ideal.SeqBackward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at point `t`. -/
abbrev ms0 (t : Fin cfg0.N) := win0_0.stage (cfg0.slots t 0)
/-- Window 1's staging buffer at point `t`. -/
abbrev ms1 (t : Fin cfg0.N) := win0_1.stage (cfg0.slots t 1)
/-- Window 2's staging buffer at point `t`. -/
abbrev ms2 (t : Fin cfg0.N) := win0_2.stage (cfg0.slots t 2)
/-- Window 3's staging buffer at point `t`. -/
abbrev ms3 (t : Fin cfg0.N) := win0_3.stage (cfg0.slots t 3)
/-- Window 4's staging buffer at point `t`. -/
abbrev ms4 (t : Fin cfg0.N) := win0_4.stage (cfg0.slots t 4)
/-- Window 5's staging buffer at point `t`. -/
abbrev ms5 (t : Fin cfg0.N) := win0_5.stage (cfg0.slots t 5)
/-- Window 6's staging buffer at point `t`. -/
abbrev ms6 (t : Fin cfg0.N) := win0_6.stage (cfg0.slots t 6)
/-- Window 7's staging buffer at point `t`. -/
abbrev ms7 (t : Fin cfg0.N) := win0_7.stage (cfg0.slots t 7)
/-- Window 8's staging buffer at point `t`. -/
abbrev ms8 (t : Fin cfg0.N) := win0_8.stage (cfg0.slots t 8)
/-- Window 9's staging buffer at point `t`. -/
abbrev ms9 (t : Fin cfg0.N) := win0_9.stage (cfg0.slots t 9)
/-- Window 10's staging buffer at point `t`. -/
abbrev ms10 (t : Fin cfg0.N) := win0_10.stage (cfg0.slots t 10)
/-- Window 11's staging buffer at point `t`. -/
abbrev ms11 (t : Fin cfg0.N) := win0_11.stage (cfg0.slots t 11)
/-- Window 12's staging buffer at point `t`. -/
abbrev ms12 (t : Fin cfg0.N) := win0_12.stage (cfg0.slots t 12)
/-- Window 13's staging buffer at point `t`. -/
abbrev ms13 (t : Fin cfg0.N) := win0_13.stage (cfg0.slots t 13)
/-- Window 14's staging buffer at point `t`. -/
abbrev ms14 (t : Fin cfg0.N) := win0_14.stage (cfg0.slots t 14)
/-- Window 15's staging buffer at point `t`. -/
abbrev ms15 (t : Fin cfg0.N) := win0_15.stage (cfg0.slots t 15)
/-- Window 16's staging buffer at point `t`. -/
abbrev ms16 (t : Fin cfg0.N) := win0_16.stage (cfg0.slots t 16)
/-- Window 17's staging buffer at point `t`. -/
abbrev ms17 (t : Fin cfg0.N) := win0_17.stage (cfg0.slots t 17)
/-- Window 18's staging buffer at point `t`. -/
abbrev ms18 (t : Fin cfg0.N) := win0_18.stage (cfg0.slots t 18)

/-- Scratch buffer 0, whole. -/
abbrev sm0 : Memref sig .tc .vmem S1x1024 .f32 := Memref.whole cc0_scratch0
/-- Scratch buffer 1, whole. -/
abbrev sm1 : Memref sig .tc .vmem S8x1024 .f32 := Memref.whole cc0_scratch1
/-- Scratch buffer 2, whole. -/
abbrev sm2 : Memref sig .tc .vmem S16x1024 .f32 := Memref.whole cc0_scratch2
/-- Scratch buffer 3, whole. -/
abbrev sm3 : Memref sig .tc .vmem S256x1024 .f32 := Memref.whole cc0_scratch3
/-- Scratch buffer 4, whole. -/
abbrev sm4 : Memref sig .tc .vmem S256x1024 .f32 := Memref.whole cc0_scratch4
/-- Scratch buffer 5, whole. -/
abbrev sm5 : Memref sig .tc .vmem S256x1024 .f32 := Memref.whole cc0_scratch5
/-- Scratch buffer 6, whole. -/
abbrev sm6 : Memref sig .tc .vmem S256x1024 .f32 := Memref.whole cc0_scratch6
/-- Scratch buffer 7, whole. -/
abbrev sm7 : Memref sig .tc .vmem S256x1024 .f32 := Memref.whole cc0_scratch7
/-- Scratch buffer 8, whole. -/
abbrev sm8 : Memref sig .tc .vmem S256x1024 .f32 := Memref.whole cc0_scratch8
/-- Scratch buffer 9, whole. -/
abbrev sm9 : Memref sig .tc .vmem S256x1024 .f32 := Memref.whole cc0_scratch9

/-- What the region holds besides its windows: the ten scratch buffers at anything and the generator's register. -/
theorem region_eq (c : Dev nD) :
    (Pipeline.ΦA spec0 c : sProp 𝕄)
      = iprop(iprop((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d) ∗ (∃ d, owns (c : Thread nD τ) sm5 fullShare d) ∗ (∃ d, owns (c : Thread nD τ) sm6 fullShare d) ∗ (∃ d, owns (c : Thread nD τ) sm7 fullShare d) ∗ (∃ d, owns (c : Thread nD τ) sm8 fullShare d) ∗ (∃ d, owns (c : Thread nD τ) sm9 fullShare d)) ∗ (∃ r, prngReg c r)) := by
  unfold Pipeline.ΦA; rw [scopedRest0_eq]; simp only [sm0, sm1, sm2, sm3, sm4, sm5, sm6, sm7, sm8, sm9, owns_whole]; try rfl

/-- The carried rows a step begins with: zero at the first step. -/
def startRows (i : grid0.Coords) (q : Vec F S16x1024 .f32) : Vec F S16x1024 .f32 := open Classical in if atFirst i then k0_pay9 else q
/-- The sums a step begins with. -/
def startSums (i : grid0.Coords) (s : Vec F S16x1024 .f32) : Vec F S16x1024 .f32 := open Classical in if atFirst i then k0_pay3 else s
/-- The weight gradient a step begins with. -/
def startWeight (i : grid0.Coords) (w : Vec F S4x256x256 .f32) : Vec F S4x256x256 .f32 := open Classical in if atFirst i then k0_pay6 else w

theorem start_q (i : grid0.Coords) (y : Carry F) : (y.start i).q = startRows i y.q := by
  unfold Carry.start startRows; split <;> rfl
theorem start_sums (i : grid0.Coords) (y : Carry F) : (y.start i).sums = startSums i y.sums := by
  unfold Carry.start startSums; split <;> rfl
theorem start_dwp (i : grid0.Coords) (y : Carry F) : (y.start i).dwp = startWeight i y.dwp := by
  unfold Carry.start startWeight; split <;> rfl

/-- The input gate's weight gradient a step begins with. -/
def startGate (i : grid0.Coords) (w : Vec F S4x256x256 .f32) : Vec F S4x256x256 .f32 := open Classical in if atFirst i then k0_pay5 else w
theorem start_dwx (i : grid0.Coords) (y : Carry F) : (y.start i).dwx = startGate i y.dwx := by
  unfold Carry.start startGate; split <;> rfl

/-- The grid's first step. -/
theorem first_iff : ∀ t : Fin cfg0.N, atFirst (grid0.coords t) ↔ t.val = 0 := (by decide +kernel : ∀ t : Fin grid0.N, _)

/-- The gradient row handed to point `t`: zero at first, then what the step before hands on. -/
def handedAt (c : Dev nD) : ℕ → Vec F S1x1024 .f32
  | 0 => k0_pay7
  | n + 1 => if h : n < cfg0.N then handedOn (iblk m c 1 ⟨n, h⟩) (iblk m c 2 ⟨n, h⟩) (iblk m c 6 ⟨n, h⟩) (iblk m c 10 ⟨n, h⟩) (iblk m c 11 ⟨n, h⟩) (handedAt c n) else handedAt c n

theorem handedAt_succ (c : Dev nD) (t : Fin cfg0.N) :
    handedAt m c (t.val + 1) = handedOn (iblk m c 1 t) (iblk m c 2 t) (iblk m c 6 t) (iblk m c 10 t) (iblk m c 11 t) (handedAt m c t.val) := dif_pos t.isLt

/-- What the row handed on holds before point `t`: after the first step, that row. -/
def CarriedRow (c : Dev nD) (t : Fin (cfg0.N + 1)) (g : Vec F S1x1024 .f32) : Prop := t.val ≠ 0 → g = handedAt m c t.val

theorem start_g (c : Dev nD) (t : Fin cfg0.N) (y : Carry F) (hy : CarriedRow m c t.castSucc y.g) : (y.start (grid0.coords t)).g = handedAt m c t.val := by
  unfold Carry.start
  by_cases h0 : t.val = 0
  · rw [if_pos ((first_iff t).mpr h0), h0]
    rfl
  · rw [if_neg (fun h => h0 ((first_iff t).mp h))]
    exact hy h0

/-- What the carried rows hold before point `t`: what the step before left. -/
def CarriedRows (c : Dev nD) (t : Fin (cfg0.N + 1)) (q : Vec F S16x1024 .f32) : Prop :=
  ∀ u : Fin cfg0.N, u.val + 1 = t.val → LeavesRows (grid0.coords u) (iblk m c 7 u) (iblk m c 10 u) (iblk m c 13 u) q

/-- What the region holds besides its windows before point `t`: the gradient row handed on and the carried rows of the pooled branch
    at what the step before left, the other scratch buffers at anything, and the generator's register. -/
def region (c : Dev nD) (t : Fin (cfg0.N + 1)) : sProp 𝕄 :=
  iprop(iprop((∃ d, ⌜CarriedRow m c t d⌝ ∗ owns (c : Thread nD τ) sm0 fullShare d) ∗ (∃ d, owns (c : Thread nD τ) sm1 fullShare d) ∗ (∃ d, ⌜CarriedRows m c t d⌝ ∗ owns (c : Thread nD τ) sm2 fullShare d) ∗ (∃ d, owns (c : Thread nD τ) sm3 fullShare d) ∗ (∃ d, owns (c : Thread nD τ) sm4 fullShare d) ∗ (∃ d, owns (c : Thread nD τ) sm5 fullShare d) ∗ (∃ d, owns (c : Thread nD τ) sm6 fullShare d) ∗ (∃ d, owns (c : Thread nD τ) sm7 fullShare d) ∗ (∃ d, owns (c : Thread nD τ) sm8 fullShare d) ∗ (∃ d, owns (c : Thread nD τ) sm9 fullShare d)) ∗ (∃ r, prngReg c r))

/-- The gradient block a step may leave at point `t`. -/
def BlockAt (c : Dev nD) (t : Fin cfg0.N) (d : Vec F S256x5120 .bf16) : Prop :=
  ∃ q, CarriedRows m c t.castSucc q ∧ LeavesBlock (grid0.coords t) (iblk m c 7 t) (iblk m c 8 t) (iblk m c 10 t) (iblk m c 13 t) (startRows (grid0.coords t) q) d

/-- The sums a step may leave at point `t` that found `s`. -/
def SumsAt (c : Dev nD) (t : Fin cfg0.N) (s s' : Vec F S16x1024 .f32) : Prop :=
  LeavesSums (iblk m c 5 t) (iblk m c 7 t) (iblk m c 10 t) (iblk m c 13 t) (startSums (grid0.coords t) s) s'
    ∧ LeavesGateBias (grid0.coords t) (iblk m c 1 t) (iblk m c 2 t) (iblk m c 6 t) (iblk m c 10 t) (iblk m c 11 t) (iblk m c 12 t) (handedAt m c t.val)
      (startSums (grid0.coords t) s) s'

/-- The input gate's weight gradient a step may leave at point `t` that found `w`. -/
def GateAt (c : Dev nD) (t : Fin cfg0.N) (w w' : Vec F S4x256x256 .f32) : Prop :=
  LeavesGateWeight (grid0.coords t) (iblk m c 1 t) (iblk m c 2 t) (iblk m c 6 t) (iblk m c 10 t) (iblk m c 11 t) (iblk m c 12 t) (handedAt m c t.val)
    (startGate (grid0.coords t) w) w'

/-- The weight gradient a step may leave at point `t` that found `w`. -/
def WeightAt (c : Dev nD) (t : Fin cfg0.N) (w w' : Vec F S4x256x256 .f32) : Prop :=
  LeavesWeight (iblk m c 5 t) (iblk m c 7 t) (iblk m c 10 t) (startWeight (grid0.coords t) w) w'

/-- The pipeline's proof data: the inputs' buffers keep their blocks, the outputs are related to what was found in them. -/
def dats (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => BlockAt m c t X
    | ⟨15, _⟩ => fun Y X => SumsAt m c t Y X
    | ⟨16, _⟩ => fun Y X => True
    | ⟨17, _⟩ => fun Y X => GateAt m c t Y X
    | ⟨18, _⟩ => fun Y X => WeightAt m c t Y X
    | ⟨_ + 19, h⟩ => absurd h (Nat.not_lt.2 (Nat.le_add_left _ _))
  Φ t := region m c t
  q w := Pipeline.shareOf spec0 w
  owed _ := 0

theorem A_eq (c : Dev nD) (w : Fin cfg0.W) : (dats m c).A w = V m c (Pipeline.arrRef spec0 w) := by
  dsimp only [dats]

theorem found1 (c : Dev nD) (t : Fin cfg0.N) (Y) (h : (dats m c).Finds 1 t Y) : Y = iblk m c 1 t := by
  obtain ⟨d, rfl⟩ := (dats m c).finds_in_eq_fetched 1 rfl (fun _ _ _ => rfl) (fun _ _ _ h => h) t Y h
  unfold Pipeline.RDat.fetched Pipeline.RDat.blockOf iblk
  rw [A_eq]; try rfl
theorem found2 (c : Dev nD) (t : Fin cfg0.N) (Y) (h : (dats m c).Finds 2 t Y) : Y = iblk m c 2 t := by
  obtain ⟨d, rfl⟩ := (dats m c).finds_in_eq_fetched 2 rfl (fun _ _ _ => rfl) (fun _ _ _ h => h) t Y h
  unfold Pipeline.RDat.fetched Pipeline.RDat.blockOf iblk
  rw [A_eq]; try rfl
theorem found6 (c : Dev nD) (t : Fin cfg0.N) (Y) (h : (dats m c).Finds 6 t Y) : Y = iblk m c 6 t := by
  obtain ⟨d, rfl⟩ := (dats m c).finds_in_eq_fetched 6 rfl (fun _ _ _ => rfl) (fun _ _ _ h => h) t Y h
  unfold Pipeline.RDat.fetched Pipeline.RDat.blockOf iblk
  rw [A_eq]; try rfl
theorem found11 (c : Dev nD) (t : Fin cfg0.N) (Y) (h : (dats m c).Finds 11 t Y) : Y = iblk m c 11 t := by
  obtain ⟨d, rfl⟩ := (dats m c).finds_in_eq_fetched 11 rfl (fun _ _ _ => rfl) (fun _ _ _ h => h) t Y h
  unfold Pipeline.RDat.fetched Pipeline.RDat.blockOf iblk
  rw [A_eq]; try rfl
theorem found12 (c : Dev nD) (t : Fin cfg0.N) (Y) (h : (dats m c).Finds 12 t Y) : Y = iblk m c 12 t := by
  obtain ⟨d, rfl⟩ := (dats m c).finds_in_eq_fetched 12 rfl (fun _ _ _ => rfl) (fun _ _ _ h => h) t Y h
  unfold Pipeline.RDat.fetched Pipeline.RDat.blockOf iblk
  rw [A_eq]; try rfl
theorem found5 (c : Dev nD) (t : Fin cfg0.N) (Y) (h : (dats m c).Finds 5 t Y) : Y = iblk m c 5 t := by
  obtain ⟨d, rfl⟩ := (dats m c).finds_in_eq_fetched 5 rfl (fun _ _ _ => rfl) (fun _ _ _ h => h) t Y h
  unfold Pipeline.RDat.fetched Pipeline.RDat.blockOf iblk
  rw [A_eq]; try rfl
theorem found7 (c : Dev nD) (t : Fin cfg0.N) (Y) (h : (dats m c).Finds 7 t Y) : Y = iblk m c 7 t := by
  obtain ⟨d, rfl⟩ := (dats m c).finds_in_eq_fetched 7 rfl (fun _ _ _ => rfl) (fun _ _ _ h => h) t Y h
  unfold Pipeline.RDat.fetched Pipeline.RDat.blockOf iblk
  rw [A_eq]; try rfl
theorem found8 (c : Dev nD) (t : Fin cfg0.N) (Y) (h : (dats m c).Finds 8 t Y) : Y = iblk m c 8 t := by
  obtain ⟨d, rfl⟩ := (dats m c).finds_in_eq_fetched 8 rfl (fun _ _ _ => rfl) (fun _ _ _ h => h) t Y h
  unfold Pipeline.RDat.fetched Pipeline.RDat.blockOf iblk
  rw [A_eq]; try rfl
theorem found10 (c : Dev nD) (t : Fin cfg0.N) (Y) (h : (dats m c).Finds 10 t Y) : Y = iblk m c 10 t := by
  obtain ⟨d, rfl⟩ := (dats m c).finds_in_eq_fetched 10 rfl (fun _ _ _ => rfl) (fun _ _ _ h => h) t Y h
  unfold Pipeline.RDat.fetched Pipeline.RDat.blockOf iblk
  rw [A_eq]; try rfl
theorem found13 (c : Dev nD) (t : Fin cfg0.N) (Y) (h : (dats m c).Finds 13 t Y) : Y = iblk m c 13 t := by
  obtain ⟨d, rfl⟩ := (dats m c).finds_in_eq_fetched 13 rfl (fun _ _ _ => rfl) (fun _ _ _ h => h) t Y h
  unfold Pipeline.RDat.fetched Pipeline.RDat.blockOf iblk
  rw [A_eq]; try rfl

variable (Y : (w : Fin cfg0.W) → (cfg0.win w).block.Idx → Elt F (cfg0.win w).elt)

/-- What the body is handed at point `t`. -/
def bodyPre (c : Dev nD) (t : Fin cfg0.N) : sProp 𝕄 :=
  iprop(region m c t.castSucc ∗ (dats m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9)
    ∗ owns (c : Thread nD τ) (ms10 t) fullShare (Y 10)
    ∗ owns (c : Thread nD τ) (ms11 t) fullShare (Y 11)
    ∗ owns (c : Thread nD τ) (ms12 t) fullShare (Y 12)
    ∗ owns (c : Thread nD τ) (ms13 t) fullShare (Y 13)
    ∗ owns (c : Thread nD τ) (ms14 t) fullShare (Y 14)
    ∗ owns (c : Thread nD τ) (ms15 t) fullShare (Y 15)
    ∗ owns (c : Thread nD τ) (ms16 t) fullShare (Y 16)
    ∗ owns (c : Thread nD τ) (ms17 t) fullShare (Y 17)
    ∗ owns (c : Thread nD τ) (ms18 t) fullShare (Y 18))

/-- What it hands back. -/
def bodyPost (c : Dev nD) (t : Fin cfg0.N) : sProp 𝕄 :=
  iprop(region m c t.succ ∗ (dats m c).owesAt () t.succ
    ∗ (∃ X, ⌜X = Y 0⌝ ∗ owns (c : Thread nD τ) (ms0 t) fullShare X)
    ∗ (∃ X, ⌜X = Y 1⌝ ∗ owns (c : Thread nD τ) (ms1 t) fullShare X)
    ∗ (∃ X, ⌜X = Y 2⌝ ∗ owns (c : Thread nD τ) (ms2 t) fullShare X)
    ∗ (∃ X, ⌜X = Y 3⌝ ∗ owns (c : Thread nD τ) (ms3 t) fullShare X)
    ∗ (∃ X, ⌜X = Y 4⌝ ∗ owns (c : Thread nD τ) (ms4 t) fullShare X)
    ∗ (∃ X, ⌜X = Y 5⌝ ∗ owns (c : Thread nD τ) (ms5 t) fullShare X)
    ∗ (∃ X, ⌜X = Y 6⌝ ∗ owns (c : Thread nD τ) (ms6 t) fullShare X)
    ∗ (∃ X, ⌜X = Y 7⌝ ∗ owns (c : Thread nD τ) (ms7 t) fullShare X)
    ∗ (∃ X, ⌜X = Y 8⌝ ∗ owns (c : Thread nD τ) (ms8 t) fullShare X)
    ∗ (∃ X, ⌜X = Y 9⌝ ∗ owns (c : Thread nD τ) (ms9 t) fullShare X)
    ∗ (∃ X, ⌜X = Y 10⌝ ∗ owns (c : Thread nD τ) (ms10 t) fullShare X)
    ∗ (∃ X, ⌜X = Y 11⌝ ∗ owns (c : Thread nD τ) (ms11 t) fullShare X)
    ∗ (∃ X, ⌜X = Y 12⌝ ∗ owns (c : Thread nD τ) (ms12 t) fullShare X)
    ∗ (∃ X, ⌜X = Y 13⌝ ∗ owns (c : Thread nD τ) (ms13 t) fullShare X)
    ∗ (∃ X, ⌜BlockAt m c t X⌝ ∗ owns (c : Thread nD τ) (ms14 t) fullShare X)
    ∗ (∃ X, ⌜SumsAt m c t (Y 15) X⌝ ∗ owns (c : Thread nD τ) (ms15 t) fullShare X)
    ∗ (∃ X, ⌜True⌝ ∗ owns (c : Thread nD τ) (ms16 t) fullShare X)
    ∗ (∃ X, ⌜GateAt m c t (Y 17) X⌝ ∗ owns (c : Thread nD τ) (ms17 t) fullShare X)
    ∗ (∃ X, ⌜WeightAt m c t (Y 18) X⌝ ∗ owns (c : Thread nD τ) (ms18 t) fullShare X))

/-- What a buffer holds, with a fact about it. -/
theorem owns_with {sp : Space} {S : Shape} {e : EltTy} {c : Dev nD} {r : Memref sig .tc sp S e} {P : (S.Idx → Elt F e) → Prop} {d : S.Idx → Elt F e} (h : P d) :
    owns (c : Thread nD τ) r fullShare d ⊢ (iprop(∃ X, ⌜P X⌝ ∗ owns (c : Thread nD τ) r fullShare X) : sProp 𝕄) := by
  iintro H
  iexists _; isplitr; swap; · iexact H
  ipureintro; exact h

set_option maxHeartbeats 8000000 in
/-- The body at any point: its run on the point's buffers. -/
theorem sound_body (c : Dev nD) (t : Fin cfg0.N) (h5 : Y 5 = iblk m c 5 t) (h7 : Y 7 = iblk m c 7 t) (h8 : Y 8 = iblk m c 8 t)
    (h10 : Y 10 = iblk m c 10 t) (h13 : Y 13 = iblk m c 13 t) (h1 : Y 1 = iblk m c 1 t) (h2 : Y 2 = iblk m c 2 t) (h6 : Y 6 = iblk m c 6 t)
    (h11 : Y 11 = iblk m c 11 t) (h12 : Y 12 = iblk m c 12 t) :
    bodyPre m Y c t ⊢ wp frame (wpE (defs₀ (F := F)) Variants.none c none) Set.univ (bodyAt0 t) (fun _ => bodyPost m Y c t) := by
  unfold bodyPre bodyPost bodyAt0
  rw [show (dats m c).owesAt () t.succ = (dats m c).owesAt () t.castSucc from rfl]
  unfold region
  iintro ⟨⟨⟨⟨%e0, %he0, S0⟩, ⟨%e1, S1⟩, ⟨%e2, %he2, S2⟩, S3, S4, S5, S6, S7, S8, S9⟩, Hg⟩, Ho, H0, H1, H2, H3, H4, H5, H6, H7, H8, H9, H10, H11, H12, H13, H14, H15, H16, H17, H18⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) Set.univ _ ⟨Y 15, Y 16, Y 17, Y 18, e0, e1, e2⟩)
  unfold inputsOwned Carry.owned livingLeft scratchOwned
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [H15 H16 H17 H18 S0 S1 S2]
  · isplitl [H15]; · iexact H15
    isplitl [H16]; · iexact H16
    isplitl [H17]; · iexact H17
    isplitl [H18]; · iexact H18
    isplitl [S0]; · iexact S0
    isplitl [S1]; · iexact S1
    iexact S2
  isplitl [S3 S4 S5 S6 S7 S8 S9]
  · isplitl [S3]; · iexact S3
    isplitl [S4]; · iexact S4
    isplitl [S5]; · iexact S5
    isplitl [S6]; · iexact S6
    isplitl [S7]; · iexact S7
    isplitl [S8]; · iexact S8
    iexact S9
  iintro ⟨⟨H0, H1, H2, H3, H4, H5, H6, H7, H8, H9, H10, H11, H12, H13⟩, ⟨%d14, %h14, H14⟩, ⟨⟨%d15, %h15, H15⟩, ⟨%d16, H16⟩, ⟨%d17, %h17, H17⟩, ⟨%d18, %h18, H18⟩, ⟨%d0, %h0, S0⟩, S1, ⟨%d2, %hd2, S2⟩⟩, ⟨S3, S4, S5, S6, S7, S8, S9⟩⟩
  rw [start_q, h7, h8, h10, h13] at h14
  have hg := start_g m c t ⟨Y 15, Y 16, Y 17, Y 18, e0, e1, e2⟩ he0
  rw [hg, start_sums, h5, h7, h10, h13, h1, h2, h6, h11, h12] at h15
  rw [hg, start_dwx, h1, h2, h6, h10, h11, h12] at h17
  rw [start_dwp, h5, h7, h10] at h18
  rw [hg, h1, h2, h6, h10, h11, ← handedAt_succ] at h0
  rw [h7, h10, h13] at hd2
  isplitl [Hg S0 S1 S2 S3 S4 S5 S6 S7 S8 S9]
  · isplitr [Hg]
    · isplitl [S0]
      · iexists _; isplitr; swap; · iexact S0
        ipureintro
        exact fun _ => h0
      isplitl [S1]; · iexact S1
      isplitl [S2]
      · iexists _; isplitr; swap; · iexact S2
        ipureintro
        intro u hu
        obtain rfl : u = t := Fin.ext (by have := hu; simp only [Fin.val_succ] at this; omega)
        exact hd2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iapply (owns_with (P := fun X => X = Y 0) rfl); iexact H0
  isplitl [H1]; · iapply (owns_with (P := fun X => X = Y 1) rfl); iexact H1
  isplitl [H2]; · iapply (owns_with (P := fun X => X = Y 2) rfl); iexact H2
  isplitl [H3]; · iapply (owns_with (P := fun X => X = Y 3) rfl); iexact H3
  isplitl [H4]; · iapply (owns_with (P := fun X => X = Y 4) rfl); iexact H4
  isplitl [H5]; · iapply (owns_with (P := fun X => X = Y 5) rfl); iexact H5
  isplitl [H6]; · iapply (owns_with (P := fun X => X = Y 6) rfl); iexact H6
  isplitl [H7]; · iapply (owns_with (P := fun X => X = Y 7) rfl); iexact H7
  isplitl [H8]; · iapply (owns_with (P := fun X => X = Y 8) rfl); iexact H8
  isplitl [H9]; · iapply (owns_with (P := fun X => X = Y 9) rfl); iexact H9
  isplitl [H10]; · iapply (owns_with (P := fun X => X = Y 10) rfl); iexact H10
  isplitl [H11]; · iapply (owns_with (P := fun X => X = Y 11) rfl); iexact H11
  isplitl [H12]; · iapply (owns_with (P := fun X => X = Y 12) rfl); iexact H12
  isplitl [H13]; · iapply (owns_with (P := fun X => X = Y 13) rfl); iexact H13
  isplitl [H14]; · iapply (owns_with (P := fun X => BlockAt m c t X) ⟨e2, he2, h14⟩); iexact H14
  isplitl [H15]; · iapply (owns_with (P := fun X => SumsAt m c t (Y 15) X) h15); iexact H15
  isplitl [H16]; · iapply (owns_with (P := fun X => True) trivial); iexact H16
  isplitl [H17]; · iapply (owns_with (P := fun X => GateAt m c t (Y 17) X) h17); iexact H17
  iapply (owns_with (P := fun X => WeightAt m c t (Y 18) X) h18); iexact H18

/-- The body table's row at point `t` is the body on the point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (dats (F := F) m c).BodyObligation (defs₀ (F := F)) Variants.none () Set.univ := fun t Y hY => by
  rw [bigSep_W0, bigSep_W0, defs₀_row]
  exact triple_restated (sound_body m Y c t (found5 m c t _ (hY 5)) (found7 m c t _ (hY 7)) (found8 m c t _ (hY 8)) (found10 m c t _ (hY 10)) (found13 m c t _ (hY 13))
    (found1 m c t _ (hY 1)) (found2 m c t _ (hY 2)) (found6 m c t _ (hY 6)) (found11 m c t _ (hY 11)) (found12 m c t _ (hY 12))) rfl .rfl fun _ => .rfl

theorem region_in (c : Dev nD) : (Pipeline.ΦA spec0 c : sProp 𝕄) ⊢ region m c 0 := by
  rw [region_eq]; unfold region
  iintro ⟨⟨⟨%d0, S0⟩, S1, ⟨%d, S2⟩, Sr⟩, Hg⟩
  isplitl [S0 S1 S2 Sr]
  · isplitl [S0]
    · iexists _; isplitr; swap; · iexact S0
      ipureintro
      exact fun h => absurd rfl h
    isplitl [S1]; · iexact S1
    isplitl [S2]
    · iexists _; isplitr; swap; · iexact S2
      ipureintro
      intro u hu
      exact absurd hu (Nat.succ_ne_zero _)
    iexact Sr
  iexact Hg

theorem region_out (c : Dev nD) (t : Fin (cfg0.N + 1)) : region m c t ⊢ (Pipeline.ΦA spec0 c : sProp 𝕄) := by
  rw [region_eq]; unfold region
  iintro ⟨⟨⟨%d0, -, S0⟩, S1, ⟨%d, -, S2⟩, Sr⟩, Hg⟩
  isplitl [S0 S1 S2 Sr]
  · isplitl [S0]
    · iexists _; iexact S0
    isplitl [S1]; · iexact S1
    isplitl [S2]
    · iexists _; iexact S2
    iexact Sr
  iexact Hg

set_option backward.isDefEq.respectTransparency.types false in
/-- The launch: every fair execution ends, with each array at something the proof data allow and every semaphore at zero. -/
theorem run_main : θ_run defs (onTc (τ := τ) (main (F := F))) (s₀ m ρ)
    (fun r => (Pipeline.RDat.FramePost (cfgs 0) (fun c => dats m c) (V m)) r ∧ r.2.sem = fun _ => 0) :=
  Pipeline.RDat.θ_run_frame_track_shared (Q' := _) cfgs (0 : Fin 1) launch₀0 defs₀ Variants.none (fun c => dats m c) m ρ main
    (hbody := fun c => body_obligation m c) (hq := fun _ _ _ => rfl)
    (howed := fun _ _ => rfl) (V := V m) (hmain := hmain m Variants.none) (hA := A_eq m) (hin := region_in m) (hout := fun c => region_out m c _)

/-- What a run keeps: every argument of the program. -/
abbrev Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)

/-- A run that ends as the frame says keeps the arguments. -/
theorem kept (r : PUnit × MemSt nD τ sig (Elt F)) (h : Pipeline.RDat.FramePost (cfgs 0) (fun c => dats m c) (V m) r) (c : Dev nD) : Kept m r c :=
  ⟨(Pipeline.RDat.FramePost.arr_in h c 1 rfl).trans ((A_eq m c 1).trans (V_main_arg0 m c)),
    (Pipeline.RDat.FramePost.arr_in h c 9 rfl).trans ((A_eq m c 9).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- The frame, over any values: the arguments end as they were and no semaphore is left raised. -/
theorem frame_any : θ_run defs (onTc (τ := τ) (main (F := F))) ⟨m, fun _ => 0, ρ⟩ (fun r => (∀ c : Dev nD, Kept m r c) ∧ r.2.sem = fun _ => 0) :=
  (θ_run defs _ _).mono (fun r h => ⟨fun c => kept m r h.1 c, h.2⟩) (run_main m ρ)

end Cert.Kernel2Ideal.SeqBackward

end
-- ==== Proof.SeqBackward.Claims.lean ====
/- The two frames claimed of the backward pass of the recurrence. The printed program and the idealized one are the same
   text, so both are the frame over any values. -/
module

public import proofs.«01_k».proof.Defs
public import proofs.«01_k».proof.Proof.Gen.Kernel2
public import proofs.«01_k».proof.Proof.SeqBackward.Frame

@[expose] public section

set_option maxRecDepth 16384
set_option maxHeartbeats 4000000

noncomputable section

namespace Cert.Kernel2Ideal.SeqBackward

open Idealize.ShloMosaic Idealize.SL.Sem

/-- The frame of the idealized program. -/
theorem frame_ideal : Cert.quiescent_Kernel2Ideal (hKernel2Ideal := Cert.Kernel2Ideal.Gen.facts) :=
  fun m ρ _ => frame_any m ρ

/-- The frame of the printed program. -/
theorem frame_bits : Cert.quiescent_Kernel2 (hKernel2 := Cert.Kernel2.Gen.facts) :=
  fun m ρ _ => cast (by sl_kernel_rfl) (frame_any (F := Bits) m ρ)

end Cert.Kernel2Ideal.SeqBackward

end
-- ==== Proof.SeqBackward.Entry.lean ====
/- The arrays the backward pass of the recurrence is given, of those read here: the saved window mean, the convolved rows, the
   two branches' cotangents, the weights and the stacked parameters. The window mean and the convolved rows are the reference's own. -/
module

public import proofs.«01_k».proof.Proof.SeqBackward.Formula
public import proofs.«01_k».proof.Proof.Norm.Finite
public import proofs.«01_k».proof.Proof.Gen.Reference2Ideal.Read

@[expose] public section

set_option maxRecDepth 16384
set_option maxHeartbeats 4000000

noncomputable section

namespace Cert.Kernel2Ideal.SeqBackward

open Idealize.ShloMosaic Idealize.ShloMosaic.TcCoe
open Idealize.SL Idealize.SL.Sem
open Cert.Kernel2Ideal.Gen

variable (m : (ℓ : Loc nD τ sig) → Buf (Elt Ideal) ℓ)

/-- The cotangent of the branch. -/
theorem entry_dpooled (c : Dev nD) : @Eq (Vec Ideal S4096x1024 .bf16) (V m c main_v339)
    (truncf (F := Ideal) (s := S4096x1024) .bf16 (φ := .f32) (m ((c : Thread nD τ).loc main_arg12)) bitsLt_bf16_f32) := by
  simp only [V, List.flatten_cons, List.flatten_nil, List.append_nil, List.cons_append, List.nil_append]
  after_results
  try rfl

/-- The gates' gradient. -/
theorem entry_gates (c : Dev nD) : @Eq (Vec Ideal S4096x2048 .bf16) (V m c main_v340)
    (truncf (F := Ideal) (s := S4096x2048) .bf16 (φ := .f32) (m ((c : Thread nD τ).loc main_arg13)) bitsLt_bf16_f32) := by
  simp only [V, List.flatten_cons, List.flatten_nil, List.append_nil, List.cons_append, List.nil_append]
  after_results
  try rfl

/-- The branch's weights. -/
theorem entry_weights (c : Dev nD) : @Eq (Vec Ideal S4x256x256 .bf16) (V m c main_v343)
    (truncf (F := Ideal) (s := S4x256x256) .bf16 (φ := .f32) (m ((c : Thread nD τ).loc main_arg8)) bitsLt_bf16_f32) := by
  simp only [V, List.flatten_cons, List.flatten_nil, List.append_nil, List.cons_append, List.nil_append]
  after_results
  try rfl

/-- The parameters, stacked. -/
theorem entry_params (c : Dev nD) : @Eq (Vec Ideal S8x1024 .f32) (V m c main_v9)
    (stacked (m ((c : Thread nD τ).loc main_arg2)) (m ((c : Thread nD τ).loc main_arg4)) (m ((c : Thread nD τ).loc main_arg6))
      (m ((c : Thread nD τ).loc main_arg7)) (m ((c : Thread nD τ).loc main_arg9)) (m ((c : Thread nD τ).loc main_arg10))) := by
  simp only [V, List.flatten_cons, List.flatten_nil, List.append_nil, List.cons_append, List.nil_append]
  after_results
  try rfl

/-- The saved window mean. -/
theorem entry_mean (c : Dev nD) : @Eq (Vec Ideal S4096x1024 .bf16) (V m c main_v337)
    (truncf (F := Ideal) (s := S4096x1024) .bf16 (φ := .f32) (Cert.Reference2Ideal.Read.val_main_v60 (F := Ideal) (m ((c : Thread nD τ).loc main_arg0))) bitsLt_bf16_f32) := by
  simp only [V, List.flatten_cons, List.flatten_nil, List.append_nil, List.cons_append, List.nil_append]
  after_results
  try rfl

/-- The cotangent of the scanned branch. -/
theorem entry_dga (c : Dev nD) : @Eq (Vec Ideal S4096x1024 .bf16) (V m c main_v338)
    (truncf (F := Ideal) (s := S4096x1024) .bf16 (φ := .f32) (m ((c : Thread nD τ).loc main_arg11)) bitsLt_bf16_f32) := by
  simp only [V, List.flatten_cons, List.flatten_nil, List.append_nil, List.cons_append, List.nil_append]
  after_results
  try rfl

/-- The decay gate's weights. -/
theorem entry_decay_weights (c : Dev nD) : @Eq (Vec Ideal S4x256x256 .bf16) (V m c main_v341)
    (truncf (F := Ideal) (s := S4x256x256) .bf16 (φ := .f32) (m ((c : Thread nD τ).loc main_arg3)) bitsLt_bf16_f32) := by
  simp only [V, List.flatten_cons, List.flatten_nil, List.append_nil, List.cons_append, List.nil_append]
  after_results
  try rfl

/-- The input gate's weights. -/
theorem entry_input_weights (c : Dev nD) : @Eq (Vec Ideal S4x256x256 .bf16) (V m c main_v342)
    (truncf (F := Ideal) (s := S4x256x256) .bf16 (φ := .f32) (m ((c : Thread nD τ).loc main_arg5)) bitsLt_bf16_f32) := by
  simp only [V, List.flatten_cons, List.flatten_nil, List.append_nil, List.cons_append, List.nil_append]
  after_results
  try rfl

/-- The projections. -/
theorem entry_proj (c : Dev nD) : @Eq (Vec Ideal S4096x5120 .f32) (V m c main_arg0) (m ((c : Thread nD τ).loc main_arg0)) := by
  simp only [V, List.flatten_cons, List.flatten_nil, List.append_nil, List.cons_append, List.nil_append]
  after_results
  try rfl

/-- The convolved rows. -/
theorem entry_convolved (c : Dev nD) : @Eq (Vec Ideal S4096x1024 .f32) (V m c main_v42)
    (Cert.Reference2Ideal.Read.val_main_v170 (F := Ideal) (m ((c : Thread nD τ).loc main_arg0)) (m ((c : Thread nD τ).loc main_arg1)) (m ((c : Thread nD τ).loc main_arg2))) := by
  simp only [V, List.flatten_cons, List.flatten_nil, List.append_nil, List.cons_append, List.nil_append]
  after_results
  try rfl

end Cert.Kernel2Ideal.SeqBackward

end
-- ==== Proof.SeqBackward.Arrays.lean ====
/- What the backward pass of the recurrence leaves of its pooled branch when the launch has ended: step by step from the last
   rows to the first, each block of 256 rows with the quotients of the sixteen rows that follow it, the sums and the weight
   gradient over all rows. -/
module

public import proofs.«01_k».proof.Proof.SeqBackward.Frame
public import proofs.«01_k».proof.Proof.SeqBackward.Formula
public import proofs.«01_k».proof.Proof.Norm.Sums
public import Idealize.ShloMosaic.Lib.Pipeline.ArrRel

@[expose] public section

set_option maxRecDepth 16384
set_option maxHeartbeats 2000000

noncomputable section

namespace Cert.Kernel2Ideal.SeqBackward

open Idealize.ShloMosaic Idealize.ShloMosaic.TcCoe
open Idealize.SL Idealize.SL.Sem
open Cert.Kernel2Ideal Cert.Kernel2Ideal.Gen

variable (m : (ℓ : Loc nD τ sig) → Buf (Elt Ideal) ℓ) (c : Dev nD)

/-! ### Blocks -/

theorem coord_val : ∀ t : Fin cfg0.N, ((grid0.coords t) 0).val = t.val := (by decide +kernel : ∀ t : Fin grid0.N, _)

/-- The block each window reads or writes at point `t`: the row arrays' blocks go from the last to the first. -/
theorem index0 : ∀ t : Fin cfg0.N, (win0_5.index t (0 : Fin 2) = 15 - t.val ∧ win0_5.index t (1 : Fin 2) = 0)
    ∧ (win0_7.index t (0 : Fin 2) = 15 - t.val ∧ win0_7.index t (1 : Fin 2) = 0)
    ∧ (win0_8.index t (0 : Fin 2) = 15 - t.val ∧ win0_8.index t (1 : Fin 2) = 0)
    ∧ (win0_10.index t (0 : Fin 2) = 0 ∧ win0_10.index t (1 : Fin 2) = 0)
    ∧ (win0_13.index t (0 : Fin 3) = 0 ∧ win0_13.index t (1 : Fin 3) = 0 ∧ win0_13.index t (2 : Fin 3) = 0)
    ∧ (win0_14.index t (0 : Fin 2) = 15 - t.val ∧ win0_14.index t (1 : Fin 2) = 0)
    ∧ (win0_15.index t (0 : Fin 2) = 0 ∧ win0_15.index t (1 : Fin 2) = 0)
    ∧ (win0_18.index t (0 : Fin 3) = 0 ∧ win0_18.index t (1 : Fin 3) = 0 ∧ win0_18.index t (2 : Fin 3) = 0) :=
  (by decide +kernel : ∀ t : Fin grid0.N, _)

/-- Row `r` of the block of point `t`, among all the rows. -/
def rowAt (t : Fin cfg0.N) (r : Fin 256) : Fin 4096 := ⟨256 * (15 - t.val) + r.val, by have : t.val < 16 := t.isLt; omega⟩

theorem blk_mean (t : Fin cfg0.N) (r : Fin 256) (j : Fin 1024) : @Eq EReal (iblk m c 5 t (ix2 r j)) (V m c main_v337 (ix2 (rowAt t r) j)) := by
  obtain ⟨⟨a0, a1⟩, _⟩ := index0 t
  reads_congr
  all_goals blk_ext! [iblk, a0, a1, rowAt]
  all_goals omega
theorem blk_dpooled (t : Fin cfg0.N) (r : Fin 256) (j : Fin 1024) : @Eq EReal (iblk m c 7 t (ix2 r j)) (V m c main_v339 (ix2 (rowAt t r) j)) := by
  obtain ⟨_, ⟨a0, a1⟩, _⟩ := index0 t
  reads_congr
  all_goals blk_ext! [iblk, a0, a1, rowAt]
  all_goals omega
theorem blk_gates (t : Fin cfg0.N) (r : Fin 256) (j : Fin 2048) : @Eq EReal (iblk m c 8 t (ix2 r j)) (V m c main_v340 (ix2 (rowAt t r) j)) := by
  obtain ⟨_, _, ⟨a0, a1⟩, _⟩ := index0 t
  reads_congr
  all_goals blk_ext! [iblk, a0, a1, rowAt]
  all_goals omega
theorem blk_params (t : Fin cfg0.N) : @Eq (Vec Ideal S8x1024 .f32) (iblk m c 10 t) (V m c main_v9) := by
  obtain ⟨_, _, _, ⟨a0, a1⟩, _⟩ := index0 t
  funext y
  reads_congr
  all_goals blk_ext! [iblk, a0, a1]
theorem blk_weights (t : Fin cfg0.N) : @Eq (Vec Ideal S4x256x256 .bf16) (iblk m c 13 t) (V m c main_v343) := by
  obtain ⟨_, _, _, _, ⟨a0, a1, a2⟩, _⟩ := index0 t
  funext y
  reads_congr
  all_goals blk_ext! [iblk, a0, a1, a2]

/-! ### The branch's gradients over all the rows -/

section Whole

variable (P D : Vec Ideal S4096x1024 .bf16) (W : Vec Ideal S4x256x256 .bf16) (B : Vec Ideal S8x1024 .f32)

/-- The gradient of the mean: the cotangent, scaled, times the transposed weights. -/
def meanArr (g : Fin 4) (s : Fin 4096) (l : Fin 256) : EReal := ∑ k : Fin 256, (D (ix2 s (lane g k)) * B (ix2 5 (lane g k))) * W (ix3 g l k)

/-- That gradient over the number of rows in each window, nothing past the last row. -/
def quotArr (g : Fin 4) (l : Fin 256) (n : ℕ) : EReal := if h : n < 4096 then Ideal.div (meanArr D W B g ⟨n, h⟩ l) (rowsIn g n) else 0

/-- The gradient of the branch's rows. -/
def poolArr (g : Fin 4) (s : Fin 4096) (l : Fin 256) : EReal := (∑ k ∈ Finset.range (wide g), quotArr D W B g l (s.val + k)) - meanArr D W B g s l

/-- The bias's gradient. -/
def biasArr (g : Fin 4) (l : Fin 256) : EReal := ∑ s : Fin 4096, D (ix2 s (lane g l)) * B (ix2 5 (lane g l))

/-- The scale's gradient. -/
def scaleArr (g : Fin 4) (l : Fin 256) : EReal :=
  ∑ s : Fin 4096, D (ix2 s (lane g l)) * ((∑ k : Fin 256, P (ix2 s (lane g k)) * W (ix3 g k l)) + B (ix2 4 (lane g l)))

/-- The weights' gradient. -/
def weightArr (g : Fin 4) (a b : Fin 256) : EReal := ∑ s : Fin 4096, P (ix2 s (lane g a)) * (D (ix2 s (lane g b)) * B (ix2 5 (lane g b)))

end Whole

/-- Sixteen blocks of 256 rows, taken from the last to the first, are all the rows. -/
theorem sum_steps (f : Fin 4096 → EReal) : ∑ u ∈ Finset.range 16, (if h : u < 16 then ∑ r : Fin 256, f (rowAt ⟨u, h⟩ r) else 0) = ∑ s : Fin 4096, f s := by
  rw [Finset.sum_range]
  simp only [Fin.is_lt, dif_pos]
  rw [← Equiv.sum_comp Fin.revPerm]
  rw [← Fintype.sum_prod_type']
  refine Fintype.sum_equiv finProdFinEquiv _ _ fun x => congrArg f (Fin.ext ?_)
  simp [rowAt, finProdFinEquiv, Fin.revPerm]
  have := x.1.isLt
  omega

/-! ### One step, in terms of the arrays -/

/-- The arrays the branch reads: the saved window mean, the cotangent, the weights, the parameters. -/
abbrev meansOf : Vec Ideal S4096x1024 .bf16 := V m c main_v337
abbrev cotOf : Vec Ideal S4096x1024 .bf16 := V m c main_v339
abbrev weightsOf : Vec Ideal S4x256x256 .bf16 := V m c main_v343
abbrev paramsOf : Vec Ideal S8x1024 .f32 := V m c main_v9

variable (t : Fin cfg0.N)

theorem step_mean (g : Fin 4) (s l : Fin 256) :
    meanGrad (lanes (iblk m c 7 t) g) (param (iblk m c 10 t) 5 g) (panel (iblk m c 13 t) g) (ix2 s l) = meanArr (cotOf m c) (weightsOf m c) (paramsOf m c) g (rowAt t s) l := by
  rw [meanGrad_apply]
  unfold meanArr
  refine Finset.sum_congr rfl fun k _ => congrArg₂ _ (congrArg₂ _ (blk_dpooled m c t s (lane g k)) ?_) ?_
  · exact congrFun (blk_params m c t) _
  · exact congrFun (blk_weights m c t) _

theorem step_quotient (g : Fin 4) (s l : Fin 256) :
    quotient (grid0.coords t) g (lanes (iblk m c 7 t) g) (param (iblk m c 10 t) 5 g) (panel (iblk m c 13 t) g) (ix2 s l)
      = quotArr (cotOf m c) (weightsOf m c) (paramsOf m c) g l (256 * (15 - t.val) + s.val) := by
  have ht : t.val < 16 := t.isLt
  rw [quotient_apply _ _ _ _ (by rw [coord_val]; exact ht), step_mean, coord_val]
  unfold quotArr
  rw [dif_pos (by omega)]
  rfl

/-- The carried rows hold the quotients of the sixteen rows after the block, zero after the last. -/
theorem carried_rows (q : Vec Ideal S16x1024 .f32) (hq : CarriedRows m c t.castSucc q) (g : Fin 4) (r : Fin 16) (l : Fin 256) :
    startRows (grid0.coords t) q (ix2 r (lane g l)) = quotArr (cotOf m c) (weightsOf m c) (paramsOf m c) g l (256 * (15 - t.val) + (256 + r.val)) := by
  have ht : t.val < 16 := t.isLt
  unfold startRows
  by_cases h0 : t.val = 0
  · rw [if_pos ((first_iff t).mpr h0), zero_rows]
    unfold quotArr
    rw [dif_neg (by omega)]
  · rw [if_neg (fun h => h0 ((first_iff t).mp h))]
    have e := hq ⟨t.val - 1, lt_of_le_of_lt (Nat.sub_le _ _) t.isLt⟩ (by show t.val - 1 + 1 = t.val; omega) g r l
    rw [e, kept_apply, step_quotient]
    refine congrArg _ ?_
    show 256 * (15 - (t.val - 1)) + r.val = _
    omega

theorem wide_le : ∀ g : Fin 4, wide g ≤ 16 := by decide

/-- The gradient block a step leaves. -/
theorem step_block (d : Vec Ideal S256x5120 .bf16) (hd : BlockAt m c t d) (s : Fin 256) :
    (∀ (g : Fin 4) (l : Fin 256), d (ix2 s (poolCol g l)) = poolArr (cotOf m c) (weightsOf m c) (paramsOf m c) g (rowAt t s) l)
      ∧ ∀ l : Fin 2048, d (ix2 s (gateCol l)) = V m c main_v340 (ix2 (rowAt t s) l) := by
  obtain ⟨q, hq, hp, hg⟩ := hd
  refine ⟨fun g l => ?_, fun l => ?_⟩
  · rw [hp g s l, poolGrad_apply, step_mean]
    unfold poolArr
    refine congrArg (· - _) (Finset.sum_congr rfl fun k hk => ?_)
    have hk' : k < 16 := lt_of_lt_of_le (Finset.mem_range.mp hk) (wide_le g)
    unfold rowN
    rw [dif_pos (by omega), extended_apply]
    split
    · rename_i h
      rw [step_quotient]
      exact congrArg _ (by show _ + (s.val + k) = _ + s.val + k; omega)
    · rename_i h
      have h' : ¬ s.val + k < 256 := h
      refine (carried_rows m c t q hq g ⟨s.val + k - 256, by omega⟩ l).trans (congrArg _ ?_)
      show _ + (256 + (s.val + k - 256)) = _ + s.val + k
      omega
  · rw [hg s l, gates_apply]
    exact blk_gates m c t s l

/-- The sums a step leaves. -/
theorem step_sums (s0 s' : Vec Ideal S16x1024 .f32) (h : SumsAt m c t s0 s') (g : Fin 4) (l : Fin 256) :
    s' (ix2 8 (lane g l)) = (if t.val = 0 then 0 else s0 (ix2 8 (lane g l))) + ∑ r : Fin 256, (cotOf m c) (ix2 (rowAt t r) (lane g l)) * (paramsOf m c) (ix2 5 (lane g l))
    ∧ s' (ix2 9 (lane g l)) = (if t.val = 0 then 0 else s0 (ix2 9 (lane g l)))
        + ∑ r : Fin 256, (cotOf m c) (ix2 (rowAt t r) (lane g l)) * ((∑ k : Fin 256, (meansOf m c) (ix2 (rowAt t r) (lane g k)) * (weightsOf m c) (ix3 g k l)) + (paramsOf m c) (ix2 4 (lane g l))) := by
  have start : ∀ j : S16x1024.Idx, startSums (grid0.coords t) s0 j = if t.val = 0 then 0 else s0 j := fun j => by
    unfold startSums
    by_cases h0 : t.val = 0
    · rw [if_pos ((first_iff t).mpr h0), if_pos h0, zero_sums]
    · rw [if_neg (fun h => h0 ((first_iff t).mp h)), if_neg h0]
  obtain ⟨e8, e9⟩ := h.1 g l
  refine ⟨?_, ?_⟩
  · rw [e8, biasGrad_apply]
    refine congrArg₂ _ (start _) (Finset.sum_congr rfl fun r _ => congrArg₂ _ (blk_dpooled m c t r (lane g l)) ?_)
    exact congrFun (blk_params m c t) _
  · rw [e9, scaleGrad_apply]
    refine congrArg₂ _ (start _) (Finset.sum_congr rfl fun r _ => congrArg₂ _ (blk_dpooled m c t r (lane g l))
      (congrArg₂ _ (Finset.sum_congr rfl fun k _ => congrArg₂ _ (blk_mean m c t r (lane g k)) ?_) ?_))
    · exact congrFun (blk_weights m c t) _
    · exact congrFun (blk_params m c t) _

/-- The weight gradient a step leaves. -/
theorem step_weight (w0 w' : Vec Ideal S4x256x256 .f32) (h : WeightAt m c t w0 w') (g : Fin 4) (a b : Fin 256) :
    w' (ix3 g a b) = (if t.val = 0 then 0 else w0 (ix3 g a b))
      + ∑ r : Fin 256, (meansOf m c) (ix2 (rowAt t r) (lane g a)) * ((cotOf m c) (ix2 (rowAt t r) (lane g b)) * (paramsOf m c) (ix2 5 (lane g b))) := by
  have start : ∀ j : S4x256x256.Idx, startWeight (grid0.coords t) w0 j = if t.val = 0 then 0 else w0 j := fun j => by
    unfold startWeight
    by_cases h0 : t.val = 0
    · rw [if_pos ((first_iff t).mpr h0), if_pos h0, zero_weight]
    · rw [if_neg (fun h => h0 ((first_iff t).mp h)), if_neg h0]
  rw [h g a b, weightGrad_apply]
  refine congrArg₂ _ (start _) (Finset.sum_congr rfl fun r _ => congrArg₂ _ (blk_mean m c t r (lane g a)) (congrArg₂ _ (blk_dpooled m c t r (lane g b)) ?_))
  exact congrFun (blk_params m c t) _

/-! ### All the steps -/

/-- A quantity set to zero at the first step, to which every step adds its term, is the sum of the terms. -/
theorem leaves_total (w : Fin cfg0.W) (hfe : ∀ t, (cfg0.win w).fetch t = false) (hfl : ∀ t, (cfg0.win w).flush t = true ↔ t.val % 16 = 15)
    (val : ((cfg0.win w).block.Idx → Elt Ideal (cfg0.win w).elt) → EReal) (term : Fin cfg0.N → EReal)
    (step : ∀ t Y X, (dats m c).after w t Y X → val X = (if t.val = 0 then 0 else val Y) + term t) :
    ∀ (n : ℕ) (hn : n < 16) (X), (dats m c).Leaves w ⟨n, hn⟩ X → val X = ∑ u ∈ Finset.range (n + 1), if h : u < 16 then term ⟨u, h⟩ else 0 := by
  intro n
  induction n with
  | zero =>
    rintro hn X ⟨Y, -, hXY⟩
    rw [step _ Y X hXY, if_pos rfl, zero_add]
    simp
  | succ n ih =>
    rintro hn X ⟨Y, hY, hXY⟩
    rw [step _ Y X hXY, if_neg (Nat.succ_ne_zero n), Finset.sum_range_succ, dif_pos hn]
    refine congrArg (· + _) ?_
    rcases ((dats m c).finds_of_pos (hfe _) (Nat.succ_ne_zero n) Y).mp hY with h | h
    · have := (hfl _).mp h
      change n % 16 = 15 at this
      omega
    · exact ih (by omega) Y h

theorem fetch15 : ∀ t : Fin cfg0.N, (cfg0.win 15).fetch t = false := (by decide +kernel : ∀ t : Fin grid0.N, win0_15.fetch t = false)
theorem fetch18 : ∀ t : Fin cfg0.N, (cfg0.win 18).fetch t = false := (by decide +kernel : ∀ t : Fin grid0.N, win0_18.fetch t = false)

variable (r : PUnit × MemSt nD τ sig (Elt Ideal)) (h : Pipeline.RDat.FramePost (cfgs 0) (fun c => dats m c) (V m) r)
include h

/-- The gradient of the projection: the branch's columns and the gates'. -/
theorem final_dproj (s : Fin 4096) :
    (∀ (g : Fin 4) (l : Fin 256), @Eq EReal (r.2.mem ((c : Thread nD τ).loc main_v344_0) (ix2 s (poolCol g l))) (poolArr (cotOf m c) (weightsOf m c) (paramsOf m c) g s l))
      ∧ ∀ l : Fin 2048, @Eq EReal (r.2.mem ((c : Thread nD τ).loc main_v344_0) (ix2 s (gateCol l))) (V m c main_v340 (ix2 s l)) := by
  obtain ⟨after, hL, hA⟩ := Pipeline.RDat.FramePost.exists_exact h c
  let t : Fin cfg0.N := ⟨15 - s.val / 256, by show 15 - s.val / 256 < 16; omega⟩
  have hG : ((dats m c).withAfter after).arrAt 14 cfg0.N = fun y : S4096x5120.Idx =>
      after 14 ⟨15 - (y 0).val / 256, by show 15 - (y 0).val / 256 < 16; omega⟩ (ix2 ⟨(y 0).val % 256, Nat.mod_lt _ (by decide)⟩ (y 1)) := by
    refine ((dats m c).withAfter after).arrAt_eq_of_covers 14 _ (by decide +kernel) fun t hf y => ?_
    blk_simp
    obtain ⟨_, _, _, _, _, ⟨a0, a1⟩, _⟩ := index0 t
    have ht : t.val < 16 := t.isLt
    have hy : (y 0).val < 256 := (y 0).isLt
    have key : ∀ (u : Fin cfg0.N) (i : Fin 256) (j : Fin 5120), u = t → i = y 0 → j = y 1 → after 14 t y = after 14 u (ix2 i j) := by
      rintro _ _ _ rfl rfl rfl
      exact congrArg (after 14 _) (by funext a; fin_cases a <;> rfl)
    refine key _ _ _ (Fin.ext ?_) (Fin.ext ?_) (Fin.ext ?_)
    · show 15 - (win0_14.index t 0 * 256 + (y 0).val) / 256 = t.val
      rw [a0]
      omega
    · show (win0_14.index t 0 * 256 + (y 0).val) % 256 = (y 0).val
      omega
    · simp [a1]
  obtain ⟨Y, -, hY⟩ := hL 14 t (flush0_14 t)
  have e := step_block m c t (after 14 t) hY ⟨s.val % 256, Nat.mod_lt _ (by decide)⟩
  have hr : rowAt t ⟨s.val % 256, Nat.mod_lt _ (by decide)⟩ = s := Fin.ext (by
    show 256 * (15 - (15 - s.val / 256)) + s.val % 256 = s.val
    omega)
  rw [hr] at e
  refine ⟨fun g l => ?_, fun l => ?_⟩
  · exact (congrFun ((hA 14).trans hG) (ix2 s (poolCol g l))).trans (e.1 g l)
  · exact (congrFun ((hA 14).trans hG) (ix2 s (gateCol l))).trans (e.2 l)

/-- The sums: the bias's gradient in the ninth row, the scale's in the tenth. -/
theorem final_sums (g : Fin 4) (l : Fin 256) :
    @Eq EReal (r.2.mem ((c : Thread nD τ).loc main_v344_1) (ix2 8 (lane g l))) (biasArr (cotOf m c) (paramsOf m c) g l)
      ∧ @Eq EReal (r.2.mem ((c : Thread nD τ).loc main_v344_1) (ix2 9 (lane g l))) (scaleArr (meansOf m c) (cotOf m c) (weightsOf m c) (paramsOf m c) g l) := by
  obtain ⟨X, hX, hG⟩ := ((h c).1 15).emb_eq_of_wholeAt (t₀ := (⟨15, by decide⟩ : Fin cfg0.N)) (by decide +kernel)
  have e8 := leaves_total m c 15 fetch15 flush0_15 (fun X => X (ix2 8 (lane g l))) _ (fun t Y X hs => (step_sums m c t Y X hs g l).1) 15 (by decide) X hX
  have e9 := leaves_total m c 15 fetch15 flush0_15 (fun X => X (ix2 9 (lane g l))) _ (fun t Y X hs => (step_sums m c t Y X hs g l).2) 15 (by decide) X hX
  exact ⟨(hG (ix2 8 (lane g l))).trans (e8.trans (sum_steps fun s => cotOf m c (ix2 s (lane g l)) * paramsOf m c (ix2 5 (lane g l)))),
    (hG (ix2 9 (lane g l))).trans (e9.trans (sum_steps fun s => cotOf m c (ix2 s (lane g l)) * ((∑ k : Fin 256, meansOf m c (ix2 s (lane g k)) * weightsOf m c (ix3 g k l)) + paramsOf m c (ix2 4 (lane g l)))))⟩

/-- The weight gradient. -/
theorem final_weight (g : Fin 4) (a b : Fin 256) :
    @Eq EReal (r.2.mem ((c : Thread nD τ).loc main_v344_4) (ix3 g a b)) (weightArr (meansOf m c) (cotOf m c) (paramsOf m c) g a b) := by
  obtain ⟨X, hX, hG⟩ := ((h c).1 18).emb_eq_of_wholeAt (t₀ := (⟨15, by decide⟩ : Fin cfg0.N)) (by decide +kernel)
  have e := leaves_total m c 18 fetch18 flush0_18 (fun X => X (ix3 g a b)) _ (fun t Y X hs => step_weight m c t Y X hs g a b) 15 (by decide) X hX
  exact (hG (ix3 g a b)).trans (e.trans (sum_steps fun s => meansOf m c (ix2 s (lane g a)) * (cotOf m c (ix2 s (lane g b)) * paramsOf m c (ix2 5 (lane g b)))))

end Cert.Kernel2Ideal.SeqBackward

end
-- ==== Proof.SeqBackward.Scanned.lean ====
/- The backward pass of the recurrence over all its steps, its scanned branch: the gradient row handed from step to step, and the
   input gate's gradients, as sums over all rows of what the branch's numbers give. -/
module

public import proofs.«01_k».proof.Proof.SeqBackward.Arrays
public import proofs.«01_k».proof.Proof.SeqBackward.Recurrence

@[expose] public section

set_option maxRecDepth 16384
set_option maxHeartbeats 2000000

noncomputable section

namespace Cert.Kernel2Ideal.SeqBackward

open Idealize.ShloMosaic Idealize.ShloMosaic.TcCoe
open Idealize.SL Idealize.SL.Sem
open Cert.Kernel2Ideal Cert.Kernel2Ideal.Gen

variable (m : (ℓ : Loc nD τ sig) → Buf (Elt Ideal) ℓ) (c : Dev nD)

/-! ### Blocks -/

/-- The projection's column that is activated. -/
def actCol (j : Fin 1024) : Fin 5120 := ⟨1024 + j.val, by omega⟩

theorem index1 : ∀ t : Fin cfg0.N, (win0_1.index t (0 : Fin 2) = 15 - t.val ∧ win0_1.index t (1 : Fin 2) = 1)
    ∧ (win0_2.index t (0 : Fin 2) = 15 - t.val ∧ win0_2.index t (1 : Fin 2) = 0)
    ∧ (win0_6.index t (0 : Fin 2) = 15 - t.val ∧ win0_6.index t (1 : Fin 2) = 0)
    ∧ (win0_11.index t (0 : Fin 3) = 0 ∧ win0_11.index t (1 : Fin 3) = 0 ∧ win0_11.index t (2 : Fin 3) = 0)
    ∧ (win0_12.index t (0 : Fin 3) = 0 ∧ win0_12.index t (1 : Fin 3) = 0 ∧ win0_12.index t (2 : Fin 3) = 0)
    ∧ (win0_17.index t (0 : Fin 3) = 0 ∧ win0_17.index t (1 : Fin 3) = 0 ∧ win0_17.index t (2 : Fin 3) = 0) :=
  (by decide +kernel : ∀ t : Fin grid0.N, _)

theorem blk_activated (t : Fin cfg0.N) (r : Fin 256) (j : Fin 1024) : @Eq EReal (iblk m c 1 t (ix2 r j)) (V m c main_arg0 (ix2 (rowAt t r) (actCol j))) := by
  obtain ⟨⟨a0, a1⟩, _⟩ := index1 t
  reads_congr
  all_goals blk_ext! [iblk, a0, a1, rowAt, actCol]
  all_goals omega
theorem blk_convolved (t : Fin cfg0.N) (r : Fin 256) (j : Fin 1024) : @Eq EReal (iblk m c 2 t (ix2 r j)) (V m c main_v42 (ix2 (rowAt t r) j)) := by
  obtain ⟨_, ⟨a0, a1⟩, _⟩ := index1 t
  reads_congr
  all_goals blk_ext! [iblk, a0, a1, rowAt]
  all_goals omega
theorem blk_dga (t : Fin cfg0.N) (r : Fin 256) (j : Fin 1024) : @Eq EReal (iblk m c 6 t (ix2 r j)) (V m c main_v338 (ix2 (rowAt t r) j)) := by
  obtain ⟨_, _, ⟨a0, a1⟩, _⟩ := index1 t
  reads_congr
  all_goals blk_ext! [iblk, a0, a1, rowAt]
  all_goals omega
theorem blk_decay_weights (t : Fin cfg0.N) : @Eq (Vec Ideal S4x256x256 .bf16) (iblk m c 11 t) (V m c main_v341) := by
  obtain ⟨_, _, _, ⟨a0, a1, a2⟩, _⟩ := index1 t
  funext y
  reads_congr
  all_goals blk_ext! [iblk, a0, a1, a2]
theorem blk_input_weights (t : Fin cfg0.N) : @Eq (Vec Ideal S4x256x256 .bf16) (iblk m c 12 t) (V m c main_v342) := by
  obtain ⟨_, _, _, _, ⟨a0, a1, a2⟩, _⟩ := index1 t
  funext y
  reads_congr
  all_goals blk_ext! [iblk, a0, a1, a2]

/-! ### One step -/

/-- The arrays the branch reads: the projections, the convolved rows, the cotangent and the two gates' weights. -/
abbrev projOf : Vec Ideal S4096x5120 .f32 := V m c main_arg0
abbrev convolvedOf : Vec Ideal S4096x1024 .f32 := V m c main_v42
abbrev dgaOf : Vec Ideal S4096x1024 .bf16 := V m c main_v338
abbrev decayWeightsOf : Vec Ideal S4x256x256 .bf16 := V m c main_v341
abbrev inputWeightsOf : Vec Ideal S4x256x256 .bf16 := V m c main_v342

/-- They are the branch's numbers. -/
abbrev Given (D : Branch) : Prop :=
  D.Holds (fun s j => convolvedOf m c (ix2 s j)) (fun s j => dgaOf m c (ix2 s j) * gelu (projOf m c (ix2 s (actCol j)))) (fun g k l => decayWeightsOf m c (ix3 g k l))
    (fun g k l => inputWeightsOf m c (ix3 g k l)) (fun j => paramsOf m c (ix2 1 j)) (fun j => paramsOf m c (ix2 2 j)) (fun j => paramsOf m c (ix2 3 j))

variable (D : Branch) (H : Given m c D) (t : Fin cfg0.N)

/-- The rows of a step among all rows, by number. -/
abbrev rowNo (t : Fin cfg0.N) (s : ℕ) : ℕ := 256 * (15 - t.val) + s

theorem lam_at (g : Fin 4) (s l : Fin 256) : D.lam g l (rowNo t s.val) = logDecayAt (fun s k => D.X g (rowAt t s) k) (D.WA g) (D.PA g) (D.Q g) s l := by
  unfold Branch.lam
  rw [dif_pos (show rowNo t s.val < 4096 from (rowAt t s).isLt)]
  rfl

include H

theorem reads_x (g : Fin 4) (s l : Fin 256) : lanes (iblk m c 2 t) g (ix2 s l) = (D.X g (rowAt t s) l : EReal) := (blk_convolved m c t s (lane g l)).trans (H.hX g _ l)
theorem reads_wa (g : Fin 4) (k l : Fin 256) : panel (iblk m c 11 t) g (ix3 0 k l) = (D.WA g k l : EReal) := (congrFun (blk_decay_weights m c t) _).trans (H.hWA g k l)
theorem reads_wx (g : Fin 4) (k l : Fin 256) : panel (iblk m c 12 t) g (ix3 0 k l) = (D.WX g k l : EReal) := (congrFun (blk_input_weights m c t) _).trans (H.hWX g k l)
theorem reads_pa (g : Fin 4) (l : Fin 256) : param (iblk m c 10 t) 1 g (ix2 0 l) = (D.PA g l : EReal) := (congrFun (blk_params m c t) _).trans (H.hPA g l)
theorem reads_px (g : Fin 4) (l : Fin 256) : param (iblk m c 10 t) 2 g (ix2 0 l) = (D.PX g l : EReal) := (congrFun (blk_params m c t) _).trans (H.hPX g l)
theorem reads_q (g : Fin 4) (l : Fin 256) : param (iblk m c 10 t) 3 g (ix2 0 l) = (D.Q g l : EReal) := (congrFun (blk_params m c t) _).trans (H.hQ g l)

theorem decays_at (g : Fin 4) (s l : Fin 256) : decays (iblk m c 2 t) (iblk m c 10 t) (iblk m c 11 t) g (ix2 s l) = (Real.exp (D.lam g l (rowNo t s.val)) : EReal) := by
  rw [lam_at]
  exact decay_real _ _ _ _ (fun s k => D.X g (rowAt t s) k) (D.WA g) (D.PA g) (D.Q g) (reads_x m c D H t g) (reads_wa m c D H t g) (reads_pa m c D H t g) (reads_q m c D H t g) s l

theorem nextDecays_at (g : Fin 4) (s l : Fin 256) : nextDecays (iblk m c 2 t) (iblk m c 10 t) (iblk m c 11 t) g (ix2 s l)
    = ((if s.val + 1 < 256 then Real.exp (D.lam g l (rowNo t (s.val + 1))) else 1 : ℝ) : EReal) := by
  refine (nextDecay_real _ _ _ _ (fun s k => D.X g (rowAt t s) k) (D.WA g) (D.PA g) (D.Q g) (reads_x m c D H t g) (reads_wa m c D H t g) (reads_pa m c D H t g) (reads_q m c D H t g) s l).trans ?_
  by_cases h : s.val + 1 < 256
  · rw [dif_pos h, if_pos h, ← lam_at]
  · rw [dif_neg h, if_neg h]

theorem squaredFactors_at (g : Fin 4) (s l : Fin 256) : squaredFactors (iblk m c 2 t) (iblk m c 10 t) (iblk m c 11 t) g (ix2 s l)
    = ((1 - Real.exp (2 * D.lam g l (rowNo t s.val)) : ℝ) : EReal) := by
  rw [lam_at]
  exact squaredFactor_real _ _ _ _ (fun s k => D.X g (rowAt t s) k) (D.WA g) (D.PA g) (D.Q g) (reads_x m c D H t g) (reads_wa m c D H t g) (reads_pa m c D H t g) (reads_q m c D H t g) s l

theorem inputGates_at (g : Fin 4) (s l : Fin 256) : inputGates (iblk m c 2 t) (iblk m c 10 t) (iblk m c 12 t) g (ix2 s l) = (D.gate g l (rowAt t s) : EReal) :=
  inputGate_real _ _ _ (fun s k => D.X g (rowAt t s) k) (D.WX g) (D.PX g) (reads_x m c D H t g) (reads_wx m c D H t g) (reads_px m c D H t g) s l

theorem incomings_at (g : Fin 4) (s l : Fin 256) : incomings (iblk m c 1 t) (iblk m c 6 t) g (ix2 s l) = (D.own g l (rowNo t s.val) : EReal) := by
  refine (incoming_apply _ _ s l).trans ?_
  unfold Branch.own
  rw [dif_pos (show rowNo t s.val < 4096 from (rowAt t s).isLt)]
  refine Eq.trans ?_ (H.hT g (rowAt t s) l)
  exact congrArg₂ (fun a b : EReal => a * gelu b) (blk_dga m c t s (lane g l)) (blk_activated m c t s (lane g l))

/-- What a step walks from the row handed to it: in `Γ` the rows after one another, at the end the row handed. -/
theorem walk_at (G : Vec Ideal S1x1024 .f32) (g : Fin 4) (l : Fin 256)
    (hG : G (ix2 0 (lane g l)) = ((Real.exp (D.lam g l (rowNo t 256)) * D.row g l (rowNo t 256) : ℝ) : EReal)) :
    handed (joined (nextDecays (iblk m c 2 t) (iblk m c 10 t) (iblk m c 11 t))) (joined (incomings (iblk m c 1 t) (iblk m c 6 t))) G 32 (ix2 0 (lane g l)) = (D.row g l (rowNo t 0) : EReal)
      ∧ ∀ s : Fin 256, walkedRows (iblk m c 1 t) (iblk m c 2 t) (iblk m c 6 t) (iblk m c 10 t) (iblk m c 11 t) G (ix2 s (lane g l)) = (D.row g l (rowNo t s.val) : EReal) := by
  have ha : ∀ r : Fin 256, joined (nextDecays (iblk m c 2 t) (iblk m c 10 t) (iblk m c 11 t)) (ix2 r (lane g l))
      = (((fun s : ℕ => if s + 1 < 256 then Real.exp (D.lam g l (rowNo t (s + 1))) else 1) r.val : ℝ) : EReal) := fun r => (joined_lane _ r g l).trans (nextDecays_at m c D H t g r l)
  have hb : ∀ r : Fin 256, joined (incomings (iblk m c 1 t) (iblk m c 6 t)) (ix2 r (lane g l)) = (((fun s : ℕ => D.own g l (rowNo t s)) r.val : ℝ) : EReal) := fun r =>
    (joined_lane _ r g l).trans (incomings_at m c D H t g r l)
  let Γ : ℕ → ℝ := fun s => if s < 256 then D.row g l (rowNo t s) else Real.exp (D.lam g l (rowNo t 256)) * D.row g l (rowNo t 256)
  have hΓ : ∀ r < 256, Γ r = D.own g l (rowNo t r) + (if r + 1 < 256 then Real.exp (D.lam g l (rowNo t (r + 1))) else 1) * Γ (r + 1) := fun r hr => by
    have e := back_step (D.lam g l) (D.own g l) (rowNo t r) (by show 256 * (15 - t.val) + r < 4096; omega)
    show (if r < 256 then _ else _) = _ + _ * (if r + 1 < 256 then _ else _)
    rw [if_pos hr]
    by_cases h : r + 1 < 256
    · rw [if_pos h, if_pos h]
      exact e
    · obtain rfl : r = 255 := by omega
      rw [if_neg h, if_neg h, one_mul]
      exact e
  refine ⟨?_, fun s => ?_⟩
  · exact handed_real _ _ G (lane g l) _ _ Γ ha hb hG hΓ 32 le_rfl
  · refine (walked_real _ _ G (lane g l) _ _ Γ ha hb hG hΓ s).trans ?_
    exact congrArg (fun x : ℝ => (x : EReal)) (if_pos s.isLt)

/-- The row handed to a step. -/
theorem handed_at (g : Fin 4) (l : Fin 256) : ∀ n ≤ 16, handedAt m c n (ix2 0 (lane g l))
    = ((Real.exp (D.lam g l (256 * (16 - n))) * D.row g l (256 * (16 - n)) : ℝ) : EReal)
  | 0, _ => by
    refine (zero_handed _).trans ?_
    show (0 : EReal) = ((_ * back _ _ 4096 : ℝ) : EReal)
    rw [back_end, mul_zero]
    rfl
  | n + 1, hn => by
    have ih := handed_at g l n (by omega)
    have e : 256 * (16 - n) = rowNo ⟨n, hn⟩ 256 := by show _ = 256 * (15 - n) + 256; omega
    rw [e] at ih
    rw [show handedAt m c (n + 1) = _ from handedAt_succ m c ⟨n, hn⟩, show 256 * (16 - (n + 1)) = rowNo ⟨n, hn⟩ 0 by show _ = 256 * (15 - n) + 0; omega]
    unfold handedOn
    rw [handedOn_apply, (walk_at m c D H ⟨n, hn⟩ _ g l ih).1, EReal.coe_mul]
    refine congrArg (· * _) ?_
    exact (joined_lane _ 0 g l).trans (decays_at m c D H ⟨n, hn⟩ g 0 l)

theorem walked_at (g : Fin 4) (s l : Fin 256) :
    lanes (walkedRows (iblk m c 1 t) (iblk m c 2 t) (iblk m c 6 t) (iblk m c 10 t) (iblk m c 11 t) (handedAt m c t.val)) g (ix2 s l) = (D.row g l (rowNo t s.val) : EReal) := by
  have ht : t.val < 16 := t.isLt
  have h := handed_at m c D H g l t.val (by omega)
  rw [show 256 * (16 - t.val) = rowNo t 256 by show _ = 256 * (15 - t.val) + 256; omega] at h
  exact (walk_at m c D H t _ g l h).2 s

/-- The gradient at the gate's argument, at a step. -/
theorem atGate_at (g : Fin 4) (s l : Fin 256) :
    gateGrad (grid0.coords t) (lanes (walkedRows (iblk m c 1 t) (iblk m c 2 t) (iblk m c 6 t) (iblk m c 10 t) (iblk m c 11 t) (handedAt m c t.val)) g) (lanes (iblk m c 2 t) g)
        (squaredFactors (iblk m c 2 t) (iblk m c 10 t) (iblk m c 11 t) g) (ix2 s l)
      * (inputGates (iblk m c 2 t) (iblk m c 10 t) (iblk m c 12 t) g (ix2 s l) * (1 - inputGates (iblk m c 2 t) (iblk m c 10 t) (iblk m c 12 t) g (ix2 s l)))
      = (D.atGate g l (rowAt t s) : EReal) := by
  have ht : t.val < 16 := t.isLt
  rw [gateGrad_real _ (by rw [coord_val]; exact ht) _ _ _ s l _ _ _ (walked_at m c D H t g s l) (reads_x m c D H t g s l) (squaredFactors_at m c D H t g s l) (D.square_nonneg g l _),
    inputGates_at m c D H t g s l, coord_val, show (1 : EReal) = ((1 : ℝ) : EReal) from rfl]
  simp only [← EReal.coe_sub, ← EReal.coe_mul]
  rfl

/-- The gate's bias gradient a step leaves. -/
theorem step_gate_bias (s0 s' : Vec Ideal S16x1024 .f32) (h : SumsAt m c t s0 s') (g : Fin 4) (l : Fin 256) :
    s' (ix2 6 (lane g l)) = (if t.val = 0 then 0 else s0 (ix2 6 (lane g l))) + ∑ r : Fin 256, (D.atGate g l (rowAt t r) : EReal) := by
  refine (h.2 g l).trans ((gateBias_apply _ _ _ _ _ _ l).trans (congrArg₂ _ ?_ (Finset.sum_congr rfl fun s _ => atGate_at m c D H t g s l)))
  show startSums (grid0.coords t) s0 (ix2 6 (lane g l)) = _
  unfold startSums
  by_cases h0 : t.val = 0
  · rw [if_pos ((first_iff t).mpr h0), if_pos h0, zero_sums]
  · rw [if_neg (fun h => h0 ((first_iff t).mp h)), if_neg h0]

/-- The gate's weight gradient a step leaves. -/
theorem step_gate_weight (w0 w' : Vec Ideal S4x256x256 .f32) (h : GateAt m c t w0 w') (g : Fin 4) (a b : Fin 256) :
    w' (ix3 g a b) = (if t.val = 0 then 0 else w0 (ix3 g a b)) + ∑ r : Fin 256, (D.X g (rowAt t r) a : EReal) * (D.atGate g b (rowAt t r) : EReal) := by
  refine (h g a b).trans ((gateWeight_apply _ _ _ _ _ _ a b).trans (congrArg₂ _ ?_ (Finset.sum_congr rfl fun s _ =>
    congrArg₂ _ (reads_x m c D H t g s a) (atGate_at m c D H t g s b))))
  show startGate (grid0.coords t) w0 (ix3 g a b) = _
  unfold startGate
  by_cases h0 : t.val = 0
  · rw [if_pos ((first_iff t).mpr h0), if_pos h0, zero_gate]
  · rw [if_neg (fun h => h0 ((first_iff t).mp h)), if_neg h0]

/-! ### All the steps -/

omit H in
theorem fetch17 : ∀ t : Fin cfg0.N, (cfg0.win 17).fetch t = false := (by decide +kernel : ∀ t : Fin grid0.N, win0_17.fetch t = false)

variable (r : PUnit × MemSt nD τ sig (Elt Ideal)) (h : Pipeline.RDat.FramePost (cfgs 0) (fun c => dats m c) (V m) r)
include h

/-- The input gate's bias gradient: the seventh row of the sums. -/
theorem final_gate_bias (g : Fin 4) (l : Fin 256) :
    @Eq EReal (r.2.mem ((c : Thread nD τ).loc main_v344_1) (ix2 6 (lane g l))) (∑ s : Fin 4096, (D.atGate g l s : EReal)) := by
  obtain ⟨X, hX, hG⟩ := ((h c).1 15).emb_eq_of_wholeAt (t₀ := (⟨15, by decide⟩ : Fin cfg0.N)) (by decide +kernel)
  have e := leaves_total m c 15 fetch15 flush0_15 (fun X => X (ix2 6 (lane g l))) _ (fun t Y X hs => step_gate_bias m c D H t Y X hs g l) 15 (by decide) X hX
  exact (hG (ix2 6 (lane g l))).trans (e.trans (sum_steps fun s => (D.atGate g l s : EReal)))

/-- The input gate's weight gradient. -/
theorem final_gate_weight (g : Fin 4) (a b : Fin 256) :
    @Eq EReal (r.2.mem ((c : Thread nD τ).loc main_v344_3) (ix3 g a b)) (∑ s : Fin 4096, (D.X g s a : EReal) * (D.atGate g b s : EReal)) := by
  obtain ⟨X, hX, hG⟩ := ((h c).1 17).emb_eq_of_wholeAt (t₀ := (⟨15, by decide⟩ : Fin cfg0.N)) (by decide +kernel)
  have e := leaves_total m c 17 fetch17 flush0_17 (fun X => X (ix3 g a b)) _ (fun t Y X hs => step_gate_weight m c D H t Y X hs g a b) 15 (by decide) X hX
  exact (hG (ix3 g a b)).trans (e.trans (sum_steps fun s => (D.X g s a : EReal) * (D.atGate g b s : EReal)))

end Cert.Kernel2Ideal.SeqBackward

end
-- ==== Proof.SeqBackward.Windows.lean ====
/- The gradient through the means over windows as `jax.vjp` writes it: from each row's quotient the one a window's width
   below is taken away, and these differences are added up from a row to the last one. Of the sum there remain the
   quotients of the window. -/
module

public import Idealize.ShloMosaic.Lib.KernelVsHost
public import Idealize.ShloMosaic.Lib.Pointwise.Index
public import proofs.«01_k».proof.Proof.SeqBackward.Formula

@[expose] public section

set_option maxRecDepth 16384
set_option maxHeartbeats 2000000

noncomputable section

namespace Cert.Kernel2Ideal.SeqBackward

open Idealize.ShloMosaic Idealize.ShloMosaic.TcCoe
open Cert.Kernel2Ideal.Gen
open Cert.Proof.Norm

/-- Terms added one after the other are their sum. -/
theorem foldl_terms {β : Type} (f : β → EReal) (L : List β) (a : EReal) : L.foldl (fun r n => r + f n) a = a + (L.map f).sum := by
  induction L generalizing a with
  | nil => simp
  | cons b L ih => simp only [List.foldl_cons, List.map_cons, List.sum_cons, ih, add_assoc]

/-- The running sum from a row to the last one. -/
theorem sum_below (x : Vec Ideal S4096x256 .f32) (v : Vec Ideal S_ .f32) (hv : v (Shape.Idx.first h_S_) = (0 : EReal))
    (h : S4096x256.ReduceWindows ![4096, 1] ![1, 1] ![0, 0] ![4095, 0] S4096x256) (s : Fin 4096) (l : Fin 256) :
    @Eq EReal (Host.reduceWindowAdd (F := Ideal) (φ := .f32) ![4096, 1] ![1, 1] ![0, 0] ![4095, 0] x v h h_S_ (ix2 s l))
      (∑ k ∈ Finset.range 4096, if h : s.val + k < 4096 then x (ix2 ⟨s.val + k, h⟩ l) else 0) := by
  have hn : (⟨2, ![4096, 1]⟩ : Shape).numel = 4096 := Fin.prod_univ_two _
  have hs : ∀ n : Fin (⟨2, ![4096, 1]⟩ : Shape).numel, (⟨2, ![4096, 1]⟩ : Shape).rowMajor.symm n = ix2 (n.cast hn) (0 : Fin 1) := fun n => by
    rw [Equiv.symm_apply_eq]
    refine Fin.ext ?_
    rw [Shape.rowMajor_val_two]
    show n.val = n.val * 1 + 0
    omega
  unfold Host.reduceWindowAdd
  rw [Ideal.hostReduceWindowAdd_def]
  unfold Ideal.hostReduceWindowAdd Host.reduceWindow
  dsimp only
  rw [foldl_terms, hv, zero_add, ← Fin.sum_univ_def]
  refine (Finset.sum_congr rfl fun n _ => (?_ : _ = if h : s.val + n.val < 4096 then x (ix2 ⟨s.val + n.val, h⟩ l) else (0 : EReal))).trans ?_
  · by_cases hb : s.val + n.val < 4096
    · rw [dif_pos, dif_pos hb]
      · refine congrArg x (funext fun a => Fin.ext ?_)
        simp only [hs n]
        fin_cases a
        · show s.val * 1 + n.val - 0 = s.val + n.val
          omega
        · show l.val * 1 + 0 - 0 = l.val
          omega
      · intro a
        simp only [hs n]
        fin_cases a
        · exact ⟨Nat.zero_le _, by show s.val * 1 + n.val - 0 < 4096; omega⟩
        · exact ⟨Nat.zero_le _, by show l.val * 1 + 0 - 0 < 256; omega⟩
    · rw [dif_neg, dif_neg hb]
      intro hin
      have := (hin 0).2
      simp only [hs n] at this
      change s.val * 1 + n.val - 0 < 4096 at this
      omega
  · rw [Finset.sum_range]
    exact Fintype.sum_equiv (finCongr hn) _ _ fun n => rfl

/-- Differences at the distance `w`, added up to where all is zero. -/
theorem sum_differences (q : ℕ → EReal) (hq : ∀ n, Fin' (q n)) (h0 : ∀ n, 4096 ≤ n → q n = 0) (w s : ℕ) :
    (∑ k ∈ Finset.range 4096, (q (s + k) + -q (s + k + w))) = ∑ k ∈ Finset.range w, q (s + k) := by
  choose f hf using fun n => (hq n).exists_real
  have f0 : ∀ n, 4096 ≤ n → f n = 0 := fun n hn => by
    have := (hf n).symm.trans (h0 n hn)
    exact_mod_cast this
  simp only [hf]
  have e : ∀ k, ((f (s + k) : EReal) + -(f (s + k + w) : EReal)) = ((f (s + k) - f (s + k + w) : ℝ) : EReal) := fun k => by
    rw [EReal.coe_sub, sub_eq_add_neg]
  simp only [e]
  have cs : ∀ (n : ℕ) (u : ℕ → ℝ), (∑ k ∈ Finset.range n, (u k : EReal)) = ((∑ k ∈ Finset.range n, u k : ℝ) : EReal) := fun n u => by
    induction n with
    | zero => simp
    | succ n ih => rw [Finset.sum_range_succ, Finset.sum_range_succ, ih, EReal.coe_add]
  rw [cs, cs]
  refine congrArg _ ?_
  rw [Finset.sum_sub_distrib]
  have e1 := Finset.sum_range_add (fun k => f (s + k)) w 4096
  have e2 := Finset.sum_range_add (fun k => f (s + k)) 4096 w
  have e3 : (∑ k ∈ Finset.range w, f (s + (4096 + k))) = 0 := Finset.sum_eq_zero fun k _ => f0 _ (by omega)
  have e4 : ∀ k, f (s + k + w) = f (s + (w + k)) := fun k => congrArg f (by omega)
  simp only [e4]
  rw [Nat.add_comm w 4096] at e1
  rw [e1, e3] at e2
  linarith

/-- The gradient of one group's rows: less the mean's gradient, and with the running sum of the differences of the quotients. -/
theorem through_windows (w : ℕ) (d n : Vec Ideal S4096x256 .f32) (z v : Vec Ideal S_ .f32)
    (hz : z (Shape.Idx.first h_S_) = (0 : EReal)) (hv : v (Shape.Idx.first h_S_) = (0 : EReal))
    (hp : S4096x256.Pads ![0, 0] ![w, 0] ![0, 0] (⟨2, ![4096 + w, 256]⟩ : Shape))
    (hs : (⟨2, ![4096 + w, 256]⟩ : Shape).Slices ![w, 0] S4096x256)
    (h : S4096x256.ReduceWindows ![4096, 1] ![1, 1] ![0, 0] ![4095, 0] S4096x256)
    (l : Fin 256) (q : ℕ → EReal) (hq : ∀ n, Fin' (q n))
    (hd : ∀ i : Fin 4096, Ideal.div (d (ix2 i l)) (n (ix2 i l)) = q i.val) (h0 : ∀ i, 4096 ≤ i → q i = 0) (s : Fin 4096) :
    @Eq EReal (addf (F := Ideal) (φ := .f32) (Host.negf d) (Host.reduceWindowAdd (F := Ideal) (φ := .f32) ![4096, 1] ![1, 1] ![0, 0] ![4095, 0]
        (addf (F := Ideal) (φ := .f32) (Host.divf d n) (extractStridedSlice S4096x256 ![w, 0]
          (pad (⟨2, ![4096 + w, 256]⟩ : Shape) ![0, 0] ![w, 0] ![0, 0] (Host.negf (F := Ideal) (φ := .f32) (Host.divf d n)) z hp h_S_) hs)) v h h_S_) (ix2 s l))
      ((∑ k ∈ Finset.range w, q (s.val + k)) - d (ix2 s l)) := by
  have e : ∀ i : Fin 4096, @Eq EReal (addf (F := Ideal) (φ := .f32) (Host.divf d n) (extractStridedSlice S4096x256 ![w, 0]
          (pad (⟨2, ![4096 + w, 256]⟩ : Shape) ![0, 0] ![w, 0] ![0, 0] (Host.negf (F := Ideal) (φ := .f32) (Host.divf d n)) z hp h_S_) hs) (ix2 i l))
      (q i.val + -q (i.val + w)) := fun i => by
    refine congrArg₂ (fun a b : EReal => a + b) (hd i) ?_
    refine (extractStridedSlice_apply ![w, 0] _ hs (ix2 i l) (ix2 (⟨i.val + w, by omega⟩ : Fin (4096 + w)) l) (fun a => by
      fin_cases a
      · show i.val + w = w + i.val
        omega
      · show l.val = 0 + l.val
        omega)).trans ?_
    by_cases hi : i.val + w < 4096
    · refine (pad_apply_of_inside _ _ _ _ _ _ _ _ (ix2 ⟨i.val + w, hi⟩ l) (fun a => by
        fin_cases a
        · show i.val + w = 0 + (i.val + w) * (0 + 1)
          omega
        · show l.val = 0 + l.val * (0 + 1)
          omega)).trans ?_
      exact congrArg (- ·) (hd ⟨i.val + w, hi⟩)
    · refine (pad_apply_of_not_inside _ _ _ _ _ _ _ _ (0 : Fin 2) (fun hin => hi ?_)).trans ?_
      · have := hin.2.2
        change (i.val + w - 0) / (0 + 1) < 4096 at this
        omega
      · rw [h0 _ (by omega), neg_zero]
        exact hz
  refine (congrArg₂ (fun a b : EReal => a + b) rfl (sum_below _ v hv h s l)).trans ?_
  rw [← sum_differences q hq h0 w s.val]
  refine (add_comm _ _).trans ((sub_eq_add_neg _ _).symm.trans (congrArg (· - d (ix2 s l)) (Finset.sum_congr rfl fun k _ => ?_)))
  by_cases hk : s.val + k < 4096
  · rw [dif_pos hk]
    exact e ⟨s.val + k, hk⟩
  · rw [dif_neg hk, h0 _ (by omega), h0 _ (by omega), neg_zero, add_zero]

end Cert.Kernel2Ideal.SeqBackward

end
-- ==== Proof.SeqBackward.Reference.lean ====
/- The reference of the pooled branch, and its result arrays, read place by place: `jax.vjp` of the means over windows, the grouped product, the bias
   and the scale, as the sums that the kernel's arrays hold. -/
module

public import proofs.«01_k».proof.Proof.SeqBackward.Arrays
public import proofs.«01_k».proof.Proof.SeqBackward.Windows
public import proofs.«01_k».proof.Proof.Gen.Reference2Ideal.Read

@[expose] public section

set_option maxRecDepth 16384
set_option maxHeartbeats 2000000

noncomputable section

namespace Cert.Reference2Ideal.Read
open Cert.Reference2Ideal Cert.Reference2Ideal.Gen Idealize.ShloMosaic Idealize.ShloMosaic.TcCoe
open Cert.Proof.Norm
open Cert.Kernel2Ideal.SeqBackward (lane poolCol gateCol wide rowsIn rowsIn_ne min_rows meanArr quotArr poolArr biasArr scaleArr weightArr through_windows)

variable (x0 : Vec Ideal S4096x5120 .f32) (x8 : Vec Ideal S4x256x256 .f32) (x9 x10 : Vec Ideal S1024 .f32) (x12 : Vec Ideal S4096x1024 .f32) (x13 : Vec Ideal S4096x2048 .f32)
  (B : Vec Ideal Cert.Kernel2Ideal.S8x1024 .f32)

/-! ### Groups of columns -/

theorem joined (s : Fin 4096) (g : Fin 4) (l : Fin 256) : idx_main_v86 (ix2 s (lane g l)) = ix3 s g l := by
  funext a
  fin_cases a
  · exact Fin.ext (by show (s.val * 1024 + (256 * g.val + l.val)) / 1024 = s.val; omega)
  · exact Fin.ext (by show (s.val * 1024 + (256 * g.val + l.val)) / 256 % 4 = g.val; omega)
  · exact Fin.ext (by show (s.val * 1024 + (256 * g.val + l.val)) % 256 = l.val; omega)

theorem split (z : S4096x4x256.Idx) (s : Fin 4096) (g : Fin 4) (l : Fin 256) (h0 : (z 0).val = s.val) (h1 : (z 1).val = g.val) (h2 : (z 2).val = l.val) :
    idx_main_v61 z = ix2 s (lane g l) := by
  funext a
  fin_cases a
  · exact Fin.ext (by show (((z 0).val * 4 + (z 1).val) * 256 + (z 2).val) / 1024 = s.val; omega)
  · exact Fin.ext (by show (((z 0).val * 4 + (z 1).val) * 256 + (z 2).val) % 1024 = 256 * g.val + l.val; omega)

/-! ### The grouped product -/

/-- The gradient of the product. -/
theorem ref_cot (s : Fin 4096) (j : Fin 1024) : @Eq EReal (val_main_v75 (F := Ideal) x10 x12 (ix2 s j)) (x12 (ix2 s j) * x10 (ix1 j)) := by
  rw [val_main_v75_apply, val_main_v74_apply, val_main_v68_apply]
  refine congrArg (fun z => (x12 (ix2 s j) * x10 z : EReal)) ?_
  funext a
  fin_cases a
  exact Fin.ext (by first | rfl | exact Nat.mod_eq_of_lt j.isLt)

theorem ref_cot_group (z : S4x256x4096.Idx) (s : Fin 4096) (g : Fin 4) (l : Fin 256) (h0 : (z 0).val = g.val) (h1 : (z 1).val = l.val) (h2 : (z 2).val = s.val) :
    @Eq EReal (val_main_v81 (F := Ideal) x10 x12 z) (x12 (ix2 s (lane g l)) * x10 (ix1 (lane g l))) := by
  rw [val_main_v81_apply, val_main_v80_apply, ← ref_cot]
  exact congrArg _ (split _ s g l h2 h0 h1)

/-- The gradient of the means. -/
theorem ref_mean (hb : ∀ l, @Eq EReal (B (ix2 5 l)) (x10 (ix1 l))) (s : Fin 4096) (g : Fin 4) (l : Fin 256) :
    @Eq EReal (val_main_v86 (F := Ideal) x8 x10 x12 (ix2 s (lane g l))) (meanArr x12 x8 B g s l) := by
  rw [val_main_v86_apply, joined, val_main_v83_apply, val_main_v82_apply]
  unfold meanArr
  refine Finset.sum_congr rfl fun k _ => congrArg₂ (fun a b : EReal => a * b) ?_ (congrArg x8 ?_)
  · rw [ref_cot_group x10 x12 _ s g k rfl rfl rfl, hb]
  · funext a
    fin_cases a <;> rfl

/-- The weights' gradient. -/
theorem ref_weight (hb : ∀ l, @Eq EReal (B (ix2 5 l)) (x10 (ix1 l))) (g : Fin 4) (a b : Fin 256) :
    @Eq EReal (val_main_v85 (F := Ideal) x0 x10 x12 (ix3 g a b)) (weightArr (val_main_v60 (F := Ideal) x0) x12 B g a b) := by
  rw [val_main_v85_apply, val_main_v84_apply]
  unfold weightArr
  refine Finset.sum_congr rfl fun s _ => ?_
  rw [ref_cot_group x10 x12 _ s g b rfl rfl rfl, hb, val_main_v61_apply, split _ s g a rfl rfl rfl]
  exact mul_comm _ _

/-- The product with its bias. -/
theorem ref_mixed (hb4 : ∀ l, @Eq EReal (B (ix2 4 l)) (x9 (ix1 l))) (s : Fin 4096) (g : Fin 4) (l : Fin 256) :
    @Eq EReal (val_main_v67 (F := Ideal) x0 x8 x9 (ix2 s (lane g l)))
      ((∑ k : Fin 256, val_main_v60 (F := Ideal) x0 (ix2 s (lane g k)) * x8 (ix3 g k l)) + B (ix2 4 (lane g l))) := by
  rw [val_main_v67_apply, val_main_v64_apply, show idx_main_v64 = idx_main_v86 from rfl, joined, val_main_v63_apply, val_main_v62_apply, val_main_v66_apply, val_main_v65_apply, hb4]
  refine congrArg₂ (fun a b : EReal => a + b) (Finset.sum_congr rfl fun k _ => ?_) (congrArg x9 ?_)
  · rw [val_main_v61_apply, split _ s g k rfl rfl rfl, mul_comm]
    refine congrArg (fun z => (val_main_v60 (F := Ideal) x0 (ix2 s (lane g k)) * x8 z : EReal)) ?_
    funext a
    fin_cases a <;> rfl
  · funext a
    fin_cases a
    exact Fin.ext (by first | rfl | exact Nat.mod_eq_of_lt (lane g l).isLt)

/-- The bias's gradient. -/
theorem ref_bias (hb : ∀ l, @Eq EReal (B (ix2 5 l)) (x10 (ix1 l))) (g : Fin 4) (l : Fin 256) (z : S1024.Idx) (hz : z = ix1 (lane g l)) :
    @Eq EReal (val_main_v79 (F := Ideal) x10 x12 z) (biasArr x12 B g l) := by
  subst hz
  rw [val_main_v79_apply, Fin.sum_univ_one, val_main_v78_apply, val_main_v77_apply, val_main_cst_18_apply, val_main_cst_17_apply]
  unfold biasArr
  refine (congrArg₂ (fun a b : EReal => a + (b + _)) Ideal.ofBits_zero_f32 Ideal.ofBits_zero_f32).trans ?_
  rw [zero_add, zero_add]
  refine Finset.sum_congr rfl fun s _ => ?_
  rw [hb, ← ref_cot]
  refine congrArg _ ?_
  funext a
  fin_cases a
  · rfl
  · exact Fin.ext (by show 0 * 1024 + (lane g l).val = (lane g l).val; omega)

/-- The scale's gradient. -/
theorem ref_scale (hb4 : ∀ l, @Eq EReal (B (ix2 4 l)) (x9 (ix1 l))) (g : Fin 4) (l : Fin 256) (z : S1024.Idx) (hz : z = ix1 (lane g l)) :
    @Eq EReal (val_main_v76 (F := Ideal) x0 x8 x9 x12 z) (scaleArr (val_main_v60 (F := Ideal) x0) x12 x8 B g l) := by
  subst hz
  rw [val_main_v76_apply, Fin.sum_univ_one, val_main_v73_apply, val_main_v72_apply, val_main_cst_15_apply, val_main_cst_16_apply]
  unfold scaleArr
  refine (congrArg₂ (fun a b : EReal => a + (b + _)) Ideal.ofBits_zero_f32 Ideal.ofBits_zero_f32).trans ?_
  rw [zero_add, zero_add]
  refine Finset.sum_congr rfl fun s _ => ?_
  rw [val_main_v71_apply, ← ref_mixed x0 x8 x9 B hb4]
  refine (mul_comm _ _).trans ?_
  have e : ∀ w : S4096x1024.Idx, w = ix2 s (lane g l) → @Eq EReal (x12 w * val_main_v67 (F := Ideal) x0 x8 x9 w) (x12 (ix2 s (lane g l)) * val_main_v67 (F := Ideal) x0 x8 x9 (ix2 s (lane g l))) := by
    rintro _ rfl
    rfl
  refine e _ ?_
  funext a
  fin_cases a
  · rfl
  · exact Fin.ext (by show 0 * 1024 + (lane g l).val = (lane g l).val; omega)

/-! ### The means over windows -/

/-- A row's position. -/
theorem ref_position (z : S4096x1.Idx) : @Eq EReal (val_main_v3 (F := Ideal) z) (((z 0).val : ℝ) : EReal) := by
  rw [val_main_v3_apply, val_main_v2_apply, val_main_v1_apply]
  refine congrArg (fun x : ℝ => (x : EReal)) ?_
  show ((BitVec.toInt (BitVec.ofNat 32 (z 0).val) : ℤ) : ℝ) = _
  have hz : (z 0).val < 4096 := (z 0).isLt
  rw [BitVec.toInt_eq_toNat_of_lt (by simp; omega)]
  simp only [BitVec.toNat_ofNat]
  rw [Nat.mod_eq_of_lt (by omega)]
  push_cast
  rfl

theorem one_more (n : ℕ) (w : BitVec 32) (g : Fin 4) (hw : @Eq EReal (Ideal.ofBits .f32 w) ((wide g : ℝ) : EReal)) :
    min (((n : ℝ) : EReal) + Ideal.ofBits .f32 0x3F800000#32) (Ideal.ofBits .f32 w) = ((rowsIn g n : ℝ) : EReal) := by
  rw [← min_rows, hw, show Ideal.ofBits .f32 0x3F800000#32 = ((1 : ℝ) : EReal) from Ideal.ofBits_one_f32, ← EReal.coe_add]
  push_cast
  rfl

/-- The numbers of rows in the windows of the four groups. -/
theorem ref_rows (i : Fin 4096) (l : Fin 256) :
    @Eq EReal (val_main_v127 (F := Ideal) (ix2 i l)) ((rowsIn 0 i.val : ℝ) : EReal)
      ∧ @Eq EReal (val_main_v115 (F := Ideal) (ix2 i l)) ((rowsIn 1 i.val : ℝ) : EReal)
      ∧ @Eq EReal (val_main_v103 (F := Ideal) (ix2 i l)) ((rowsIn 2 i.val : ℝ) : EReal)
      ∧ @Eq EReal (val_main_v92 (F := Ideal) (ix2 i l)) ((rowsIn 3 i.val : ℝ) : EReal) := by
  have w := fun g => (Cert.Kernel2Ideal.SeqBackward.width_bits g)
  refine ⟨?_, ?_, ?_, ?_⟩
  · rw [val_main_v127_apply, val_main_v13_apply, val_main_v11_apply, ref_position]
    exact one_more i.val 0x40000000#32 0 (w 0)
  · rw [val_main_v115_apply, val_main_v27_apply, val_main_v25_apply, ref_position]
    exact one_more i.val 0x40800000#32 1 (w 1)
  · rw [val_main_v103_apply, val_main_v41_apply, val_main_v39_apply, ref_position]
    exact one_more i.val 0x41000000#32 2 (w 2)
  · rw [val_main_v92_apply, val_main_v55_apply, val_main_v53_apply, ref_position]
    exact one_more i.val 0x41800000#32 3 (w 3)

/-- A group's columns set among zeros. -/
theorem set_columns (g' : Fin 4) (hi : ℕ) (y : Vec Ideal S4096x256 .f32) (z : Vec Ideal S_ .f32) (hz : z (Shape.Idx.first h_S_) = (0 : EReal))
    (h : S4096x256.Pads ![0, 256 * g'.val] ![0, hi] ![0, 0] S4096x1024) (s : Fin 4096) (g : Fin 4) (l : Fin 256) :
    @Eq EReal (pad S4096x1024 ![0, 256 * g'.val] ![0, hi] ![0, 0] y z h h_S_ (ix2 s (lane g l))) (if g = g' then y (ix2 s l) else 0) := by
  by_cases hg : g = g'
  · rw [if_pos hg]
    subst hg
    exact pad_apply_of_inside _ _ _ _ _ _ _ _ (ix2 s l) (fun a => by
      fin_cases a
      · show s.val = 0 + s.val * (0 + 1)
        omega
      · show 256 * g.val + l.val = 256 * g.val + l.val * (0 + 1)
        omega)
  · rw [if_neg hg, ← hz]
    refine pad_apply_of_not_inside _ _ _ _ _ _ _ _ (1 : Fin 2) fun hin => hg (Fin.ext ?_)
    obtain ⟨h1, -, h2⟩ := hin
    change 256 * g'.val ≤ 256 * g.val + l.val at h1
    change (256 * g.val + l.val - 256 * g'.val) / (0 + 1) < 256 at h2
    omega

section Finite

variable (f8 : ∀ i, Fin' (x8 i)) (f10 : ∀ i, Fin' (x10 i)) (f12 : ∀ i, Fin' (x12 i))
include f8 f10 f12

theorem finite_mean (hb : ∀ l, @Eq EReal (B (ix2 5 l)) (x10 (ix1 l))) (g : Fin 4) (s : Fin 4096) (l : Fin 256) : Fin' (meanArr x12 x8 B g s l) :=
  Fin'.sum fun k => ((f12 _).mul (by rw [hb]; exact f10 _)).mul (f8 _)

theorem finite_quot (hb : ∀ l, @Eq EReal (B (ix2 5 l)) (x10 (ix1 l))) (g : Fin 4) (l : Fin 256) (n : ℕ) : Fin' (quotArr x12 x8 B g l n) := by
  unfold quotArr
  split
  · rw [Ideal.div_coe (rowsIn_ne _ _)]
    exact (finite_mean x8 x10 x12 B f8 f10 f12 hb g _ l).mul (Fin'.coe _)
  · exact Fin'.coe 0

/-- The gradient of the branch's rows, on finite weights, scale and cotangent. -/
theorem ref_pool (hb : ∀ l, @Eq EReal (B (ix2 5 l)) (x10 (ix1 l))) (s : Fin 4096) (g : Fin 4) (l : Fin 256) :
    @Eq EReal (val_main_v137 (F := Ideal) x8 x10 x12 (ix2 s (lane g l))) (poolArr x12 x8 B g s l) := by
  have z := Ideal.ofBits_zero_f32
  have dp : ∀ (g : Fin 4) (d : Vec Ideal S4096x256 .f32) (n : Vec Ideal S4096x256 .f32),
      (∀ i : Fin 4096, @Eq EReal (d (ix2 i l)) (val_main_v86 (F := Ideal) x8 x10 x12 (ix2 i (lane g l)))) →
      (∀ i : Fin 4096, @Eq EReal (n (ix2 i l)) ((rowsIn g i.val : ℝ) : EReal)) →
      ∀ i : Fin 4096, Ideal.div (d (ix2 i l)) (n (ix2 i l)) = quotArr x12 x8 B g l i.val := fun g d n hd hn i => by
    unfold quotArr
    rw [dif_pos i.isLt, hd, hn, ref_mean x8 x10 x12 B hb]
  have far : ∀ (g : Fin 4) (i : ℕ), 4096 ≤ i → quotArr x12 x8 B g l i = 0 := fun g i hi => by
    unfold quotArr
    rw [dif_neg (by omega)]
  have cols : ∀ (g : Fin 4) (w : S4096x1024.Idx) (i : Fin 4096), (w 0).val = i.val → (w 1).val = 256 * g.val + l.val →
      @Eq EReal (val_main_v86 (F := Ideal) x8 x10 x12 w) (val_main_v86 (F := Ideal) x8 x10 x12 (ix2 i (lane g l))) := fun g w i h0 h1 =>
    congrArg _ (funext fun a => by
      fin_cases a
      · exact Fin.ext h0
      · exact Fin.ext h1)
  have c3 : ∀ i : Fin 4096, @Eq EReal (val_main_v90 (F := Ideal) x8 x10 x12 (ix2 i l)) _ := fun i =>
    (val_main_v90_apply x8 x10 x12 _).trans (cols 3 _ i rfl rfl)
  have c2 : ∀ i : Fin 4096, @Eq EReal (val_main_v89 (F := Ideal) x8 x10 x12 (ix2 i l)) _ := fun i =>
    (val_main_v89_apply x8 x10 x12 _).trans (cols 2 _ i rfl rfl)
  have c1 : ∀ i : Fin 4096, @Eq EReal (val_main_v88 (F := Ideal) x8 x10 x12 (ix2 i l)) _ := fun i =>
    (val_main_v88_apply x8 x10 x12 _).trans (cols 1 _ i rfl rfl)
  have c0 : ∀ i : Fin 4096, @Eq EReal (val_main_v87 (F := Ideal) x8 x10 x12 (ix2 i l)) _ := fun i =>
    (val_main_v87_apply x8 x10 x12 _).trans (cols 0 _ i rfl (Nat.zero_add _).symm)
  have q := finite_quot x8 x10 x12 B f8 f10 f12 hb
  have e3 : @Eq EReal (val_main_v100 (F := Ideal) x8 x10 x12 (ix2 s l)) (poolArr x12 x8 B 3 s l) :=
    (through_windows 16 (val_main_v90 (F := Ideal) x8 x10 x12) (val_main_v92 (F := Ideal)) _ _ z z _ _ _ l _ (q 3 l) (dp 3 _ _ c3 fun i => (ref_rows i l).2.2.2) (far 3) s).trans
      (congrArg (fun x : EReal => (∑ k ∈ Finset.range 16, quotArr x12 x8 B 3 l (s.val + k)) - x) ((c3 s).trans (ref_mean x8 x10 x12 B hb s 3 l)))
  have e2 : @Eq EReal (val_main_v111 (F := Ideal) x8 x10 x12 (ix2 s l)) (poolArr x12 x8 B 2 s l) :=
    (through_windows 8 (val_main_v89 (F := Ideal) x8 x10 x12) (val_main_v103 (F := Ideal)) _ _ z z _ _ _ l _ (q 2 l) (dp 2 _ _ c2 fun i => (ref_rows i l).2.2.1) (far 2) s).trans
      (congrArg (fun x : EReal => (∑ k ∈ Finset.range 8, quotArr x12 x8 B 2 l (s.val + k)) - x) ((c2 s).trans (ref_mean x8 x10 x12 B hb s 2 l)))
  have e1 : @Eq EReal (val_main_v123 (F := Ideal) x8 x10 x12 (ix2 s l)) (poolArr x12 x8 B 1 s l) :=
    (through_windows 4 (val_main_v88 (F := Ideal) x8 x10 x12) (val_main_v115 (F := Ideal)) _ _ z z _ _ _ l _ (q 1 l) (dp 1 _ _ c1 fun i => (ref_rows i l).2.1) (far 1) s).trans
      (congrArg (fun x : EReal => (∑ k ∈ Finset.range 4, quotArr x12 x8 B 1 l (s.val + k)) - x) ((c1 s).trans (ref_mean x8 x10 x12 B hb s 1 l)))
  have e0 : @Eq EReal (val_main_v135 (F := Ideal) x8 x10 x12 (ix2 s l)) (poolArr x12 x8 B 0 s l) :=
    (through_windows 2 (val_main_v87 (F := Ideal) x8 x10 x12) (val_main_v127 (F := Ideal)) _ _ z z _ _ _ l _ (q 0 l) (dp 0 _ _ c0 fun i => (ref_rows i l).1) (far 0) s).trans
      (congrArg (fun x : EReal => (∑ k ∈ Finset.range 2, quotArr x12 x8 B 0 l (s.val + k)) - x) ((c0 s).trans (ref_mean x8 x10 x12 B hb s 0 l)))
  have p3 := set_columns 3 0 (val_main_v100 (F := Ideal) x8 x10 x12) (val_main_cst_20 (F := Ideal)) z pads_S4096x256_S4096x1024_000_76800 s g l
  have p2 := set_columns 2 256 (val_main_v111 (F := Ideal) x8 x10 x12) (val_main_cst_22 (F := Ideal)) z pads_S4096x256_S4096x1024_000_5122560 s g l
  have p1 := set_columns 1 512 (val_main_v123 (F := Ideal) x8 x10 x12) (val_main_cst_24 (F := Ideal)) z pads_S4096x256_S4096x1024_000_2565120 s g l
  have p0 := set_columns 0 768 (val_main_v135 (F := Ideal) x8 x10 x12) (val_main_cst_26 (F := Ideal)) z pads_S4096x256_S4096x1024_000_07680 s g l
  rw [e3] at p3
  rw [e2] at p2
  rw [e1] at p1
  rw [e0] at p0
  rw [val_main_v137_apply, val_main_v125_apply, val_main_v113_apply]
  refine (congrArg₂ (fun a b : EReal => a + b) (congrArg₂ (fun a b : EReal => a + b) (congrArg₂ (fun a b : EReal => a + b) p3 p2) p1) p0).trans ?_
  fin_cases g <;> simp

end Finite

/-! ### The result arrays -/

/-- The branch's columns of the projection's gradient. -/
theorem ref_pool_columns (s : Fin 4096) (g : Fin 4) (l : Fin 256) :
    @Eq EReal (val_main_v270 (F := Ideal) x8 x10 x12 x13 (ix2 s (poolCol g l))) (val_main_v137 (F := Ideal) x8 x10 x12 (ix2 s (lane g l))) := by
  rw [val_main_v270_apply]
  unfold val_main_v269
  refine concatenate_apply_piece 1 _ _ (ix2 s (poolCol g l)) 1 (by show 1 < 3; omega) S4096x1024 _ rfl rfl 2048 (by rfl) (ix2 s (lane g l)) (fun b hb => ?_) rfl
  fin_cases b
  · rfl
  · exact absurd rfl hb

/-- The gates' columns. -/
theorem ref_gate_columns (s : Fin 4096) (l : Fin 2048) :
    @Eq EReal (val_main_v270 (F := Ideal) x8 x10 x12 x13 (ix2 s (gateCol l))) (x13 (ix2 s l)) := by
  rw [val_main_v270_apply]
  unfold val_main_v269
  refine concatenate_apply_piece 1 _ _ (ix2 s (gateCol l)) 2 (by show 2 < 3; omega) S4096x2048 _ rfl rfl 3072 (by rfl) (ix2 s l) (fun b hb => ?_) rfl
  fin_cases b
  · rfl
  · exact absurd rfl hb

/-- The rows of the sums: the gradients of the input gate's bias, of the branch's bias and of its scale. -/
theorem ref_sums (x1 : Vec Ideal S4x1024 .f32) (x2 : Vec Ideal S1024 .f32) (x3 x5 : Vec Ideal S4x256x256 .f32) (x4 x6 x7 : Vec Ideal S1024 .f32) (x11 : Vec Ideal S4096x1024 .f32) (j : Fin 1024) :
    @Eq EReal (val_main_v288 (F := Ideal) x0 x1 x2 x3 x4 x5 x6 x7 x8 x9 x10 x11 x12 (ix2 6 j)) (val_main_v263 (F := Ideal) x0 x1 x2 x3 x4 x5 x6 x7 x11 (ix1 j))
      ∧ @Eq EReal (val_main_v288 (F := Ideal) x0 x1 x2 x3 x4 x5 x6 x7 x8 x9 x10 x11 x12 (ix2 8 j)) (val_main_v79 (F := Ideal) x10 x12 (ix1 j))
      ∧ @Eq EReal (val_main_v288 (F := Ideal) x0 x1 x2 x3 x4 x5 x6 x7 x8 x9 x10 x11 x12 (ix2 9 j)) (val_main_v76 (F := Ideal) x0 x8 x9 x12 (ix1 j)) := by
  have one : ∀ (y : Vec Ideal S1024 .f32), @Eq EReal (broadcastInDim S1x1024 ![1] bcast_S1024_S1x1024_1 y (ix2 0 j)) (y (ix1 j)) := fun y => by pointwise []
  unfold val_main_v288
  refine ⟨?_, ?_, ?_⟩
  · refine (concatenate_apply_piece (t := S16x1024) 0 _ _ (ix2 6 j) 6 (by show 6 < 16; omega) S1x1024 (val_main_v278 (F := Ideal) x0 x1 x2 x3 x4 x5 x6 x7 x11) rfl rfl 6 (by rfl) (ix2 0 j) (fun b hb => ?_) rfl).trans (one _)
    fin_cases b
    · exact absurd rfl hb
    · rfl
  · refine (concatenate_apply_piece (t := S16x1024) 0 _ _ (ix2 8 j) 8 (by show 8 < 16; omega) S1x1024 (val_main_v280 (F := Ideal) x10 x12) rfl rfl 8 (by rfl) (ix2 0 j) (fun b hb => ?_) rfl).trans (one _)
    fin_cases b
    · exact absurd rfl hb
    · rfl
  · refine (concatenate_apply_piece (t := S16x1024) 0 _ _ (ix2 9 j) 9 (by show 9 < 16; omega) S1x1024 (val_main_v281 (F := Ideal) x0 x8 x9 x12) rfl rfl 9 (by rfl) (ix2 0 j) (fun b hb => ?_) rfl).trans (one _)
    fin_cases b
    · exact absurd rfl hb
    · rfl

end Cert.Reference2Ideal.Read

end
-- ==== Proof.SeqBackward.ScannedReference.lean ====
/- The reference of the scanned branch read place by place: the gates, the decays, and `jax.vjp` of the decayed sum of the rows
   before, as the branch's numbers give them. -/
module

public import proofs.«01_k».proof.Proof.SeqBackward.Reference
public import proofs.«01_k».proof.Proof.SeqBackward.Scanned

@[expose] public section

set_option maxRecDepth 16384
set_option maxHeartbeats 2000000

noncomputable section

namespace Cert.Reference2Ideal.Read
open Cert.Reference2Ideal Cert.Reference2Ideal.Gen Idealize.ShloMosaic Idealize.ShloMosaic.TcCoe
open Cert.Proof.Norm
open Cert.Kernel2Ideal.SeqBackward (lane Branch actCol gelu sigma softplus level back foldl_terms minus_eight coe_max log1p_exp)

/-- The running sum down to a row. -/
theorem sum_above (x : Vec Ideal S4096x1024 .f32) (v : Vec Ideal S_ .f32) (hv : v (Shape.Idx.first h_S_) = (0 : EReal))
    (h : S4096x1024.ReduceWindows ![4096, 1] ![1, 1] ![4095, 0] ![0, 0] S4096x1024) (s : Fin 4096) (l : Fin 1024) (f : ℕ → EReal) (hf : ∀ s : Fin 4096, x (ix2 s l) = f s.val) :
    @Eq EReal (Host.reduceWindowAdd (F := Ideal) (φ := .f32) ![4096, 1] ![1, 1] ![4095, 0] ![0, 0] x v h h_S_ (ix2 s l))
      (∑ k ∈ Finset.range 4096, if 4095 ≤ s.val + k then f (s.val + k - 4095) else 0) := by
  have hn : (⟨2, ![4096, 1]⟩ : Shape).numel = 4096 := Fin.prod_univ_two _
  have hs : ∀ n : Fin (⟨2, ![4096, 1]⟩ : Shape).numel, (⟨2, ![4096, 1]⟩ : Shape).rowMajor.symm n = ix2 (n.cast hn) (0 : Fin 1) := fun n => by
    rw [Equiv.symm_apply_eq]
    refine Fin.ext ?_
    rw [Shape.rowMajor_val_two]
    show n.val = n.val * 1 + 0
    omega
  unfold Host.reduceWindowAdd
  rw [Ideal.hostReduceWindowAdd_def]
  unfold Ideal.hostReduceWindowAdd Host.reduceWindow
  dsimp only
  rw [foldl_terms, hv, zero_add, ← Fin.sum_univ_def]
  refine (Finset.sum_congr rfl fun n _ => (?_ : _ = if 4095 ≤ s.val + n.val then f (s.val + n.val - 4095) else (0 : EReal))).trans ?_
  · have hn4 : n.val < 4096 := lt_of_lt_of_eq n.isLt hn
    by_cases hb : 4095 ≤ s.val + n.val
    · rw [dif_pos, if_pos hb]
      · refine Eq.trans (congrArg x (funext fun a => Fin.ext ?_)) (hf ⟨s.val + n.val - 4095, by omega⟩)
        simp only [hs n]
        fin_cases a
        · show s.val * 1 + n.val - 4095 = s.val + n.val - 4095
          omega
        · show l.val * 1 + 0 - 0 = l.val
          omega
      · intro a
        simp only [hs n]
        fin_cases a
        · exact ⟨by show 4095 ≤ s.val * 1 + n.val; omega, by show s.val * 1 + n.val - 4095 < 4096; omega⟩
        · exact ⟨Nat.zero_le _, by show l.val * 1 + 0 - 0 < 1024; omega⟩
    · rw [dif_neg, if_neg hb]
      intro hin
      have h1 := (hin 0).1
      simp only [hs n] at h1
      change 4095 ≤ s.val * 1 + n.val at h1
      omega
  · rw [Finset.sum_range]
    exact Fintype.sum_equiv (finCongr hn) _ _ fun n => rfl

/-- The rows up to `s`, counted from the far end. -/
theorem sum_up_to (f : ℕ → ℝ) (s : ℕ) (hs : s < 4096) :
    (∑ k ∈ Finset.range 4096, if 4095 ≤ s + k then ((f (s + k - 4095) : ℝ) : EReal) else 0) = ((∑ k ∈ Finset.range (s + 1), f k : ℝ) : EReal) := by
  have e : ∀ k, (if 4095 ≤ s + k then ((f (s + k - 4095) : ℝ) : EReal) else 0) = ((if 4095 ≤ s + k then f (s + k - 4095) else 0 : ℝ) : EReal) := fun k => by
    split <;> rfl
  simp only [e]
  rw [Finset.sum_range, ← Cert.Proof.Norm.coe_sum, ← Finset.sum_range (fun k => if 4095 ≤ s + k then f (s + k - 4095) else 0), ← Finset.sum_filter]
  refine congrArg _ (Finset.sum_bij' (fun k _ => s + k - 4095) (fun k _ => k + 4095 - s) ?_ ?_ ?_ ?_ ?_)
  · intro k hk
    simp only [Finset.mem_filter, Finset.mem_range] at hk ⊢
    omega
  · intro k hk
    simp only [Finset.mem_filter, Finset.mem_range] at hk ⊢
    omega
  · intro k hk
    simp only [Finset.mem_filter, Finset.mem_range] at hk
    omega
  · intro k hk
    simp only [Finset.mem_range] at hk
    omega
  · intro k hk
    rfl

variable (x0 : Vec Ideal S4096x5120 .f32) (x1 : Vec Ideal S4x1024 .f32) (x2 : Vec Ideal S1024 .f32) (x3 x5 : Vec Ideal S4x256x256 .f32) (x4 x6 x7 : Vec Ideal S1024 .f32)
  (x11 : Vec Ideal S4096x1024 .f32) (D : Branch)
  (H : D.Holds (fun s j => val_main_v170 (F := Ideal) x0 x1 x2 (ix2 s j)) (fun s j => x11 (ix2 s j) * gelu (x0 (ix2 s (actCol j)))) (fun g k l => x3 (ix3 g k l)) (fun g k l => x5 (ix3 g k l))
    (fun j => x4 (ix1 j)) (fun j => x6 (ix1 j)) (fun j => x7 (ix1 j)))

/-- The logistic function as a quotient. -/
theorem sigma_quotient (x : ℝ) : Ideal.div (Ideal.ofBits .f32 0x3F800000#32) (Ideal.ofBits .f32 0x3F800000#32 + Ideal.exp (-(x : EReal))) = (sigma x : EReal) := by
  have h1 : Ideal.ofBits .f32 0x3F800000#32 = ((1 : ℝ) : EReal) := Ideal.ofBits_one_f32
  have hp := Real.exp_pos (-x)
  rw [h1, ← EReal.coe_neg, Ideal.exp_coe, ← EReal.coe_add, Ideal.div_coe (by linarith), ← EReal.coe_mul]
  unfold sigma
  rw [one_mul]

section Gates

include H

theorem ref_decay_gate (s : Fin 4096) (g : Fin 4) (l : Fin 256) : @Eq EReal (val_main_v183 (F := Ideal) x0 x1 x2 x3 x4 (ix2 s (lane g l)))
    (sigma ((∑ k : Fin 256, D.X g s k * D.WA g k l) + D.PA g l) : EReal) := by
  rw [← sigma_quotient, EReal.coe_add, Cert.Proof.Norm.coe_sum]
  rw [val_main_v183_apply, val_main_v182_apply, val_main_cst_29_apply, val_main_v181_apply, val_main_v180_apply, val_main_cst_28_apply, val_main_v179_apply, val_main_v178_apply, val_main_v177_apply,
    val_main_v174_apply, show idx_main_v174 = idx_main_v86 from rfl, joined, val_main_v173_apply, val_main_v172_apply, val_main_v176_apply, val_main_v175_apply]
  refine congrArg (fun z => Ideal.div (Ideal.ofBits .f32 0x3F800000#32) (Ideal.ofBits .f32 0x3F800000#32 + Ideal.exp (-z))) (congrArg₂ (fun a b : EReal => a + b) (Finset.sum_congr rfl fun k _ => ?_) ?_)
  · rw [val_main_v171_apply, show idx_main_v171 = idx_main_v61 from rfl, split _ s g k rfl rfl rfl, mul_comm, EReal.coe_mul]
    refine congrArg₂ (fun a b : EReal => a * b) (H.hX g s k) (Eq.trans (congrArg x3 ?_) (H.hWA g k l))
    funext a
    fin_cases a <;> rfl
  · refine Eq.trans (congrArg x4 ?_) (H.hPA g l)
    funext a
    fin_cases a
    exact Fin.ext (by first | rfl | exact Nat.mod_eq_of_lt (lane g l).isLt)

theorem ref_input_gate (s : Fin 4096) (g : Fin 4) (l : Fin 256) : @Eq EReal (val_main_v196 (F := Ideal) x0 x1 x2 x5 x6 (ix2 s (lane g l))) (D.gate g l s : EReal) := by
  unfold Branch.gate
  rw [← sigma_quotient, EReal.coe_add, Cert.Proof.Norm.coe_sum]
  rw [val_main_v196_apply, val_main_v195_apply, val_main_v194_apply, val_main_v193_apply, val_main_v192_apply, val_main_v191_apply, val_main_v190_apply,
    val_main_v187_apply, show idx_main_v187 = idx_main_v86 from rfl, joined, val_main_v186_apply, val_main_v185_apply, val_main_v189_apply, val_main_v188_apply]
  refine congrArg (fun z => Ideal.div (Ideal.ofBits .f32 0x3F800000#32) (Ideal.ofBits .f32 0x3F800000#32 + Ideal.exp (-z))) (congrArg₂ (fun a b : EReal => a + b) (Finset.sum_congr rfl fun k _ => ?_) ?_)
  · rw [val_main_v184_apply, show idx_main_v184 = idx_main_v61 from rfl, split _ s g k rfl rfl rfl, mul_comm, EReal.coe_mul]
    refine congrArg₂ (fun a b : EReal => a * b) (H.hX g s k) (Eq.trans (congrArg x5 ?_) (H.hWX g k l))
    funext a
    fin_cases a <;> rfl
  · refine Eq.trans (congrArg x6 ?_) (H.hPX g l)
    funext a
    fin_cases a
    exact Fin.ext (by first | rfl | exact Nat.mod_eq_of_lt (lane g l).isLt)

theorem ref_softplus (g : Fin 4) (l : Fin 256) : @Eq EReal (val_main_v202 (F := Ideal) x7 (ix1 (lane g l))) (softplus (D.Q g l) : EReal) := by
  have hq := H.hQ g l
  rw [val_main_v202_apply]
  simp only [val_main_call8_v4_apply, val_main_call8_v3_apply, val_main_call8_v6_apply, val_main_call8_v11_apply, val_main_call8_v10_apply, val_main_call8_v9_apply, val_main_call8_v8_apply,
    val_main_call8_v7_apply, val_main_call8_v2_apply, val_main_call8_v1_apply, val_main_call8_v0_apply, val_main_call8_cst_apply, val_main_call8_v5_apply, hq]
  generalize D.Q g l = y
  show Scalar.select (Ideal.cmp .une ((y : EReal) - Ideal.ofBits .f32 0x00000000#32) ((y : EReal) - Ideal.ofBits .f32 0x00000000#32)) ((y : EReal) + Ideal.ofBits .f32 0x00000000#32)
    (max (y : EReal) (Ideal.ofBits .f32 0x00000000#32) + Ideal.log1p (Ideal.exp (-(max ((y : EReal) - Ideal.ofBits .f32 0x00000000#32) (-((y : EReal) - Ideal.ofBits .f32 0x00000000#32)))))) = _
  have hn : ∀ z : EReal, Ideal.cmp .une z z = 0#1 := fun z => by simp [Ideal.cmp]
  rw [hn, Ideal.ofBits_zero_f32, sub_zero]
  rw [← EReal.coe_neg y, ← coe_max, show max y (-y) = |y| from rfl, ← EReal.coe_neg, log1p_exp, ← EReal.coe_zero, ← coe_max, ← EReal.coe_add]
  rfl

theorem ref_log_decay (s : Fin 4096) (g : Fin 4) (l : Fin 256) : @Eq EReal (val_main_v205 (F := Ideal) x0 x1 x2 x3 x4 x7 (ix2 s (lane g l))) (D.lam g l s.val : EReal) := by
  rw [val_main_v205_apply, val_main_v201_apply, val_main_v200_apply, val_main_cst_33_apply, val_main_v204_apply, val_main_v203_apply]
  have hz : ∀ z : S1024.Idx, z = ix1 (lane g l) → @Eq EReal (val_main_v202 (F := Ideal) x7 z) (softplus (D.Q g l) : EReal) := by
    rintro _ rfl
    exact ref_softplus x0 x1 x2 x3 x5 x4 x6 x7 x11 D H g l
  refine (congrArg₂ (fun a b : EReal => (Ideal.ofBits .f32 0xC1000000#32 * a) * b) (ref_decay_gate x0 x1 x2 x3 x5 x4 x6 x7 x11 D H s g l) (hz _ ?_)).trans ?_
  · funext a
    fin_cases a
    exact Fin.ext (by first | rfl | exact Nat.mod_eq_of_lt (lane g l).isLt)
  · unfold Branch.lam
    rw [minus_eight, dif_pos s.isLt, ← EReal.coe_mul, ← EReal.coe_mul]

/-- The factor of the input. -/
theorem ref_factor (s : Fin 4096) (g : Fin 4) (l : Fin 256) : @Eq EReal (val_main_v215 (F := Ideal) x0 x1 x2 x3 x4 x7 (ix2 s (lane g l))) (D.factor g l s.val : EReal) := by
  have hl := ref_log_decay x0 x1 x2 x3 x5 x4 x6 x7 x11 D H s g l
  have hs : @Eq EReal (val_main_v210 (F := Ideal) x0 x1 x2 x3 x4 x7 (ix2 s (lane g l))) (Real.sqrt (1 - Real.exp (2 * D.lam g l s.val)) : EReal) := by
    rw [val_main_v210_apply, val_main_v209_apply, val_main_v208_apply, val_main_v207_apply, val_main_v206_apply, hl]
    generalize hlam : D.lam g l s.val = y
    have hy := D.square_nonneg g l s.val
    rw [hlam] at hy
    show Ideal.sqrt (-(Ideal.exp (Ideal.ofBits .f32 0x40000000#32 * (y : EReal)) - 1)) = _
    rw [show Ideal.ofBits .f32 0x40000000#32 = ((2 : ℝ) : EReal) from Cert.Proof.Norm.two_eq, ← EReal.coe_mul, Ideal.exp_coe, ← EReal.coe_one, ← EReal.coe_sub, ← EReal.coe_neg,
      neg_sub, Ideal.sqrt_coe, if_neg (not_lt.2 hy)]
  rw [val_main_v215_apply, hs]
  simp only [val_main_call9_v1_apply, val_main_call9_v2_apply, val_main_call9_v0_apply, val_main_v214_apply, val_main_v213_apply, val_main_v212_apply, val_main_v211_apply]
  unfold Branch.factor
  have e : ∀ s : Fin 4096, IntOp.cmpi CmpIPredicate.eq (BitVec.ofNat 32 s.val) 0#32 = if s.val = 0 then 1#1 else 0#1 := by decide +kernel
  rw [show val_main_c (idx_main_v212 (idx_main_v214 (idx_main_call9_v1 (ix2 s (lane g l))))) = 0#32 from rfl, show ((ix2 s (lane g l)) 0).val = s.val from rfl, e s]
  by_cases h0 : s.val = 0
  · rw [if_pos h0, if_pos h0]
    exact Ideal.ofBits_one_f32
  · rw [if_neg h0, if_neg h0]
    rfl

/-- The logarithms added up. -/
theorem ref_level (s : Fin 4096) (g : Fin 4) (l : Fin 256) : @Eq EReal (val_main_v233 (F := Ideal) x0 x1 x2 x3 x4 x7 (ix2 s (lane g l))) (level (D.lam g l) s.val : EReal) := by
  unfold val_main_v233
  refine (sum_above _ _ Ideal.ofBits_zero_f32 _ s (lane g l) (fun n => (D.lam g l n : EReal)) (fun s => ref_log_decay x0 x1 x2 x3 x5 x4 x6 x7 x11 D H s g l)).trans ?_
  exact sum_up_to (D.lam g l) s.val s.isLt

end Gates

theorem ref_gelu (s : Fin 4096) (j : Fin 1024) : @Eq EReal (val_main_v229 (F := Ideal) x0 (ix2 s j)) (gelu (x0 (ix2 s (actCol j)))) := by
  have hy : @Eq EReal (val_main_v216 (F := Ideal) x0 (ix2 s j)) (x0 (ix2 s (actCol j))) := by
    rw [val_main_v216_apply]
    refine congrArg x0 ?_
    funext a
    fin_cases a
    · rfl
    · exact Fin.ext (by first | rfl | exact Nat.add_comm j.val 1024)
  simp only [val_main_v229_apply, val_main_v228_apply, val_main_v227_apply, val_main_v226_apply, val_main_v225_apply, val_main_v224_apply, val_main_v223_apply, val_main_v222_apply, val_main_v221_apply,
    val_main_v220_apply, val_main_v219_apply, val_main_v218_apply, val_main_v217_apply, hy]
  unfold gelu
  rw [← Ideal.ofBits_one_f32]
  rfl

section Rows

include H

/-- A row's own gradient. -/
theorem ref_own (s : Fin 4096) (g : Fin 4) (l : Fin 256) : @Eq EReal (val_main_v252 (F := Ideal) x0 x11 (ix2 s (lane g l))) (D.own g l s.val : EReal) := by
  rw [val_main_v252_apply]
  refine Eq.trans (congrArg (fun z : EReal => z * x11 (ix2 s (lane g l))) (ref_gelu x0 s (lane g l))) ?_
  unfold Branch.own
  rw [dif_pos s.isLt, mul_comm]
  exact H.hT g s l

/-- The part of a row's gradient that reaches an earlier row. -/
theorem ref_reach (t j : Fin 4096) (g : Fin 4) (l : Fin 256) : @Eq EReal (val_main_v254 (F := Ideal) x0 x1 x2 x3 x4 x7 x11 (ix3 t j (lane g l)))
    ((if j.val ≤ t.val then Real.exp (level (D.lam g l) t.val - level (D.lam g l) j.val) * D.own g l t.val else 0 : ℝ) : EReal) := by
  have ht := ref_level x0 x1 x2 x3 x5 x4 x6 x7 x11 D H t g l
  have hj := ref_level x0 x1 x2 x3 x5 x4 x6 x7 x11 D H j g l
  have ho := ref_own x0 x1 x2 x3 x5 x4 x6 x7 x11 D H t g l
  rw [val_main_v254_apply, val_main_v246_apply, val_main_v239_apply, val_main_v238_apply, val_main_v237_apply, val_main_v236_apply, val_main_v235_apply, val_main_v234_apply, val_main_v253_apply,
    show idx_main_v234 (idx_main_v236 (ix3 t j (lane g l))) = ix2 t (lane g l) from by funext a; fin_cases a <;> rfl,
    show idx_main_v235 (idx_main_v237 (ix3 t j (lane g l))) = ix2 j (lane g l) from by funext a; fin_cases a <;> rfl,
    show idx_main_v253 (ix3 t j (lane g l)) = ix2 t (lane g l) from by funext a; fin_cases a <;> rfl, ht, hj, ho]
  rw [val_main_call11_v1_apply, val_main_call11_v2_apply, val_main_v245_apply, val_main_v244_apply, val_main_v243_apply, val_main_v242_apply, val_main_v241_apply, val_main_v240_apply, val_main_v232_apply,
    val_main_v232_apply]
  change Scalar.select (IntOp.cmpi CmpIPredicate.sge (BitVec.ofNat 32 t.val) (BitVec.ofNat 32 j.val))
    (Ideal.exp ((level (D.lam g l) t.val : EReal) - (level (D.lam g l) j.val : EReal))) (Ideal.ofBits .f32 0x00000000#32) * (D.own g l t.val : EReal) = _
  rw [Idealize.ShloMosaic.WordCmp.cmpi_sge_ofNat (by omega) (by omega), ← EReal.coe_sub, Ideal.exp_coe, Ideal.ofBits_zero_f32]
  by_cases h : j.val ≤ t.val
  · rw [if_pos h, decide_eq_true h, EReal.coe_mul]
    rfl
  · rw [if_neg h, decide_eq_false h]
    exact zero_mul _

/-- A row's gradient. -/
theorem ref_row (j : Fin 4096) (g : Fin 4) (l : Fin 256) : @Eq EReal (val_main_v257 (F := Ideal) x0 x1 x2 x3 x4 x7 x11 (ix2 j (lane g l))) (D.row g l j.val : EReal) := by
  have hr := fun t => ref_reach x0 x1 x2 x3 x5 x4 x6 x7 x11 D H t j g l
  rw [val_main_v257_apply, Fin.sum_univ_one, val_main_v256_apply, val_main_v255_apply]
  refine (congrArg₂ (fun a b : EReal => a + b) Ideal.ofBits_zero_f32 (congrArg₂ (fun a b : EReal => a + b) Ideal.ofBits_zero_f32
    (Finset.sum_congr rfl fun t _ => (congrArg (val_main_v254 (F := Ideal) x0 x1 x2 x3 x4 x7 x11) (?_ : _ = ix3 t j (lane g l))).trans (hr t)))).trans ?_
  · funext a
    fin_cases a
    · rfl
    · exact Fin.ext (by have := (lane g l).isLt; show ((0 * 4096 + j.val) * 1024 + (lane g l).val) / 1024 = j.val; omega)
    · exact Fin.ext (by have := (lane g l).isLt; show ((0 * 4096 + j.val) * 1024 + (lane g l).val) % 1024 = (lane g l).val; omega)
  · rw [zero_add, zero_add, ← Cert.Proof.Norm.coe_sum]
    unfold Branch.row back
    rw [Finset.sum_range]

/-- The gradient at the input gate's argument. -/
theorem ref_at_gate (s : Fin 4096) (g : Fin 4) (l : Fin 256) : @Eq EReal (val_main_v260 (F := Ideal) x0 x1 x2 x3 x4 x5 x6 x7 x11 (ix2 s (lane g l))) (D.atGate g l s : EReal) := by
  have h1 := ref_row x0 x1 x2 x3 x5 x4 x6 x7 x11 D H s g l
  have h2 := ref_factor x0 x1 x2 x3 x5 x4 x6 x7 x11 D H s g l
  have h3 := ref_input_gate x0 x1 x2 x3 x5 x4 x6 x7 x11 D H s g l
  have h4 : @Eq EReal (val_main_v170 (F := Ideal) x0 x1 x2 (ix2 s (lane g l))) (D.X g s l : EReal) := H.hX g s l
  rw [val_main_v260_apply, val_main_v259_apply, val_main_v258_apply, val_main_v199_apply, val_main_v198_apply, h1, h2, h3, h4]
  change ((D.X g s l : EReal) * ((D.row g l s.val : EReal) * (D.factor g l s.val : EReal))) * ((D.gate g l s : EReal) * (Ideal.ofBits .f32 0x3F800000#32 - (D.gate g l s : EReal))) = _
  rw [Ideal.ofBits_one_f32, ← EReal.coe_one, ← EReal.coe_sub, ← EReal.coe_mul, ← EReal.coe_mul, ← EReal.coe_mul, ← EReal.coe_mul]
  unfold Branch.atGate
  rw [mul_comm (D.X g s l)]

/-- The gate's bias gradient. -/
theorem ref_gate_bias (g : Fin 4) (l : Fin 256) : @Eq EReal (val_main_v263 (F := Ideal) x0 x1 x2 x3 x4 x5 x6 x7 x11 (ix1 (lane g l))) (∑ s : Fin 4096, (D.atGate g l s : EReal)) := by
  have hr := fun s => ref_at_gate x0 x1 x2 x3 x5 x4 x6 x7 x11 D H s g l
  rw [val_main_v263_apply, Fin.sum_univ_one, val_main_v262_apply, val_main_v261_apply]
  refine (congrArg₂ (fun a b : EReal => a + b) Ideal.ofBits_zero_f32 (congrArg₂ (fun a b : EReal => a + b) Ideal.ofBits_zero_f32
    (Finset.sum_congr rfl fun s _ => (congrArg (val_main_v260 (F := Ideal) x0 x1 x2 x3 x4 x5 x6 x7 x11) (?_ : _ = ix2 s (lane g l))).trans (hr s)))).trans ?_
  · funext a
    fin_cases a
    · rfl
    · exact Fin.ext (by show 0 * 1024 + (lane g l).val = (lane g l).val; omega)
  · rw [zero_add, zero_add]

/-- The gate's weight gradient. -/
theorem ref_gate_weight (g : Fin 4) (a b : Fin 256) : @Eq EReal (val_main_v267 (F := Ideal) x0 x1 x2 x3 x4 x5 x6 x7 x11 (ix3 g a b))
    (∑ s : Fin 4096, (D.X g s a : EReal) * (D.atGate g b s : EReal)) := by
  have hr := fun s => ref_at_gate x0 x1 x2 x3 x5 x4 x6 x7 x11 D H s g b
  rw [val_main_v267_apply, val_main_v266_apply]
  refine Finset.sum_congr rfl fun s _ => ?_
  rw [mul_comm]
  refine congrArg₂ (fun a b : EReal => a * b) ?_ ?_
  · rw [val_main_v184_apply, show idx_main_v184 = idx_main_v61 from rfl, split _ s g a rfl rfl rfl]
    exact H.hX g s a
  · rw [val_main_v265_apply, val_main_v264_apply, show idx_main_v264 = idx_main_v61 from rfl, split _ s g b rfl rfl rfl]
    exact hr s

end Rows

/-! ### The numbers of finite arrays -/

theorem finite_padded (f0 : ∀ i, Fin' (x0 i)) (z : S4099x1024.Idx) : Fin' (val_main_v140 (F := Ideal) x0 z) := by
  have z0 : (z 0).val < 4099 := (z 0).isLt
  have z1 : (z 1).val < 1024 := (z 1).isLt
  unfold val_main_v140
  by_cases hz : (z 0).val < 3
  · rw [concatenate_apply_piece (t := S4099x1024) 0 _ _ z 0 (by show 0 < 2; omega) S3x1024 (val_main_v139 (F := Ideal)) rfl rfl 0 (by rfl) (ix2 ⟨(z 0).val, hz⟩ ⟨(z 1).val, z1⟩) (fun b hb => ?_)
      (by show 0 + (z 0).val = (z 0).val; omega), val_main_v139_apply]
    · exact (congrArg Fin' Ideal.ofBits_zero_f32).mpr (Fin'.coe 0)
    · fin_cases b
      · exact absurd rfl hb
      · rfl
  · rw [concatenate_apply_piece (t := S4099x1024) 0 _ _ z 1 (by show 1 < 2; omega) S4096x1024 (val_main_v138 (F := Ideal) x0) rfl rfl 3 (by rfl) (ix2 ⟨(z 0).val - 3, by omega⟩ ⟨(z 1).val, z1⟩)
      (fun b hb => ?_) (by show 3 + ((z 0).val - 3) = (z 0).val; omega), val_main_v138_apply]
    · exact f0 _
    · fin_cases b
      · exact absurd rfl hb
      · rfl

theorem finite_convolved (f0 : ∀ i, Fin' (x0 i)) (f1 : ∀ i, Fin' (x1 i)) (f2 : ∀ i, Fin' (x2 i)) (z : S4096x1024.Idx) : Fin' (val_main_v170 (F := Ideal) x0 x1 x2 z) := by
  have p := finite_padded x0 f0
  rw [val_main_v170_apply, val_main_v163_apply, val_main_v156_apply, val_main_v149_apply, val_main_v169_apply, val_main_v162_apply, val_main_v155_apply, val_main_v146_apply,
    val_main_v164_apply, val_main_v157_apply, val_main_v150_apply, val_main_v141_apply]
  simp only [val_main_v168_apply, val_main_v167_apply, val_main_v166_apply, val_main_v165_apply, val_main_v161_apply, val_main_v160_apply, val_main_v159_apply, val_main_v158_apply,
    val_main_v154_apply, val_main_v153_apply, val_main_v152_apply, val_main_v151_apply, val_main_v145_apply, val_main_v144_apply, val_main_v143_apply, val_main_v142_apply,
    val_main_v148_apply, val_main_v147_apply]
  exact Fin'.add (Fin'.add (Fin'.add (Fin'.add (f2 _) (Fin'.mul (p _) (f1 _))) (Fin'.mul (p _) (f1 _))) (Fin'.mul (p _) (f1 _))) (Fin'.mul (p _) (f1 _))

/-- Finite arrays are a branch's numbers. -/
theorem branch_of_finite (f0 : ∀ i, Fin' (x0 i)) (f1 : ∀ i, Fin' (x1 i)) (f2 : ∀ i, Fin' (x2 i)) (f3 : ∀ i, Fin' (x3 i)) (f4 : ∀ i, Fin' (x4 i)) (f5 : ∀ i, Fin' (x5 i))
    (f6 : ∀ i, Fin' (x6 i)) (f7 : ∀ i, Fin' (x7 i)) (f11 : ∀ i, Fin' (x11 i)) :
    ∃ D : Branch, D.Holds (fun s j => val_main_v170 (F := Ideal) x0 x1 x2 (ix2 s j)) (fun s j => x11 (ix2 s j) * gelu (x0 (ix2 s (actCol j)))) (fun g k l => x3 (ix3 g k l))
      (fun g k l => x5 (ix3 g k l)) (fun j => x4 (ix1 j)) (fun j => x6 (ix1 j)) (fun j => x7 (ix1 j)) := by
  have hT : ∀ (s : Fin 4096) (j : Fin 1024), ∃ y : ℝ, x11 (ix2 s j) * gelu (x0 (ix2 s (actCol j))) = (y : EReal) := fun s j => by
    obtain ⟨a, ha⟩ := (f11 (ix2 s j)).exists_real
    obtain ⟨b, hb⟩ := (f0 (ix2 s (actCol j))).exists_real
    obtain ⟨u, hu⟩ := Cert.Kernel2Ideal.SeqBackward.gelu_real b
    exact ⟨a * u, by rw [ha, hb, hu, EReal.coe_mul]⟩
  choose X hX using fun z => (finite_convolved x0 x1 x2 f0 f1 f2 z).exists_real
  choose T hT using hT
  choose A hA using fun z => (f3 z).exists_real
  choose B hB using fun z => (f5 z).exists_real
  choose P hP using fun z => (f4 z).exists_real
  choose R hR using fun z => (f6 z).exists_real
  choose Q hQ using fun z => (f7 z).exists_real
  exact ⟨⟨fun g s l => X (ix2 s (lane g l)), fun g s l => T s (lane g l), fun g k l => A (ix3 g k l), fun g k l => B (ix3 g k l), fun g l => P (ix1 (lane g l)), fun g l => R (ix1 (lane g l)),
    fun g l => Q (ix1 (lane g l))⟩, ⟨fun g s l => hX _, fun g s l => hT s _, fun g k l => hA _, fun g k l => hB _, fun g l => hP _, fun g l => hR _, fun g l => hQ _⟩⟩

end Cert.Reference2Ideal.Read

end
-- ==== Proof.SeqBackward.Equation.lean ====
/- The backward pass of the recurrence against `jax.vjp`: of the means over windows, the branch's columns of the projection's
   gradient, the gates' columns, the gradients of the branch's weights, bias and scale; of the scanned rows, the gradients of the
   input gate's weights and bias. -/
module

public import proofs.«01_k».proof.Defs
public import proofs.«01_k».proof.Proof.SeqBackward.Entry
public import proofs.«01_k».proof.Proof.SeqBackward.Scanned
public import proofs.«01_k».proof.Proof.SeqBackward.ScannedReference
public import proofs.«01_k».proof.Proof.Gen.Reference2Ideal.Run
public import proofs.«01_k».proof.Proof.Gen.Pre_finite2
public import proofs.«01_k».proof.Proof.Gen.On_reached
public import Idealize.ShloMosaic.Lib.Claim
public import Idealize.ShloMosaic.Lib.Quiescent

@[expose] public section

set_option maxRecDepth 16384
set_option maxHeartbeats 2000000

noncomputable section

namespace Cert.Kernel2Ideal.SeqBackward

open Idealize.ShloMosaic Idealize.ShloMosaic.TcCoe Idealize.SL.Sem
open Cert.Kernel2Ideal Cert.Kernel2Ideal.Gen
open Cert.Proof.Norm Cert.Reference2Ideal.Read

variable (m : (ℓ : Loc nD τ sig) → Buf (Elt Ideal) ℓ) (c : Dev nD)

/-- The parameters among their rows. -/
theorem params_row (l : Fin 1024) :
    @Eq EReal (paramsOf m c (ix2 1 l)) (m ((c : Thread nD τ).loc main_arg4) (ix1 l)) ∧ @Eq EReal (paramsOf m c (ix2 2 l)) (m ((c : Thread nD τ).loc main_arg6) (ix1 l))
      ∧ @Eq EReal (paramsOf m c (ix2 3 l)) (m ((c : Thread nD τ).loc main_arg7) (ix1 l)) ∧ @Eq EReal (paramsOf m c (ix2 4 l)) (m ((c : Thread nD τ).loc main_arg9) (ix1 l))
      ∧ @Eq EReal (paramsOf m c (ix2 5 l)) (m ((c : Thread nD τ).loc main_arg10) (ix1 l)) := by
  have e := fun k : Fin 8 => congrFun (entry_params m c) (ix2 k l)
  obtain ⟨h1, h2, h3, h4, h5⟩ := stacked_row (m ((c : Thread nD τ).loc main_arg2)) (m ((c : Thread nD τ).loc main_arg4)) (m ((c : Thread nD τ).loc main_arg6))
    (m ((c : Thread nD τ).loc main_arg7)) (m ((c : Thread nD τ).loc main_arg9)) (m ((c : Thread nD τ).loc main_arg10)) l
  exact ⟨(e 1).trans h1, (e 2).trans h2, (e 3).trans h3, (e 4).trans h4, (e 5).trans h5⟩

theorem params_scale (l : Fin 1024) : @Eq EReal (paramsOf m c (ix2 5 l)) (m ((c : Thread nD τ).loc main_arg10) (ix1 l)) := (params_row m c l).2.2.2.2

theorem params_bias (l : Fin 1024) : @Eq EReal (paramsOf m c (ix2 4 l)) (m ((c : Thread nD τ).loc main_arg9) (ix1 l)) := (params_row m c l).2.2.2.1

/-- The precondition: finite arguments. -/
structure Finite : Prop where
  f0 : ∀ i, Fin' (m ((c : Thread nD τ).loc main_arg0) i)
  f1 : ∀ i, Fin' (m ((c : Thread nD τ).loc main_arg1) i)
  f2 : ∀ i, Fin' (m ((c : Thread nD τ).loc main_arg2) i)
  f3 : ∀ i, Fin' (m ((c : Thread nD τ).loc main_arg3) i)
  f4 : ∀ i, Fin' (m ((c : Thread nD τ).loc main_arg4) i)
  f5 : ∀ i, Fin' (m ((c : Thread nD τ).loc main_arg5) i)
  f6 : ∀ i, Fin' (m ((c : Thread nD τ).loc main_arg6) i)
  f7 : ∀ i, Fin' (m ((c : Thread nD τ).loc main_arg7) i)
  f8 : ∀ i, Fin' (m ((c : Thread nD τ).loc main_arg8) i)
  f10 : ∀ i, Fin' (m ((c : Thread nD τ).loc main_arg10) i)
  f11 : ∀ i, Fin' (m ((c : Thread nD τ).loc main_arg11) i)
  f12 : ∀ i, Fin' (m ((c : Thread nD τ).loc main_arg12) i)

theorem finite_of_pre (hpre : Cert.Pre_Kernel2Ideal_finite2 m) : Finite m c := by
  haveI : Subsingleton (⟨0, ![]⟩ : Shape).Idx := ⟨fun a b => funext fun i => i.elim0⟩
  have h := congrFun (hpre c) fun i => i.elim0
  obtain ⟨h, h12⟩ := both_of_andi h
  obtain ⟨h, h11⟩ := both_of_andi h
  obtain ⟨h, h10⟩ := both_of_andi h
  obtain ⟨h, h8⟩ := both_of_andi h
  obtain ⟨h, h7⟩ := both_of_andi h
  obtain ⟨h, h6⟩ := both_of_andi h
  obtain ⟨h, h5⟩ := both_of_andi h
  obtain ⟨h, h4⟩ := both_of_andi h
  obtain ⟨h, h3⟩ := both_of_andi h
  obtain ⟨h, h2⟩ := both_of_andi h
  obtain ⟨h0, h1⟩ := both_of_andi h
  exact ⟨finite_of_all (m ((c : Thread nD τ).loc main_arg0)) _ _ _ _ _ h0, finite_of_all (m ((c : Thread nD τ).loc main_arg1)) _ _ _ _ _ h1,
    finite_of_all (m ((c : Thread nD τ).loc main_arg2)) _ _ _ _ _ h2, finite_of_all (m ((c : Thread nD τ).loc main_arg3)) _ _ _ _ _ h3,
    finite_of_all (m ((c : Thread nD τ).loc main_arg4)) _ _ _ _ _ h4, finite_of_all (m ((c : Thread nD τ).loc main_arg5)) _ _ _ _ _ h5,
    finite_of_all (m ((c : Thread nD τ).loc main_arg6)) _ _ _ _ _ h6, finite_of_all (m ((c : Thread nD τ).loc main_arg7)) _ _ _ _ _ h7,
    finite_of_all (m ((c : Thread nD τ).loc main_arg8)) _ _ _ _ _ h8, finite_of_all (m ((c : Thread nD τ).loc main_arg10)) _ _ _ _ _ h10,
    finite_of_all (m ((c : Thread nD τ).loc main_arg11)) _ _ _ _ _ h11, finite_of_all (m ((c : Thread nD τ).loc main_arg12)) _ _ _ _ _ h12⟩

/-- The branch's numbers, on finite arguments, as the arguments hold them. -/
abbrev Numbers (D : Branch) : Prop :=
  D.Holds (fun s j => val_main_v170 (F := Ideal) (m ((c : Thread nD τ).loc main_arg0)) (m ((c : Thread nD τ).loc main_arg1)) (m ((c : Thread nD τ).loc main_arg2)) (ix2 s j))
    (fun s j => @HMul.hMul EReal EReal EReal _ (m ((c : Thread nD τ).loc main_arg11) (ix2 s j)) (gelu (m ((c : Thread nD τ).loc main_arg0) (ix2 s (actCol j)))))
    (fun g k l => m ((c : Thread nD τ).loc main_arg3) (ix3 g k l)) (fun g k l => m ((c : Thread nD τ).loc main_arg5) (ix3 g k l))
    (fun j => m ((c : Thread nD τ).loc main_arg4) (ix1 j)) (fun j => m ((c : Thread nD τ).loc main_arg6) (ix1 j)) (fun j => m ((c : Thread nD τ).loc main_arg7) (ix1 j))

theorem numbers_of_finite (hf : Finite m c) : ∃ D : Branch, Numbers m c D :=
  branch_of_finite _ _ _ _ _ _ _ _ _ hf.f0 hf.f1 hf.f2 hf.f3 hf.f4 hf.f5 hf.f6 hf.f7 hf.f11

/-- The kernel reads them. -/
theorem given_of_numbers (D : Branch) (H : Numbers m c D) : Given m c D where
  hX g s l := (congrFun (entry_convolved m c) (ix2 s (lane g l))).trans (H.hX g s l)
  hT g s l := (congrArg₂ (fun a b : EReal => a * gelu b) (congrFun (entry_dga m c) (ix2 s (lane g l))) (congrFun (entry_proj m c) (ix2 s (actCol (lane g l))))).trans (H.hT g s l)
  hWA g k l := (congrFun (entry_decay_weights m c) (ix3 g k l)).trans (H.hWA g k l)
  hWX g k l := (congrFun (entry_input_weights m c) (ix3 g k l)).trans (H.hWX g k l)
  hPA g l := (params_row m c (lane g l)).1.trans (H.hPA g l)
  hPX g l := (params_row m c (lane g l)).2.1.trans (H.hPX g l)
  hQ g l := (params_row m c (lane g l)).2.2.1.trans (H.hQ g l)

variable (r : PUnit × MemSt nD τ sig (Elt Ideal)) (h : Pipeline.RDat.FramePost (cfgs 0) (fun c => dats m c) (V m) r)
include h

/-- The columns of the branch and of the gates. -/
theorem value_dproj (hpre : Cert.Pre_Kernel2Ideal_finite2 m) (i : S4096x5120.Idx) (hi : 2048 ≤ (i 1).val) :
    @Eq EReal (r.2.mem ((c : Thread nD τ).loc main_v344_0) i)
      (val_main_v270 (F := Ideal) (m ((c : Thread nD τ).loc main_arg8)) (m ((c : Thread nD τ).loc main_arg10)) (m ((c : Thread nD τ).loc main_arg12)) (m ((c : Thread nD τ).loc main_arg13)) i) := by
  obtain ⟨s, j, rfl⟩ : ∃ (s : Fin 4096) (j : Fin 5120), i = ix2 s j := ⟨i 0, i 1, by funext a; fin_cases a <;> rfl⟩
  change 2048 ≤ j.val at hi
  obtain ⟨_, _, _, _, _, _, _, _, f8, f10, _, f12⟩ := finite_of_pre m c hpre
  by_cases hj : j.val < 3072
  · obtain ⟨g, l, rfl⟩ : ∃ (g : Fin 4) (l : Fin 256), j = poolCol g l :=
      ⟨⟨(j.val - 2048) / 256, by omega⟩, ⟨(j.val - 2048) % 256, by omega⟩, Fin.ext (by
        show j.val = 2048 + (256 * ((j.val - 2048) / 256) + (j.val - 2048) % 256)
        omega)⟩
    rw [ref_pool_columns, ref_pool _ _ _ (paramsOf m c) f8 f10 f12 (params_scale m c)]
    refine ((final_dproj m c r h s).1 g l).trans ?_
    exact congrArg₂ (fun (D : Vec Ideal S4096x1024 .bf16) (W : Vec Ideal S4x256x256 .bf16) => poolArr D W (paramsOf m c) g s l) (entry_dpooled m c) (entry_weights m c)
  · obtain ⟨l, rfl⟩ : ∃ l : Fin 2048, j = gateCol l := ⟨⟨j.val - 3072, by omega⟩, Fin.ext (by
        show j.val = 3072 + (j.val - 3072)
        omega)⟩
    rw [ref_gate_columns]
    exact ((final_dproj m c r h s).2 l).trans (congrFun (entry_gates m c) (ix2 s l))

/-- The rows of the sums that are the gradients of the input gate's bias, of the branch's bias and of its scale. -/
theorem value_sums (hpre : Cert.Pre_Kernel2Ideal_finite2 m) (i : S16x1024.Idx) (hi : (i 0).val = 6 ∨ (i 0).val = 8 ∨ (i 0).val = 9) :
    @Eq EReal (r.2.mem ((c : Thread nD τ).loc main_v344_1) i)
      (val_main_v288 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) i) := by
  obtain ⟨t, j, rfl⟩ : ∃ (t : Fin 16) (j : Fin 1024), i = ix2 t j := ⟨i 0, i 1, by funext a; fin_cases a <;> rfl⟩
  obtain ⟨g, l, rfl⟩ : ∃ (g : Fin 4) (l : Fin 256), j = lane g l := ⟨⟨j.val / 256, by omega⟩, ⟨j.val % 256, by omega⟩, Fin.ext (by
    show j.val = 256 * (j.val / 256) + j.val % 256
    omega)⟩
  obtain ⟨e8, e9⟩ := final_sums m c r h g l
  obtain ⟨r6, r8, r9⟩ := ref_sums (m ((c : Thread nD τ).loc main_arg0)) (m ((c : Thread nD τ).loc main_arg8)) (m ((c : Thread nD τ).loc main_arg9)) (m ((c : Thread nD τ).loc main_arg10)) (m ((c : Thread nD τ).loc main_arg12)) (m ((c : Thread nD τ).loc main_arg1))
    (m ((c : Thread nD τ).loc main_arg2)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg11)) (lane g l)
  rcases hi with hi | hi | hi
  · obtain rfl : t = 6 := Fin.ext hi
    obtain ⟨D, H⟩ := numbers_of_finite m c (finite_of_pre m c hpre)
    exact (final_gate_bias m c D (given_of_numbers m c D H) r h g l).trans (r6.trans (ref_gate_bias _ _ _ _ _ _ _ _ _ D H g l)).symm
  · obtain rfl : t = 8 := Fin.ext hi
    refine e8.trans (Eq.trans ?_ (r8.trans (ref_bias _ _ (paramsOf m c) (params_scale m c) g l _ rfl)).symm)
    exact congrArg (fun D : Vec Ideal S4096x1024 .bf16 => biasArr D (paramsOf m c) g l) (entry_dpooled m c)
  · obtain rfl : t = 9 := Fin.ext hi
    refine e9.trans (Eq.trans ?_ (r9.trans (ref_scale _ _ _ _ (paramsOf m c) (params_bias m c) g l _ rfl)).symm)
    refine (congrArg (fun P : Vec Ideal S4096x1024 .bf16 => scaleArr P (cotOf m c) (weightsOf m c) (paramsOf m c) g l) (entry_mean m c)).trans ?_
    exact congrArg₂ (fun (D : Vec Ideal S4096x1024 .bf16) (W : Vec Ideal S4x256x256 .bf16) =>
      scaleArr (val_main_v60 (F := Ideal) (m ((c : Thread nD τ).loc main_arg0))) D W (paramsOf m c) g l) (entry_dpooled m c) (entry_weights m c)

/-- The gradient of the branch's weights. -/
theorem value_weight (i : S4x256x256.Idx) :
    @Eq EReal (r.2.mem ((c : Thread nD τ).loc main_v344_4) i)
      (val_main_v85 (F := Ideal) (m ((c : Thread nD τ).loc main_arg0)) (m ((c : Thread nD τ).loc main_arg10)) (m ((c : Thread nD τ).loc main_arg12)) i) := by
  obtain ⟨g, a, b, rfl⟩ : ∃ (g : Fin 4) (a b : Fin 256), i = ix3 g a b := ⟨i 0, i 1, i 2, by funext a; fin_cases a <;> rfl⟩
  rw [ref_weight _ _ _ (paramsOf m c) (params_scale m c)]
  refine (final_weight m c r h g a b).trans ?_
  exact congrArg₂ (fun P D : Vec Ideal S4096x1024 .bf16 => weightArr P D (paramsOf m c) g a b) (entry_mean m c) (entry_dpooled m c)

/-- The gradient of the input gate's weights. -/
theorem value_gate_weight (hpre : Cert.Pre_Kernel2Ideal_finite2 m) (i : S4x256x256.Idx) :
    @Eq EReal (r.2.mem ((c : Thread nD τ).loc main_v344_3) i)
      (val_main_v267 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg11)) i) := by
  obtain ⟨g, a, b, rfl⟩ : ∃ (g : Fin 4) (a b : Fin 256), i = ix3 g a b := ⟨i 0, i 1, i 2, by funext a; fin_cases a <;> rfl⟩
  obtain ⟨D, H⟩ := numbers_of_finite m c (finite_of_pre m c hpre)
  exact (final_gate_weight m c D (given_of_numbers m c D H) r h g a b).trans (ref_gate_weight _ _ _ _ _ _ _ _ _ D H g a b).symm

omit h

/-- The reference's frame: it is straight-line host code. -/
theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The mask selects columns from 2048 on. -/
theorem column_of_mask (i : S4096x5120.Idx) (h : IntOp.cmpi .sge (BitVec.ofNat 32 (i 1).val) 2048#32 = 1#1) : 2048 ≤ (i 1).val := by
  have hi : (i 1).val < 5120 := (i 1).isLt
  simp only [IntOp.cmpi] at h
  have h' : (2048 : ℤ) ≤ (BitVec.ofNat 32 (i 1).val).toInt := by
    by_contra hn
    simp_all [BitVec.sle]
  rw [BitVec.toInt_eq_toNat_of_lt (by simp; omega)] at h'
  simp only [BitVec.toNat_ofNat] at h'
  omega

/-- The mask selects the rows 6, 8 and 9. -/
theorem row_of_mask (i : S16x1024.Idx) (h : IntOp.ori (IntOp.ori (IntOp.cmpi .eq (BitVec.ofNat 32 (i 0).val) 6#32) (IntOp.cmpi .eq (BitVec.ofNat 32 (i 0).val) 8#32)) (IntOp.cmpi .eq (BitVec.ofNat 32 (i 0).val) 9#32) = 1#1) :
    (i 0).val = 6 ∨ (i 0).val = 8 ∨ (i 0).val = 9 :=
  (by decide : ∀ t : Fin 16, IntOp.ori (IntOp.ori (IntOp.cmpi .eq (BitVec.ofNat 32 t.val) 6#32) (IntOp.cmpi .eq (BitVec.ofNat 32 t.val) 8#32)) (IntOp.cmpi .eq (BitVec.ofNat 32 t.val) 9#32) = 1#1
    → t.val = 6 ∨ t.val = 8 ∨ t.val = 9) (i 0) h

/-- Where the mask is set both programs leave the same, on finite arguments. -/
theorem algebraic : Cert.algebraic_Kernel2Ideal_Reference2Ideal_on_reached_pre_finite2 := by
  intro m ρ m' ρ' hpre hagree
  refine ⟨fun c => val_main_v270 (F := Ideal) (m ((c : Thread nD τ).loc main_arg8)) (m ((c : Thread nD τ).loc main_arg10)) (m ((c : Thread nD τ).loc main_arg12)) (m ((c : Thread nD τ).loc main_arg13)),
    fun c => val_main_v288 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)),
    fun c => val_main_v289 (F := Ideal),
    fun c => val_main_v267 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg11)),
    fun c => val_main_v85 (F := Ideal) (m ((c : Thread nD τ).loc main_arg0)) (m ((c : Thread nD τ).loc main_arg10)) (m ((c : Thread nD τ).loc main_arg12)), ?_, ?_⟩
  · refine (θ_run defs _ _).mono (fun r h c => ⟨fun i hi => value_dproj m c r h.1 hpre i (column_of_mask i hi), fun i hi => value_sums m c r h.1 hpre i (row_of_mask i hi),
      fun i hi => absurd (show (0#1 : BitVec 1) = 1#1 from hi) (by decide), fun i _ => value_gate_weight m c r h.1 hpre i,
      fun i _ => value_weight m c r h.1 i, kept m r h.1 c⟩) (run_main m ρ)
  · refine (θ_run Cert.Reference2Ideal.defs _ _).mono (fun r h c => ⟨fun i _ => congrFun ((h c).1.trans ?_) i, fun i _ => congrFun ((h c).2.1.trans ?_) i, fun i _ => congrFun (h c).2.2.1 i,
      fun i _ => congrFun ((h c).2.2.2.1.trans ?_) i, fun i _ => congrFun ((h c).2.2.2.2.1.trans ?_) i, (h c).2.2.2.2.2⟩) (Cert.Reference2Ideal.Value.run (F := Ideal) m' ρ')
    all_goals obtain ⟨h0, h1, h2, h3, h4, h5, h6, h7, h8, h9, h10, h11, h12, h13⟩ := hagree c
    · rw [val_main_v270_eq]
      exact congr (congr (congrArg₂ (val_main_v270 (F := Ideal)) h8 h10) h12) h13
    · rw [val_main_v288_eq]
      exact congr (congr (congr (congr (congr (congr (congr (congr (congr (congr (congr (congrArg₂ (val_main_v288 (F := Ideal)) h0 h1) h2) h3) h4) h5) h6) h7) h8) h9) h10) h11) h12
    · rw [val_main_v267_eq]
      exact congr (congr (congr (congr (congr (congr (congr (congrArg₂ (val_main_v267 (F := Ideal)) h0 h1) h2) h3) h4) h5) h6) h7) h11
    · rw [val_main_v85_eq]
      exact congr (congrArg₂ (val_main_v85 (F := Ideal)) h0 h10) h12

end Cert.Kernel2Ideal.SeqBackward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite2
public import proofs.«01_k».proof.Proof.Gen.On_reached
public import proofs.«01_k».proof.Proof.Gen.Pre_finite4
public import proofs.«01_k».proof.Proof.Gen.Pre_finite5
public import proofs.«01_k».proof.Proof.Gen.Pre_finite6
public import proofs.«01_k».proof.Proof.DMlpDown.Equation
public import proofs.«01_k».proof.Proof.DMixOut.Equation
public import proofs.«01_k».proof.Proof.DMlpUp.Equation
public import proofs.«01_k».proof.Proof.LossHead.Equation
public import proofs.«01_k».proof.Proof.DProjIn.Equation
public import proofs.«01_k».proof.Proof.Branches.Equation
public import proofs.«01_k».proof.Proof.MixOut.Equation
public import proofs.«01_k».proof.Proof.MlpUp.Equation
public import proofs.«01_k».proof.Proof.ProjIn.Equation
public import proofs.«01_k».proof.Proof.SeqBackward.Claims
public import proofs.«01_k».proof.Proof.SeqBackward.Equation
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  Cert.Pre_finite2.Gen.facts, Cert.Pre_finite4.Gen.facts, Cert.Pre_finite5.Gen.facts, Cert.Pre_finite6.Gen.facts, Cert.On_reached.Gen.facts,
  fun m ρ _ => Cert.Kernel.Gen.frame m ρ, fun m ρ _ => Cert.KernelIdeal.Gen.frame m ρ, DMlpDown.frame_reference,
  Cert.Kernel2Ideal.SeqBackward.frame_bits, Cert.Kernel2Ideal.SeqBackward.frame_ideal, fun m ρ _ => Cert.Kernel2Ideal.SeqBackward.frame_ideal m ρ trivial,
  Cert.Kernel2Ideal.SeqBackward.frame_reference, fun m ρ _ => Cert.Kernel2Ideal.SeqBackward.frame_reference m ρ trivial,
  fun m ρ _ => Cert.Kernel3.Gen.frame m ρ, fun m ρ _ => Cert.Kernel3Ideal.Gen.frame m ρ, DMixOut.frame_reference,
  fun m ρ _ => Cert.Kernel4.Gen.frame m ρ, fun m ρ _ => Cert.Kernel4Ideal.Gen.frame m ρ, fun m ρ _ => Cert.Kernel4Ideal.Gen.frame m ρ, LossHead.frame_reference, fun m ρ _ => LossHead.frame_reference m ρ trivial,
  fun m ρ _ => Cert.Kernel5.Gen.frame m ρ, fun m ρ _ => Cert.Kernel5Ideal.Gen.frame m ρ, fun m ρ _ => Cert.Kernel5Ideal.Gen.frame m ρ, DMlpUp.frame_reference, fun m ρ _ => DMlpUp.frame_reference m ρ trivial,
  fun m ρ _ => Cert.Kernel6.Gen.frame m ρ, fun m ρ _ => Cert.Kernel6Ideal.Gen.frame m ρ, fun m ρ _ => Cert.Kernel6Ideal.Gen.frame m ρ, DProjIn.frame_reference, fun m ρ _ => DProjIn.frame_reference m ρ trivial,
  fun m ρ _ => Cert.Kernel7.Gen.frame m ρ, fun m ρ _ => Cert.Kernel7Ideal.Gen.frame m ρ, Branches.frame_reference,
  fun m ρ _ => Cert.Kernel8.Gen.frame m ρ, fun m ρ _ => Cert.Kernel8Ideal.Gen.frame m ρ, MixOut.frame_reference,
  fun m ρ _ => Cert.Kernel9.Gen.frame m ρ, fun m ρ _ => Cert.Kernel9Ideal.Gen.frame m ρ, MlpUp.frame_reference,
  fun m ρ _ => Cert.Kernel10.Gen.frame m ρ, fun m ρ _ => Cert.Kernel10Ideal.Gen.frame m ρ, ProjIn.frame_reference,
  trivial, DMlpDown.algebraic, trivial, Cert.Kernel2Ideal.SeqBackward.algebraic, trivial, DMixOut.algebraic, trivial, LossHead.algebraic, trivial, DMlpUp.algebraic, trivial, DProjIn.algebraic,
  trivial, Branches.algebraic, trivial, MixOut.algebraic, trivial, MlpUp.algebraic, trivial, ProjIn.algebraic⟩

end Cert.Proof

end
